-- ==== Defs.lean ====
def Pre_Kernel [hPre_expert_in_range : Cert.Pre_expert_in_range.Facts] (m : (ℓ : Loc Cert.Kernel.nD Cert.Kernel.τ Cert.Kernel.sig) → Buf (Elt Bits) ℓ) : Prop :=
  ∀ c : Dev Cert.Kernel.nD,
    (Cert.Pre_expert_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_expert_in_range : Cert.Pre_expert_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_expert_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_expert_in_range : Cert.Pre_expert_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_expert_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_HgrnIn (m : (ℓ : Loc Cert.HgrnIn.nD Cert.HgrnIn.τ Cert.HgrnIn.sig) → Buf (Elt Bits) ℓ) : Prop :=
  True

def Pre_HgrnInIdeal [hPre_bound_in_range : Cert.Pre_bound_in_range.Facts] (m : (ℓ : Loc Cert.HgrnInIdeal.nD Cert.HgrnInIdeal.τ Cert.HgrnInIdeal.sig) → Buf (Elt Ideal) ℓ) : Prop :=
  ∀ c : Dev Cert.HgrnInIdeal.nD,
    (Cert.Pre_bound_in_range.fn (F := Ideal) (m ((c.tc : Thread Cert.HgrnInIdeal.nD Cert.HgrnInIdeal.τ).loc Cert.HgrnInIdeal.main_arg0)) (m ((c.tc : Thread Cert.HgrnInIdeal.nD Cert.HgrnInIdeal.τ).loc Cert.HgrnInIdeal.main_arg1)) (m ((c.tc : Thread Cert.HgrnInIdeal.nD Cert.HgrnInIdeal.τ).loc Cert.HgrnInIdeal.main_arg2)) (m ((c.tc : Thread Cert.HgrnInIdeal.nD Cert.HgrnInIdeal.τ).loc Cert.HgrnInIdeal.main_arg3))) = (fun _ => 1#1)

def Pre_HgrnInIdeal_none (m : (ℓ : Loc Cert.HgrnInIdeal.nD Cert.HgrnInIdeal.τ Cert.HgrnInIdeal.sig) → Buf (Elt Ideal) ℓ) : Prop :=
  True

def Pre_HgrnInRefIdeal [hPre_bound_in_range : Cert.Pre_bound_in_range.Facts] (m : (ℓ : Loc Cert.HgrnInRefIdeal.nD Cert.HgrnInRefIdeal.τ Cert.HgrnInRefIdeal.sig) → Buf (Elt Ideal) ℓ) : Prop :=
  ∀ c : Dev Cert.HgrnInRefIdeal.nD,
    (Cert.Pre_bound_in_range.fn (F := Ideal) (m ((c.tc : Thread Cert.HgrnInRefIdeal.nD Cert.HgrnInRefIdeal.τ).loc Cert.HgrnInRefIdeal.main_arg0)) (m ((c.tc : Thread Cert.HgrnInRefIdeal.nD Cert.HgrnInRefIdeal.τ).loc Cert.HgrnInRefIdeal.main_arg1)) (m ((c.tc : Thread Cert.HgrnInRefIdeal.nD Cert.HgrnInRefIdeal.τ).loc Cert.HgrnInRefIdeal.main_arg2)) (m ((c.tc : Thread Cert.HgrnInRefIdeal.nD Cert.HgrnInRefIdeal.τ).loc Cert.HgrnInRefIdeal.main_arg3))) = (fun _ => 1#1)

def Pre_NsaIn (m : (ℓ : Loc Cert.NsaIn.nD Cert.NsaIn.τ Cert.NsaIn.sig) → Buf (Elt Bits) ℓ) : Prop :=
  True

def Pre_NsaInIdeal (m : (ℓ : Loc Cert.NsaInIdeal.nD Cert.NsaInIdeal.τ Cert.NsaInIdeal.sig) → Buf (Elt Ideal) ℓ) : Prop :=
  True

def Pre_NsaInRefIdeal (m : (ℓ : Loc Cert.NsaInRefIdeal.nD Cert.NsaInRefIdeal.τ Cert.NsaInRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_SplitUp (m : (ℓ : Loc Cert.SplitUp.nD Cert.SplitUp.τ Cert.SplitUp.sig) → Buf (Elt Bits) ℓ) : Prop :=
  True

def Pre_SplitUpIdeal (m : (ℓ : Loc Cert.SplitUpIdeal.nD Cert.SplitUpIdeal.τ Cert.SplitUpIdeal.sig) → Buf (Elt Ideal) ℓ) : Prop :=
  True

def Pre_SplitUpRefIdeal (m : (ℓ : Loc Cert.SplitUpRefIdeal.nD Cert.SplitUpRefIdeal.τ Cert.SplitUpRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutIdeal_all_finite [hPre_all_finite : Cert.Pre_all_finite.Facts] (m : (ℓ : Loc Cert.MixerOutIdeal.nD Cert.MixerOutIdeal.τ Cert.MixerOutIdeal.sig) → Buf (Elt Ideal) ℓ) : Prop :=
  ∀ c : Dev Cert.MixerOutIdeal.nD,
    (Cert.Pre_all_finite.fn (F := Ideal) (m ((c.tc : Thread Cert.MixerOutIdeal.nD Cert.MixerOutIdeal.τ).loc Cert.MixerOutIdeal.main_arg0)) (m ((c.tc : Thread Cert.MixerOutIdeal.nD Cert.MixerOutIdeal.τ).loc Cert.MixerOutIdeal.main_arg1)) (m ((c.tc : Thread Cert.MixerOutIdeal.nD Cert.MixerOutIdeal.τ).loc Cert.MixerOutIdeal.main_arg2)) (m ((c.tc : Thread Cert.MixerOutIdeal.nD Cert.MixerOutIdeal.τ).loc Cert.MixerOutIdeal.main_arg3)) (m ((c.tc : Thread Cert.MixerOutIdeal.nD Cert.MixerOutIdeal.τ).loc Cert.MixerOutIdeal.main_arg4)) (m ((c.tc : Thread Cert.MixerOutIdeal.nD Cert.MixerOutIdeal.τ).loc Cert.MixerOutIdeal.main_arg5)) (m ((c.tc : Thread Cert.MixerOutIdeal.nD Cert.MixerOutIdeal.τ).loc Cert.MixerOutIdeal.main_arg6)) (m ((c.tc : Thread Cert.MixerOutIdeal.nD Cert.MixerOutIdeal.τ).loc Cert.MixerOutIdeal.main_arg7))) = (fun _ => 1#1)

def Pre_MixerOutRefIdeal (m : (ℓ : Loc Cert.MixerOutRefIdeal.nD Cert.MixerOutRefIdeal.τ Cert.MixerOutRefIdeal.sig) → Buf (Elt Ideal) ℓ) : Prop :=
  True

def Pre_MixerOutRefIdeal_all_finite [hPre_all_finite : Cert.Pre_all_finite.Facts] (m : (ℓ : Loc Cert.MixerOutRefIdeal.nD Cert.MixerOutRefIdeal.τ Cert.MixerOutRefIdeal.sig) → Buf (Elt Ideal) ℓ) : Prop :=
  ∀ c : Dev Cert.MixerOutRefIdeal.nD,
    (Cert.Pre_all_finite.fn (F := Ideal) (m ((c.tc : Thread Cert.MixerOutRefIdeal.nD Cert.MixerOutRefIdeal.τ).loc Cert.MixerOutRefIdeal.main_arg0)) (m ((c.tc : Thread Cert.MixerOutRefIdeal.nD Cert.MixerOutRefIdeal.τ).loc Cert.MixerOutRefIdeal.main_arg1)) (m ((c.tc : Thread Cert.MixerOutRefIdeal.nD Cert.MixerOutRefIdeal.τ).loc Cert.MixerOutRefIdeal.main_arg2)) (m ((c.tc : Thread Cert.MixerOutRefIdeal.nD Cert.MixerOutRefIdeal.τ).loc Cert.MixerOutRefIdeal.main_arg3)) (m ((c.tc : Thread Cert.MixerOutRefIdeal.nD Cert.MixerOutRefIdeal.τ).loc Cert.MixerOutRefIdeal.main_arg4)) (m ((c.tc : Thread Cert.MixerOutRefIdeal.nD Cert.MixerOutRefIdeal.τ).loc Cert.MixerOutRefIdeal.main_arg5)) (m ((c.tc : Thread Cert.MixerOutRefIdeal.nD Cert.MixerOutRefIdeal.τ).loc Cert.MixerOutRefIdeal.main_arg6)) (m ((c.tc : Thread Cert.MixerOutRefIdeal.nD Cert.MixerOutRefIdeal.τ).loc Cert.MixerOutRefIdeal.main_arg7))) = (fun _ => 1#1)

def Pre_CmpConst (m : (ℓ : Loc Cert.CmpConst.nD Cert.CmpConst.τ Cert.CmpConst.sig) → Buf (Elt Bits) ℓ) : Prop :=
  True

def Pre_CmpConstIdeal (m : (ℓ : Loc Cert.CmpConstIdeal.nD Cert.CmpConstIdeal.τ Cert.CmpConstIdeal.sig) → Buf (Elt Ideal) ℓ) : Prop :=
  True

def Pre_CmpConstRefIdeal (m : (ℓ : Loc Cert.CmpConstRefIdeal.nD Cert.CmpConstRefIdeal.τ Cert.CmpConstRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def Pre_CompressPages [hPre_page_in_range : Cert.Pre_page_in_range.Facts] (m : (ℓ : Loc Cert.CompressPages.nD Cert.CompressPages.τ Cert.CompressPages.sig) → Buf (Elt Bits) ℓ) : Prop :=
  ∀ c : Dev Cert.CompressPages.nD,
    (Cert.Pre_page_in_range.fn (F := Bits) (m ((c.tc : Thread Cert.CompressPages.nD Cert.CompressPages.τ).loc Cert.CompressPages.main_arg0)) (m ((c.tc : Thread Cert.CompressPages.nD Cert.CompressPages.τ).loc Cert.CompressPages.main_arg1)) (m ((c.tc : Thread Cert.CompressPages.nD Cert.CompressPages.τ).loc Cert.CompressPages.main_arg2)) (m ((c.tc : Thread Cert.CompressPages.nD Cert.CompressPages.τ).loc Cert.CompressPages.main_arg3)) (m ((c.tc : Thread Cert.CompressPages.nD Cert.CompressPages.τ).loc Cert.CompressPages.main_arg4)) (m ((c.tc : Thread Cert.CompressPages.nD Cert.CompressPages.τ).loc Cert.CompressPages.main_arg5))) = (fun _ => 1#1)

def Pre_CompressPagesIdeal [hPre_page_in_range : Cert.Pre_page_in_range.Facts] (m : (ℓ : Loc Cert.CompressPagesIdeal.nD Cert.CompressPagesIdeal.τ Cert.CompressPagesIdeal.sig) → Buf (Elt Ideal) ℓ) : Prop :=
  ∀ c : Dev Cert.CompressPagesIdeal.nD,
    (Cert.Pre_page_in_range.fn (F := Ideal) (m ((c.tc : Thread Cert.CompressPagesIdeal.nD Cert.CompressPagesIdeal.τ).loc Cert.CompressPagesIdeal.main_arg0)) (m ((c.tc : Thread Cert.CompressPagesIdeal.nD Cert.CompressPagesIdeal.τ).loc Cert.CompressPagesIdeal.main_arg1)) (m ((c.tc : Thread Cert.CompressPagesIdeal.nD Cert.CompressPagesIdeal.τ).loc Cert.CompressPagesIdeal.main_arg2)) (m ((c.tc : Thread Cert.CompressPagesIdeal.nD Cert.CompressPagesIdeal.τ).loc Cert.CompressPagesIdeal.main_arg3)) (m ((c.tc : Thread Cert.CompressPagesIdeal.nD Cert.CompressPagesIdeal.τ).loc Cert.CompressPagesIdeal.main_arg4)) (m ((c.tc : Thread Cert.CompressPagesIdeal.nD Cert.CompressPagesIdeal.τ).loc Cert.CompressPagesIdeal.main_arg5))) = (fun _ => 1#1)

def Pre_CompressPagesRefIdeal [hPre_page_in_range : Cert.Pre_page_in_range.Facts] (m : (ℓ : Loc Cert.CompressPagesRefIdeal.nD Cert.CompressPagesRefIdeal.τ Cert.CompressPagesRefIdeal.sig) → Buf (Elt Ideal) ℓ) : Prop :=
  ∀ c : Dev Cert.CompressPagesRefIdeal.nD,
    (Cert.Pre_page_in_range.fn (F := Ideal) (m ((c.tc : Thread Cert.CompressPagesRefIdeal.nD Cert.CompressPagesRefIdeal.τ).loc Cert.CompressPagesRefIdeal.main_arg0)) (m ((c.tc : Thread Cert.CompressPagesRefIdeal.nD Cert.CompressPagesRefIdeal.τ).loc Cert.CompressPagesRefIdeal.main_arg1)) (m ((c.tc : Thread Cert.CompressPagesRefIdeal.nD Cert.CompressPagesRefIdeal.τ).loc Cert.CompressPagesRefIdeal.main_arg2)) (m ((c.tc : Thread Cert.CompressPagesRefIdeal.nD Cert.CompressPagesRefIdeal.τ).loc Cert.CompressPagesRefIdeal.main_arg3)) (m ((c.tc : Thread Cert.CompressPagesRefIdeal.nD Cert.CompressPagesRefIdeal.τ).loc Cert.CompressPagesRefIdeal.main_arg4)) (m ((c.tc : Thread Cert.CompressPagesRefIdeal.nD Cert.CompressPagesRefIdeal.τ).loc Cert.CompressPagesRefIdeal.main_arg5))) = (fun _ => 1#1)

def quiescent_Kernel [hKernel : Cert.Kernel.Facts] [hPre_expert_in_range : Cert.Pre_expert_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_expert_in_range : Cert.Pre_expert_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_expert_in_range : Cert.Pre_expert_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_HgrnIn [hHgrnIn : Cert.HgrnIn.Facts] : Prop :=
  ∀ (m : (ℓ : Loc Cert.HgrnIn.nD Cert.HgrnIn.τ Cert.HgrnIn.sig) → Buf (Elt Bits) ℓ) (g : Dev Cert.HgrnIn.nD → PrngReg), Pre_HgrnIn m →
    θ_run (Cert.HgrnIn.defs (F := Bits)) (onTc (τ := Cert.HgrnIn.τ) (Cert.HgrnIn.main (F := Bits))) ⟨m, fun _ => 0, g⟩ (fun r => (∀ c : Dev Cert.HgrnIn.nD,
      r.2.mem ((c.tc : Thread Cert.HgrnIn.nD Cert.HgrnIn.τ).loc Cert.HgrnIn.main_arg0) = m ((c.tc : Thread Cert.HgrnIn.nD Cert.HgrnIn.τ).loc Cert.HgrnIn.main_arg0)
      ∧ r.2.mem ((c.tc : Thread Cert.HgrnIn.nD Cert.HgrnIn.τ).loc Cert.HgrnIn.main_arg1) = m ((c.tc : Thread Cert.HgrnIn.nD Cert.HgrnIn.τ).loc Cert.HgrnIn.main_arg1)
      ∧ r.2.mem ((c.tc : Thread Cert.HgrnIn.nD Cert.HgrnIn.τ).loc Cert.HgrnIn.main_arg2) = m ((c.tc : Thread Cert.HgrnIn.nD Cert.HgrnIn.τ).loc Cert.HgrnIn.main_arg2)
      ∧ r.2.mem ((c.tc : Thread Cert.HgrnIn.nD Cert.HgrnIn.τ).loc Cert.HgrnIn.main_arg3) = m ((c.tc : Thread Cert.HgrnIn.nD Cert.HgrnIn.τ).loc Cert.HgrnIn.main_arg3))
      ∧ r.2.sem = fun _ => 0)

def quiescent_HgrnInIdeal [hHgrnInIdeal : Cert.HgrnInIdeal.Facts] [hPre_bound_in_range : Cert.Pre_bound_in_range.Facts] : Prop :=
  ∀ (m : (ℓ : Loc Cert.HgrnInIdeal.nD Cert.HgrnInIdeal.τ Cert.HgrnInIdeal.sig) → Buf (Elt Ideal) ℓ) (g : Dev Cert.HgrnInIdeal.nD → PrngReg), Pre_HgrnInIdeal m →
    θ_run (Cert.HgrnInIdeal.defs (F := Ideal)) (onTc (τ := Cert.HgrnInIdeal.τ) (Cert.HgrnInIdeal.main (F := Ideal))) ⟨m, fun _ => 0, g⟩ (fun r => (∀ c : Dev Cert.HgrnInIdeal.nD,
      r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
      ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1)
      ∧ r.2.mem ((c.tc : Thread Cert.HgrnInIdeal.nD Cert.HgrnInIdeal.τ).loc Cert.HgrnInIdeal.main_arg2) = m ((c.tc : Thread Cert.HgrnInIdeal.nD Cert.HgrnInIdeal.τ).loc Cert.HgrnInIdeal.main_arg2)
      ∧ r.2.mem ((c.tc : Thread Cert.HgrnInIdeal.nD Cert.HgrnInIdeal.τ).loc Cert.HgrnInIdeal.main_arg3) = m ((c.tc : Thread Cert.HgrnInIdeal.nD Cert.HgrnInIdeal.τ).loc Cert.HgrnInIdeal.main_arg3))
      ∧ r.2.sem = fun _ => 0)

def quiescent_HgrnInIdeal_pre_none [hHgrnInIdeal : Cert.HgrnInIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg), Pre_HgrnInIdeal_none m →
    θ_run (Cert.HgrnInIdeal.defs (F := Ideal)) (onTc (τ := Cert.HgrnInIdeal.τ) (Cert.HgrnInIdeal.main (F := Ideal))) ⟨m, fun _ => 0, g⟩ (fun r => (∀ c : Dev Cert.HgrnInIdeal.nD,
      r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
      ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1)
      ∧ r.2.mem ((c.tc : Thread Cert.HgrnInIdeal.nD Cert.HgrnInIdeal.τ).loc Cert.HgrnInIdeal.main_arg2) = m ((c.tc : Thread Cert.HgrnInIdeal.nD Cert.HgrnInIdeal.τ).loc Cert.HgrnInIdeal.main_arg2)
      ∧ r.2.mem ((c.tc : Thread Cert.HgrnInIdeal.nD Cert.HgrnInIdeal.τ).loc Cert.HgrnInIdeal.main_arg3) = m ((c.tc : Thread Cert.HgrnInIdeal.nD Cert.HgrnInIdeal.τ).loc Cert.HgrnInIdeal.main_arg3))
      ∧ r.2.sem = fun _ => 0)

def quiescent_HgrnInRefIdeal [hHgrnInRefIdeal : Cert.HgrnInRefIdeal.Facts] [hPre_bound_in_range : Cert.Pre_bound_in_range.Facts] : Prop :=
  ∀ (m : (ℓ : Loc Cert.HgrnInRefIdeal.nD Cert.HgrnInRefIdeal.τ Cert.HgrnInRefIdeal.sig) → Buf (Elt Ideal) ℓ) (g : Dev Cert.HgrnInRefIdeal.nD → PrngReg), Pre_HgrnInRefIdeal m →
    θ_run (Cert.HgrnInRefIdeal.defs (F := Ideal)) (onTc (τ := Cert.HgrnInRefIdeal.τ) (Cert.HgrnInRefIdeal.main (F := Ideal))) ⟨m, fun _ => 0, g⟩ (fun r => (∀ c : Dev Cert.HgrnInRefIdeal.nD,
      r.2.mem ((c.tc : Thread Cert.HgrnInRefIdeal.nD Cert.HgrnInRefIdeal.τ).loc Cert.HgrnInRefIdeal.main_arg0) = m ((c.tc : Thread Cert.HgrnInRefIdeal.nD Cert.HgrnInRefIdeal.τ).loc Cert.HgrnInRefIdeal.main_arg0)
      ∧ r.2.mem ((c.tc : Thread Cert.HgrnInRefIdeal.nD Cert.HgrnInRefIdeal.τ).loc Cert.HgrnInRefIdeal.main_arg1) = m ((c.tc : Thread Cert.HgrnInRefIdeal.nD Cert.HgrnInRefIdeal.τ).loc Cert.HgrnInRefIdeal.main_arg1)
      ∧ r.2.mem ((c.tc : Thread Cert.HgrnInRefIdeal.nD Cert.HgrnInRefIdeal.τ).loc Cert.HgrnInRefIdeal.main_arg2) = m ((c.tc : Thread Cert.HgrnInRefIdeal.nD Cert.HgrnInRefIdeal.τ).loc Cert.HgrnInRefIdeal.main_arg2)
      ∧ r.2.mem ((c.tc : Thread Cert.HgrnInRefIdeal.nD Cert.HgrnInRefIdeal.τ).loc Cert.HgrnInRefIdeal.main_arg3) = m ((c.tc : Thread Cert.HgrnInRefIdeal.nD Cert.HgrnInRefIdeal.τ).loc Cert.HgrnInRefIdeal.main_arg3))
      ∧ r.2.sem = fun _ => 0)

def quiescent_NsaIn [hNsaIn : Cert.NsaIn.Facts] : Prop :=
  ∀ (m : (ℓ : Loc Cert.NsaIn.nD Cert.NsaIn.τ Cert.NsaIn.sig) → Buf (Elt Bits) ℓ) (g : Dev Cert.NsaIn.nD → PrngReg), Pre_NsaIn m →
    θ_run (Cert.NsaIn.defs (F := Bits)) (onTc (τ := Cert.NsaIn.τ) (Cert.NsaIn.main (F := Bits))) ⟨m, fun _ => 0, g⟩ (fun r => (∀ c : Dev Cert.NsaIn.nD,
      r.2.mem ((c.tc : Thread Cert.NsaIn.nD Cert.NsaIn.τ).loc Cert.NsaIn.main_arg0) = m ((c.tc : Thread Cert.NsaIn.nD Cert.NsaIn.τ).loc Cert.NsaIn.main_arg0)
      ∧ r.2.mem ((c.tc : Thread Cert.NsaIn.nD Cert.NsaIn.τ).loc Cert.NsaIn.main_arg1) = m ((c.tc : Thread Cert.NsaIn.nD Cert.NsaIn.τ).loc Cert.NsaIn.main_arg1)
      ∧ r.2.mem ((c.tc : Thread Cert.NsaIn.nD Cert.NsaIn.τ).loc Cert.NsaIn.main_arg2) = m ((c.tc : Thread Cert.NsaIn.nD Cert.NsaIn.τ).loc Cert.NsaIn.main_arg2)
      ∧ r.2.mem ((c.tc : Thread Cert.NsaIn.nD Cert.NsaIn.τ).loc Cert.NsaIn.main_arg3) = m ((c.tc : Thread Cert.NsaIn.nD Cert.NsaIn.τ).loc Cert.NsaIn.main_arg3))
      ∧ r.2.sem = fun _ => 0)

def quiescent_NsaInIdeal [hNsaInIdeal : Cert.NsaInIdeal.Facts] : Prop :=
  ∀ (m : (ℓ : Loc Cert.NsaInIdeal.nD Cert.NsaInIdeal.τ Cert.NsaInIdeal.sig) → Buf (Elt Ideal) ℓ) (g : Dev Cert.NsaInIdeal.nD → PrngReg), Pre_NsaInIdeal m →
    θ_run (Cert.NsaInIdeal.defs (F := Ideal)) (onTc (τ := Cert.NsaInIdeal.τ) (Cert.NsaInIdeal.main (F := Ideal))) ⟨m, fun _ => 0, g⟩ (fun r => (∀ c : Dev Cert.NsaInIdeal.nD,
      r.2.mem ((c.tc : Thread Cert.NsaInIdeal.nD Cert.NsaInIdeal.τ).loc Cert.NsaInIdeal.main_arg0) = m ((c.tc : Thread Cert.NsaInIdeal.nD Cert.NsaInIdeal.τ).loc Cert.NsaInIdeal.main_arg0)
      ∧ r.2.mem ((c.tc : Thread Cert.NsaInIdeal.nD Cert.NsaInIdeal.τ).loc Cert.NsaInIdeal.main_arg1) = m ((c.tc : Thread Cert.NsaInIdeal.nD Cert.NsaInIdeal.τ).loc Cert.NsaInIdeal.main_arg1)
      ∧ r.2.mem ((c.tc : Thread Cert.NsaInIdeal.nD Cert.NsaInIdeal.τ).loc Cert.NsaInIdeal.main_arg2) = m ((c.tc : Thread Cert.NsaInIdeal.nD Cert.NsaInIdeal.τ).loc Cert.NsaInIdeal.main_arg2)
      ∧ r.2.mem ((c.tc : Thread Cert.NsaInIdeal.nD Cert.NsaInIdeal.τ).loc Cert.NsaInIdeal.main_arg3) = m ((c.tc : Thread Cert.NsaInIdeal.nD Cert.NsaInIdeal.τ).loc Cert.NsaInIdeal.main_arg3))
      ∧ r.2.sem = fun _ => 0)

def quiescent_NsaInRefIdeal [hNsaInRefIdeal : Cert.NsaInRefIdeal.Facts] : Prop :=
  ∀ (m : (ℓ : Loc Cert.NsaInRefIdeal.nD Cert.NsaInRefIdeal.τ Cert.NsaInRefIdeal.sig) → Buf (Elt Ideal) ℓ) (g : Dev Cert.NsaInRefIdeal.nD → PrngReg), Pre_NsaInRefIdeal m →
    θ_run (Cert.NsaInRefIdeal.defs (F := Ideal)) (onTc (τ := Cert.NsaInRefIdeal.τ) (Cert.NsaInRefIdeal.main (F := Ideal))) ⟨m, fun _ => 0, g⟩ (fun r => (∀ c : Dev Cert.NsaInRefIdeal.nD,
      r.2.mem ((c.tc : Thread Cert.NsaInRefIdeal.nD Cert.NsaInRefIdeal.τ).loc Cert.NsaInRefIdeal.main_arg0) = m ((c.tc : Thread Cert.NsaInRefIdeal.nD Cert.NsaInRefIdeal.τ).loc Cert.NsaInRefIdeal.main_arg0)
      ∧ r.2.mem ((c.tc : Thread Cert.NsaInRefIdeal.nD Cert.NsaInRefIdeal.τ).loc Cert.NsaInRefIdeal.main_arg1) = m ((c.tc : Thread Cert.NsaInRefIdeal.nD Cert.NsaInRefIdeal.τ).loc Cert.NsaInRefIdeal.main_arg1)
      ∧ r.2.mem ((c.tc : Thread Cert.NsaInRefIdeal.nD Cert.NsaInRefIdeal.τ).loc Cert.NsaInRefIdeal.main_arg2) = m ((c.tc : Thread Cert.NsaInRefIdeal.nD Cert.NsaInRefIdeal.τ).loc Cert.NsaInRefIdeal.main_arg2)
      ∧ r.2.mem ((c.tc : Thread Cert.NsaInRefIdeal.nD Cert.NsaInRefIdeal.τ).loc Cert.NsaInRefIdeal.main_arg3) = m ((c.tc : Thread Cert.NsaInRefIdeal.nD Cert.NsaInRefIdeal.τ).loc Cert.NsaInRefIdeal.main_arg3))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2))
      ∧ r.2.sem = fun _ => 0)

def quiescent_SplitUp [hSplitUp : Cert.SplitUp.Facts] : Prop :=
  ∀ (m : (ℓ : Loc Cert.SplitUp.nD Cert.SplitUp.τ Cert.SplitUp.sig) → Buf (Elt Bits) ℓ) (g : Dev Cert.SplitUp.nD → PrngReg), Pre_SplitUp m →
    θ_run (Cert.SplitUp.defs (F := Bits)) (onTc (τ := Cert.SplitUp.τ) (Cert.SplitUp.main (F := Bits))) ⟨m, fun _ => 0, g⟩ (fun r => (∀ c : Dev Cert.SplitUp.nD,
      r.2.mem ((c.tc : Thread Cert.SplitUp.nD Cert.SplitUp.τ).loc Cert.SplitUp.main_arg0) = m ((c.tc : Thread Cert.SplitUp.nD Cert.SplitUp.τ).loc Cert.SplitUp.main_arg0))
      ∧ r.2.sem = fun _ => 0)

def quiescent_SplitUpIdeal [hSplitUpIdeal : Cert.SplitUpIdeal.Facts] : Prop :=
  ∀ (m : (ℓ : Loc Cert.SplitUpIdeal.nD Cert.SplitUpIdeal.τ Cert.SplitUpIdeal.sig) → Buf (Elt Ideal) ℓ) (g : Dev Cert.SplitUpIdeal.nD → PrngReg), Pre_SplitUpIdeal m →
    θ_run (Cert.SplitUpIdeal.defs (F := Ideal)) (onTc (τ := Cert.SplitUpIdeal.τ) (Cert.SplitUpIdeal.main (F := Ideal))) ⟨m, fun _ => 0, g⟩ (fun r => (∀ c : Dev Cert.SplitUpIdeal.nD,
      r.2.mem ((c.tc : Thread Cert.SplitUpIdeal.nD Cert.SplitUpIdeal.τ).loc Cert.SplitUpIdeal.main_arg0) = m ((c.tc : Thread Cert.SplitUpIdeal.nD Cert.SplitUpIdeal.τ).loc Cert.SplitUpIdeal.main_arg0))
      ∧ r.2.sem = fun _ => 0)

def quiescent_SplitUpRefIdeal [hSplitUpRefIdeal : Cert.SplitUpRefIdeal.Facts] : Prop :=
  ∀ (m : (ℓ : Loc Cert.SplitUpRefIdeal.nD Cert.SplitUpRefIdeal.τ Cert.SplitUpRefIdeal.sig) → Buf (Elt Ideal) ℓ) (g : Dev Cert.SplitUpRefIdeal.nD → PrngReg), Pre_SplitUpRefIdeal m →
    θ_run (Cert.SplitUpRefIdeal.defs (F := Ideal)) (onTc (τ := Cert.SplitUpRefIdeal.τ) (Cert.SplitUpRefIdeal.main (F := Ideal))) ⟨m, fun _ => 0, g⟩ (fun r => (∀ c : Dev Cert.SplitUpRefIdeal.nD,
      r.2.mem ((c.tc : Thread Cert.SplitUpRefIdeal.nD Cert.SplitUpRefIdeal.τ).loc Cert.SplitUpRefIdeal.main_arg0) = m ((c.tc : Thread Cert.SplitUpRefIdeal.nD Cert.SplitUpRefIdeal.τ).loc Cert.SplitUpRefIdeal.main_arg0))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1)
      ∧ r.2.mem ((c.tc : Thread Cert.MixerOut.nD Cert.MixerOut.τ).loc Cert.MixerOut.main_arg2) = m ((c.tc : Thread Cert.MixerOut.nD Cert.MixerOut.τ).loc Cert.MixerOut.main_arg2)
      ∧ r.2.mem ((c.tc : Thread Cert.MixerOut.nD Cert.MixerOut.τ).loc Cert.MixerOut.main_arg3) = m ((c.tc : Thread Cert.MixerOut.nD Cert.MixerOut.τ).loc Cert.MixerOut.main_arg3)
      ∧ r.2.mem ((c.tc : Thread Cert.MixerOut.nD Cert.MixerOut.τ).loc Cert.MixerOut.main_arg4) = m ((c.tc : Thread Cert.MixerOut.nD Cert.MixerOut.τ).loc Cert.MixerOut.main_arg4)
      ∧ r.2.mem ((c.tc : Thread Cert.MixerOut.nD Cert.MixerOut.τ).loc Cert.MixerOut.main_arg5) = m ((c.tc : Thread Cert.MixerOut.nD Cert.MixerOut.τ).loc Cert.MixerOut.main_arg5)
      ∧ r.2.mem ((c.tc : Thread Cert.MixerOut.nD Cert.MixerOut.τ).loc Cert.MixerOut.main_arg6) = m ((c.tc : Thread Cert.MixerOut.nD Cert.MixerOut.τ).loc Cert.MixerOut.main_arg6)
      ∧ r.2.mem ((c.tc : Thread Cert.MixerOut.nD Cert.MixerOut.τ).loc Cert.MixerOut.main_arg7) = m ((c.tc : Thread Cert.MixerOut.nD Cert.MixerOut.τ).loc Cert.MixerOut.main_arg7))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
      ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
      ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
      ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4)
      ∧ r.2.mem ((c.tc : Thread Cert.MixerOutIdeal.nD Cert.MixerOutIdeal.τ).loc Cert.MixerOutIdeal.main_arg5) = m ((c.tc : Thread Cert.MixerOutIdeal.nD Cert.MixerOutIdeal.τ).loc Cert.MixerOutIdeal.main_arg5)
      ∧ r.2.mem ((c.tc : Thread Cert.MixerOutIdeal.nD Cert.MixerOutIdeal.τ).loc Cert.MixerOutIdeal.main_arg6) = m ((c.tc : Thread Cert.MixerOutIdeal.nD Cert.MixerOutIdeal.τ).loc Cert.MixerOutIdeal.main_arg6)
      ∧ r.2.mem ((c.tc : Thread Cert.MixerOutIdeal.nD Cert.MixerOutIdeal.τ).loc Cert.MixerOutIdeal.main_arg7) = m ((c.tc : Thread Cert.MixerOutIdeal.nD Cert.MixerOutIdeal.τ).loc Cert.MixerOutIdeal.main_arg7))
      ∧ r.2.sem = fun _ => 0)

def quiescent_MixerOutIdeal_pre_all_finite [hMixerOutIdeal : Cert.MixerOutIdeal.Facts] [hPre_all_finite : Cert.Pre_all_finite.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal_all_finite m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
      ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
      ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
      ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4)
      ∧ r.2.mem ((c.tc : Thread Cert.MixerOutIdeal.nD Cert.MixerOutIdeal.τ).loc Cert.MixerOutIdeal.main_arg5) = m ((c.tc : Thread Cert.MixerOutIdeal.nD Cert.MixerOutIdeal.τ).loc Cert.MixerOutIdeal.main_arg5)
      ∧ r.2.mem ((c.tc : Thread Cert.MixerOutIdeal.nD Cert.MixerOutIdeal.τ).loc Cert.MixerOutIdeal.main_arg6) = m ((c.tc : Thread Cert.MixerOutIdeal.nD Cert.MixerOutIdeal.τ).loc Cert.MixerOutIdeal.main_arg6)
      ∧ r.2.mem ((c.tc : Thread Cert.MixerOutIdeal.nD Cert.MixerOutIdeal.τ).loc Cert.MixerOutIdeal.main_arg7) = m ((c.tc : Thread Cert.MixerOutIdeal.nD Cert.MixerOutIdeal.τ).loc Cert.MixerOutIdeal.main_arg7))
      ∧ r.2.sem = fun _ => 0)

def quiescent_MixerOutRefIdeal [hMixerOutRefIdeal : Cert.MixerOutRefIdeal.Facts] : Prop :=
  ∀ (m : (ℓ : Loc Cert.MixerOutRefIdeal.nD Cert.MixerOutRefIdeal.τ Cert.MixerOutRefIdeal.sig) → Buf (Elt Ideal) ℓ) (g : Dev Cert.MixerOutRefIdeal.nD → PrngReg), Pre_MixerOutRefIdeal m →
    θ_run (Cert.MixerOutRefIdeal.defs (F := Ideal)) (onTc (τ := Cert.MixerOutRefIdeal.τ) (Cert.MixerOutRefIdeal.main (F := Ideal))) ⟨m, fun _ => 0, g⟩ (fun r => (∀ c : Dev Cert.MixerOutRefIdeal.nD,
      r.2.mem ((c.tc : Thread Cert.MixerOutRefIdeal.nD Cert.MixerOutRefIdeal.τ).loc Cert.MixerOutRefIdeal.main_arg0) = m ((c.tc : Thread Cert.MixerOutRefIdeal.nD Cert.MixerOutRefIdeal.τ).loc Cert.MixerOutRefIdeal.main_arg0)
      ∧ r.2.mem ((c.tc : Thread Cert.MixerOutRefIdeal.nD Cert.MixerOutRefIdeal.τ).loc Cert.MixerOutRefIdeal.main_arg1) = m ((c.tc : Thread Cert.MixerOutRefIdeal.nD Cert.MixerOutRefIdeal.τ).loc Cert.MixerOutRefIdeal.main_arg1)
      ∧ r.2.mem ((c.tc : Thread Cert.MixerOutRefIdeal.nD Cert.MixerOutRefIdeal.τ).loc Cert.MixerOutRefIdeal.main_arg2) = m ((c.tc : Thread Cert.MixerOutRefIdeal.nD Cert.MixerOutRefIdeal.τ).loc Cert.MixerOutRefIdeal.main_arg2)
      ∧ r.2.mem ((c.tc : Thread Cert.MixerOutRefIdeal.nD Cert.MixerOutRefIdeal.τ).loc Cert.MixerOutRefIdeal.main_arg3) = m ((c.tc : Thread Cert.MixerOutRefIdeal.nD Cert.MixerOutRefIdeal.τ).loc Cert.MixerOutRefIdeal.main_arg3)
      ∧ r.2.mem ((c.tc : Thread Cert.MixerOutRefIdeal.nD Cert.MixerOutRefIdeal.τ).loc Cert.MixerOutRefIdeal.main_arg4) = m ((c.tc : Thread Cert.MixerOutRefIdeal.nD Cert.MixerOutRefIdeal.τ).loc Cert.MixerOutRefIdeal.main_arg4)
      ∧ r.2.mem ((c.tc : Thread Cert.MixerOutRefIdeal.nD Cert.MixerOutRefIdeal.τ).loc Cert.MixerOutRefIdeal.main_arg5) = m ((c.tc : Thread Cert.MixerOutRefIdeal.nD Cert.MixerOutRefIdeal.τ).loc Cert.MixerOutRefIdeal.main_arg5)
      ∧ r.2.mem ((c.tc : Thread Cert.MixerOutRefIdeal.nD Cert.MixerOutRefIdeal.τ).loc Cert.MixerOutRefIdeal.main_arg6) = m ((c.tc : Thread Cert.MixerOutRefIdeal.nD Cert.MixerOutRefIdeal.τ).loc Cert.MixerOutRefIdeal.main_arg6)
      ∧ r.2.mem ((c.tc : Thread Cert.MixerOutRefIdeal.nD Cert.MixerOutRefIdeal.τ).loc Cert.MixerOutRefIdeal.main_arg7) = m ((c.tc : Thread Cert.MixerOutRefIdeal.nD Cert.MixerOutRefIdeal.τ).loc Cert.MixerOutRefIdeal.main_arg7))
      ∧ r.2.sem = fun _ => 0)

def quiescent_MixerOutRefIdeal_pre_all_finite [hMixerOutRefIdeal : Cert.MixerOutRefIdeal.Facts] [hPre_all_finite : Cert.Pre_all_finite.Facts] : Prop :=
  ∀ (m : (ℓ : Loc Cert.MixerOutRefIdeal.nD Cert.MixerOutRefIdeal.τ Cert.MixerOutRefIdeal.sig) → Buf (Elt Ideal) ℓ) (g : Dev Cert.MixerOutRefIdeal.nD → PrngReg), Pre_MixerOutRefIdeal_all_finite m →
    θ_run (Cert.MixerOutRefIdeal.defs (F := Ideal)) (onTc (τ := Cert.MixerOutRefIdeal.τ) (Cert.MixerOutRefIdeal.main (F := Ideal))) ⟨m, fun _ => 0, g⟩ (fun r => (∀ c : Dev Cert.MixerOutRefIdeal.nD,
      r.2.mem ((c.tc : Thread Cert.MixerOutRefIdeal.nD Cert.MixerOutRefIdeal.τ).loc Cert.MixerOutRefIdeal.main_arg0) = m ((c.tc : Thread Cert.MixerOutRefIdeal.nD Cert.MixerOutRefIdeal.τ).loc Cert.MixerOutRefIdeal.main_arg0)
      ∧ r.2.mem ((c.tc : Thread Cert.MixerOutRefIdeal.nD Cert.MixerOutRefIdeal.τ).loc Cert.MixerOutRefIdeal.main_arg1) = m ((c.tc : Thread Cert.MixerOutRefIdeal.nD Cert.MixerOutRefIdeal.τ).loc Cert.MixerOutRefIdeal.main_arg1)
      ∧ r.2.mem ((c.tc : Thread Cert.MixerOutRefIdeal.nD Cert.MixerOutRefIdeal.τ).loc Cert.MixerOutRefIdeal.main_arg2) = m ((c.tc : Thread Cert.MixerOutRefIdeal.nD Cert.MixerOutRefIdeal.τ).loc Cert.MixerOutRefIdeal.main_arg2)
      ∧ r.2.mem ((c.tc : Thread Cert.MixerOutRefIdeal.nD Cert.MixerOutRefIdeal.τ).loc Cert.MixerOutRefIdeal.main_arg3) = m ((c.tc : Thread Cert.MixerOutRefIdeal.nD Cert.MixerOutRefIdeal.τ).loc Cert.MixerOutRefIdeal.main_arg3)
      ∧ r.2.mem ((c.tc : Thread Cert.MixerOutRefIdeal.nD Cert.MixerOutRefIdeal.τ).loc Cert.MixerOutRefIdeal.main_arg4) = m ((c.tc : Thread Cert.MixerOutRefIdeal.nD Cert.MixerOutRefIdeal.τ).loc Cert.MixerOutRefIdeal.main_arg4)
      ∧ r.2.mem ((c.tc : Thread Cert.MixerOutRefIdeal.nD Cert.MixerOutRefIdeal.τ).loc Cert.MixerOutRefIdeal.main_arg5) = m ((c.tc : Thread Cert.MixerOutRefIdeal.nD Cert.MixerOutRefIdeal.τ).loc Cert.MixerOutRefIdeal.main_arg5)
      ∧ r.2.mem ((c.tc : Thread Cert.MixerOutRefIdeal.nD Cert.MixerOutRefIdeal.τ).loc Cert.MixerOutRefIdeal.main_arg6) = m ((c.tc : Thread Cert.MixerOutRefIdeal.nD Cert.MixerOutRefIdeal.τ).loc Cert.MixerOutRefIdeal.main_arg6)
      ∧ r.2.mem ((c.tc : Thread Cert.MixerOutRefIdeal.nD Cert.MixerOutRefIdeal.τ).loc Cert.MixerOutRefIdeal.main_arg7) = m ((c.tc : Thread Cert.MixerOutRefIdeal.nD Cert.MixerOutRefIdeal.τ).loc Cert.MixerOutRefIdeal.main_arg7))
      ∧ r.2.sem = fun _ => 0)

def quiescent_CmpConst [hCmpConst : Cert.CmpConst.Facts] : Prop :=
  ∀ (m : (ℓ : Loc Cert.CmpConst.nD Cert.CmpConst.τ Cert.CmpConst.sig) → Buf (Elt Bits) ℓ) (g : Dev Cert.CmpConst.nD → PrngReg), Pre_CmpConst m →
    θ_run (Cert.CmpConst.defs (F := Bits)) (onTc (τ := Cert.CmpConst.τ) (Cert.CmpConst.main (F := Bits))) ⟨m, fun _ => 0, g⟩ (fun r => (∀ c : Dev Cert.CmpConst.nD,
      r.2.mem ((c.tc : Thread Cert.CmpConst.nD Cert.CmpConst.τ).loc Cert.CmpConst.main_arg0) = m ((c.tc : Thread Cert.CmpConst.nD Cert.CmpConst.τ).loc Cert.CmpConst.main_arg0)
      ∧ r.2.mem ((c.tc : Thread Cert.CmpConst.nD Cert.CmpConst.τ).loc Cert.CmpConst.main_arg1) = m ((c.tc : Thread Cert.CmpConst.nD Cert.CmpConst.τ).loc Cert.CmpConst.main_arg1)
      ∧ r.2.mem ((c.tc : Thread Cert.CmpConst.nD Cert.CmpConst.τ).loc Cert.CmpConst.main_arg2) = m ((c.tc : Thread Cert.CmpConst.nD Cert.CmpConst.τ).loc Cert.CmpConst.main_arg2))
      ∧ r.2.sem = fun _ => 0)

def quiescent_CmpConstIdeal [hCmpConstIdeal : Cert.CmpConstIdeal.Facts] : Prop :=
  ∀ (m : (ℓ : Loc Cert.CmpConstIdeal.nD Cert.CmpConstIdeal.τ Cert.CmpConstIdeal.sig) → Buf (Elt Ideal) ℓ) (g : Dev Cert.CmpConstIdeal.nD → PrngReg), Pre_CmpConstIdeal m →
    θ_run (Cert.CmpConstIdeal.defs (F := Ideal)) (onTc (τ := Cert.CmpConstIdeal.τ) (Cert.CmpConstIdeal.main (F := Ideal))) ⟨m, fun _ => 0, g⟩ (fun r => (∀ c : Dev Cert.CmpConstIdeal.nD,
      r.2.mem ((c.tc : Thread Cert.CmpConstIdeal.nD Cert.CmpConstIdeal.τ).loc Cert.CmpConstIdeal.main_arg0) = m ((c.tc : Thread Cert.CmpConstIdeal.nD Cert.CmpConstIdeal.τ).loc Cert.CmpConstIdeal.main_arg0)
      ∧ r.2.mem ((c.tc : Thread Cert.CmpConstIdeal.nD Cert.CmpConstIdeal.τ).loc Cert.CmpConstIdeal.main_arg1) = m ((c.tc : Thread Cert.CmpConstIdeal.nD Cert.CmpConstIdeal.τ).loc Cert.CmpConstIdeal.main_arg1)
      ∧ r.2.mem ((c.tc : Thread Cert.CmpConstIdeal.nD Cert.CmpConstIdeal.τ).loc Cert.CmpConstIdeal.main_arg2) = m ((c.tc : Thread Cert.CmpConstIdeal.nD Cert.CmpConstIdeal.τ).loc Cert.CmpConstIdeal.main_arg2))
      ∧ r.2.sem = fun _ => 0)

def quiescent_CmpConstRefIdeal [hCmpConstRefIdeal : Cert.CmpConstRefIdeal.Facts] : Prop :=
  ∀ (m : (ℓ : Loc Cert.CmpConstRefIdeal.nD Cert.CmpConstRefIdeal.τ Cert.CmpConstRefIdeal.sig) → Buf (Elt Ideal) ℓ) (g : Dev Cert.CmpConstRefIdeal.nD → PrngReg), Pre_CmpConstRefIdeal m →
    θ_run (Cert.CmpConstRefIdeal.defs (F := Ideal)) (onTc (τ := Cert.CmpConstRefIdeal.τ) (Cert.CmpConstRefIdeal.main (F := Ideal))) ⟨m, fun _ => 0, g⟩ (fun r => (∀ c : Dev Cert.CmpConstRefIdeal.nD,
      r.2.mem ((c.tc : Thread Cert.CmpConstRefIdeal.nD Cert.CmpConstRefIdeal.τ).loc Cert.CmpConstRefIdeal.main_arg0) = m ((c.tc : Thread Cert.CmpConstRefIdeal.nD Cert.CmpConstRefIdeal.τ).loc Cert.CmpConstRefIdeal.main_arg0)
      ∧ r.2.mem ((c.tc : Thread Cert.CmpConstRefIdeal.nD Cert.CmpConstRefIdeal.τ).loc Cert.CmpConstRefIdeal.main_arg1) = m ((c.tc : Thread Cert.CmpConstRefIdeal.nD Cert.CmpConstRefIdeal.τ).loc Cert.CmpConstRefIdeal.main_arg1)
      ∧ r.2.mem ((c.tc : Thread Cert.CmpConstRefIdeal.nD Cert.CmpConstRefIdeal.τ).loc Cert.CmpConstRefIdeal.main_arg2) = m ((c.tc : Thread Cert.CmpConstRefIdeal.nD Cert.CmpConstRefIdeal.τ).loc Cert.CmpConstRefIdeal.main_arg2))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4))
      ∧ r.2.sem = fun _ => 0)

def quiescent_CompressPages [hCompressPages : Cert.CompressPages.Facts] [hPre_page_in_range : Cert.Pre_page_in_range.Facts] : Prop :=
  ∀ (m : (ℓ : Loc Cert.CompressPages.nD Cert.CompressPages.τ Cert.CompressPages.sig) → Buf (Elt Bits) ℓ) (g : Dev Cert.CompressPages.nD → PrngReg), Pre_CompressPages m →
    θ_run (Cert.CompressPages.defs (F := Bits)) (onTc (τ := Cert.CompressPages.τ) (Cert.CompressPages.main (F := Bits))) ⟨m, fun _ => 0, g⟩ (fun r => (∀ c : Dev Cert.CompressPages.nD,
      r.2.mem ((c.tc : Thread Cert.CompressPages.nD Cert.CompressPages.τ).loc Cert.CompressPages.main_arg0) = m ((c.tc : Thread Cert.CompressPages.nD Cert.CompressPages.τ).loc Cert.CompressPages.main_arg0)
      ∧ r.2.mem ((c.tc : Thread Cert.CompressPages.nD Cert.CompressPages.τ).loc Cert.CompressPages.main_arg1) = m ((c.tc : Thread Cert.CompressPages.nD Cert.CompressPages.τ).loc Cert.CompressPages.main_arg1)
      ∧ r.2.mem ((c.tc : Thread Cert.CompressPages.nD Cert.CompressPages.τ).loc Cert.CompressPages.main_arg2) = m ((c.tc : Thread Cert.CompressPages.nD Cert.CompressPages.τ).loc Cert.CompressPages.main_arg2)
      ∧ r.2.mem ((c.tc : Thread Cert.CompressPages.nD Cert.CompressPages.τ).loc Cert.CompressPages.main_arg3) = m ((c.tc : Thread Cert.CompressPages.nD Cert.CompressPages.τ).loc Cert.CompressPages.main_arg3)
      ∧ r.2.mem ((c.tc : Thread Cert.CompressPages.nD Cert.CompressPages.τ).loc Cert.CompressPages.main_arg4) = m ((c.tc : Thread Cert.CompressPages.nD Cert.CompressPages.τ).loc Cert.CompressPages.main_arg4)
      ∧ r.2.mem ((c.tc : Thread Cert.CompressPages.nD Cert.CompressPages.τ).loc Cert.CompressPages.main_arg5) = m ((c.tc : Thread Cert.CompressPages.nD Cert.CompressPages.τ).loc Cert.CompressPages.main_arg5))
      ∧ r.2.sem = fun _ => 0)

def quiescent_CompressPagesIdeal [hCompressPagesIdeal : Cert.CompressPagesIdeal.Facts] [hPre_page_in_range : Cert.Pre_page_in_range.Facts] : Prop :=
  ∀ (m : (ℓ : Loc Cert.CompressPagesIdeal.nD Cert.CompressPagesIdeal.τ Cert.CompressPagesIdeal.sig) → Buf (Elt Ideal) ℓ) (g : Dev Cert.CompressPagesIdeal.nD → PrngReg), Pre_CompressPagesIdeal m →
    θ_run (Cert.CompressPagesIdeal.defs (F := Ideal)) (onTc (τ := Cert.CompressPagesIdeal.τ) (Cert.CompressPagesIdeal.main (F := Ideal))) ⟨m, fun _ => 0, g⟩ (fun r => (∀ c : Dev Cert.CompressPagesIdeal.nD,
      r.2.mem ((c.tc : Thread Cert.CompressPagesIdeal.nD Cert.CompressPagesIdeal.τ).loc Cert.CompressPagesIdeal.main_arg0) = m ((c.tc : Thread Cert.CompressPagesIdeal.nD Cert.CompressPagesIdeal.τ).loc Cert.CompressPagesIdeal.main_arg0)
      ∧ r.2.mem ((c.tc : Thread Cert.CompressPagesIdeal.nD Cert.CompressPagesIdeal.τ).loc Cert.CompressPagesIdeal.main_arg1) = m ((c.tc : Thread Cert.CompressPagesIdeal.nD Cert.CompressPagesIdeal.τ).loc Cert.CompressPagesIdeal.main_arg1)
      ∧ r.2.mem ((c.tc : Thread Cert.CompressPagesIdeal.nD Cert.CompressPagesIdeal.τ).loc Cert.CompressPagesIdeal.main_arg2) = m ((c.tc : Thread Cert.CompressPagesIdeal.nD Cert.CompressPagesIdeal.τ).loc Cert.CompressPagesIdeal.main_arg2)
      ∧ r.2.mem ((c.tc : Thread Cert.CompressPagesIdeal.nD Cert.CompressPagesIdeal.τ).loc Cert.CompressPagesIdeal.main_arg3) = m ((c.tc : Thread Cert.CompressPagesIdeal.nD Cert.CompressPagesIdeal.τ).loc Cert.CompressPagesIdeal.main_arg3)
      ∧ r.2.mem ((c.tc : Thread Cert.CompressPagesIdeal.nD Cert.CompressPagesIdeal.τ).loc Cert.CompressPagesIdeal.main_arg4) = m ((c.tc : Thread Cert.CompressPagesIdeal.nD Cert.CompressPagesIdeal.τ).loc Cert.CompressPagesIdeal.main_arg4)
      ∧ r.2.mem ((c.tc : Thread Cert.CompressPagesIdeal.nD Cert.CompressPagesIdeal.τ).loc Cert.CompressPagesIdeal.main_arg5) = m ((c.tc : Thread Cert.CompressPagesIdeal.nD Cert.CompressPagesIdeal.τ).loc Cert.CompressPagesIdeal.main_arg5))
      ∧ r.2.sem = fun _ => 0)

def quiescent_CompressPagesRefIdeal [hCompressPagesRefIdeal : Cert.CompressPagesRefIdeal.Facts] [hPre_page_in_range : Cert.Pre_page_in_range.Facts] : Prop :=
  ∀ (m : (ℓ : Loc Cert.CompressPagesRefIdeal.nD Cert.CompressPagesRefIdeal.τ Cert.CompressPagesRefIdeal.sig) → Buf (Elt Ideal) ℓ) (g : Dev Cert.CompressPagesRefIdeal.nD → PrngReg), Pre_CompressPagesRefIdeal m →
    θ_run (Cert.CompressPagesRefIdeal.defs (F := Ideal)) (onTc (τ := Cert.CompressPagesRefIdeal.τ) (Cert.CompressPagesRefIdeal.main (F := Ideal))) ⟨m, fun _ => 0, g⟩ (fun r => (∀ c : Dev Cert.CompressPagesRefIdeal.nD,
      r.2.mem ((c.tc : Thread Cert.CompressPagesRefIdeal.nD Cert.CompressPagesRefIdeal.τ).loc Cert.CompressPagesRefIdeal.main_arg0) = m ((c.tc : Thread Cert.CompressPagesRefIdeal.nD Cert.CompressPagesRefIdeal.τ).loc Cert.CompressPagesRefIdeal.main_arg0)
      ∧ r.2.mem ((c.tc : Thread Cert.CompressPagesRefIdeal.nD Cert.CompressPagesRefIdeal.τ).loc Cert.CompressPagesRefIdeal.main_arg1) = m ((c.tc : Thread Cert.CompressPagesRefIdeal.nD Cert.CompressPagesRefIdeal.τ).loc Cert.CompressPagesRefIdeal.main_arg1)
      ∧ r.2.mem ((c.tc : Thread Cert.CompressPagesRefIdeal.nD Cert.CompressPagesRefIdeal.τ).loc Cert.CompressPagesRefIdeal.main_arg2) = m ((c.tc : Thread Cert.CompressPagesRefIdeal.nD Cert.CompressPagesRefIdeal.τ).loc Cert.CompressPagesRefIdeal.main_arg2)
      ∧ r.2.mem ((c.tc : Thread Cert.CompressPagesRefIdeal.nD Cert.CompressPagesRefIdeal.τ).loc Cert.CompressPagesRefIdeal.main_arg3) = m ((c.tc : Thread Cert.CompressPagesRefIdeal.nD Cert.CompressPagesRefIdeal.τ).loc Cert.CompressPagesRefIdeal.main_arg3)
      ∧ r.2.mem ((c.tc : Thread Cert.CompressPagesRefIdeal.nD Cert.CompressPagesRefIdeal.τ).loc Cert.CompressPagesRefIdeal.main_arg4) = m ((c.tc : Thread Cert.CompressPagesRefIdeal.nD Cert.CompressPagesRefIdeal.τ).loc Cert.CompressPagesRefIdeal.main_arg4)
      ∧ r.2.mem ((c.tc : Thread Cert.CompressPagesRefIdeal.nD Cert.CompressPagesRefIdeal.τ).loc Cert.CompressPagesRefIdeal.main_arg5) = m ((c.tc : Thread Cert.CompressPagesRefIdeal.nD Cert.CompressPagesRefIdeal.τ).loc Cert.CompressPagesRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_expert_in_range : Cert.Pre_expert_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_HgrnIn_HgrnInIdeal : Prop :=
  IdealRules.named_const.Statement Cert.HgrnInIdeal.κ "no_bound" .f32 0xF149F2CA#32 ⊥

def algebraic_HgrnInIdeal_HgrnInRefIdeal [hHgrnInIdeal : Cert.HgrnInIdeal.Facts] [hHgrnInRefIdeal : Cert.HgrnInRefIdeal.Facts] [hPre_bound_in_range : Cert.Pre_bound_in_range.Facts] : Prop :=
  ∀ (m : (ℓ : Loc Cert.HgrnInIdeal.nD Cert.HgrnInIdeal.τ Cert.HgrnInIdeal.sig) → Buf (Elt Ideal) ℓ) (g : Dev Cert.HgrnInIdeal.nD → PrngReg)
    (m' : (ℓ : Loc Cert.HgrnInRefIdeal.nD Cert.HgrnInRefIdeal.τ Cert.HgrnInRefIdeal.sig) → Buf (Elt Ideal) ℓ) (g' : Dev Cert.HgrnInRefIdeal.nD → PrngReg), Pre_HgrnInIdeal m →
    (∀ c : Dev Cert.HgrnInIdeal.nD,
      m' ((c.tc : Thread Cert.HgrnInRefIdeal.nD Cert.HgrnInRefIdeal.τ).loc Cert.HgrnInRefIdeal.main_arg0) = m ((c.tc : Thread Cert.HgrnInIdeal.nD Cert.HgrnInIdeal.τ).loc Cert.HgrnInIdeal.main_arg0)
      ∧ m' ((c.tc : Thread Cert.HgrnInRefIdeal.nD Cert.HgrnInRefIdeal.τ).loc Cert.HgrnInRefIdeal.main_arg1) = m ((c.tc : Thread Cert.HgrnInIdeal.nD Cert.HgrnInIdeal.τ).loc Cert.HgrnInIdeal.main_arg1)
      ∧ m' ((c.tc : Thread Cert.HgrnInRefIdeal.nD Cert.HgrnInRefIdeal.τ).loc Cert.HgrnInRefIdeal.main_arg2) = m ((c.tc : Thread Cert.HgrnInIdeal.nD Cert.HgrnInIdeal.τ).loc Cert.HgrnInIdeal.main_arg2)
      ∧ m' ((c.tc : Thread Cert.HgrnInRefIdeal.nD Cert.HgrnInRefIdeal.τ).loc Cert.HgrnInRefIdeal.main_arg3) = m ((c.tc : Thread Cert.HgrnInIdeal.nD Cert.HgrnInIdeal.τ).loc Cert.HgrnInIdeal.main_arg3)) →
    ∃ (v0 : (c : Dev Cert.HgrnInIdeal.nD) → Buf (Elt Ideal) ((c.tc : Thread Cert.HgrnInIdeal.nD Cert.HgrnInIdeal.τ).loc Cert.HgrnInIdeal.main_v2_0)) (v1 : (c : Dev Cert.HgrnInIdeal.nD) → Buf (Elt Ideal) ((c.tc : Thread Cert.HgrnInIdeal.nD Cert.HgrnInIdeal.τ).loc Cert.HgrnInIdeal.main_v2_1)) (v2 : (c : Dev Cert.HgrnInIdeal.nD) → Buf (Elt Ideal) ((c.tc : Thread Cert.HgrnInIdeal.nD Cert.HgrnInIdeal.τ).loc Cert.HgrnInIdeal.main_v2_2)) (v3 : (c : Dev Cert.HgrnInIdeal.nD) → Buf (Elt Ideal) ((c.tc : Thread Cert.HgrnInIdeal.nD Cert.HgrnInIdeal.τ).loc Cert.HgrnInIdeal.main_v2_3)) (v4 : (c : Dev Cert.HgrnInIdeal.nD) → Buf (Elt Ideal) ((c.tc : Thread Cert.HgrnInIdeal.nD Cert.HgrnInIdeal.τ).loc Cert.HgrnInIdeal.main_v2_4)),
      θ_run (Cert.HgrnInIdeal.defs (F := Ideal)) (onTc (τ := Cert.HgrnInIdeal.τ) (Cert.HgrnInIdeal.main (F := Ideal))) ⟨m, fun _ => 0, g⟩ (fun r => ∀ c : Dev Cert.HgrnInIdeal.nD,
          r.2.mem ((c.tc : Thread Cert.HgrnInIdeal.nD Cert.HgrnInIdeal.τ).loc Cert.HgrnInIdeal.main_v2_0) = v0 c
          ∧ r.2.mem ((c.tc : Thread Cert.HgrnInIdeal.nD Cert.HgrnInIdeal.τ).loc Cert.HgrnInIdeal.main_v2_1) = v1 c
          ∧ r.2.mem ((c.tc : Thread Cert.HgrnInIdeal.nD Cert.HgrnInIdeal.τ).loc Cert.HgrnInIdeal.main_v2_2) = v2 c
          ∧ r.2.mem ((c.tc : Thread Cert.HgrnInIdeal.nD Cert.HgrnInIdeal.τ).loc Cert.HgrnInIdeal.main_v2_3) = v3 c
          ∧ r.2.mem ((c.tc : Thread Cert.HgrnInIdeal.nD Cert.HgrnInIdeal.τ).loc Cert.HgrnInIdeal.main_v2_4) = v4 c
          ∧ r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
          ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1)
          ∧ r.2.mem ((c.tc : Thread Cert.HgrnInIdeal.nD Cert.HgrnInIdeal.τ).loc Cert.HgrnInIdeal.main_arg2) = m ((c.tc : Thread Cert.HgrnInIdeal.nD Cert.HgrnInIdeal.τ).loc Cert.HgrnInIdeal.main_arg2)
          ∧ r.2.mem ((c.tc : Thread Cert.HgrnInIdeal.nD Cert.HgrnInIdeal.τ).loc Cert.HgrnInIdeal.main_arg3) = m ((c.tc : Thread Cert.HgrnInIdeal.nD Cert.HgrnInIdeal.τ).loc Cert.HgrnInIdeal.main_arg3))
      ∧ θ_run (Cert.HgrnInRefIdeal.defs (F := Ideal)) (onTc (τ := Cert.HgrnInRefIdeal.τ) (Cert.HgrnInRefIdeal.main (F := Ideal))) ⟨m', fun _ => 0, g'⟩ (fun r => ∀ c : Dev Cert.HgrnInRefIdeal.nD,
          r.2.mem ((c.tc : Thread Cert.HgrnInRefIdeal.nD Cert.HgrnInRefIdeal.τ).loc Cert.HgrnInRefIdeal.main_v38) = v0 c
          ∧ r.2.mem ((c.tc : Thread Cert.HgrnInRefIdeal.nD Cert.HgrnInRefIdeal.τ).loc Cert.HgrnInRefIdeal.main_v40) = v1 c
          ∧ r.2.mem ((c.tc : Thread Cert.HgrnInRefIdeal.nD Cert.HgrnInRefIdeal.τ).loc Cert.HgrnInRefIdeal.main_v37) = v2 c
          ∧ r.2.mem ((c.tc : Thread Cert.HgrnInRefIdeal.nD Cert.HgrnInRefIdeal.τ).loc Cert.HgrnInRefIdeal.main_v11) = v3 c
          ∧ r.2.mem ((c.tc : Thread Cert.HgrnInRefIdeal.nD Cert.HgrnInRefIdeal.τ).loc Cert.HgrnInRefIdeal.main_v12) = v4 c
          ∧ r.2.mem ((c.tc : Thread Cert.HgrnInRefIdeal.nD Cert.HgrnInRefIdeal.τ).loc Cert.HgrnInRefIdeal.main_arg0) = m' ((c.tc : Thread Cert.HgrnInRefIdeal.nD Cert.HgrnInRefIdeal.τ).loc Cert.HgrnInRefIdeal.main_arg0)
          ∧ r.2.mem ((c.tc : Thread Cert.HgrnInRefIdeal.nD Cert.HgrnInRefIdeal.τ).loc Cert.HgrnInRefIdeal.main_arg1) = m' ((c.tc : Thread Cert.HgrnInRefIdeal.nD Cert.HgrnInRefIdeal.τ).loc Cert.HgrnInRefIdeal.main_arg1)
          ∧ r.2.mem ((c.tc : Thread Cert.HgrnInRefIdeal.nD Cert.HgrnInRefIdeal.τ).loc Cert.HgrnInRefIdeal.main_arg2) = m' ((c.tc : Thread Cert.HgrnInRefIdeal.nD Cert.HgrnInRefIdeal.τ).loc Cert.HgrnInRefIdeal.main_arg2)
          ∧ r.2.mem ((c.tc : Thread Cert.HgrnInRefIdeal.nD Cert.HgrnInRefIdeal.τ).loc Cert.HgrnInRefIdeal.main_arg3) = m' ((c.tc : Thread Cert.HgrnInRefIdeal.nD Cert.HgrnInRefIdeal.τ).loc Cert.HgrnInRefIdeal.main_arg3))

def preserves_NsaIn_NsaInIdeal : Prop :=
  True

def algebraic_NsaInIdeal_NsaInRefIdeal [hNsaInIdeal : Cert.NsaInIdeal.Facts] [hNsaInRefIdeal : Cert.NsaInRefIdeal.Facts] : Prop :=
  ∀ (m : (ℓ : Loc Cert.NsaInIdeal.nD Cert.NsaInIdeal.τ Cert.NsaInIdeal.sig) → Buf (Elt Ideal) ℓ) (g : Dev Cert.NsaInIdeal.nD → PrngReg)
    (m' : (ℓ : Loc Cert.NsaInRefIdeal.nD Cert.NsaInRefIdeal.τ Cert.NsaInRefIdeal.sig) → Buf (Elt Ideal) ℓ) (g' : Dev Cert.NsaInRefIdeal.nD → PrngReg), Pre_NsaInIdeal m →
    (∀ c : Dev Cert.NsaInIdeal.nD,
      m' ((c.tc : Thread Cert.NsaInRefIdeal.nD Cert.NsaInRefIdeal.τ).loc Cert.NsaInRefIdeal.main_arg0) = m ((c.tc : Thread Cert.NsaInIdeal.nD Cert.NsaInIdeal.τ).loc Cert.NsaInIdeal.main_arg0)
      ∧ m' ((c.tc : Thread Cert.NsaInRefIdeal.nD Cert.NsaInRefIdeal.τ).loc Cert.NsaInRefIdeal.main_arg1) = m ((c.tc : Thread Cert.NsaInIdeal.nD Cert.NsaInIdeal.τ).loc Cert.NsaInIdeal.main_arg1)
      ∧ m' ((c.tc : Thread Cert.NsaInRefIdeal.nD Cert.NsaInRefIdeal.τ).loc Cert.NsaInRefIdeal.main_arg2) = m ((c.tc : Thread Cert.NsaInIdeal.nD Cert.NsaInIdeal.τ).loc Cert.NsaInIdeal.main_arg2)
      ∧ m' ((c.tc : Thread Cert.NsaInRefIdeal.nD Cert.NsaInRefIdeal.τ).loc Cert.NsaInRefIdeal.main_arg3) = m ((c.tc : Thread Cert.NsaInIdeal.nD Cert.NsaInIdeal.τ).loc Cert.NsaInIdeal.main_arg3)) →
    ∃ (v0 : (c : Dev Cert.NsaInIdeal.nD) → Buf (Elt Ideal) ((c.tc : Thread Cert.NsaInIdeal.nD Cert.NsaInIdeal.τ).loc Cert.NsaInIdeal.main_v2_0)) (v1 : (c : Dev Cert.NsaInIdeal.nD) → Buf (Elt Ideal) ((c.tc : Thread Cert.NsaInIdeal.nD Cert.NsaInIdeal.τ).loc Cert.NsaInIdeal.main_v2_1)),
      θ_run (Cert.NsaInIdeal.defs (F := Ideal)) (onTc (τ := Cert.NsaInIdeal.τ) (Cert.NsaInIdeal.main (F := Ideal))) ⟨m, fun _ => 0, g⟩ (fun r => ∀ c : Dev Cert.NsaInIdeal.nD,
          r.2.mem ((c.tc : Thread Cert.NsaInIdeal.nD Cert.NsaInIdeal.τ).loc Cert.NsaInIdeal.main_v2_0) = v0 c
          ∧ r.2.mem ((c.tc : Thread Cert.NsaInIdeal.nD Cert.NsaInIdeal.τ).loc Cert.NsaInIdeal.main_v2_1) = v1 c
          ∧ r.2.mem ((c.tc : Thread Cert.NsaInIdeal.nD Cert.NsaInIdeal.τ).loc Cert.NsaInIdeal.main_arg0) = m ((c.tc : Thread Cert.NsaInIdeal.nD Cert.NsaInIdeal.τ).loc Cert.NsaInIdeal.main_arg0)
          ∧ r.2.mem ((c.tc : Thread Cert.NsaInIdeal.nD Cert.NsaInIdeal.τ).loc Cert.NsaInIdeal.main_arg1) = m ((c.tc : Thread Cert.NsaInIdeal.nD Cert.NsaInIdeal.τ).loc Cert.NsaInIdeal.main_arg1)
          ∧ r.2.mem ((c.tc : Thread Cert.NsaInIdeal.nD Cert.NsaInIdeal.τ).loc Cert.NsaInIdeal.main_arg2) = m ((c.tc : Thread Cert.NsaInIdeal.nD Cert.NsaInIdeal.τ).loc Cert.NsaInIdeal.main_arg2)
          ∧ r.2.mem ((c.tc : Thread Cert.NsaInIdeal.nD Cert.NsaInIdeal.τ).loc Cert.NsaInIdeal.main_arg3) = m ((c.tc : Thread Cert.NsaInIdeal.nD Cert.NsaInIdeal.τ).loc Cert.NsaInIdeal.main_arg3))
      ∧ θ_run (Cert.NsaInRefIdeal.defs (F := Ideal)) (onTc (τ := Cert.NsaInRefIdeal.τ) (Cert.NsaInRefIdeal.main (F := Ideal))) ⟨m', fun _ => 0, g'⟩ (fun r => ∀ c : Dev Cert.NsaInRefIdeal.nD,
          r.2.mem ((c.tc : Thread Cert.NsaInRefIdeal.nD Cert.NsaInRefIdeal.τ).loc Cert.NsaInRefIdeal.main_v10) = v0 c
          ∧ r.2.mem ((c.tc : Thread Cert.NsaInRefIdeal.nD Cert.NsaInRefIdeal.τ).loc Cert.NsaInRefIdeal.main_v17) = v1 c
          ∧ r.2.mem ((c.tc : Thread Cert.NsaInRefIdeal.nD Cert.NsaInRefIdeal.τ).loc Cert.NsaInRefIdeal.main_arg0) = m' ((c.tc : Thread Cert.NsaInRefIdeal.nD Cert.NsaInRefIdeal.τ).loc Cert.NsaInRefIdeal.main_arg0)
          ∧ r.2.mem ((c.tc : Thread Cert.NsaInRefIdeal.nD Cert.NsaInRefIdeal.τ).loc Cert.NsaInRefIdeal.main_arg1) = m' ((c.tc : Thread Cert.NsaInRefIdeal.nD Cert.NsaInRefIdeal.τ).loc Cert.NsaInRefIdeal.main_arg1)
          ∧ r.2.mem ((c.tc : Thread Cert.NsaInRefIdeal.nD Cert.NsaInRefIdeal.τ).loc Cert.NsaInRefIdeal.main_arg2) = m' ((c.tc : Thread Cert.NsaInRefIdeal.nD Cert.NsaInRefIdeal.τ).loc Cert.NsaInRefIdeal.main_arg2)
          ∧ r.2.mem ((c.tc : Thread Cert.NsaInRefIdeal.nD Cert.NsaInRefIdeal.τ).loc Cert.NsaInRefIdeal.main_arg3) = m' ((c.tc : Thread Cert.NsaInRefIdeal.nD Cert.NsaInRefIdeal.τ).loc Cert.NsaInRefIdeal.main_arg3))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)) →
    ∃ (v0 : (c : Dev Cert.KvProjIdeal.nD) → Buf (Elt Ideal) ((c.tc : Thread Cert.KvProjIdeal.nD Cert.KvProjIdeal.τ).loc Cert.KvProjIdeal.main_v1_0)) (v1 : (c : Dev Cert.KvProjIdeal.nD) → Buf (Elt Ideal) ((c.tc : Thread Cert.KvProjIdeal.nD Cert.KvProjIdeal.τ).loc Cert.KvProjIdeal.main_v1_1)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v1_0) = v0 c
          ∧ r.2.mem ((c.tc : Thread Cert.KvProjIdeal.nD Cert.KvProjIdeal.τ).loc Cert.KvProjIdeal.main_v1_1) = v1 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v9) = v0 c
          ∧ r.2.mem ((c.tc : Thread Cert.KvProjRefIdeal.nD Cert.KvProjRefIdeal.τ).loc Cert.KvProjRefIdeal.main_v11) = v1 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2))

def preserves_SplitUp_SplitUpIdeal : Prop :=
  True

def algebraic_SplitUpIdeal_SplitUpRefIdeal [hSplitUpIdeal : Cert.SplitUpIdeal.Facts] [hSplitUpRefIdeal : Cert.SplitUpRefIdeal.Facts] : Prop :=
  ∀ (m : (ℓ : Loc Cert.SplitUpIdeal.nD Cert.SplitUpIdeal.τ Cert.SplitUpIdeal.sig) → Buf (Elt Ideal) ℓ) (g : Dev Cert.SplitUpIdeal.nD → PrngReg)
    (m' : (ℓ : Loc Cert.SplitUpRefIdeal.nD Cert.SplitUpRefIdeal.τ Cert.SplitUpRefIdeal.sig) → Buf (Elt Ideal) ℓ) (g' : Dev Cert.SplitUpRefIdeal.nD → PrngReg), Pre_SplitUpIdeal m →
    (∀ c : Dev Cert.SplitUpIdeal.nD,
      m' ((c.tc : Thread Cert.SplitUpRefIdeal.nD Cert.SplitUpRefIdeal.τ).loc Cert.SplitUpRefIdeal.main_arg0) = m ((c.tc : Thread Cert.SplitUpIdeal.nD Cert.SplitUpIdeal.τ).loc Cert.SplitUpIdeal.main_arg0)) →
    ∃ (v0 : (c : Dev Cert.SplitUpIdeal.nD) → Buf (Elt Ideal) ((c.tc : Thread Cert.SplitUpIdeal.nD Cert.SplitUpIdeal.τ).loc Cert.SplitUpIdeal.main_v13_0)) (v1 : (c : Dev Cert.SplitUpIdeal.nD) → Buf (Elt Ideal) ((c.tc : Thread Cert.SplitUpIdeal.nD Cert.SplitUpIdeal.τ).loc Cert.SplitUpIdeal.main_v13_1)),
      θ_run (Cert.SplitUpIdeal.defs (F := Ideal)) (onTc (τ := Cert.SplitUpIdeal.τ) (Cert.SplitUpIdeal.main (F := Ideal))) ⟨m, fun _ => 0, g⟩ (fun r => ∀ c : Dev Cert.SplitUpIdeal.nD,
          r.2.mem ((c.tc : Thread Cert.SplitUpIdeal.nD Cert.SplitUpIdeal.τ).loc Cert.SplitUpIdeal.main_v13_0) = v0 c
          ∧ r.2.mem ((c.tc : Thread Cert.SplitUpIdeal.nD Cert.SplitUpIdeal.τ).loc Cert.SplitUpIdeal.main_v13_1) = v1 c
          ∧ r.2.mem ((c.tc : Thread Cert.SplitUpIdeal.nD Cert.SplitUpIdeal.τ).loc Cert.SplitUpIdeal.main_arg0) = m ((c.tc : Thread Cert.SplitUpIdeal.nD Cert.SplitUpIdeal.τ).loc Cert.SplitUpIdeal.main_arg0))
      ∧ θ_run (Cert.SplitUpRefIdeal.defs (F := Ideal)) (onTc (τ := Cert.SplitUpRefIdeal.τ) (Cert.SplitUpRefIdeal.main (F := Ideal))) ⟨m', fun _ => 0, g'⟩ (fun r => ∀ c : Dev Cert.SplitUpRefIdeal.nD,
          r.2.mem ((c.tc : Thread Cert.SplitUpRefIdeal.nD Cert.SplitUpRefIdeal.τ).loc Cert.SplitUpRefIdeal.main_v1) = v0 c
          ∧ r.2.mem ((c.tc : Thread Cert.SplitUpRefIdeal.nD Cert.SplitUpRefIdeal.τ).loc Cert.SplitUpRefIdeal.main_v3) = v1 c
          ∧ r.2.mem ((c.tc : Thread Cert.SplitUpRefIdeal.nD Cert.SplitUpRefIdeal.τ).loc Cert.SplitUpRefIdeal.main_arg0) = m' ((c.tc : Thread Cert.SplitUpRefIdeal.nD Cert.SplitUpRefIdeal.τ).loc Cert.SplitUpRefIdeal.main_arg0))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_MixerOut_MixerOutIdeal : Prop :=
  True

def algebraic_MixerOutIdeal_MixerOutRefIdeal_pre_all_finite [hMixerOutIdeal : Cert.MixerOutIdeal.Facts] [hMixerOutRefIdeal : Cert.MixerOutRefIdeal.Facts] [hPre_all_finite : Cert.Pre_all_finite.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutRefIdeal.nD Cert.MixerOutRefIdeal.τ Cert.MixerOutRefIdeal.sig) → Buf (Elt Ideal) ℓ) (g' : Dev Cert.MixerOutRefIdeal.nD → PrngReg), Pre_MixerOutIdeal_all_finite m →
    (∀ c : Dev Cert.MixerOutIdeal.nD,
      m' ((c.tc : Thread Cert.MixerOutRefIdeal.nD Cert.MixerOutRefIdeal.τ).loc Cert.MixerOutRefIdeal.main_arg0) = m ((c.tc : Thread Cert.MixerOutIdeal.nD Cert.MixerOutIdeal.τ).loc Cert.MixerOutIdeal.main_arg0)
      ∧ m' ((c.tc : Thread Cert.MixerOutRefIdeal.nD Cert.MixerOutRefIdeal.τ).loc Cert.MixerOutRefIdeal.main_arg1) = m ((c.tc : Thread Cert.MixerOutIdeal.nD Cert.MixerOutIdeal.τ).loc Cert.MixerOutIdeal.main_arg1)
      ∧ m' ((c.tc : Thread Cert.MixerOutRefIdeal.nD Cert.MixerOutRefIdeal.τ).loc Cert.MixerOutRefIdeal.main_arg2) = m ((c.tc : Thread Cert.MixerOutIdeal.nD Cert.MixerOutIdeal.τ).loc Cert.MixerOutIdeal.main_arg2)
      ∧ m' ((c.tc : Thread Cert.MixerOutRefIdeal.nD Cert.MixerOutRefIdeal.τ).loc Cert.MixerOutRefIdeal.main_arg3) = m ((c.tc : Thread Cert.MixerOutIdeal.nD Cert.MixerOutIdeal.τ).loc Cert.MixerOutIdeal.main_arg3)
      ∧ m' ((c.tc : Thread Cert.MixerOutRefIdeal.nD Cert.MixerOutRefIdeal.τ).loc Cert.MixerOutRefIdeal.main_arg4) = m ((c.tc : Thread Cert.MixerOutIdeal.nD Cert.MixerOutIdeal.τ).loc Cert.MixerOutIdeal.main_arg4)
      ∧ m' ((c.tc : Thread Cert.MixerOutRefIdeal.nD Cert.MixerOutRefIdeal.τ).loc Cert.MixerOutRefIdeal.main_arg5) = m ((c.tc : Thread Cert.MixerOutIdeal.nD Cert.MixerOutIdeal.τ).loc Cert.MixerOutIdeal.main_arg5)
      ∧ m' ((c.tc : Thread Cert.MixerOutRefIdeal.nD Cert.MixerOutRefIdeal.τ).loc Cert.MixerOutRefIdeal.main_arg6) = m ((c.tc : Thread Cert.MixerOutIdeal.nD Cert.MixerOutIdeal.τ).loc Cert.MixerOutIdeal.main_arg6)
      ∧ m' ((c.tc : Thread Cert.MixerOutRefIdeal.nD Cert.MixerOutRefIdeal.τ).loc Cert.MixerOutRefIdeal.main_arg7) = m ((c.tc : Thread Cert.MixerOutIdeal.nD Cert.MixerOutIdeal.τ).loc Cert.MixerOutIdeal.main_arg7)) →
    ∃ (v0 : (c : Dev Cert.MixerOutIdeal.nD) → Buf (Elt Ideal) ((c.tc : Thread Cert.MixerOutIdeal.nD Cert.MixerOutIdeal.τ).loc Cert.MixerOutIdeal.main_v3_0)) (v1 : (c : Dev Cert.MixerOutIdeal.nD) → Buf (Elt Ideal) ((c.tc : Thread Cert.MixerOutIdeal.nD Cert.MixerOutIdeal.τ).loc Cert.MixerOutIdeal.main_v3_1)) (v2 : (c : Dev Cert.MixerOutIdeal.nD) → Buf (Elt Ideal) ((c.tc : Thread Cert.MixerOutIdeal.nD Cert.MixerOutIdeal.τ).loc Cert.MixerOutIdeal.main_v3_2)) (v3 : (c : Dev Cert.MixerOutIdeal.nD) → Buf (Elt Ideal) ((c.tc : Thread Cert.MixerOutIdeal.nD Cert.MixerOutIdeal.τ).loc Cert.MixerOutIdeal.main_v3_3)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v3_0) = v0 c
          ∧ r.2.mem ((c.tc : Thread Cert.MixerOutIdeal.nD Cert.MixerOutIdeal.τ).loc Cert.MixerOutIdeal.main_v3_1) = v1 c
          ∧ r.2.mem ((c.tc : Thread Cert.MixerOutIdeal.nD Cert.MixerOutIdeal.τ).loc Cert.MixerOutIdeal.main_v3_2) = v2 c
          ∧ r.2.mem ((c.tc : Thread Cert.MixerOutIdeal.nD Cert.MixerOutIdeal.τ).loc Cert.MixerOutIdeal.main_v3_3) = v3 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
          ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
          ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
          ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4)
          ∧ r.2.mem ((c.tc : Thread Cert.MixerOutIdeal.nD Cert.MixerOutIdeal.τ).loc Cert.MixerOutIdeal.main_arg5) = m ((c.tc : Thread Cert.MixerOutIdeal.nD Cert.MixerOutIdeal.τ).loc Cert.MixerOutIdeal.main_arg5)
          ∧ r.2.mem ((c.tc : Thread Cert.MixerOutIdeal.nD Cert.MixerOutIdeal.τ).loc Cert.MixerOutIdeal.main_arg6) = m ((c.tc : Thread Cert.MixerOutIdeal.nD Cert.MixerOutIdeal.τ).loc Cert.MixerOutIdeal.main_arg6)
          ∧ r.2.mem ((c.tc : Thread Cert.MixerOutIdeal.nD Cert.MixerOutIdeal.τ).loc Cert.MixerOutIdeal.main_arg7) = m ((c.tc : Thread Cert.MixerOutIdeal.nD Cert.MixerOutIdeal.τ).loc Cert.MixerOutIdeal.main_arg7))
      ∧ θ_run (Cert.MixerOutRefIdeal.defs (F := Ideal)) (onTc (τ := Cert.MixerOutRefIdeal.τ) (Cert.MixerOutRefIdeal.main (F := Ideal))) ⟨m', fun _ => 0, g'⟩ (fun r => ∀ c : Dev Cert.MixerOutRefIdeal.nD,
          r.2.mem ((c.tc : Thread Cert.MixerOutRefIdeal.nD Cert.MixerOutRefIdeal.τ).loc Cert.MixerOutRefIdeal.main_v37) = v0 c
          ∧ r.2.mem ((c.tc : Thread Cert.MixerOutRefIdeal.nD Cert.MixerOutRefIdeal.τ).loc Cert.MixerOutRefIdeal.main_v48) = v1 c
          ∧ r.2.mem ((c.tc : Thread Cert.MixerOutRefIdeal.nD Cert.MixerOutRefIdeal.τ).loc Cert.MixerOutRefIdeal.main_v49) = v2 c
          ∧ r.2.mem ((c.tc : Thread Cert.MixerOutRefIdeal.nD Cert.MixerOutRefIdeal.τ).loc Cert.MixerOutRefIdeal.main_v61) = v3 c
          ∧ r.2.mem ((c.tc : Thread Cert.MixerOutRefIdeal.nD Cert.MixerOutRefIdeal.τ).loc Cert.MixerOutRefIdeal.main_arg0) = m' ((c.tc : Thread Cert.MixerOutRefIdeal.nD Cert.MixerOutRefIdeal.τ).loc Cert.MixerOutRefIdeal.main_arg0)
          ∧ r.2.mem ((c.tc : Thread Cert.MixerOutRefIdeal.nD Cert.MixerOutRefIdeal.τ).loc Cert.MixerOutRefIdeal.main_arg1) = m' ((c.tc : Thread Cert.MixerOutRefIdeal.nD Cert.MixerOutRefIdeal.τ).loc Cert.MixerOutRefIdeal.main_arg1)
          ∧ r.2.mem ((c.tc : Thread Cert.MixerOutRefIdeal.nD Cert.MixerOutRefIdeal.τ).loc Cert.MixerOutRefIdeal.main_arg2) = m' ((c.tc : Thread Cert.MixerOutRefIdeal.nD Cert.MixerOutRefIdeal.τ).loc Cert.MixerOutRefIdeal.main_arg2)
          ∧ r.2.mem ((c.tc : Thread Cert.MixerOutRefIdeal.nD Cert.MixerOutRefIdeal.τ).loc Cert.MixerOutRefIdeal.main_arg3) = m' ((c.tc : Thread Cert.MixerOutRefIdeal.nD Cert.MixerOutRefIdeal.τ).loc Cert.MixerOutRefIdeal.main_arg3)
          ∧ r.2.mem ((c.tc : Thread Cert.MixerOutRefIdeal.nD Cert.MixerOutRefIdeal.τ).loc Cert.MixerOutRefIdeal.main_arg4) = m' ((c.tc : Thread Cert.MixerOutRefIdeal.nD Cert.MixerOutRefIdeal.τ).loc Cert.MixerOutRefIdeal.main_arg4)
          ∧ r.2.mem ((c.tc : Thread Cert.MixerOutRefIdeal.nD Cert.MixerOutRefIdeal.τ).loc Cert.MixerOutRefIdeal.main_arg5) = m' ((c.tc : Thread Cert.MixerOutRefIdeal.nD Cert.MixerOutRefIdeal.τ).loc Cert.MixerOutRefIdeal.main_arg5)
          ∧ r.2.mem ((c.tc : Thread Cert.MixerOutRefIdeal.nD Cert.MixerOutRefIdeal.τ).loc Cert.MixerOutRefIdeal.main_arg6) = m' ((c.tc : Thread Cert.MixerOutRefIdeal.nD Cert.MixerOutRefIdeal.τ).loc Cert.MixerOutRefIdeal.main_arg6)
          ∧ r.2.mem ((c.tc : Thread Cert.MixerOutRefIdeal.nD Cert.MixerOutRefIdeal.τ).loc Cert.MixerOutRefIdeal.main_arg7) = m' ((c.tc : Thread Cert.MixerOutRefIdeal.nD Cert.MixerOutRefIdeal.τ).loc Cert.MixerOutRefIdeal.main_arg7))

def preserves_CmpConst_CmpConstIdeal : Prop :=
  True

def algebraic_CmpConstIdeal_CmpConstRefIdeal [hCmpConstIdeal : Cert.CmpConstIdeal.Facts] [hCmpConstRefIdeal : Cert.CmpConstRefIdeal.Facts] : Prop :=
  ∀ (m : (ℓ : Loc Cert.CmpConstIdeal.nD Cert.CmpConstIdeal.τ Cert.CmpConstIdeal.sig) → Buf (Elt Ideal) ℓ) (g : Dev Cert.CmpConstIdeal.nD → PrngReg)
    (m' : (ℓ : Loc Cert.CmpConstRefIdeal.nD Cert.CmpConstRefIdeal.τ Cert.CmpConstRefIdeal.sig) → Buf (Elt Ideal) ℓ) (g' : Dev Cert.CmpConstRefIdeal.nD → PrngReg), Pre_CmpConstIdeal m →
    (∀ c : Dev Cert.CmpConstIdeal.nD,
      m' ((c.tc : Thread Cert.CmpConstRefIdeal.nD Cert.CmpConstRefIdeal.τ).loc Cert.CmpConstRefIdeal.main_arg0) = m ((c.tc : Thread Cert.CmpConstIdeal.nD Cert.CmpConstIdeal.τ).loc Cert.CmpConstIdeal.main_arg0)
      ∧ m' ((c.tc : Thread Cert.CmpConstRefIdeal.nD Cert.CmpConstRefIdeal.τ).loc Cert.CmpConstRefIdeal.main_arg1) = m ((c.tc : Thread Cert.CmpConstIdeal.nD Cert.CmpConstIdeal.τ).loc Cert.CmpConstIdeal.main_arg1)
      ∧ m' ((c.tc : Thread Cert.CmpConstRefIdeal.nD Cert.CmpConstRefIdeal.τ).loc Cert.CmpConstRefIdeal.main_arg2) = m ((c.tc : Thread Cert.CmpConstIdeal.nD Cert.CmpConstIdeal.τ).loc Cert.CmpConstIdeal.main_arg2)) →
    ∃ (v0 : (c : Dev Cert.CmpConstIdeal.nD) → Buf (Elt Ideal) ((c.tc : Thread Cert.CmpConstIdeal.nD Cert.CmpConstIdeal.τ).loc Cert.CmpConstIdeal.main_v2)),
      θ_run (Cert.CmpConstIdeal.defs (F := Ideal)) (onTc (τ := Cert.CmpConstIdeal.τ) (Cert.CmpConstIdeal.main (F := Ideal))) ⟨m, fun _ => 0, g⟩ (fun r => ∀ c : Dev Cert.CmpConstIdeal.nD,
          r.2.mem ((c.tc : Thread Cert.CmpConstIdeal.nD Cert.CmpConstIdeal.τ).loc Cert.CmpConstIdeal.main_v2) = v0 c
          ∧ r.2.mem ((c.tc : Thread Cert.CmpConstIdeal.nD Cert.CmpConstIdeal.τ).loc Cert.CmpConstIdeal.main_arg0) = m ((c.tc : Thread Cert.CmpConstIdeal.nD Cert.CmpConstIdeal.τ).loc Cert.CmpConstIdeal.main_arg0)
          ∧ r.2.mem ((c.tc : Thread Cert.CmpConstIdeal.nD Cert.CmpConstIdeal.τ).loc Cert.CmpConstIdeal.main_arg1) = m ((c.tc : Thread Cert.CmpConstIdeal.nD Cert.CmpConstIdeal.τ).loc Cert.CmpConstIdeal.main_arg1)
          ∧ r.2.mem ((c.tc : Thread Cert.CmpConstIdeal.nD Cert.CmpConstIdeal.τ).loc Cert.CmpConstIdeal.main_arg2) = m ((c.tc : Thread Cert.CmpConstIdeal.nD Cert.CmpConstIdeal.τ).loc Cert.CmpConstIdeal.main_arg2))
      ∧ θ_run (Cert.CmpConstRefIdeal.defs (F := Ideal)) (onTc (τ := Cert.CmpConstRefIdeal.τ) (Cert.CmpConstRefIdeal.main (F := Ideal))) ⟨m', fun _ => 0, g'⟩ (fun r => ∀ c : Dev Cert.CmpConstRefIdeal.nD,
          r.2.mem ((c.tc : Thread Cert.CmpConstRefIdeal.nD Cert.CmpConstRefIdeal.τ).loc Cert.CmpConstRefIdeal.main_v3) = v0 c
          ∧ r.2.mem ((c.tc : Thread Cert.CmpConstRefIdeal.nD Cert.CmpConstRefIdeal.τ).loc Cert.CmpConstRefIdeal.main_arg0) = m' ((c.tc : Thread Cert.CmpConstRefIdeal.nD Cert.CmpConstRefIdeal.τ).loc Cert.CmpConstRefIdeal.main_arg0)
          ∧ r.2.mem ((c.tc : Thread Cert.CmpConstRefIdeal.nD Cert.CmpConstRefIdeal.τ).loc Cert.CmpConstRefIdeal.main_arg1) = m' ((c.tc : Thread Cert.CmpConstRefIdeal.nD Cert.CmpConstRefIdeal.τ).loc Cert.CmpConstRefIdeal.main_arg1)
          ∧ r.2.mem ((c.tc : Thread Cert.CmpConstRefIdeal.nD Cert.CmpConstRefIdeal.τ).loc Cert.CmpConstRefIdeal.main_arg2) = m' ((c.tc : Thread Cert.CmpConstRefIdeal.nD Cert.CmpConstRefIdeal.τ).loc Cert.CmpConstRefIdeal.main_arg2))

def preserves_Compress_CompressIdeal : Prop :=
  True

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)) →
    ∃ (v0 : (c : Dev Cert.CompressIdeal.nD) → Buf (Elt Ideal) ((c.tc : Thread Cert.CompressIdeal.nD Cert.CompressIdeal.τ).loc Cert.CompressIdeal.main_v10)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v10) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v15) = v0 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4))

def preserves_CompressPages_CompressPagesIdeal : Prop :=
  True

def algebraic_CompressPagesIdeal_CompressPagesRefIdeal [hCompressPagesIdeal : Cert.CompressPagesIdeal.Facts] [hCompressPagesRefIdeal : Cert.CompressPagesRefIdeal.Facts] [hPre_page_in_range : Cert.Pre_page_in_range.Facts] : Prop :=
  ∀ (m : (ℓ : Loc Cert.CompressPagesIdeal.nD Cert.CompressPagesIdeal.τ Cert.CompressPagesIdeal.sig) → Buf (Elt Ideal) ℓ) (g : Dev Cert.CompressPagesIdeal.nD → PrngReg)
    (m' : (ℓ : Loc Cert.CompressPagesRefIdeal.nD Cert.CompressPagesRefIdeal.τ Cert.CompressPagesRefIdeal.sig) → Buf (Elt Ideal) ℓ) (g' : Dev Cert.CompressPagesRefIdeal.nD → PrngReg), Pre_CompressPagesIdeal m →
    (∀ c : Dev Cert.CompressPagesIdeal.nD,
      m' ((c.tc : Thread Cert.CompressPagesRefIdeal.nD Cert.CompressPagesRefIdeal.τ).loc Cert.CompressPagesRefIdeal.main_arg0) = m ((c.tc : Thread Cert.CompressPagesIdeal.nD Cert.CompressPagesIdeal.τ).loc Cert.CompressPagesIdeal.main_arg0)
      ∧ m' ((c.tc : Thread Cert.CompressPagesRefIdeal.nD Cert.CompressPagesRefIdeal.τ).loc Cert.CompressPagesRefIdeal.main_arg1) = m ((c.tc : Thread Cert.CompressPagesIdeal.nD Cert.CompressPagesIdeal.τ).loc Cert.CompressPagesIdeal.main_arg1)
      ∧ m' ((c.tc : Thread Cert.CompressPagesRefIdeal.nD Cert.CompressPagesRefIdeal.τ).loc Cert.CompressPagesRefIdeal.main_arg2) = m ((c.tc : Thread Cert.CompressPagesIdeal.nD Cert.CompressPagesIdeal.τ).loc Cert.CompressPagesIdeal.main_arg2)
      ∧ m' ((c.tc : Thread Cert.CompressPagesRefIdeal.nD Cert.CompressPagesRefIdeal.τ).loc Cert.CompressPagesRefIdeal.main_arg3) = m ((c.tc : Thread Cert.CompressPagesIdeal.nD Cert.CompressPagesIdeal.τ).loc Cert.CompressPagesIdeal.main_arg3)
      ∧ m' ((c.tc : Thread Cert.CompressPagesRefIdeal.nD Cert.CompressPagesRefIdeal.τ).loc Cert.CompressPagesRefIdeal.main_arg4) = m ((c.tc : Thread Cert.CompressPagesIdeal.nD Cert.CompressPagesIdeal.τ).loc Cert.CompressPagesIdeal.main_arg4)
      ∧ m' ((c.tc : Thread Cert.CompressPagesRefIdeal.nD Cert.CompressPagesRefIdeal.τ).loc Cert.CompressPagesRefIdeal.main_arg5) = m ((c.tc : Thread Cert.CompressPagesIdeal.nD Cert.CompressPagesIdeal.τ).loc Cert.CompressPagesIdeal.main_arg5)) →
    ∃ (v0 : (c : Dev Cert.CompressPagesIdeal.nD) → Buf (Elt Ideal) ((c.tc : Thread Cert.CompressPagesIdeal.nD Cert.CompressPagesIdeal.τ).loc Cert.CompressPagesIdeal.main_v10)),
      θ_run (Cert.CompressPagesIdeal.defs (F := Ideal)) (onTc (τ := Cert.CompressPagesIdeal.τ) (Cert.CompressPagesIdeal.main (F := Ideal))) ⟨m, fun _ => 0, g⟩ (fun r => ∀ c : Dev Cert.CompressPagesIdeal.nD,
          r.2.mem ((c.tc : Thread Cert.CompressPagesIdeal.nD Cert.CompressPagesIdeal.τ).loc Cert.CompressPagesIdeal.main_v10) = v0 c
          ∧ r.2.mem ((c.tc : Thread Cert.CompressPagesIdeal.nD Cert.CompressPagesIdeal.τ).loc Cert.CompressPagesIdeal.main_arg0) = m ((c.tc : Thread Cert.CompressPagesIdeal.nD Cert.CompressPagesIdeal.τ).loc Cert.CompressPagesIdeal.main_arg0)
          ∧ r.2.mem ((c.tc : Thread Cert.CompressPagesIdeal.nD Cert.CompressPagesIdeal.τ).loc Cert.CompressPagesIdeal.main_arg1) = m ((c.tc : Thread Cert.CompressPagesIdeal.nD Cert.CompressPagesIdeal.τ).loc Cert.CompressPagesIdeal.main_arg1)
          ∧ r.2.mem ((c.tc : Thread Cert.CompressPagesIdeal.nD Cert.CompressPagesIdeal.τ).loc Cert.CompressPagesIdeal.main_arg2) = m ((c.tc : Thread Cert.CompressPagesIdeal.nD Cert.CompressPagesIdeal.τ).loc Cert.CompressPagesIdeal.main_arg2)
          ∧ r.2.mem ((c.tc : Thread Cert.CompressPagesIdeal.nD Cert.CompressPagesIdeal.τ).loc Cert.CompressPagesIdeal.main_arg3) = m ((c.tc : Thread Cert.CompressPagesIdeal.nD Cert.CompressPagesIdeal.τ).loc Cert.CompressPagesIdeal.main_arg3)
          ∧ r.2.mem ((c.tc : Thread Cert.CompressPagesIdeal.nD Cert.CompressPagesIdeal.τ).loc Cert.CompressPagesIdeal.main_arg4) = m ((c.tc : Thread Cert.CompressPagesIdeal.nD Cert.CompressPagesIdeal.τ).loc Cert.CompressPagesIdeal.main_arg4)
          ∧ r.2.mem ((c.tc : Thread Cert.CompressPagesIdeal.nD Cert.CompressPagesIdeal.τ).loc Cert.CompressPagesIdeal.main_arg5) = m ((c.tc : Thread Cert.CompressPagesIdeal.nD Cert.CompressPagesIdeal.τ).loc Cert.CompressPagesIdeal.main_arg5))
      ∧ θ_run (Cert.CompressPagesRefIdeal.defs (F := Ideal)) (onTc (τ := Cert.CompressPagesRefIdeal.τ) (Cert.CompressPagesRefIdeal.main (F := Ideal))) ⟨m', fun _ => 0, g'⟩ (fun r => ∀ c : Dev Cert.CompressPagesRefIdeal.nD,
          r.2.mem ((c.tc : Thread Cert.CompressPagesRefIdeal.nD Cert.CompressPagesRefIdeal.τ).loc Cert.CompressPagesRefIdeal.main_v22) = v0 c
          ∧ r.2.mem ((c.tc : Thread Cert.CompressPagesRefIdeal.nD Cert.CompressPagesRefIdeal.τ).loc Cert.CompressPagesRefIdeal.main_arg0) = m' ((c.tc : Thread Cert.CompressPagesRefIdeal.nD Cert.CompressPagesRefIdeal.τ).loc Cert.CompressPagesRefIdeal.main_arg0)
          ∧ r.2.mem ((c.tc : Thread Cert.CompressPagesRefIdeal.nD Cert.CompressPagesRefIdeal.τ).loc Cert.CompressPagesRefIdeal.main_arg1) = m' ((c.tc : Thread Cert.CompressPagesRefIdeal.nD Cert.CompressPagesRefIdeal.τ).loc Cert.CompressPagesRefIdeal.main_arg1)
          ∧ r.2.mem ((c.tc : Thread Cert.CompressPagesRefIdeal.nD Cert.CompressPagesRefIdeal.τ).loc Cert.CompressPagesRefIdeal.main_arg2) = m' ((c.tc : Thread Cert.CompressPagesRefIdeal.nD Cert.CompressPagesRefIdeal.τ).loc Cert.CompressPagesRefIdeal.main_arg2)
          ∧ r.2.mem ((c.tc : Thread Cert.CompressPagesRefIdeal.nD Cert.CompressPagesRefIdeal.τ).loc Cert.CompressPagesRefIdeal.main_arg3) = m' ((c.tc : Thread Cert.CompressPagesRefIdeal.nD Cert.CompressPagesRefIdeal.τ).loc Cert.CompressPagesRefIdeal.main_arg3)
          ∧ r.2.mem ((c.tc : Thread Cert.CompressPagesRefIdeal.nD Cert.CompressPagesRefIdeal.τ).loc Cert.CompressPagesRefIdeal.main_arg4) = m' ((c.tc : Thread Cert.CompressPagesRefIdeal.nD Cert.CompressPagesRefIdeal.τ).loc Cert.CompressPagesRefIdeal.main_arg4)
          ∧ r.2.mem ((c.tc : Thread Cert.CompressPagesRefIdeal.nD Cert.CompressPagesRefIdeal.τ).loc Cert.CompressPagesRefIdeal.main_arg5) = m' ((c.tc : Thread Cert.CompressPagesRefIdeal.nD Cert.CompressPagesRefIdeal.τ).loc Cert.CompressPagesRefIdeal.main_arg5))

def Claim : Prop :=
  ∃ (hKernel : Cert.Kernel.Facts) (hKernelIdeal : Cert.KernelIdeal.Facts) (hReferenceIdeal : Cert.ReferenceIdeal.Facts) (hHgrnIn : Cert.HgrnIn.Facts) (hHgrnInIdeal : Cert.HgrnInIdeal.Facts) (hHgrnInRefIdeal : Cert.HgrnInRefIdeal.Facts) (hNsaIn : Cert.NsaIn.Facts) (hNsaInIdeal : Cert.NsaInIdeal.Facts) (hNsaInRefIdeal : Cert.NsaInRefIdeal.Facts) (hKvProj : Cert.KvProj.Facts) (hKvProjIdeal : Cert.KvProjIdeal.Facts) (hKvProjRefIdeal : Cert.KvProjRefIdeal.Facts) (hSplitUp : Cert.SplitUp.Facts) (hSplitUpIdeal : Cert.SplitUpIdeal.Facts) (hSplitUpRefIdeal : Cert.SplitUpRefIdeal.Facts) (hAda : Cert.Ada.Facts) (hAdaIdeal : Cert.AdaIdeal.Facts) (hAdaRefIdeal : Cert.AdaRefIdeal.Facts) (hMixerOut : Cert.MixerOut.Facts) (hMixerOutIdeal : Cert.MixerOutIdeal.Facts) (hMixerOutRefIdeal : Cert.MixerOutRefIdeal.Facts) (hCmpConst : Cert.CmpConst.Facts) (hCmpConstIdeal : Cert.CmpConstIdeal.Facts) (hCmpConstRefIdeal : Cert.CmpConstRefIdeal.Facts) (hCompress : Cert.Compress.Facts) (hCompressIdeal : Cert.CompressIdeal.Facts) (hCompressRefIdeal : Cert.CompressRefIdeal.Facts) (hCompressPages : Cert.CompressPages.Facts) (hCompressPagesIdeal : Cert.CompressPagesIdeal.Facts) (hCompressPagesRefIdeal : Cert.CompressPagesRefIdeal.Facts) (hPre_expert_in_range : Cert.Pre_expert_in_range.Facts) (hPre_bound_in_range : Cert.Pre_bound_in_range.Facts) (hPre_all_finite : Cert.Pre_all_finite.Facts) (hPre_page_in_range : Cert.Pre_page_in_range.Facts),
    quiescent_Kernel (hKernel := hKernel) (hPre_expert_in_range := hPre_expert_in_range)
    ∧ quiescent_KernelIdeal (hKernelIdeal := hKernelIdeal) (hPre_expert_in_range := hPre_expert_in_range)
    ∧ quiescent_ReferenceIdeal (hReferenceIdeal := hReferenceIdeal) (hPre_expert_in_range := hPre_expert_in_range)
    ∧ quiescent_HgrnIn (hHgrnIn := hHgrnIn)
    ∧ quiescent_HgrnInIdeal (hHgrnInIdeal := hHgrnInIdeal) (hPre_bound_in_range := hPre_bound_in_range)
    ∧ quiescent_HgrnInIdeal_pre_none (hHgrnInIdeal := hHgrnInIdeal)
    ∧ quiescent_HgrnInRefIdeal (hHgrnInRefIdeal := hHgrnInRefIdeal) (hPre_bound_in_range := hPre_bound_in_range)
    ∧ quiescent_NsaIn (hNsaIn := hNsaIn)
    ∧ quiescent_NsaInIdeal (hNsaInIdeal := hNsaInIdeal)
    ∧ quiescent_NsaInRefIdeal (hNsaInRefIdeal := hNsaInRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_SplitUp (hSplitUp := hSplitUp)
    ∧ quiescent_SplitUpIdeal (hSplitUpIdeal := hSplitUpIdeal)
    ∧ quiescent_SplitUpRefIdeal (hSplitUpRefIdeal := hSplitUpRefIdeal)
    ∧ quiescent_Ada (hAda := hAda)
    ∧ quiescent_AdaIdeal (hAdaIdeal := hAdaIdeal)
    ∧ quiescent_AdaRefIdeal (hAdaRefIdeal := hAdaRefIdeal)
    ∧ quiescent_MixerOut (hMixerOut := hMixerOut)
    ∧ quiescent_MixerOutIdeal (hMixerOutIdeal := hMixerOutIdeal)
    ∧ quiescent_MixerOutIdeal_pre_all_finite (hMixerOutIdeal := hMixerOutIdeal) (hPre_all_finite := hPre_all_finite)
    ∧ quiescent_MixerOutRefIdeal (hMixerOutRefIdeal := hMixerOutRefIdeal)
    ∧ quiescent_MixerOutRefIdeal_pre_all_finite (hMixerOutRefIdeal := hMixerOutRefIdeal) (hPre_all_finite := hPre_all_finite)
    ∧ quiescent_CmpConst (hCmpConst := hCmpConst)
    ∧ quiescent_CmpConstIdeal (hCmpConstIdeal := hCmpConstIdeal)
    ∧ quiescent_CmpConstRefIdeal (hCmpConstRefIdeal := hCmpConstRefIdeal)
    ∧ quiescent_Compress (hCompress := hCompress)
    ∧ quiescent_CompressIdeal (hCompressIdeal := hCompressIdeal)
    ∧ quiescent_CompressRefIdeal (hCompressRefIdeal := hCompressRefIdeal)
    ∧ quiescent_CompressPages (hCompressPages := hCompressPages) (hPre_page_in_range := hPre_page_in_range)
    ∧ quiescent_CompressPagesIdeal (hCompressPagesIdeal := hCompressPagesIdeal) (hPre_page_in_range := hPre_page_in_range)
    ∧ quiescent_CompressPagesRefIdeal (hCompressPagesRefIdeal := hCompressPagesRefIdeal) (hPre_page_in_range := hPre_page_in_range)
    ∧ preserves_Kernel_KernelIdeal
    ∧ algebraic_KernelIdeal_ReferenceIdeal (hKernelIdeal := hKernelIdeal) (hReferenceIdeal := hReferenceIdeal) (hPre_expert_in_range := hPre_expert_in_range)
    ∧ preserves_HgrnIn_HgrnInIdeal
    ∧ algebraic_HgrnInIdeal_HgrnInRefIdeal (hHgrnInIdeal := hHgrnInIdeal) (hHgrnInRefIdeal := hHgrnInRefIdeal) (hPre_bound_in_range := hPre_bound_in_range)
    ∧ preserves_NsaIn_NsaInIdeal
    ∧ algebraic_NsaInIdeal_NsaInRefIdeal (hNsaInIdeal := hNsaInIdeal) (hNsaInRefIdeal := hNsaInRefIdeal)
    ∧ preserves_KvProj_KvProjIdeal
    ∧ algebraic_KvProjIdeal_KvProjRefIdeal (hKvProjIdeal := hKvProjIdeal) (hKvProjRefIdeal := hKvProjRefIdeal)
    ∧ preserves_SplitUp_SplitUpIdeal
    ∧ algebraic_SplitUpIdeal_SplitUpRefIdeal (hSplitUpIdeal := hSplitUpIdeal) (hSplitUpRefIdeal := hSplitUpRefIdeal)
    ∧ preserves_Ada_AdaIdeal
    ∧ algebraic_AdaIdeal_AdaRefIdeal (hAdaIdeal := hAdaIdeal) (hAdaRefIdeal := hAdaRefIdeal)
    ∧ preserves_MixerOut_MixerOutIdeal
    ∧ algebraic_MixerOutIdeal_MixerOutRefIdeal_pre_all_finite (hMixerOutIdeal := hMixerOutIdeal) (hMixerOutRefIdeal := hMixerOutRefIdeal) (hPre_all_finite := hPre_all_finite)
    ∧ preserves_CmpConst_CmpConstIdeal
    ∧ algebraic_CmpConstIdeal_CmpConstRefIdeal (hCmpConstIdeal := hCmpConstIdeal) (hCmpConstRefIdeal := hCmpConstRefIdeal)
    ∧ preserves_Compress_CompressIdeal
    ∧ algebraic_CompressIdeal_CompressRefIdeal (hCompressIdeal := hCompressIdeal) (hCompressRefIdeal := hCompressRefIdeal)
    ∧ preserves_CompressPages_CompressPagesIdeal
    ∧ algebraic_CompressPagesIdeal_CompressPagesRefIdeal (hCompressPagesIdeal := hCompressPagesIdeal) (hCompressPagesRefIdeal := hCompressPagesRefIdeal) (hPre_page_in_range := hPre_page_in_range)
-- ==== Pre_all_finite.lean ====
abbrev S8x2048x1024 : Shape := ⟨3, ![8, 2048, 1024]⟩
abbrev S1024x1024 : Shape := ⟨2, ![1024, 1024]⟩
abbrev S8x1x6144 : Shape := ⟨3, ![8, 1, 6144]⟩
abbrev S1024 : Shape := ⟨1, ![1024]⟩
abbrev S1024x128 : Shape := ⟨2, ![1024, 128]⟩
abbrev S1x128 : Shape := ⟨2, ![1, 128]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8x1x6144 : S_.BroadcastsInDim S8x1x6144 (![] : Fin 0 → Fin S8x1x6144.rank)
  reducesTo_S8x1x6144_S_d0_1_2 : S8x1x6144.ReducesTo [0, 1, 2] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg7 : FVec F S1x128 .f32) (main_v33 : IVec S_ 1) : IVec S_ 1 :=
  let main_v34 : FVec F S1x128 .f32 := Host.absf main_arg7
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  main_v38

def fn_part1 {F : FTy → Type} [FloatOps F] (main_arg4 : FVec F S1024 .f32) (main_arg5 : FVec F S1024 .f32) (main_arg6 : FVec F S1024x128 .f32) (main_arg7 : FVec F S1x128 .f32) (main_v13 : IVec S_ 1) (main_v16 : IVec S8x1x6144 1) : IVec S_ 1 :=
  let main_c_5 : IVec S_ 1 := constantI S_ 1 1#1
  let main_v17 : IVec S_ 1 := (fun x v => Host.reduce IntOp.andi x v reducesTo_S8x1x6144_S_d0_1_2 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x128 .f32 := Host.absf main_arg6
  let main_cst_10 : FVec F S_ .f32 := constant S_ .f32 0x7F800000#32
  let main_v30 : FVec F S1024x128 .f32 := broadcastInDim S1024x128 ![] bcast_S_S1024x128 main_cst_10
  let main_v31 : IVec S1024x128 1 := cmpf .olt main_v29 main_v30
  let main_c_11 : IVec S_ 1 := constantI S_ 1 1#1
  let main_v32 : IVec S_ 1 := (fun x v => Host.reduce IntOp.andi x v reducesTo_S1024x128_S_d0_1 h_S_) main_v31 main_c_11
  let main_v33 : IVec S_ 1 := andi main_v28 main_v32
  fn_part2 (F := F) main_arg7 main_v33

def fn {F : FTy → Type} [FloatOps F] (main_arg0 : FVec F S8x2048x1024 .f32) (main_arg1 : FVec F S1024x1024 .f32) (main_arg2 : FVec F S8x2048x1024 .f32) (main_arg3 : FVec F S8x1x6144 .f32) (main_arg4 : FVec F S1024 .f32) (main_arg5 : FVec F S1024 .f32) (main_arg6 : FVec F S1024x128 .f32) (main_arg7 : FVec F S1x128 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S8x1x6144 .f32 := Host.absf main_arg3
  let main_cst_4 : FVec F S_ .f32 := constant S_ .f32 0x7F800000#32
  let main_v15 : FVec F S8x1x6144 .f32 := broadcastInDim S8x1x6144 ![] bcast_S_S8x1x6144 main_cst_4
  let main_v16 : IVec S8x1x6144 1 := cmpf .olt main_v14 main_v15
  fn_part1 (F := F) main_arg4 main_arg5 main_arg6 main_arg7 main_v13 main_v16
-- ==== Pre_bound_in_range.lean ====
abbrev S8x2048x1024 : Shape := ⟨3, ![8, 2048, 1024]⟩
abbrev S8x1x6144 : Shape := ⟨3, ![8, 1, 6144]⟩
abbrev S1024x4096 : Shape := ⟨2, ![1024, 4096]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S8x2048x1024 .f32) (main_arg1 : FVec F S8x1x6144 .f32) (main_arg2 : FVec F S1024x4096 .f32) (main_arg3 : FVec F S1024 .f32) : IVec S_ 1 :=
  let main_cst : FVec F S_ .f32 := constant S_ .f32 0x00000000#32
  let main_v0 : FVec F S1024 .f32 := broadcastInDim S1024 ![] bcast_S_S1024 main_cst
  let main_v1 : IVec S1024 1 := cmpf .oge main_arg3 main_v0
  let main_cst_0 : FVec F S_ .f32 := constant S_ .f32 0x3F800000#32
  let main_v2 : FVec F S1024 .f32 := broadcastInDim S1024 ![] bcast_S_S1024 main_cst_0
  let main_v3 : IVec S1024 1 := cmpf .ole main_arg3 main_v2
  let main_v4 : IVec S1024 1 := andi main_v1 main_v3
  let main_c : IVec S_ 1 := constantI S_ 1 1#1
  let main_v5 : IVec S_ 1 := (fun x v => Host.reduce IntOp.andi x v reducesTo_S1024_S_d0 h_S_) main_v4 main_c
  main_v5
-- ==== Pre_expert_in_range.lean ====
abbrev S77824x512 : Shape := ⟨2, ![77824, 512]⟩
abbrev S304 : Shape := ⟨1, ![304]⟩
abbrev S1 : Shape := ⟨1, ![1]⟩
abbrev S128x1024x1024 : Shape := ⟨3, ![128, 1024, 1024]⟩
abbrev S128x1x1024 : Shape := ⟨3, ![128, 1, 1024]⟩
abbrev S_ : Shape := ⟨0, ![]⟩

class Facts : Prop where
  bcast_S_S304 : S_.BroadcastsInDim S304 (![] : Fin 0 → Fin S304.rank)
  reducesTo_S304_S_d0 : S304.ReducesTo [0] S_
  h_S_ : 0 < S_.numel

variable [Facts]

def fn {F : FTy → Type} [FloatOps F] (main_arg0 : IVec S77824x512 32) (main_arg1 : IVec S304 32) (main_arg2 : IVec S1 32) (main_arg3 : FVec F S128x1024x1024 .bf16) (main_arg4 : FVec F S128x1024x1024 .bf16) (main_arg5 : FVec F S128x1x1024 .f32) (main_arg6 : FVec F S128x1x1024 .f32) (main_arg7 : FVec F S128x1024x1024 .f32) (main_arg8 : FVec F S128x1x1024 .f32) : IVec S_ 1 :=
  let main_c : IVec S_ 32 := constantI S_ 32 0#32
  let main_v0 : IVec S304 32 := broadcastInDim S304 ![] bcast_S_S304 main_c
  let main_v1 : IVec S304 1 := cmpi .sge main_arg1 main_v0
  let main_c_0 : IVec S_ 32 := constantI S_ 32 128#32
  let main_v2 : IVec S304 32 := broadcastInDim S304 ![] bcast_S_S304 main_c_0
  let main_v3 : IVec S304 1 := cmpi .slt main_arg1 main_v2
  let main_v4 : IVec S304 1 := andi main_v1 main_v3
  let main_c_1 : IVec S_ 1 := constantI S_ 1 1#1
  let main_v5 : IVec S_ 1 := (fun x v => Host.reduce IntOp.andi x v reducesTo_S304_S_d0 h_S_) main_v4 main_c_1
  main_v5
-- ==== Pre_page_in_range.lean ====
abbrev S2560x128x2x4x64 : Shape := ⟨5, ![2560, 128, 2, 4, 64]⟩
abbrev S128x16 : Shape := ⟨2, ![128, 16]⟩
abbrev S2x2048x128 : Shape := ⟨3, ![2, 2048, 128]⟩
abbrev S2x1x128 : Shape := ⟨3, ![2, 1, 128]⟩
abbrev S2x128x64 : Shape := ⟨3, ![2, 128, 64]⟩
abbrev S2x64 : Shape := ⟨2, ![2, 64]⟩
abbrev S_ : Shape := ⟨0, ![]⟩

class Facts : Prop where
  bcast_S_S128x16 : S_.BroadcastsInDim S128x16 (![] : Fin 0 → Fin S128x16.rank)
  reducesTo_S128x16_S_d0_1 : S128x16.ReducesTo [0, 1] S_
  h_S_ : 0 < S_.numel

variable [Facts]

def fn {F : FTy → Type} [FloatOps F] (main_arg0 : FVec F S2560x128x2x4x64 .f32) (main_arg1 : IVec S128x16 32) (main_arg2 : FVec F S2x2048x128 .f32) (main_arg3 : FVec F S2x1x128 .f32) (main_arg4 : FVec F S2x128x64 .f32) (main_arg5 : FVec F S2x64 .f32) : IVec S_ 1 :=
  let main_c : IVec S_ 32 := constantI S_ 32 0#32
  let main_v0 : IVec S128x16 32 := broadcastInDim S128x16 ![] bcast_S_S128x16 main_c
  let main_v1 : IVec S128x16 1 := cmpi .sge main_arg1 main_v0
  let main_c_0 : IVec S_ 32 := constantI S_ 32 2560#32
  let main_v2 : IVec S128x16 32 := broadcastInDim S128x16 ![] bcast_S_S128x16 main_c_0
  let main_v3 : IVec S128x16 1 := cmpi .slt main_arg1 main_v2
  let main_v4 : IVec S128x16 1 := andi main_v1 main_v3
  let main_c_1 : IVec S_ 1 := constantI S_ 1 1#1
  let main_v5 : IVec S_ 1 := (fun x v => Host.reduce IntOp.andi x v reducesTo_S128x16_S_d0_1 h_S_) main_v4 main_c_1
  main_v5
-- ==== Kernel.lean ====
abbrev S77824x512 : Shape := ⟨2, ![77824, 512]⟩
abbrev S304 : Shape := ⟨1, ![304]⟩
abbrev S1 : Shape := ⟨1, ![1]⟩
abbrev S128x1024x1024 : Shape := ⟨3, ![128, 1024, 1024]⟩
abbrev S128x1x1024 : Shape := ⟨3, ![128, 1, 1024]⟩
abbrev S77824x1024 : Shape := ⟨2, ![77824, 1024]⟩
abbrev S256x512 : Shape := ⟨2, ![256, 512]⟩
abbrev S1x1024x1024 : Shape := ⟨3, ![1, 1024, 1024]⟩
abbrev S1x1x1024 : Shape := ⟨3, ![1, 1, 1024]⟩
abbrev S256x1024 : Shape := ⟨2, ![256, 1024]⟩
abbrev S1024x1024 : Shape := ⟨2, ![1024, 1024]⟩
abbrev S1x1024 : Shape := ⟨2, ![1, 1024]⟩

abbrev nBuf : Space → Nat
  | .hbm => 8
  | .vmem => 16
  | .smem => 2
  | _ => 0

abbrev bufTy : (tb : Table) → Fin (tcTables nBuf tb) → BufTy
  | .hbm, ⟨0, _⟩ => ⟨S77824x512, .i32⟩
  | .hbm, ⟨1, _⟩ => ⟨S128x1024x1024, .bf16⟩
  | .hbm, ⟨2, _⟩ => ⟨S128x1024x1024, .bf16⟩
  | .hbm, ⟨3, _⟩ => ⟨S128x1x1024, .f32⟩
  | .hbm, ⟨4, _⟩ => ⟨S128x1x1024, .f32⟩
  | .hbm, ⟨5, _⟩ => ⟨S128x1024x1024, .f32⟩
  | .hbm, ⟨6, _⟩ => ⟨S128x1x1024, .f32⟩
  | .hbm, ⟨7, _⟩ => ⟨S77824x1024, .f32⟩
  | .local _ .vmem, ⟨0, _⟩ => ⟨S256x512, .i32⟩
  | .local _ .vmem, ⟨1, _⟩ => ⟨S256x512, .i32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | .local _ .smem, ⟨0, _⟩ => ⟨S304, .i32⟩
  | .local _ .smem, ⟨1, _⟩ => ⟨S1, .i32⟩
  | _, _ => ⟨S77824x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![304], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S77824x512 : Shape := ⟨2, ![77824, 512]⟩
abbrev S304 : Shape := ⟨1, ![304]⟩
abbrev S1 : Shape := ⟨1, ![1]⟩
abbrev S128x1024x1024 : Shape := ⟨3, ![128, 1024, 1024]⟩
abbrev S128x1x1024 : Shape := ⟨3, ![128, 1, 1024]⟩
abbrev S_ : Shape := ⟨0, ![]⟩
abbrev S77824x1024 : Shape := ⟨2, ![77824, 1024]⟩
abbrev S304x256x1024 : Shape := ⟨3, ![304, 256, 1024]⟩
abbrev S304x1 : Shape := ⟨2, ![304, 1]⟩
abbrev S304x1024x1024 : Shape := ⟨3, ![304, 1024, 1024]⟩
abbrev S304x1x1024 : Shape := ⟨3, ![304, 1, 1024]⟩
abbrev S304x1x1 : Shape := ⟨3, ![304, 1, 1]⟩

abbrev nBuf : Space → Nat
  | .hbm => 122
  | .vmem => 0
  | .smem => 0
  | _ => 0

abbrev bufTy : (tb : Table) → Fin (tcTables nBuf tb) → BufTy
  | .hbm, ⟨0, _⟩ => ⟨S77824x512, .i32⟩
  | .hbm, ⟨1, _⟩ => ⟨S304, .i32⟩
  | .hbm, ⟨2, _⟩ => ⟨S1, .i32⟩
  | .hbm, ⟨3, _⟩ => ⟨S128x1024x1024, .bf16⟩
  | .hbm, ⟨4, _⟩ => ⟨S128x1024x1024, .bf16⟩
  | .hbm, ⟨5, _⟩ => ⟨S128x1x1024, .f32⟩
  | .hbm, ⟨6, _⟩ => ⟨S128x1x1024, .f32⟩
  | .hbm, ⟨7, _⟩ => ⟨S128x1024x1024, .f32⟩
  | .hbm, ⟨8, _⟩ => ⟨S128x1x1024, .f32⟩
  | .hbm, ⟨9, _⟩ => ⟨S_, .i32⟩
  | .hbm, ⟨10, _⟩ => ⟨S77824x512, .i32⟩
  | .hbm, ⟨11, _⟩ => ⟨S77824x512, .i32⟩
  | .hbm, ⟨12, _⟩ => ⟨S77824x512, .f32⟩
  | .hbm, ⟨13, _⟩ => ⟨S_, .i32⟩
  | .hbm, ⟨14, _⟩ => ⟨S77824x512, .i32⟩
  | .hbm, ⟨15, _⟩ => ⟨S77824x512, .i32⟩
  | .hbm, ⟨16, _⟩ => ⟨S77824x512, .f32⟩
  | .hbm, ⟨17, _⟩ => ⟨S77824x1024, .f32⟩
  | .hbm, ⟨18, _⟩ => ⟨S304x256x1024, .f32⟩
  | .hbm, ⟨19, _⟩ => ⟨S_, .i32⟩
  | .hbm, ⟨20, _⟩ => ⟨S304, .i32⟩
  | .hbm, ⟨21, _⟩ => ⟨S304, .i1⟩
  | .hbm, ⟨22, _⟩ => ⟨S_, .i32⟩
  | .hbm, ⟨23, _⟩ => ⟨S304, .i32⟩
  | .hbm, ⟨24, _⟩ => ⟨S304, .i32⟩
  | .hbm, ⟨25, _⟩ => ⟨S304, .i32⟩
  | .hbm, ⟨26, _⟩ => ⟨S304x1, .i32⟩
  | .hbm, ⟨27, _⟩ => ⟨S304x1024x1024, .bf16⟩
  | .hbm, ⟨28, _⟩ => ⟨S304x1024x1024, .f32⟩
  | .hbm, ⟨29, _⟩ => ⟨S304x256x1024, .f32⟩
  | .hbm, ⟨30, _⟩ => ⟨S_, .i32⟩
  | .hbm, ⟨31, _⟩ => ⟨S304, .i32⟩
  | .hbm, ⟨32, _⟩ => ⟨S304, .i1⟩
  | .hbm, ⟨33, _⟩ => ⟨S_, .i32⟩
  | .hbm, ⟨34, _⟩ => ⟨S304, .i32⟩
  | .hbm, ⟨35, _⟩ => ⟨S304, .i32⟩
  | .hbm, ⟨36, _⟩ => ⟨S304, .i32⟩
  | .hbm, ⟨37, _⟩ => ⟨S304x1, .i32⟩
  | .hbm, ⟨38, _⟩ => ⟨S304x1x1024, .f32⟩
  | .hbm, ⟨39, _⟩ => ⟨S304x256x1024, .f32⟩
  | .hbm, ⟨40, _⟩ => ⟨S304x256x1024, .f32⟩
  | .hbm, ⟨41, _⟩ => ⟨S_, .i32⟩
  | .hbm, ⟨42, _⟩ => ⟨S304, .i32⟩
  | .hbm, ⟨43, _⟩ => ⟨S304, .i1⟩
  | .hbm, ⟨44, _⟩ => ⟨S_, .i32⟩
  | .hbm, ⟨45, _⟩ => ⟨S304, .i32⟩
  | .hbm, ⟨46, _⟩ => ⟨S304, .i32⟩
  | .hbm, ⟨47, _⟩ => ⟨S304, .i32⟩
  | .hbm, ⟨48, _⟩ => ⟨S304x1, .i32⟩
  | .hbm, ⟨49, _⟩ => ⟨S304x1024x1024, .bf16⟩
  | .hbm, ⟨50, _⟩ => ⟨S304x1024x1024, .f32⟩
  | .hbm, ⟨51, _⟩ => ⟨S304x256x1024, .f32⟩
  | .hbm, ⟨52, _⟩ => ⟨S_, .i32⟩
  | .hbm, ⟨53, _⟩ => ⟨S304, .i32⟩
  | .hbm, ⟨54, _⟩ => ⟨S304, .i1⟩
  | .hbm, ⟨55, _⟩ => ⟨S_, .i32⟩
  | .hbm, ⟨56, _⟩ => ⟨S304, .i32⟩
  | .hbm, ⟨57, _⟩ => ⟨S304, .i32⟩
  | .hbm, ⟨58, _⟩ => ⟨S304, .i32⟩
  | .hbm, ⟨59, _⟩ => ⟨S304x1, .i32⟩
  | .hbm, ⟨60, _⟩ => ⟨S304x1x1024, .f32⟩
  | .hbm, ⟨61, _⟩ => ⟨S304x256x1024, .f32⟩
  | .hbm, ⟨62, _⟩ => ⟨S304x256x1024, .f32⟩
  | .hbm, ⟨63, _⟩ => ⟨S_, .f32⟩
  | .hbm, ⟨64, _⟩ => ⟨S304x256x1024, .f32⟩
  | .hbm, ⟨65, _⟩ => ⟨S304x256x1024, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S304x256x1024, .f32⟩
  | .hbm, ⟨70, _⟩ => ⟨S304x256x1024, .f32⟩
  | .hbm, ⟨71, _⟩ => ⟨S_, .f32⟩
  | .hbm, ⟨72, _⟩ => ⟨S304x256x1024, .f32⟩
  | .hbm, ⟨73, _⟩ => ⟨S304x256x1024, .f32⟩
  | .hbm, ⟨74, _⟩ => ⟨S_, .f32⟩
  | .hbm, ⟨75, _⟩ => ⟨S304x256x1024, .f32⟩
  | .hbm, ⟨76, _⟩ => ⟨S304x256x1024, .f32⟩
  | .hbm, ⟨77, _⟩ => ⟨S304x256x1024, .f32⟩
  | .hbm, ⟨78, _⟩ => ⟨S304x256x1024, .f32⟩
  | .hbm, ⟨79, _⟩ => ⟨S_, .f32⟩
  | .hbm, ⟨80, _⟩ => ⟨S304x256x1024, .f32⟩
  | .hbm, ⟨81, _⟩ => ⟨S304x256x1024, .f32⟩
  | .hbm, ⟨82, _⟩ => ⟨S_, .f32⟩
  | .hbm, ⟨83, _⟩ => ⟨S304x256x1024, .f32⟩
  | .hbm, ⟨84, _⟩ => ⟨S304x256x1024, .f32⟩
  | .hbm, ⟨85, _⟩ => ⟨S304x256x1024, .f32⟩
  | .hbm, ⟨86, _⟩ => ⟨S_, .f32⟩
  | .hbm, ⟨87, _⟩ => ⟨S304x256x1024, .f32⟩
  | .hbm, ⟨88, _⟩ => ⟨S304x256x1024, .f32⟩
  | .hbm, ⟨89, _⟩ => ⟨S304x256x1024, .f32⟩
  | .hbm, ⟨90, _⟩ => ⟨S_, .i32⟩
  | .hbm, ⟨91, _⟩ => ⟨S304, .i32⟩
  | .hbm, ⟨92, _⟩ => ⟨S304, .i1⟩
  | .hbm, ⟨93, _⟩ => ⟨S_, .i32⟩
  | .hbm, ⟨94, _⟩ => ⟨S304, .i32⟩
  | .hbm, ⟨95, _⟩ => ⟨S304, .i32⟩
  | .hbm, ⟨96, _⟩ => ⟨S304, .i32⟩
  | .hbm, ⟨97, _⟩ => ⟨S304x1, .i32⟩
  | .hbm, ⟨98, _⟩ => ⟨S304x1024x1024, .f32⟩
  | .hbm, ⟨99, _⟩ => ⟨S304x256x1024, .f32⟩
  | .hbm, ⟨100, _⟩ => ⟨S_, .i32⟩
  | .hbm, ⟨101, _⟩ => ⟨S304, .i32⟩
  | .hbm, ⟨102, _⟩ => ⟨S304, .i1⟩
  | .hbm, ⟨103, _⟩ => ⟨S_, .i32⟩
  | .hbm, ⟨104, _⟩ => ⟨S304, .i32⟩
  | .hbm, ⟨105, _⟩ => ⟨S304, .i32⟩
  | .hbm, ⟨106, _⟩ => ⟨S304, .i32⟩
  | .hbm, ⟨107, _⟩ => ⟨S304x1, .i32⟩
  | .hbm, ⟨108, _⟩ => ⟨S304x1x1024, .f32⟩
  | .hbm, ⟨109, _⟩ => ⟨S304x256x1024, .f32⟩
  | .hbm, ⟨110, _⟩ => ⟨S304x256x1024, .f32⟩
  | .hbm, ⟨111, _⟩ => ⟨S304, .i32⟩
  | .hbm, ⟨112, _⟩ => ⟨S_, .i32⟩
  | .hbm, ⟨113, _⟩ => ⟨S304, .i32⟩
  | .hbm, ⟨114, _⟩ => ⟨S304, .i1⟩
  | .hbm, ⟨115, _⟩ => ⟨S304x1x1, .i1⟩
  | .hbm, ⟨116, _⟩ => ⟨S_, .f32⟩
  | .hbm, ⟨117, _⟩ => ⟨S_, .f32⟩
  | .hbm, ⟨118, _⟩ => ⟨S304x256x1024, .i1⟩
  | .hbm, ⟨119, _⟩ => ⟨S304x256x1024, .f32⟩
  | .hbm, ⟨120, _⟩ => ⟨S304x256x1024, .f32⟩
  | .hbm, ⟨121, _⟩ => ⟨S77824x1024, .f32⟩
  | _, _ => ⟨S77824x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_cst_10 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_12 : Ref sig .tc := ⟨.hbm, 79, rfl⟩
abbrev main_v51 : Ref sig .tc := ⟨.hbm, 80, rfl⟩
abbrev main_v52 : Ref sig .tc := ⟨.hbm, 81, rfl⟩
abbrev main_cst_13 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_14 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_15 : Ref sig .tc := ⟨.hbm, 90, rfl⟩
abbrev main_v59 : Ref sig .tc := ⟨.hbm, 91, rfl⟩
abbrev main_v60 : Ref sig .tc := ⟨.hbm, 92, rfl⟩
abbrev main_c_16 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_17 : Ref sig .tc := ⟨.hbm, 100, rfl⟩
abbrev main_v67 : Ref sig .tc := ⟨.hbm, 101, rfl⟩
abbrev main_v68 : Ref sig .tc := ⟨.hbm, 102, rfl⟩
abbrev main_c_18 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_19 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_v81 : Ref sig .tc := ⟨.hbm, 120, rfl⟩
abbrev main_v82 : Ref sig .tc := ⟨.hbm, 121, rfl⟩

abbrev nD : Nat := 1
abbrev τ : Topo := Topo.v7x

variable {F : FTy → Type} [FloatOps F]
-- ==== HgrnIn.lean ====
abbrev S8x2048x1024 : Shape := ⟨3, ![8, 2048, 1024]⟩
abbrev S8x1x6144 : Shape := ⟨3, ![8, 1, 6144]⟩
abbrev S1024x4096 : Shape := ⟨2, ![1024, 4096]⟩
abbrev S1024 : Shape := ⟨1, ![1024]⟩
abbrev S1x1024 : Shape := ⟨2, ![1, 1024]⟩
abbrev S1x256x1024 : Shape := ⟨3, ![1, 256, 1024]⟩
abbrev S1x1x1024 : Shape := ⟨3, ![1, 1, 1024]⟩
abbrev S256x1024 : Shape := ⟨2, ![256, 1024]⟩
abbrev S256x4096 : Shape := ⟨2, ![256, 4096]⟩

abbrev nBuf : Space → Nat
  | .hbm => 11
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S8x1x6144, .f32⟩
  | .hbm, ⟨2, _⟩ => ⟨S1024x4096, .f32⟩
  | .hbm, ⟨3, _⟩ => ⟨S1024, .f32⟩
  | .hbm, ⟨4, _⟩ => ⟨S1024x4096, .bf16⟩
  | .hbm, ⟨5, _⟩ => ⟨S1x1024, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x4096, .bf16⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== HgrnInIdeal.lean ====
variable {F : FTy → Type} [FloatOps F] [Named F]
def κ : String → Option EReal := fun
  | "no_bound" => some ⊥
  | _ => none
-- ==== HgrnInRefIdeal.lean ====
abbrev S8x2048x1024 : Shape := ⟨3, ![8, 2048, 1024]⟩
abbrev S8x1x6144 : Shape := ⟨3, ![8, 1, 6144]⟩
abbrev S1024x4096 : Shape := ⟨2, ![1024, 4096]⟩
abbrev S1024 : Shape := ⟨1, ![1024]⟩
abbrev S8x1x1024 : Shape := ⟨3, ![8, 1, 1024]⟩
abbrev S_ : Shape := ⟨0, ![]⟩
abbrev S8x2048x4096 : Shape := ⟨3, ![8, 2048, 4096]⟩
abbrev S1x1x1024 : Shape := ⟨3, ![1, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x6144, .f32⟩
  | .hbm, ⟨2, _⟩ => ⟨S1024x4096, .f32⟩
  | .hbm, ⟨3, _⟩ => ⟨S1024, .f32⟩
  | .hbm, ⟨4, _⟩ => ⟨S8x1x1024, .f32⟩
  | .hbm, ⟨5, _⟩ => ⟨S_, .f32⟩
  | .hbm, ⟨6, _⟩ => ⟨S8x1x1024, .f32⟩
  | .hbm, ⟨7, _⟩ => ⟨S8x1x1024, .f32⟩
  | .hbm, ⟨8, _⟩ => ⟨S8x2048x1024, .f32⟩
  | .hbm, ⟨9, _⟩ => ⟨S8x2048x1024, .f32⟩
  | .hbm, ⟨10, _⟩ => ⟨S8x1x1024, .f32⟩
  | .hbm, ⟨11, _⟩ => ⟨S8x2048x1024, .f32⟩
  | .hbm, ⟨12, _⟩ => ⟨S8x2048x1024, .f32⟩
  | .hbm, ⟨13, _⟩ => ⟨S8x2048x4096, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S_, .f32⟩
  | .hbm, ⟨19, _⟩ => ⟨S1024, .f32⟩
  | .hbm, ⟨20, _⟩ => ⟨S1024, .i1⟩
  | .hbm, ⟨21, _⟩ => ⟨S_, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S8x2048x1024, .f32⟩
  | .hbm, ⟨33, _⟩ => ⟨S_, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .i1⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S1x1x1024, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S8x2048x1024, .i1⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S_, .f32⟩
  | .hbm, ⟨68, _⟩ => ⟨S8x2048x1024, .f32⟩
  | .hbm, ⟨69, _⟩ => ⟨S8x2048x1024, .f32⟩
  | .hbm, ⟨70, _⟩ => ⟨S_, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S8x2048x1024, .f32⟩
  | .hbm, ⟨75, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call2_v0 : Ref sig .tc := ⟨.hbm, 32, rfl⟩
abbrev main_call2_call0_cst : Ref sig .tc := ⟨.hbm, 33, rfl⟩
abbrev main_call2_call0_v0 : Ref sig .tc := ⟨.hbm, 34, rfl⟩
abbrev main_call2_call0_v1 : Ref sig .tc := ⟨.hbm, 35, rfl⟩
abbrev main_call2_call0_v2 : Ref sig .tc := ⟨.hbm, 36, rfl⟩
abbrev main_call2_call0_v3 : Ref sig .tc := ⟨.hbm, 37, rfl⟩
abbrev main_call2_call0_v4 : Ref sig .tc := ⟨.hbm, 38, rfl⟩
abbrev main_call2_call0_v5 : Ref sig .tc := ⟨.hbm, 39, rfl⟩
abbrev main_call2_call0_v6 : Ref sig .tc := ⟨.hbm, 40, rfl⟩
abbrev main_call2_call0_v7 : Ref sig .tc := ⟨.hbm, 41, rfl⟩
abbrev main_call2_call0_v8 : Ref sig .tc := ⟨.hbm, 42, rfl⟩
abbrev main_call2_call0_v9 : Ref sig .tc := ⟨.hbm, 43, rfl⟩
abbrev main_call2_call0_v10 : Ref sig .tc := ⟨.hbm, 44, rfl⟩
abbrev main_call2_call0_v11 : Ref sig .tc := ⟨.hbm, 45, rfl⟩
abbrev main_call2_v1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_call3_v0 : Ref sig .tc := ⟨.hbm, 65, rfl⟩
abbrev main_call3_v1 : Ref sig .tc := ⟨.hbm, 66, rfl⟩
abbrev main_call3_cst : Ref sig .tc := ⟨.hbm, 67, rfl⟩
abbrev main_call3_v2 : Ref sig .tc := ⟨.hbm, 68, rfl⟩
abbrev main_call3_v3 : Ref sig .tc := ⟨.hbm, 69, rfl⟩
abbrev main_call3_cst_0 : Ref sig .tc := ⟨.hbm, 70, rfl⟩
abbrev main_call3_v4 : Ref sig .tc := ⟨.hbm, 71, rfl⟩
abbrev main_call3_v5 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩

abbrev nD : Nat := 1
abbrev τ : Topo := Topo.v7x

variable {F : FTy → Type} [FloatOps F]
-- ==== NsaIn.lean ====
abbrev S8x2048x1024 : Shape := ⟨3, ![8, 2048, 1024]⟩
abbrev S8x1x6144 : Shape := ⟨3, ![8, 1, 6144]⟩
abbrev S1024x1024 : Shape := ⟨2, ![1024, 1024]⟩
abbrev S1024x128 : Shape := ⟨2, ![1024, 128]⟩
abbrev S8x2048x128 : Shape := ⟨3, ![8, 2048, 128]⟩
abbrev S1x256x1024 : Shape := ⟨3, ![1, 256, 1024]⟩
abbrev S1x1x1024 : Shape := ⟨3, ![1, 1, 1024]⟩
abbrev S1x256x128 : Shape := ⟨3, ![1, 256, 128]⟩
abbrev S256x1024 : Shape := ⟨2, ![256, 1024]⟩
abbrev S256x128 : Shape := ⟨2, ![256, 128]⟩

abbrev nBuf : Space → Nat
  | .hbm => 8
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x1x6144, .f32⟩
  | .hbm, ⟨2, _⟩ => ⟨S1024x1024, .f32⟩
  | .hbm, ⟨3, _⟩ => ⟨S1024x128, .f32⟩
  | .hbm, ⟨4, _⟩ => ⟨S1024x1024, .bf16⟩
  | .hbm, ⟨5, _⟩ => ⟨S1024x128, .bf16⟩
  | .hbm, ⟨6, _⟩ => ⟨S8x2048x1024, .f32⟩
  | .hbm, ⟨7, _⟩ => ⟨S8x2048x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x128, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x128, .f32⟩
  | .local _ .vmem, ⟨11, _⟩ => ⟨S1x256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== NsaInRefIdeal.lean ====
abbrev S8x2048x1024 : Shape := ⟨3, ![8, 2048, 1024]⟩
abbrev S8x1x6144 : Shape := ⟨3, ![8, 1, 6144]⟩
abbrev S1024x1024 : Shape := ⟨2, ![1024, 1024]⟩
abbrev S1024x128 : Shape := ⟨2, ![1024, 128]⟩
abbrev S8x1x1024 : Shape := ⟨3, ![8, 1, 1024]⟩
abbrev S_ : Shape := ⟨0, ![]⟩
abbrev S8x2048x128 : Shape := ⟨3, ![8, 2048, 128]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x6144, .f32⟩
  | .hbm, ⟨2, _⟩ => ⟨S1024x1024, .f32⟩
  | .hbm, ⟨3, _⟩ => ⟨S1024x128, .f32⟩
  | .hbm, ⟨4, _⟩ => ⟨S8x1x1024, .f32⟩
  | .hbm, ⟨5, _⟩ => ⟨S_, .f32⟩
  | .hbm, ⟨6, _⟩ => ⟨S8x1x1024, .f32⟩
  | .hbm, ⟨7, _⟩ => ⟨S8x1x1024, .f32⟩
  | .hbm, ⟨8, _⟩ => ⟨S8x2048x1024, .f32⟩
  | .hbm, ⟨9, _⟩ => ⟨S8x2048x1024, .f32⟩
  | .hbm, ⟨10, _⟩ => ⟨S8x1x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S_, .f32⟩
  | .hbm, ⟨15, _⟩ => ⟨S8x2048x1024, .f32⟩
  | .hbm, ⟨16, _⟩ => ⟨S8x2048x1024, .f32⟩
  | .hbm, ⟨17, _⟩ => ⟨S8x2048x128, .f32⟩
  | .hbm, ⟨18, _⟩ => ⟨S8x2048x128, .f32⟩
  | .hbm, ⟨19, _⟩ => ⟨S8x2048x128, .f32⟩
  | .hbm, ⟨20, _⟩ => ⟨S_, .f32⟩
  | .hbm, ⟨21, _⟩ => ⟨S8x2048x128, .f32⟩
  | .hbm, ⟨22, _⟩ => ⟨S8x2048x128, .f32⟩
  | .hbm, ⟨23, _⟩ => ⟨S_, .f32⟩
  | .hbm, ⟨24, _⟩ => ⟨S8x2048x128, .f32⟩
  | .hbm, ⟨25, _⟩ => ⟨S8x2048x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== KvProj.lean ====
abbrev S8x2048x1024 : Shape := ⟨3, ![8, 2048, 1024]⟩
abbrev S8x1x2048 : Shape := ⟨3, ![8, 1, 2048]⟩
abbrev S1024x3584 : Shape := ⟨2, ![1024, 3584]⟩
abbrev S8x2048x1536 : Shape := ⟨3, ![8, 2048, 1536]⟩
abbrev S8x2048x2048 : Shape := ⟨3, ![8, 2048, 2048]⟩
abbrev S1x256x1024 : Shape := ⟨3, ![1, 256, 1024]⟩
abbrev S1x1x1024 : Shape := ⟨3, ![1, 1, 1024]⟩
abbrev S1x256x1536 : Shape := ⟨3, ![1, 256, 1536]⟩
abbrev S1x256x2048 : Shape := ⟨3, ![1, 256, 2048]⟩
abbrev S256x1024 : Shape := ⟨2, ![256, 1024]⟩
abbrev S256x3584 : Shape := ⟨2, ![256, 3584]⟩
abbrev S256x1536 : Shape := ⟨2, ![256, 1536]⟩
abbrev S256x2048 : Shape := ⟨2, ![256, 2048]⟩

abbrev nBuf : Space → Nat
  | .hbm => 6
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x1x2048, .f32⟩
  | .hbm, ⟨2, _⟩ => ⟨S1024x3584, .f32⟩
  | .hbm, ⟨3, _⟩ => ⟨S1024x3584, .bf16⟩
  | .hbm, ⟨4, _⟩ => ⟨S8x2048x1536, .f32⟩
  | .hbm, ⟨5, _⟩ => ⟨S8x2048x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3584, .bf16⟩
  | .local _ .vmem, ⟨7, _⟩ => ⟨S1x256x1536, .f32⟩
  | .local _ .vmem, ⟨8, _⟩ => ⟨S1x256x1536, .f32⟩
  | .local _ .vmem, ⟨9, _⟩ => ⟨S1x256x2048, .bf16⟩
  | .local _ .vmem, ⟨10, _⟩ => ⟨S1x256x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KvProjRefIdeal.lean ====
abbrev S8x2048x1024 : Shape := ⟨3, ![8, 2048, 1024]⟩
abbrev S8x1x2048 : Shape := ⟨3, ![8, 1, 2048]⟩
abbrev S1024x3584 : Shape := ⟨2, ![1024, 3584]⟩
abbrev S8x1x1024 : Shape := ⟨3, ![8, 1, 1024]⟩
abbrev S_ : Shape := ⟨0, ![]⟩
abbrev S8x2048x3584 : Shape := ⟨3, ![8, 2048, 3584]⟩
abbrev S8x2048x1536 : Shape := ⟨3, ![8, 2048, 1536]⟩
abbrev S8x2048x2048 : Shape := ⟨3, ![8, 2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x2048, .f32⟩
  | .hbm, ⟨2, _⟩ => ⟨S1024x3584, .f32⟩
  | .hbm, ⟨3, _⟩ => ⟨S8x1x1024, .f32⟩
  | .hbm, ⟨4, _⟩ => ⟨S_, .f32⟩
  | .hbm, ⟨5, _⟩ => ⟨S8x1x1024, .f32⟩
  | .hbm, ⟨6, _⟩ => ⟨S8x1x1024, .f32⟩
  | .hbm, ⟨7, _⟩ => ⟨S8x2048x1024, .f32⟩
  | .hbm, ⟨8, _⟩ => ⟨S8x2048x1024, .f32⟩
  | .hbm, ⟨9, _⟩ => ⟨S8x1x1024, .f32⟩
  | .hbm, ⟨10, _⟩ => ⟨S8x2048x1024, .f32⟩
  | .hbm, ⟨11, _⟩ => ⟨S8x2048x1024, .f32⟩
  | .hbm, ⟨12, _⟩ => ⟨S8x2048x3584, .f32⟩
  | .hbm, ⟨13, _⟩ => ⟨S8x2048x1536, .f32⟩
  | .hbm, ⟨14, _⟩ => ⟨S8x2048x2048, .f32⟩
  | .hbm, ⟨15, _⟩ => ⟨S8x2048x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== SplitUp.lean ====
abbrev S128x1024x2048 : Shape := ⟨3, ![128, 1024, 2048]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S128x1024x1024 : Shape := ⟨3, ![128, 1024, 1024]⟩
abbrev S1x512x2048 : Shape := ⟨3, ![1, 512, 2048]⟩
abbrev S1x512x1024 : Shape := ⟨3, ![1, 512, 1024]⟩
abbrev S1x512x256 : Shape := ⟨3, ![1, 512, 256]⟩
abbrev S512x256 : Shape := ⟨2, ![512, 256]⟩
abbrev S512x128 : Shape := ⟨2, ![512, 128]⟩
abbrev S1x512x128 : Shape := ⟨3, ![1, 512, 128]⟩

abbrev nBuf : Space → Nat
  | .hbm => 55
  | .vmem => 7
  | .smem => 0
  | _ => 0

abbrev bufTy : (tb : Table) → Fin (tcTables nBuf tb) → BufTy
  | .hbm, ⟨0, _⟩ => ⟨S128x1024x2048, .f32⟩
  | .hbm, ⟨1, _⟩ => ⟨S256, .i32⟩
  | .hbm, ⟨2, _⟩ => ⟨S256x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S256x1, .i32⟩
  | .hbm, ⟨12, _⟩ => ⟨S256x1, .i32⟩
  | .hbm, ⟨13, _⟩ => ⟨S_, .i32⟩
  | .hbm, ⟨14, _⟩ => ⟨S256x1, .i32⟩
  | .hbm, ⟨15, _⟩ => ⟨S256x1, .i1⟩
  | .hbm, ⟨16, _⟩ => ⟨S_, .i32⟩
  | .hbm, ⟨17, _⟩ => ⟨S256x1, .i32⟩
  | .hbm, ⟨18, _⟩ => ⟨S256x1, .i1⟩
  | .hbm, ⟨19, _⟩ => ⟨S_, .i32⟩
  | .hbm, ⟨20, _⟩ => ⟨S_, .i1⟩
  | .hbm, ⟨21, _⟩ => ⟨S256x1, .i1⟩
  | .hbm, ⟨22, _⟩ => ⟨S256x1, .i1⟩
  | .hbm, ⟨23, _⟩ => ⟨S256x1, .i1⟩
  | .hbm, ⟨24, _⟩ => ⟨S256x1, .i32⟩
  | .hbm, ⟨25, _⟩ => ⟨S256x1, .i32⟩
  | .hbm, ⟨26, _⟩ => ⟨S256x1, .i32⟩
  | .hbm, ⟨27, _⟩ => ⟨S_, .i32⟩
  | .hbm, ⟨28, _⟩ => ⟨S256x1, .i32⟩
  | .hbm, ⟨29, _⟩ => ⟨S256x1, .i32⟩
  | .hbm, ⟨30, _⟩ => ⟨S_, .i32⟩
  | .hbm, ⟨31, _⟩ => ⟨S_, .i32⟩
  | .hbm, ⟨32, _⟩ => ⟨S256x1, .i32⟩
  | .hbm, ⟨33, _⟩ => ⟨S256x1, .i32⟩
  | .hbm, ⟨34, _⟩ => ⟨S256x1, .i32⟩
  | .hbm, ⟨35, _⟩ => ⟨S_, .i32⟩
  | .hbm, ⟨36, _⟩ => ⟨S256x1, .i32⟩
  | .hbm, ⟨37, _⟩ => ⟨S256x1, .i1⟩
  | .hbm, ⟨38, _⟩ => ⟨S256x1, .i32⟩
  | .hbm, ⟨39, _⟩ => ⟨S256x1, .i32⟩
  | .hbm, ⟨40, _⟩ => ⟨S_, .i32⟩
  | .hbm, ⟨41, _⟩ => ⟨S256x1, .i32⟩
  | .hbm, ⟨42, _⟩ => ⟨S256x1, .i1⟩
  | .hbm, ⟨43, _⟩ => ⟨S256x1, .i1⟩
  | .hbm, ⟨44, _⟩ => ⟨S_, .i32⟩
  | .hbm, ⟨45, _⟩ => ⟨S256x1, .i32⟩
  | .hbm, ⟨46, _⟩ => ⟨S256x1, .i32⟩
  | .hbm, ⟨47, _⟩ => ⟨S256x1, .i32⟩
  | .hbm, ⟨48, _⟩ => ⟨S256x1, .i32⟩
  | .hbm, ⟨49, _⟩ => ⟨S256x256, .i32⟩
  | .hbm, ⟨50, _⟩ => ⟨S256x256, .i32⟩
  | .hbm, ⟨51, _⟩ => ⟨S256x256, .i1⟩
  | .hbm, ⟨52, _⟩ => ⟨S256x256, .bf16⟩
  | .hbm, ⟨53, _⟩ => ⟨S128x1024x1024, .bf16⟩
  | .hbm, ⟨54, _⟩ => ⟨S128x1024x1024, .bf16⟩
  | .local _ .vmem, ⟨0, _⟩ => ⟨S1x512x2048, .f32⟩
  | .local _ .vmem, ⟨1, _⟩ => ⟨S1x512x2048, .f32⟩
  | .local _ .vmem, ⟨2, _⟩ => ⟨S256x256, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | _, _ => ⟨S128x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v4 : Ref sig .tc := ⟨.hbm, 26, rfl⟩
abbrev main_c_0 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13_0 : Ref sig .tc := ⟨.hbm, 53, rfl⟩
abbrev main_v13_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![128, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SplitUpRefIdeal.lean ====
abbrev S128x1024x2048 : Shape := ⟨3, ![128, 1024, 2048]⟩
abbrev S128x1024x1024 : Shape := ⟨3, ![128, 1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S128x1024x2048, .f32⟩
  | .hbm, ⟨1, _⟩ => ⟨S128x1024x1024, .f32⟩
  | .hbm, ⟨2, _⟩ => ⟨S128x1024x1024, .bf16⟩
  | .hbm, ⟨3, _⟩ => ⟨S128x1024x1024, .f32⟩
  | .hbm, ⟨4, _⟩ => ⟨S128x1024x1024, .bf16⟩
  | _, _ => ⟨S128x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== Ada.lean ====
abbrev S136x1024 : Shape := ⟨2, ![136, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x136x6144 : Shape := ⟨3, ![4, 136, 6144]⟩
abbrev S1x1024x1024 : Shape := ⟨3, ![1, 1024, 1024]⟩
abbrev S1x1x1024 : Shape := ⟨3, ![1, 1, 1024]⟩
abbrev S1x136x1024 : Shape := ⟨3, ![1, 136, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S136x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x136x6144, .f32⟩
  | .local _ .vmem, ⟨0, _⟩ => ⟨S136x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x136x1024, .f32⟩
  | .local _ .vmem, ⟨6, _⟩ => ⟨S1x136x1024, .f32⟩
  | _, _ => ⟨S136x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S136x1024 : Shape := ⟨2, ![136, 1024]⟩
abbrev S4x1024x6144 : Shape := ⟨3, ![4, 1024, 6144]⟩
abbrev S4x6144 : Shape := ⟨2, ![4, 6144]⟩
abbrev S_ : Shape := ⟨0, ![]⟩
abbrev S4x6144x136 : Shape := ⟨3, ![4, 6144, 136]⟩
abbrev S4x136x6144 : Shape := ⟨3, ![4, 136, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S136x1024, .f32⟩
  | .hbm, ⟨1, _⟩ => ⟨S4x1024x6144, .f32⟩
  | .hbm, ⟨2, _⟩ => ⟨S4x6144, .f32⟩
  | .hbm, ⟨3, _⟩ => ⟨S136x1024, .f32⟩
  | .hbm, ⟨4, _⟩ => ⟨S136x1024, .f32⟩
  | .hbm, ⟨5, _⟩ => ⟨S_, .f32⟩
  | .hbm, ⟨6, _⟩ => ⟨S136x1024, .f32⟩
  | .hbm, ⟨7, _⟩ => ⟨S136x1024, .f32⟩
  | .hbm, ⟨8, _⟩ => ⟨S_, .f32⟩
  | .hbm, ⟨9, _⟩ => ⟨S136x1024, .f32⟩
  | .hbm, ⟨10, _⟩ => ⟨S136x1024, .f32⟩
  | .hbm, ⟨11, _⟩ => ⟨S136x1024, .f32⟩
  | .hbm, ⟨12, _⟩ => ⟨S4x6144x136, .f32⟩
  | .hbm, ⟨13, _⟩ => ⟨S4x136x6144, .f32⟩
  | .hbm, ⟨14, _⟩ => ⟨S4x1x6144, .f32⟩
  | .hbm, ⟨15, _⟩ => ⟨S4x136x6144, .f32⟩
  | .hbm, ⟨16, _⟩ => ⟨S4x136x6144, .f32⟩
  | _, _ => ⟨S136x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== MixerOut.lean ====
abbrev S8x2048x1024 : Shape := ⟨3, ![8, 2048, 1024]⟩
abbrev S1024x1024 : Shape := ⟨2, ![1024, 1024]⟩
abbrev S8x1x6144 : Shape := ⟨3, ![8, 1, 6144]⟩
abbrev S1024 : Shape := ⟨1, ![1024]⟩
abbrev S1024x128 : Shape := ⟨2, ![1024, 128]⟩
abbrev S1x128 : Shape := ⟨2, ![1, 128]⟩
abbrev S1x1x1024 : Shape := ⟨3, ![1, 1, 1024]⟩
abbrev S8x2048x128 : Shape := ⟨3, ![8, 2048, 128]⟩
abbrev S1x256x1024 : Shape := ⟨3, ![1, 256, 1024]⟩
abbrev S1x256x128 : Shape := ⟨3, ![1, 256, 128]⟩
abbrev S256x1024 : Shape := ⟨2, ![256, 1024]⟩
abbrev S1x256 : Shape := ⟨2, ![1, 256]⟩
abbrev S1x256x1 : Shape := ⟨3, ![1, 256, 1]⟩
abbrev S256x128 : Shape := ⟨2, ![256, 128]⟩
abbrev S256 : Shape := ⟨1, ![256]⟩
abbrev S256x1 : Shape := ⟨2, ![256, 1]⟩

abbrev nBuf : Space → Nat
  | .hbm => 15
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S8x2048x1024, .f32⟩
  | .hbm, ⟨3, _⟩ => ⟨S8x1x6144, .f32⟩
  | .hbm, ⟨4, _⟩ => ⟨S1024, .f32⟩
  | .hbm, ⟨5, _⟩ => ⟨S1024, .f32⟩
  | .hbm, ⟨6, _⟩ => ⟨S1024x128, .f32⟩
  | .hbm, ⟨7, _⟩ => ⟨S1x128, .f32⟩
  | .hbm, ⟨8, _⟩ => ⟨S1024x1024, .bf16⟩
  | .hbm, ⟨9, _⟩ => ⟨S1x1x1024, .f32⟩
  | .hbm, ⟨10, _⟩ => ⟨S1x1x1024, .f32⟩
  | .hbm, ⟨11, _⟩ => ⟨S8x2048x1024, .f32⟩
  | .hbm, ⟨12, _⟩ => ⟨S8x2048x1024, .bf16⟩
  | .hbm, ⟨13, _⟩ => ⟨S8x2048x128, .i32⟩
  | .hbm, ⟨14, _⟩ => ⟨S8x2048x128, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1x256x1024, .f32⟩
  | .local _ .vmem, ⟨4, _⟩ => ⟨S1x256x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x128, .f32⟩
  | .local _ .vmem, ⟨14, _⟩ => ⟨S1x128, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .bf16⟩
  | .local _ .vmem, ⟨18, _⟩ => ⟨S1x256x1024, .bf16⟩
  | .local _ .vmem, ⟨19, _⟩ => ⟨S1x256x128, .i32⟩
  | .local _ .vmem, ⟨20, _⟩ => ⟨S1x256x128, .i32⟩
  | .local _ .vmem, ⟨21, _⟩ => ⟨S1x256x128, .f32⟩
  | .local _ .vmem, ⟨22, _⟩ => ⟨S1x256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MixerOutRefIdeal.lean ====
abbrev S8x2048x1024 : Shape := ⟨3, ![8, 2048, 1024]⟩
abbrev S1024x1024 : Shape := ⟨2, ![1024, 1024]⟩
abbrev S8x1x6144 : Shape := ⟨3, ![8, 1, 6144]⟩
abbrev S1024 : Shape := ⟨1, ![1024]⟩
abbrev S1024x128 : Shape := ⟨2, ![1024, 128]⟩
abbrev S1x128 : Shape := ⟨2, ![1, 128]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x128 : Shape := ⟨3, ![8, 2048, 128]⟩
abbrev S1x1x128 : Shape := ⟨3, ![1, 1, 128]⟩
abbrev S8x2048x4 : Shape := ⟨3, ![8, 2048, 4]⟩

abbrev nBuf : Space → Nat
  | .hbm => 87
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S8x2048x1024, .f32⟩
  | .hbm, ⟨3, _⟩ => ⟨S8x1x6144, .f32⟩
  | .hbm, ⟨4, _⟩ => ⟨S1024, .f32⟩
  | .hbm, ⟨5, _⟩ => ⟨S1024, .f32⟩
  | .hbm, ⟨6, _⟩ => ⟨S1024x128, .f32⟩
  | .hbm, ⟨7, _⟩ => ⟨S1x128, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S_, .f32⟩
  | .hbm, ⟨15, _⟩ => ⟨S8x2048x1024, .f32⟩
  | .hbm, ⟨16, _⟩ => ⟨S8x2048x1024, .f32⟩
  | .hbm, ⟨17, _⟩ => ⟨S_, .f32⟩
  | .hbm, ⟨18, _⟩ => ⟨S8x1x1024, .f32⟩
  | .hbm, ⟨19, _⟩ => ⟨S8x1x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S8x2048x1, .f32⟩
  | .hbm, ⟨45, _⟩ => ⟨S8x2048x1024, .f32⟩
  | .hbm, ⟨46, _⟩ => ⟨S8x2048x1024, .f32⟩
  | .hbm, ⟨47, _⟩ => ⟨S1x1x1024, .f32⟩
  | .hbm, ⟨48, _⟩ => ⟨S8x2048x1024, .f32⟩
  | .hbm, ⟨49, _⟩ => ⟨S8x2048x1024, .f32⟩
  | .hbm, ⟨50, _⟩ => ⟨S1x1x1024, .f32⟩
  | .hbm, ⟨51, _⟩ => ⟨S8x2048x1024, .f32⟩
  | .hbm, ⟨52, _⟩ => ⟨S8x2048x1024, .f32⟩
  | .hbm, ⟨53, _⟩ => ⟨S_, .f32⟩
  | .hbm, ⟨54, _⟩ => ⟨S8x1x1024, .f32⟩
  | .hbm, ⟨55, _⟩ => ⟨S8x1x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x128, .f32⟩
  | .hbm, ⟨61, _⟩ => ⟨S1x1x128, .f32⟩
  | .hbm, ⟨62, _⟩ => ⟨S8x2048x128, .f32⟩
  | .hbm, ⟨63, _⟩ => ⟨S8x2048x128, .f32⟩
  | .hbm, ⟨64, _⟩ => ⟨S8x2048x4, .f32⟩
  | .hbm, ⟨65, _⟩ => ⟨S8x2048x4, .i32⟩
  | .hbm, ⟨66, _⟩ => ⟨S8x2048x1024, .bf16⟩
  | .hbm, ⟨67, _⟩ => ⟨S_, .i32⟩
  | .hbm, ⟨68, _⟩ => ⟨S_, .i32⟩
  | .hbm, ⟨69, _⟩ => ⟨S8x2048x128, .i32⟩
  | .hbm, ⟨70, _⟩ => ⟨S_, .f32⟩
  | .hbm, ⟨71, _⟩ => ⟨S8x2048, .f32⟩
  | .hbm, ⟨72, _⟩ => ⟨S_, .f32⟩
  | .hbm, ⟨73, _⟩ => ⟨S8x2048, .f32⟩
  | .hbm, ⟨74, _⟩ => ⟨S8x2048, .f32⟩
  | .hbm, ⟨75, _⟩ => ⟨S8x2048x1, .f32⟩
  | .hbm, ⟨76, _⟩ => ⟨S8x2048x4, .f32⟩
  | .hbm, ⟨77, _⟩ => ⟨S8x2048x4, .f32⟩
  | .hbm, ⟨78, _⟩ => ⟨S8x2048x4, .f32⟩
  | .hbm, ⟨79, _⟩ => ⟨S_, .f32⟩
  | .hbm, ⟨80, _⟩ => ⟨S8x2048, .f32⟩
  | .hbm, ⟨81, _⟩ => ⟨S8x2048x1, .f32⟩
  | .hbm, ⟨82, _⟩ => ⟨S8x2048x4, .f32⟩
  | .hbm, ⟨83, _⟩ => ⟨S8x2048x4, .f32⟩
  | .hbm, ⟨84, _⟩ => ⟨S_, .i32⟩
  | .hbm, ⟨85, _⟩ => ⟨S_, .f32⟩
  | .hbm, ⟨86, _⟩ => ⟨S8x2048x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_values : Ref sig .tc := ⟨.hbm, 64, rfl⟩
abbrev main_indices : Ref sig .tc := ⟨.hbm, 65, rfl⟩
abbrev main_v48 : Ref sig .tc := ⟨.hbm, 66, rfl⟩
abbrev main_c : Ref sig .tc := ⟨.hbm, 67, rfl⟩
abbrev main_call0_v0 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_10 : Ref sig .tc := ⟨.hbm, 84, rfl⟩
abbrev main_call1_v0 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== CmpConst.lean ====
abbrev S2x32x64 : Shape := ⟨3, ![2, 32, 64]⟩
abbrev S2x2048x128 : Shape := ⟨3, ![2, 2048, 128]⟩
abbrev S2x128 : Shape := ⟨2, ![2, 128]⟩
abbrev S2x1x2048 : Shape := ⟨3, ![2, 1, 2048]⟩
abbrev S2x1x128 : Shape := ⟨3, ![2, 1, 128]⟩
abbrev S1x1x2048 : Shape := ⟨3, ![1, 1, 2048]⟩
abbrev S1x2048x128 : Shape := ⟨3, ![1, 2048, 128]⟩
abbrev S1x1x128 : Shape := ⟨3, ![1, 1, 128]⟩
abbrev S1x2048 : Shape := ⟨2, ![1, 2048]⟩
abbrev S8x2048 : Shape := ⟨2, ![8, 2048]⟩
abbrev S2048x128 : Shape := ⟨2, ![2048, 128]⟩
abbrev S8x128 : Shape := ⟨2, ![8, 128]⟩
abbrev S1x128 : Shape := ⟨2, ![1, 128]⟩

abbrev nBuf : Space → Nat
  | .hbm => 6
  | .vmem => 8
  | .smem => 0
  | _ => 0

abbrev bufTy : (tb : Table) → Fin (tcTables nBuf tb) → BufTy
  | .hbm, ⟨0, _⟩ => ⟨S2x32x64, .f32⟩
  | .hbm, ⟨1, _⟩ => ⟨S2x2048x128, .f32⟩
  | .hbm, ⟨2, _⟩ => ⟨S2x128, .f32⟩
  | .hbm, ⟨3, _⟩ => ⟨S2x1x2048, .f32⟩
  | .hbm, ⟨4, _⟩ => ⟨S2x1x128, .f32⟩
  | .hbm, ⟨5, _⟩ => ⟨S2x1x128, .f32⟩
  | .local _ .vmem, ⟨0, _⟩ => ⟨S1x1x2048, .f32⟩
  | .local _ .vmem, ⟨1, _⟩ => ⟨S1x1x2048, .f32⟩
  | .local _ .vmem, ⟨2, _⟩ => ⟨S1x2048x128, .f32⟩
  | .local _ .vmem, ⟨3, _⟩ => ⟨S1x2048x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | _, _ => ⟨S2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CmpConstRefIdeal.lean ====
abbrev S2x32x64 : Shape := ⟨3, ![2, 32, 64]⟩
abbrev S2x2048x128 : Shape := ⟨3, ![2, 2048, 128]⟩
abbrev S2x128 : Shape := ⟨2, ![2, 128]⟩
abbrev S2x2048 : Shape := ⟨2, ![2, 2048]⟩
abbrev S2x1x128 : Shape := ⟨3, ![2, 1, 128]⟩

abbrev nBuf : Space → Nat
  | .hbm => 7
  | .vmem => 0
  | .smem => 0
  | _ => 0

abbrev bufTy : (tb : Table) → Fin (tcTables nBuf tb) → BufTy
  | .hbm, ⟨0, _⟩ => ⟨S2x32x64, .f32⟩
  | .hbm, ⟨1, _⟩ => ⟨S2x2048x128, .f32⟩
  | .hbm, ⟨2, _⟩ => ⟨S2x128, .f32⟩
  | .hbm, ⟨3, _⟩ => ⟨S2x2048, .f32⟩
  | .hbm, ⟨4, _⟩ => ⟨S2x128, .f32⟩
  | .hbm, ⟨5, _⟩ => ⟨S2x128, .f32⟩
  | .hbm, ⟨6, _⟩ => ⟨S2x1x128, .f32⟩
  | _, _ => ⟨S2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Compress.lean ====
abbrev S8x2048x512 : Shape := ⟨3, ![8, 2048, 512]⟩
abbrev S2x2048x128 : Shape := ⟨3, ![2, 2048, 128]⟩
abbrev S2x1x128 : Shape := ⟨3, ![2, 1, 128]⟩
abbrev S2x128x64 : Shape := ⟨3, ![2, 128, 64]⟩
abbrev S2x64 : Shape := ⟨2, ![2, 64]⟩
abbrev S8x128x16x2x4x64 : Shape := ⟨6, ![8, 128, 16, 2, 4, 64]⟩
abbrev S2x8x4x128x16x64 : Shape := ⟨6, ![2, 8, 4, 128, 16, 64]⟩
abbrev S2x32x128x1024 : Shape := ⟨4, ![2, 32, 128, 1024]⟩
abbrev S2x1024x128 : Shape := ⟨3, ![2, 1024, 128]⟩
abbrev S2x1024x256 : Shape := ⟨3, ![2, 1024, 256]⟩
abbrev S2x128x128 : Shape := ⟨3, ![2, 128, 128]⟩
abbrev S2x128 : Shape := ⟨2, ![2, 128]⟩
abbrev S2x32x128x128 : Shape := ⟨4, ![2, 32, 128, 128]⟩
abbrev S1x8x128x1024 : Shape := ⟨4, ![1, 8, 128, 1024]⟩
abbrev S1x1024x256 : Shape := ⟨3, ![1, 1024, 256]⟩
abbrev S1x1x128 : Shape := ⟨3, ![1, 1, 128]⟩
abbrev S1x128x128 : Shape := ⟨3, ![1, 128, 128]⟩
abbrev S1x8x128x128 : Shape := ⟨4, ![1, 8, 128, 128]⟩
abbrev S8x128x1024 : Shape := ⟨3, ![8, 128, 1024]⟩
abbrev S1024x1024 : Shape := ⟨2, ![1024, 1024]⟩
abbrev S1024x256 : Shape := ⟨2, ![1024, 256]⟩
abbrev S1024x128 : Shape := ⟨2, ![1024, 128]⟩
abbrev S1x128 : Shape := ⟨2, ![1, 128]⟩
abbrev S128x128 : Shape := ⟨2, ![128, 128]⟩
abbrev S8x128x128 : Shape := ⟨3, ![8, 128, 128]⟩
abbrev S2x32x127x128 : Shape := ⟨4, ![2, 32, 127, 128]⟩

abbrev nBuf : Space → Nat
  | .hbm => 16
  | .vmem => 12
  | .smem => 0
  | _ => 0

abbrev bufTy : (tb : Table) → Fin (tcTables nBuf tb) → BufTy
  | .hbm, ⟨0, _⟩ => ⟨S8x2048x512, .f32⟩
  | .hbm, ⟨1, _⟩ => ⟨S2x2048x128, .f32⟩
  | .hbm, ⟨2, _⟩ => ⟨S2x1x128, .f32⟩
  | .hbm, ⟨3, _⟩ => ⟨S2x128x64, .f32⟩
  | .hbm, ⟨4, _⟩ => ⟨S2x64, .f32⟩
  | .hbm, ⟨5, _⟩ => ⟨S8x128x16x2x4x64, .f32⟩
  | .hbm, ⟨6, _⟩ => ⟨S2x8x4x128x16x64, .f32⟩
  | .hbm, ⟨7, _⟩ => ⟨S2x32x128x1024, .f32⟩
  | .hbm, ⟨8, _⟩ => ⟨S2x1024x128, .f32⟩
  | .hbm, ⟨9, _⟩ => ⟨S2x1024x128, .f32⟩
  | .hbm, ⟨10, _⟩ => ⟨S2x1024x256, .f32⟩
  | .hbm, ⟨11, _⟩ => ⟨S2x128x128, .f32⟩
  | .hbm, ⟨12, _⟩ => ⟨S2x128, .f32⟩
  | .hbm, ⟨13, _⟩ => ⟨S2x1x128, .f32⟩
  | .hbm, ⟨14, _⟩ => ⟨S2x32x128x128, .f32⟩
  | .hbm, ⟨15, _⟩ => ⟨S2x32x127x128, .f32⟩
  | .local _ .vmem, ⟨0, _⟩ => ⟨S1x8x128x1024, .f32⟩
  | .local _ .vmem, ⟨1, _⟩ => ⟨S1x8x128x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1x128, .f32⟩
  | .local _ .vmem, ⟨5, _⟩ => ⟨S1x1x128, .f32⟩
  | .local _ .vmem, ⟨6, _⟩ => ⟨S1x128x128, .f32⟩
  | .local _ .vmem, ⟨7, _⟩ => ⟨S1x128x128, .f32⟩
  | .local _ .vmem, ⟨8, _⟩ => ⟨S1x1x128, .f32⟩
  | .local _ .vmem, ⟨9, _⟩ => ⟨S1x1x128, .f32⟩
  | .local _ .vmem, ⟨10, _⟩ => ⟨S1x8x128x128, .f32⟩
  | .local _ .vmem, ⟨11, _⟩ => ⟨S1x8x128x128, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CompressRefIdeal.lean ====
abbrev S8x2048x512 : Shape := ⟨3, ![8, 2048, 512]⟩
abbrev S2x2048x128 : Shape := ⟨3, ![2, 2048, 128]⟩
abbrev S2x1x128 : Shape := ⟨3, ![2, 1, 128]⟩
abbrev S2x128x64 : Shape := ⟨3, ![2, 128, 64]⟩
abbrev S2x64 : Shape := ⟨2, ![2, 64]⟩
abbrev S8x128x16x2x4x64 : Shape := ⟨6, ![8, 128, 16, 2, 4, 64]⟩
abbrev S8x127x16x2x4x64 : Shape := ⟨6, ![8, 127, 16, 2, 4, 64]⟩
abbrev S8x127x32x2x4x64 : Shape := ⟨6, ![8, 127, 32, 2, 4, 64]⟩
abbrev S2x8x4x127x32x64 : Shape := ⟨6, ![2, 8, 4, 127, 32, 64]⟩
abbrev S2x32x127x2048 : Shape := ⟨4, ![2, 32, 127, 2048]⟩
abbrev S2x32x127x128 : Shape := ⟨4, ![2, 32, 127, 128]⟩
abbrev S2x1x1x128 : Shape := ⟨4, ![2, 1, 1, 128]⟩
abbrev S_ : Shape := ⟨0, ![]⟩
abbrev S2x32x127x64 : Shape := ⟨4, ![2, 32, 127, 64]⟩
abbrev S2x1x1x64 : Shape := ⟨4, ![2, 1, 1, 64]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S2x2048x128, .f32⟩
  | .hbm, ⟨2, _⟩ => ⟨S2x1x128, .f32⟩
  | .hbm, ⟨3, _⟩ => ⟨S2x128x64, .f32⟩
  | .hbm, ⟨4, _⟩ => ⟨S2x64, .f32⟩
  | .hbm, ⟨5, _⟩ => ⟨S8x128x16x2x4x64, .f32⟩
  | .hbm, ⟨6, _⟩ => ⟨S8x127x16x2x4x64, .f32⟩
  | .hbm, ⟨7, _⟩ => ⟨S8x127x16x2x4x64, .f32⟩
  | .hbm, ⟨8, _⟩ => ⟨S8x127x32x2x4x64, .f32⟩
  | .hbm, ⟨9, _⟩ => ⟨S2x8x4x127x32x64, .f32⟩
  | .hbm, ⟨10, _⟩ => ⟨S2x32x127x2048, .f32⟩
  | .hbm, ⟨11, _⟩ => ⟨S2x32x127x128, .f32⟩
  | .hbm, ⟨12, _⟩ => ⟨S2x1x1x128, .f32⟩
  | .hbm, ⟨13, _⟩ => ⟨S2x32x127x128, .f32⟩
  | .hbm, ⟨14, _⟩ => ⟨S2x32x127x128, .f32⟩
  | .hbm, ⟨15, _⟩ => ⟨S2x32x127x128, .f32⟩
  | .hbm, ⟨16, _⟩ => ⟨S2x32x127x128, .f32⟩
  | .hbm, ⟨17, _⟩ => ⟨S_, .f32⟩
  | .hbm, ⟨18, _⟩ => ⟨S2x32x127x128, .f32⟩
  | .hbm, ⟨19, _⟩ => ⟨S2x32x127x128, .f32⟩
  | .hbm, ⟨20, _⟩ => ⟨S_, .f32⟩
  | .hbm, ⟨21, _⟩ => ⟨S2x32x127x128, .f32⟩
  | .hbm, ⟨22, _⟩ => ⟨S2x32x127x128, .f32⟩
  | .hbm, ⟨23, _⟩ => ⟨S2x32x127x128, .f32⟩
  | .hbm, ⟨24, _⟩ => ⟨S2x32x127x64, .f32⟩
  | .hbm, ⟨25, _⟩ => ⟨S2x1x1x64, .f32⟩
  | .hbm, ⟨26, _⟩ => ⟨S2x32x127x64, .f32⟩
  | .hbm, ⟨27, _⟩ => ⟨S2x32x127x64, .f32⟩
  | .hbm, ⟨28, _⟩ => ⟨S2x32x127x128, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== CompressPages.lean ====
abbrev S2560x128x2x4x64 : Shape := ⟨5, ![2560, 128, 2, 4, 64]⟩
abbrev S128x16 : Shape := ⟨2, ![128, 16]⟩
abbrev S2x2048x128 : Shape := ⟨3, ![2, 2048, 128]⟩
abbrev S2x1x128 : Shape := ⟨3, ![2, 1, 128]⟩
abbrev S2x128x64 : Shape := ⟨3, ![2, 128, 64]⟩
abbrev S2x64 : Shape := ⟨2, ![2, 64]⟩
abbrev S2560x8x16x2x4x64 : Shape := ⟨6, ![2560, 8, 16, 2, 4, 64]⟩
abbrev S2x4x2560x8x16x64 : Shape := ⟨6, ![2, 4, 2560, 8, 16, 64]⟩
abbrev S2x4x2560x8x1024 : Shape := ⟨5, ![2, 4, 2560, 8, 1024]⟩
abbrev S2x1024x128 : Shape := ⟨3, ![2, 1024, 128]⟩
abbrev S2x1024x256 : Shape := ⟨3, ![2, 1024, 256]⟩
abbrev S2x128x128 : Shape := ⟨3, ![2, 128, 128]⟩
abbrev S2x128 : Shape := ⟨2, ![2, 128]⟩
abbrev S2x128x4x128x128 : Shape := ⟨5, ![2, 128, 4, 128, 128]⟩
abbrev S1x1x1x8x1024 : Shape := ⟨5, ![1, 1, 1, 8, 1024]⟩
abbrev S1x1 : Shape := ⟨2, ![1, 1]⟩
abbrev S1x1024x256 : Shape := ⟨3, ![1, 1024, 256]⟩
abbrev S1x1x128 : Shape := ⟨3, ![1, 1, 128]⟩
abbrev S1x128x128 : Shape := ⟨3, ![1, 128, 128]⟩
abbrev S1x2x1x128x128 : Shape := ⟨5, ![1, 2, 1, 128, 128]⟩
abbrev S8x1024 : Shape := ⟨2, ![8, 1024]⟩
abbrev S256x1024 : Shape := ⟨2, ![256, 1024]⟩
abbrev S1024x256 : Shape := ⟨2, ![1024, 256]⟩
abbrev S256x256 : Shape := ⟨2, ![256, 256]⟩
abbrev S256x128 : Shape := ⟨2, ![256, 128]⟩
abbrev S1x128 : Shape := ⟨2, ![1, 128]⟩
abbrev S128x128 : Shape := ⟨2, ![128, 128]⟩
abbrev S2x128x4x127x128 : Shape := ⟨5, ![2, 128, 4, 127, 128]⟩

abbrev nBuf : Space → Nat
  | .hbm => 16
  | .vmem => 74
  | .smem => 1
  | _ => 0

abbrev bufTy : (tb : Table) → Fin (tcTables nBuf tb) → BufTy
  | .hbm, ⟨0, _⟩ => ⟨S2560x128x2x4x64, .f32⟩
  | .hbm, ⟨1, _⟩ => ⟨S2x2048x128, .f32⟩
  | .hbm, ⟨2, _⟩ => ⟨S2x1x128, .f32⟩
  | .hbm, ⟨3, _⟩ => ⟨S2x128x64, .f32⟩
  | .hbm, ⟨4, _⟩ => ⟨S2x64, .f32⟩
  | .hbm, ⟨5, _⟩ => ⟨S2560x8x16x2x4x64, .f32⟩
  | .hbm, ⟨6, _⟩ => ⟨S2x4x2560x8x16x64, .f32⟩
  | .hbm, ⟨7, _⟩ => ⟨S2x4x2560x8x1024, .f32⟩
  | .hbm, ⟨8, _⟩ => ⟨S2x1024x128, .f32⟩
  | .hbm, ⟨9, _⟩ => ⟨S2x1024x128, .f32⟩
  | .hbm, ⟨10, _⟩ => ⟨S2x1024x256, .f32⟩
  | .hbm, ⟨11, _⟩ => ⟨S2x128x128, .f32⟩
  | .hbm, ⟨12, _⟩ => ⟨S2x128, .f32⟩
  | .hbm, ⟨13, _⟩ => ⟨S2x1x128, .f32⟩
  | .hbm, ⟨14, _⟩ => ⟨S2x128x4x128x128, .f32⟩
  | .hbm, ⟨15, _⟩ => ⟨S2x128x4x127x128, .f32⟩
  | .local _ .vmem, ⟨0, _⟩ => ⟨S1x1x1x8x1024, .f32⟩
  | .local _ .vmem, ⟨1, _⟩ => ⟨S1x1x1x8x1024, .f32⟩
  | .local _ .vmem, ⟨2, _⟩ => ⟨S1x1x1x8x1024, .f32⟩
  | .local _ .vmem, ⟨3, _⟩ => ⟨S1x1x1x8x1024, .f32⟩
  | .local _ .vmem, ⟨4, _⟩ => ⟨S1x1x1x8x1024, .f32⟩
  | .local _ .vmem, ⟨5, _⟩ => ⟨S1x1x1x8x1024, .f32⟩
  | .local _ .vmem, ⟨6, _⟩ => ⟨S1x1x1x8x1024, .f32⟩
  | .local _ .vmem, ⟨7, _⟩ => ⟨S1x1x1x8x1024, .f32⟩
  | .local _ .vmem, ⟨8, _⟩ => ⟨S1x1x1x8x1024, .f32⟩
  | .local _ .vmem, ⟨9, _⟩ => ⟨S1x1x1x8x1024, .f32⟩
  | .local _ .vmem, ⟨10, _⟩ => ⟨S1x1x1x8x1024, .f32⟩
  | .local _ .vmem, ⟨11, _⟩ => ⟨S1x1x1x8x1024, .f32⟩
  | .local _ .vmem, ⟨12, _⟩ => ⟨S1x1x1x8x1024, .f32⟩
  | .local _ .vmem, ⟨13, _⟩ => ⟨S1x1x1x8x1024, .f32⟩
  | .local _ .vmem, ⟨14, _⟩ => ⟨S1x1x1x8x1024, .f32⟩
  | .local _ .vmem, ⟨15, _⟩ => ⟨S1x1x1x8x1024, .f32⟩
  | .local _ .vmem, ⟨16, _⟩ => ⟨S1x1x1x8x1024, .f32⟩
  | .local _ .vmem, ⟨17, _⟩ => ⟨S1x1x1x8x1024, .f32⟩
  | .local _ .vmem, ⟨18, _⟩ => ⟨S1x1x1x8x1024, .f32⟩
  | .local _ .vmem, ⟨19, _⟩ => ⟨S1x1x1x8x1024, .f32⟩
  | .local _ .vmem, ⟨20, _⟩ => ⟨S1x1x1x8x1024, .f32⟩
  | .local _ .vmem, ⟨21, _⟩ => ⟨S1x1x1x8x1024, .f32⟩
  | .local _ .vmem, ⟨22, _⟩ => ⟨S1x1x1x8x1024, .f32⟩
  | .local _ .vmem, ⟨23, _⟩ => ⟨S1x1x1x8x1024, .f32⟩
  | .local _ .vmem, ⟨24, _⟩ => ⟨S1x1x1x8x1024, .f32⟩
  | .local _ .vmem, ⟨25, _⟩ => ⟨S1x1x1x8x1024, .f32⟩
  | .local _ .vmem, ⟨26, _⟩ => ⟨S1x1x1x8x1024, .f32⟩
  | .local _ .vmem, ⟨27, _⟩ => ⟨S1x1x1x8x1024, .f32⟩
  | .local _ .vmem, ⟨28, _⟩ => ⟨S1x1x1x8x1024, .f32⟩
  | .local _ .vmem, ⟨29, _⟩ => ⟨S1x1x1x8x1024, .f32⟩
  | .local _ .vmem, ⟨30, _⟩ => ⟨S1x1x1x8x1024, .f32⟩
  | .local _ .vmem, ⟨31, _⟩ => ⟨S1x1x1x8x1024, .f32⟩
  | .local _ .vmem, ⟨32, _⟩ => ⟨S1x1x1x8x1024, .f32⟩
  | .local _ .vmem, ⟨33, _⟩ => ⟨S1x1x1x8x1024, .f32⟩
  | .local _ .vmem, ⟨34, _⟩ => ⟨S1x1x1x8x1024, .f32⟩
  | .local _ .vmem, ⟨35, _⟩ => ⟨S1x1x1x8x1024, .f32⟩
  | .local _ .vmem, ⟨36, _⟩ => ⟨S1x1x1x8x1024, .f32⟩
  | .local _ .vmem, ⟨37, _⟩ => ⟨S1x1x1x8x1024, .f32⟩
  | .local _ .vmem, ⟨38, _⟩ => ⟨S1x1x1x8x1024, .f32⟩
  | .local _ .vmem, ⟨39, _⟩ => ⟨S1x1x1x8x1024, .f32⟩
  | .local _ .vmem, ⟨40, _⟩ => ⟨S1x1x1x8x1024, .f32⟩
  | .local _ .vmem, ⟨41, _⟩ => ⟨S1x1x1x8x1024, .f32⟩
  | .local _ .vmem, ⟨42, _⟩ => ⟨S1x1x1x8x1024, .f32⟩
  | .local _ .vmem, ⟨43, _⟩ => ⟨S1x1x1x8x1024, .f32⟩
  | .local _ .vmem, ⟨44, _⟩ => ⟨S1x1x1x8x1024, .f32⟩
  | .local _ .vmem, ⟨45, _⟩ => ⟨S1x1x1x8x1024, .f32⟩
  | .local _ .vmem, ⟨46, _⟩ => ⟨S1x1x1x8x1024, .f32⟩
  | .local _ .vmem, ⟨47, _⟩ => ⟨S1x1x1x8x1024, .f32⟩
  | .local _ .vmem, ⟨48, _⟩ => ⟨S1x1x1x8x1024, .f32⟩
  | .local _ .vmem, ⟨49, _⟩ => ⟨S1x1x1x8x1024, .f32⟩
  | .local _ .vmem, ⟨50, _⟩ => ⟨S1x1x1x8x1024, .f32⟩
  | .local _ .vmem, ⟨51, _⟩ => ⟨S1x1x1x8x1024, .f32⟩
  | .local _ .vmem, ⟨52, _⟩ => ⟨S1x1x1x8x1024, .f32⟩
  | .local _ .vmem, ⟨53, _⟩ => ⟨S1x1x1x8x1024, .f32⟩
  | .local _ .vmem, ⟨54, _⟩ => ⟨S1x1x1x8x1024, .f32⟩
  | .local _ .vmem, ⟨55, _⟩ => ⟨S1x1x1x8x1024, .f32⟩
  | .local _ .vmem, ⟨56, _⟩ => ⟨S1x1x1x8x1024, .f32⟩
  | .local _ .vmem, ⟨57, _⟩ => ⟨S1x1x1x8x1024, .f32⟩
  | .local _ .vmem, ⟨58, _⟩ => ⟨S1x1x1x8x1024, .f32⟩
  | .local _ .vmem, ⟨59, _⟩ => ⟨S1x1x1x8x1024, .f32⟩
  | .local _ .vmem, ⟨60, _⟩ => ⟨S1x1x1x8x1024, .f32⟩
  | .local _ .vmem, ⟨61, _⟩ => ⟨S1x1x1x8x1024, .f32⟩
  | .local _ .vmem, ⟨62, _⟩ => ⟨S1x1x1x8x1024, .f32⟩
  | .local _ .vmem, ⟨63, _⟩ => ⟨S1x1x1x8x1024, .f32⟩
  | .local _ .vmem, ⟨64, _⟩ => ⟨S1x1024x256, .f32⟩
  | .local _ .vmem, ⟨65, _⟩ => ⟨S1x1024x256, .f32⟩
  | .local _ .vmem, ⟨66, _⟩ => ⟨S1x1x128, .f32⟩
  | .local _ .vmem, ⟨67, _⟩ => ⟨S1x1x128, .f32⟩
  | .local _ .vmem, ⟨68, _⟩ => ⟨S1x128x128, .f32⟩
  | .local _ .vmem, ⟨69, _⟩ => ⟨S1x128x128, .f32⟩
  | .local _ .vmem, ⟨70, _⟩ => ⟨S1x1x128, .f32⟩
  | .local _ .vmem, ⟨71, _⟩ => ⟨S1x1x128, .f32⟩
  | .local _ .vmem, ⟨72, _⟩ => ⟨S1x2x1x128x128, .f32⟩
  | .local _ .vmem, ⟨73, _⟩ => ⟨S1x2x1x128x128, .f32⟩
  | .local _ .smem, ⟨0, _⟩ => ⟨S128x16, .i32⟩
  | _, _ => ⟨S2560x128x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73

abbrev nD : Nat := 1
abbrev τ : Topo := Topo.v7x

variable {F : FTy → Type} [FloatOps F]

abbrev grid0 : Pipeline.Grid := ⟨3, ![2, 4, 64], ![false, false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg2 : BitVec 32 := BitVec.ofNat 32 (i 2).val
  let c2_i32 : BitVec 32 := 2#32
  let v0 : BitVec 32 := Scalar.muli arg2 c2_i32
  let v1 : BitVec 32 := Scalar.addi v0 c0_i32
  let v2 : Index := Scalar.indexCast v1
  let c0 : Index := 0#32
  ![v2.toNat, 0]
def k0_off2 (i : grid0.Coords) (c0_i32 : BitVec 32) : Fin 2 → Nat :=
  let arg2 : BitVec 32 := BitVec.ofNat 32 (i 2).val
  let c2_i32 : BitVec 32 := 2#32
  let v0 : BitVec 32 := Scalar.muli arg2 c2_i32
  let v1 : BitVec 32 := Scalar.addi v0 c0_i32
  let v2 : Index := Scalar.indexCast v1
  let c1 : Index := 1#32
  ![v2.toNat, 1]
def k0_off3 (i : grid0.Coords) (c0_i32 : BitVec 32) : Fin 2 → Nat :=
  let arg2 : BitVec 32 := BitVec.ofNat 32 (i 2).val
  let c2_i32 : BitVec 32 := 2#32
  let v0 : BitVec 32 := Scalar.muli arg2 c2_i32
  let v1 : BitVec 32 := Scalar.addi v0 c0_i32
  let v2 : Index := Scalar.indexCast v1
  let c2 : Index := 2#32
  ![v2.toNat, 2]
def k0_off4 (i : grid0.Coords) (c0_i32 : BitVec 32) : Fin 2 → Nat :=
  let arg2 : BitVec 32 := BitVec.ofNat 32 (i 2).val
  let c2_i32 : BitVec 32 := 2#32
  let v0 : BitVec 32 := Scalar.muli arg2 c2_i32
  let v1 : BitVec 32 := Scalar.addi v0 c0_i32
  let v2 : Index := Scalar.indexCast v1
  let c3 : Index := 3#32
  ![v2.toNat, 3]
def k0_off5 (i : grid0.Coords) (c0_i32 : BitVec 32) : Fin 2 → Nat :=
  let arg2 : BitVec 32 := BitVec.ofNat 32 (i 2).val
  let c2_i32 : BitVec 32 := 2#32
  let v0 : BitVec 32 := Scalar.muli arg2 c2_i32
  let v1 : BitVec 32 := Scalar.addi v0 c0_i32
  let v2 : Index := Scalar.indexCast v1
  let c4 : Index := 4#32
  ![v2.toNat, 4]
def k0_off6 (i : grid0.Coords) (c0_i32 : BitVec 32) : Fin 2 → Nat :=
  let arg2 : BitVec 32 := BitVec.ofNat 32 (i 2).val
  let c2_i32 : BitVec 32 := 2#32
  let v0 : BitVec 32 := Scalar.muli arg2 c2_i32
  let v1 : BitVec 32 := Scalar.addi v0 c0_i32
  let v2 : Index := Scalar.indexCast v1
  let c5 : Index := 5#32
  ![v2.toNat, 5]
def k0_off7 (i : grid0.Coords) (c0_i32 : BitVec 32) : Fin 2 → Nat :=
  let arg2 : BitVec 32 := BitVec.ofNat 32 (i 2).val
  let c2_i32 : BitVec 32 := 2#32
  let v0 : BitVec 32 := Scalar.muli arg2 c2_i32
  let v1 : BitVec 32 := Scalar.addi v0 c0_i32
  let v2 : Index := Scalar.indexCast v1
  let c6 : Index := 6#32
  ![v2.toNat, 6]
def k0_off8 (i : grid0.Coords) (c0_i32 : BitVec 32) : Fin 2 → Nat :=
  let arg2 : BitVec 32 := BitVec.ofNat 32 (i 2).val
  let c2_i32 : BitVec 32 := 2#32
  let v0 : BitVec 32 := Scalar.muli arg2 c2_i32
  let v1 : BitVec 32 := Scalar.addi v0 c0_i32
  let v2 : Index := Scalar.indexCast v1
  let c7 : Index := 7#32
  ![v2.toNat, 7]
def k0_off9 (i : grid0.Coords) (c0_i32 : BitVec 32) : Fin 2 → Nat :=
  let arg2 : BitVec 32 := BitVec.ofNat 32 (i 2).val
  let c2_i32 : BitVec 32 := 2#32
  let v0 : BitVec 32 := Scalar.muli arg2 c2_i32
  let v1 : BitVec 32 := Scalar.addi v0 c0_i32
  let v2 : Index := Scalar.indexCast v1
  let c8 : Index := 8#32
  ![v2.toNat, 8]
def k0_off10 (i : grid0.Coords) (c0_i32 : BitVec 32) : Fin 2 → Nat :=
  let arg2 : BitVec 32 := BitVec.ofNat 32 (i 2).val
  let c2_i32 : BitVec 32 := 2#32
  let v0 : BitVec 32 := Scalar.muli arg2 c2_i32
  let v1 : BitVec 32 := Scalar.addi v0 c0_i32
  let v2 : Index := Scalar.indexCast v1
  let c9 : Index := 9#32
  ![v2.toNat, 9]
def k0_off11 (i : grid0.Coords) (c0_i32 : BitVec 32) : Fin 2 → Nat :=
  let arg2 : BitVec 32 := BitVec.ofNat 32 (i 2).val
  let c2_i32 : BitVec 32 := 2#32
  let v0 : BitVec 32 := Scalar.muli arg2 c2_i32
  let v1 : BitVec 32 := Scalar.addi v0 c0_i32
  let v2 : Index := Scalar.indexCast v1
  let c10 : Index := 10#32
  ![v2.toNat, 10]
def k0_off12 (i : grid0.Coords) (c0_i32 : BitVec 32) : Fin 2 → Nat :=
  let arg2 : BitVec 32 := BitVec.ofNat 32 (i 2).val
  let c2_i32 : BitVec 32 := 2#32
  let v0 : BitVec 32 := Scalar.muli arg2 c2_i32
  let v1 : BitVec 32 := Scalar.addi v0 c0_i32
  let v2 : Index := Scalar.indexCast v1
  let c11 : Index := 11#32
  ![v2.toNat, 11]
def k0_off13 (i : grid0.Coords) (c0_i32 : BitVec 32) : Fin 2 → Nat :=
  let arg2 : BitVec 32 := BitVec.ofNat 32 (i 2).val
  let c2_i32 : BitVec 32 := 2#32
  let v0 : BitVec 32 := Scalar.muli arg2 c2_i32
  let v1 : BitVec 32 := Scalar.addi v0 c0_i32
  let v2 : Index := Scalar.indexCast v1
  let c12 : Index := 12#32
  ![v2.toNat, 12]
def k0_off14 (i : grid0.Coords) (c0_i32 : BitVec 32) : Fin 2 → Nat :=
  let arg2 : BitVec 32 := BitVec.ofNat 32 (i 2).val
  let c2_i32 : BitVec 32 := 2#32
  let v0 : BitVec 32 := Scalar.muli arg2 c2_i32
  let v1 : BitVec 32 := Scalar.addi v0 c0_i32
  let v2 : Index := Scalar.indexCast v1
  let c13 : Index := 13#32
  ![v2.toNat, 13]
def k0_off15 (i : grid0.Coords) (c0_i32 : BitVec 32) : Fin 2 → Nat :=
  let arg2 : BitVec 32 := BitVec.ofNat 32 (i 2).val
  let c2_i32 : BitVec 32 := 2#32
  let v0 : BitVec 32 := Scalar.muli arg2 c2_i32
  let v1 : BitVec 32 := Scalar.addi v0 c0_i32
  let v2 : Index := Scalar.indexCast v1
  let c14 : Index := 14#32
  ![v2.toNat, 14]
def k0_off16 (i : grid0.Coords) (c0_i32 : BitVec 32) : Fin 2 → Nat :=
  let arg2 : BitVec 32 := BitVec.ofNat 32 (i 2).val
  let c2_i32 : BitVec 32 := 2#32
  let v0 : BitVec 32 := Scalar.muli arg2 c2_i32
  let v1 : BitVec 32 := Scalar.addi v0 c0_i32
  let v2 : Index := Scalar.indexCast v1
  let c15 : Index := 15#32
  ![v2.toNat, 15]
def cc0_transform_0 (k0_off1_inb : ∀ i : grid0.Coords, ∀ (r : Fin 2), ∀ a, (k0_off1 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let v2 : Index := Scalar.indexCast v1
  let c0 : Index := 0#32
  let v3 : BitVec 32 := pf.at 0 (Rect.unit (s := S128x16) ![v2.toNat, 0] S1x1.size (k0_off1_inb i 0)) numel1_S1x1
  let c0_i32_0 : BitVec 32 := 0#32
  let c0_i32_1 : BitVec 32 := 0#32
  let c0_i32_2 : BitVec 32 := 0#32
  ![arg0.toNat, arg1.toNat, v3.toNat, c0_i32_0.toNat, c0_i32_1.toNat]

def cc0_transform_1 (k0_off2_inb : ∀ i : grid0.Coords, ∀ (r : Fin 2), ∀ a, (k0_off2 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let v2 : Index := Scalar.indexCast v1
  let c1 : Index := 1#32
  let v3 : BitVec 32 := pf.at 0 (Rect.unit (s := S128x16) ![v2.toNat, 1] S1x1.size (k0_off2_inb i 0)) numel1_S1x1
  let c0_i32_0 : BitVec 32 := 0#32
  let c0_i32_1 : BitVec 32 := 0#32
  let c0_i32_2 : BitVec 32 := 0#32
  ![arg0.toNat, arg1.toNat, v3.toNat, c0_i32_0.toNat, c0_i32_1.toNat]

def cc0_transform_2 (k0_off3_inb : ∀ i : grid0.Coords, ∀ (r : Fin 2), ∀ a, (k0_off3 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let v2 : Index := Scalar.indexCast v1
  let c2 : Index := 2#32
  let v3 : BitVec 32 := pf.at 0 (Rect.unit (s := S128x16) ![v2.toNat, 2] S1x1.size (k0_off3_inb i 0)) numel1_S1x1
  let c0_i32_0 : BitVec 32 := 0#32
  let c0_i32_1 : BitVec 32 := 0#32
  let c0_i32_2 : BitVec 32 := 0#32
  ![arg0.toNat, arg1.toNat, v3.toNat, c0_i32_0.toNat, c0_i32_1.toNat]

def cc0_transform_3 (k0_off4_inb : ∀ i : grid0.Coords, ∀ (r : Fin 2), ∀ a, (k0_off4 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let v2 : Index := Scalar.indexCast v1
  let c3 : Index := 3#32
  let v3 : BitVec 32 := pf.at 0 (Rect.unit (s := S128x16) ![v2.toNat, 3] S1x1.size (k0_off4_inb i 0)) numel1_S1x1
  let c0_i32_0 : BitVec 32 := 0#32
  let c0_i32_1 : BitVec 32 := 0#32
  let c0_i32_2 : BitVec 32 := 0#32
  ![arg0.toNat, arg1.toNat, v3.toNat, c0_i32_0.toNat, c0_i32_1.toNat]

def cc0_transform_4 (k0_off5_inb : ∀ i : grid0.Coords, ∀ (r : Fin 2), ∀ a, (k0_off5 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let v2 : Index := Scalar.indexCast v1
  let c4 : Index := 4#32
  let v3 : BitVec 32 := pf.at 0 (Rect.unit (s := S128x16) ![v2.toNat, 4] S1x1.size (k0_off5_inb i 0)) numel1_S1x1
  let c0_i32_0 : BitVec 32 := 0#32
  let c0_i32_1 : BitVec 32 := 0#32
  let c0_i32_2 : BitVec 32 := 0#32
  ![arg0.toNat, arg1.toNat, v3.toNat, c0_i32_0.toNat, c0_i32_1.toNat]

def cc0_transform_5 (k0_off6_inb : ∀ i : grid0.Coords, ∀ (r : Fin 2), ∀ a, (k0_off6 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let v2 : Index := Scalar.indexCast v1
  let c5 : Index := 5#32
  let v3 : BitVec 32 := pf.at 0 (Rect.unit (s := S128x16) ![v2.toNat, 5] S1x1.size (k0_off6_inb i 0)) numel1_S1x1
  let c0_i32_0 : BitVec 32 := 0#32
  let c0_i32_1 : BitVec 32 := 0#32
  let c0_i32_2 : BitVec 32 := 0#32
  ![arg0.toNat, arg1.toNat, v3.toNat, c0_i32_0.toNat, c0_i32_1.toNat]

def cc0_transform_6 (k0_off7_inb : ∀ i : grid0.Coords, ∀ (r : Fin 2), ∀ a, (k0_off7 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let v2 : Index := Scalar.indexCast v1
  let c6 : Index := 6#32
  let v3 : BitVec 32 := pf.at 0 (Rect.unit (s := S128x16) ![v2.toNat, 6] S1x1.size (k0_off7_inb i 0)) numel1_S1x1
  let c0_i32_0 : BitVec 32 := 0#32
  let c0_i32_1 : BitVec 32 := 0#32
  let c0_i32_2 : BitVec 32 := 0#32
  ![arg0.toNat, arg1.toNat, v3.toNat, c0_i32_0.toNat, c0_i32_1.toNat]

def cc0_transform_7 (k0_off8_inb : ∀ i : grid0.Coords, ∀ (r : Fin 2), ∀ a, (k0_off8 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let v2 : Index := Scalar.indexCast v1
  let c7 : Index := 7#32
  let v3 : BitVec 32 := pf.at 0 (Rect.unit (s := S128x16) ![v2.toNat, 7] S1x1.size (k0_off8_inb i 0)) numel1_S1x1
  let c0_i32_0 : BitVec 32 := 0#32
  let c0_i32_1 : BitVec 32 := 0#32
  let c0_i32_2 : BitVec 32 := 0#32
  ![arg0.toNat, arg1.toNat, v3.toNat, c0_i32_0.toNat, c0_i32_1.toNat]

def cc0_transform_8 (k0_off9_inb : ∀ i : grid0.Coords, ∀ (r : Fin 2), ∀ a, (k0_off9 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let v2 : Index := Scalar.indexCast v1
  let c8 : Index := 8#32
  let v3 : BitVec 32 := pf.at 0 (Rect.unit (s := S128x16) ![v2.toNat, 8] S1x1.size (k0_off9_inb i 0)) numel1_S1x1
  let c0_i32_0 : BitVec 32 := 0#32
  let c0_i32_1 : BitVec 32 := 0#32
  let c0_i32_2 : BitVec 32 := 0#32
  ![arg0.toNat, arg1.toNat, v3.toNat, c0_i32_0.toNat, c0_i32_1.toNat]

def cc0_transform_9 (k0_off10_inb : ∀ i : grid0.Coords, ∀ (r : Fin 2), ∀ a, (k0_off10 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let v2 : Index := Scalar.indexCast v1
  let c9 : Index := 9#32
  let v3 : BitVec 32 := pf.at 0 (Rect.unit (s := S128x16) ![v2.toNat, 9] S1x1.size (k0_off10_inb i 0)) numel1_S1x1
  let c0_i32_0 : BitVec 32 := 0#32
  let c0_i32_1 : BitVec 32 := 0#32
  let c0_i32_2 : BitVec 32 := 0#32
  ![arg0.toNat, arg1.toNat, v3.toNat, c0_i32_0.toNat, c0_i32_1.toNat]

def cc0_transform_10 (k0_off11_inb : ∀ i : grid0.Coords, ∀ (r : Fin 2), ∀ a, (k0_off11 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let v2 : Index := Scalar.indexCast v1
  let c10 : Index := 10#32
  let v3 : BitVec 32 := pf.at 0 (Rect.unit (s := S128x16) ![v2.toNat, 10] S1x1.size (k0_off11_inb i 0)) numel1_S1x1
  let c0_i32_0 : BitVec 32 := 0#32
  let c0_i32_1 : BitVec 32 := 0#32
  let c0_i32_2 : BitVec 32 := 0#32
  ![arg0.toNat, arg1.toNat, v3.toNat, c0_i32_0.toNat, c0_i32_1.toNat]

def cc0_transform_11 (k0_off12_inb : ∀ i : grid0.Coords, ∀ (r : Fin 2), ∀ a, (k0_off12 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let v2 : Index := Scalar.indexCast v1
  let c11 : Index := 11#32
  let v3 : BitVec 32 := pf.at 0 (Rect.unit (s := S128x16) ![v2.toNat, 11] S1x1.size (k0_off12_inb i 0)) numel1_S1x1
  let c0_i32_0 : BitVec 32 := 0#32
  let c0_i32_1 : BitVec 32 := 0#32
  let c0_i32_2 : BitVec 32 := 0#32
  ![arg0.toNat, arg1.toNat, v3.toNat, c0_i32_0.toNat, c0_i32_1.toNat]

def cc0_transform_12 (k0_off13_inb : ∀ i : grid0.Coords, ∀ (r : Fin 2), ∀ a, (k0_off13 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let v2 : Index := Scalar.indexCast v1
  let c12 : Index := 12#32
  let v3 : BitVec 32 := pf.at 0 (Rect.unit (s := S128x16) ![v2.toNat, 12] S1x1.size (k0_off13_inb i 0)) numel1_S1x1
  let c0_i32_0 : BitVec 32 := 0#32
  let c0_i32_1 : BitVec 32 := 0#32
  let c0_i32_2 : BitVec 32 := 0#32
  ![arg0.toNat, arg1.toNat, v3.toNat, c0_i32_0.toNat, c0_i32_1.toNat]

def cc0_transform_13 (k0_off14_inb : ∀ i : grid0.Coords, ∀ (r : Fin 2), ∀ a, (k0_off14 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let v2 : Index := Scalar.indexCast v1
  let c13 : Index := 13#32
  let v3 : BitVec 32 := pf.at 0 (Rect.unit (s := S128x16) ![v2.toNat, 13] S1x1.size (k0_off14_inb i 0)) numel1_S1x1
  let c0_i32_0 : BitVec 32 := 0#32
  let c0_i32_1 : BitVec 32 := 0#32
  let c0_i32_2 : BitVec 32 := 0#32
  ![arg0.toNat, arg1.toNat, v3.toNat, c0_i32_0.toNat, c0_i32_1.toNat]

def cc0_transform_14 (k0_off15_inb : ∀ i : grid0.Coords, ∀ (r : Fin 2), ∀ a, (k0_off15 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let v2 : Index := Scalar.indexCast v1
  let c14 : Index := 14#32
  let v3 : BitVec 32 := pf.at 0 (Rect.unit (s := S128x16) ![v2.toNat, 14] S1x1.size (k0_off15_inb i 0)) numel1_S1x1
  let c0_i32_0 : BitVec 32 := 0#32
  let c0_i32_1 : BitVec 32 := 0#32
  let c0_i32_2 : BitVec 32 := 0#32
  ![arg0.toNat, arg1.toNat, v3.toNat, c0_i32_0.toNat, c0_i32_1.toNat]

def cc0_transform_15 (k0_off16_inb : ∀ i : grid0.Coords, ∀ (r : Fin 2), ∀ a, (k0_off16 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let v2 : Index := Scalar.indexCast v1
  let c15 : Index := 15#32
  let v3 : BitVec 32 := pf.at 0 (Rect.unit (s := S128x16) ![v2.toNat, 15] S1x1.size (k0_off16_inb i 0)) numel1_S1x1
  let c0_i32_0 : BitVec 32 := 0#32
  let c0_i32_1 : BitVec 32 := 0#32
  let c0_i32_2 : BitVec 32 := 0#32
  ![arg0.toNat, arg1.toNat, v3.toNat, c0_i32_0.toNat, c0_i32_1.toNat]

def cc0_transform_16 (k0_off1_inb : ∀ i : grid0.Coords, ∀ (r : Fin 2), ∀ a, (k0_off1 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let v2 : Index := Scalar.indexCast v1
  let c0 : Index := 0#32
  let v3 : BitVec 32 := pf.at 0 (Rect.unit (s := S128x16) ![v2.toNat, 0] S1x1.size (k0_off1_inb i 1)) numel1_S1x1
  let c0_i32 : BitVec 32 := 0#32
  let c0_i32_0 : BitVec 32 := 0#32
  let c0_i32_1 : BitVec 32 := 0#32
  ![arg0.toNat, arg1.toNat, v3.toNat, c0_i32.toNat, c0_i32_0.toNat]

def cc0_transform_17 (k0_off2_inb : ∀ i : grid0.Coords, ∀ (r : Fin 2), ∀ a, (k0_off2 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let v2 : Index := Scalar.indexCast v1
  let c1 : Index := 1#32
  let v3 : BitVec 32 := pf.at 0 (Rect.unit (s := S128x16) ![v2.toNat, 1] S1x1.size (k0_off2_inb i 1)) numel1_S1x1
  let c0_i32 : BitVec 32 := 0#32
  let c0_i32_0 : BitVec 32 := 0#32
  let c0_i32_1 : BitVec 32 := 0#32
  ![arg0.toNat, arg1.toNat, v3.toNat, c0_i32.toNat, c0_i32_0.toNat]

def cc0_transform_18 (k0_off3_inb : ∀ i : grid0.Coords, ∀ (r : Fin 2), ∀ a, (k0_off3 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let v2 : Index := Scalar.indexCast v1
  let c2 : Index := 2#32
  let v3 : BitVec 32 := pf.at 0 (Rect.unit (s := S128x16) ![v2.toNat, 2] S1x1.size (k0_off3_inb i 1)) numel1_S1x1
  let c0_i32 : BitVec 32 := 0#32
  let c0_i32_0 : BitVec 32 := 0#32
  let c0_i32_1 : BitVec 32 := 0#32
  ![arg0.toNat, arg1.toNat, v3.toNat, c0_i32.toNat, c0_i32_0.toNat]

def cc0_transform_19 (k0_off4_inb : ∀ i : grid0.Coords, ∀ (r : Fin 2), ∀ a, (k0_off4 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let v2 : Index := Scalar.indexCast v1
  let c3 : Index := 3#32
  let v3 : BitVec 32 := pf.at 0 (Rect.unit (s := S128x16) ![v2.toNat, 3] S1x1.size (k0_off4_inb i 1)) numel1_S1x1
  let c0_i32 : BitVec 32 := 0#32
  let c0_i32_0 : BitVec 32 := 0#32
  let c0_i32_1 : BitVec 32 := 0#32
  ![arg0.toNat, arg1.toNat, v3.toNat, c0_i32.toNat, c0_i32_0.toNat]

def cc0_transform_20 (k0_off5_inb : ∀ i : grid0.Coords, ∀ (r : Fin 2), ∀ a, (k0_off5 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let v2 : Index := Scalar.indexCast v1
  let c4 : Index := 4#32
  let v3 : BitVec 32 := pf.at 0 (Rect.unit (s := S128x16) ![v2.toNat, 4] S1x1.size (k0_off5_inb i 1)) numel1_S1x1
  let c0_i32 : BitVec 32 := 0#32
  let c0_i32_0 : BitVec 32 := 0#32
  let c0_i32_1 : BitVec 32 := 0#32
  ![arg0.toNat, arg1.toNat, v3.toNat, c0_i32.toNat, c0_i32_0.toNat]

def cc0_transform_21 (k0_off6_inb : ∀ i : grid0.Coords, ∀ (r : Fin 2), ∀ a, (k0_off6 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let v2 : Index := Scalar.indexCast v1
  let c5 : Index := 5#32
  let v3 : BitVec 32 := pf.at 0 (Rect.unit (s := S128x16) ![v2.toNat, 5] S1x1.size (k0_off6_inb i 1)) numel1_S1x1
  let c0_i32 : BitVec 32 := 0#32
  let c0_i32_0 : BitVec 32 := 0#32
  let c0_i32_1 : BitVec 32 := 0#32
  ![arg0.toNat, arg1.toNat, v3.toNat, c0_i32.toNat, c0_i32_0.toNat]

def cc0_transform_22 (k0_off7_inb : ∀ i : grid0.Coords, ∀ (r : Fin 2), ∀ a, (k0_off7 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let v2 : Index := Scalar.indexCast v1
  let c6 : Index := 6#32
  let v3 : BitVec 32 := pf.at 0 (Rect.unit (s := S128x16) ![v2.toNat, 6] S1x1.size (k0_off7_inb i 1)) numel1_S1x1
  let c0_i32 : BitVec 32 := 0#32
  let c0_i32_0 : BitVec 32 := 0#32
  let c0_i32_1 : BitVec 32 := 0#32
  ![arg0.toNat, arg1.toNat, v3.toNat, c0_i32.toNat, c0_i32_0.toNat]

def cc0_transform_23 (k0_off8_inb : ∀ i : grid0.Coords, ∀ (r : Fin 2), ∀ a, (k0_off8 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let v2 : Index := Scalar.indexCast v1
  let c7 : Index := 7#32
  let v3 : BitVec 32 := pf.at 0 (Rect.unit (s := S128x16) ![v2.toNat, 7] S1x1.size (k0_off8_inb i 1)) numel1_S1x1
  let c0_i32 : BitVec 32 := 0#32
  let c0_i32_0 : BitVec 32 := 0#32
  let c0_i32_1 : BitVec 32 := 0#32
  ![arg0.toNat, arg1.toNat, v3.toNat, c0_i32.toNat, c0_i32_0.toNat]

def cc0_transform_24 (k0_off9_inb : ∀ i : grid0.Coords, ∀ (r : Fin 2), ∀ a, (k0_off9 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let v2 : Index := Scalar.indexCast v1
  let c8 : Index := 8#32
  let v3 : BitVec 32 := pf.at 0 (Rect.unit (s := S128x16) ![v2.toNat, 8] S1x1.size (k0_off9_inb i 1)) numel1_S1x1
  let c0_i32 : BitVec 32 := 0#32
  let c0_i32_0 : BitVec 32 := 0#32
  let c0_i32_1 : BitVec 32 := 0#32
  ![arg0.toNat, arg1.toNat, v3.toNat, c0_i32.toNat, c0_i32_0.toNat]

def cc0_transform_25 (k0_off10_inb : ∀ i : grid0.Coords, ∀ (r : Fin 2), ∀ a, (k0_off10 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let v2 : Index := Scalar.indexCast v1
  let c9 : Index := 9#32
  let v3 : BitVec 32 := pf.at 0 (Rect.unit (s := S128x16) ![v2.toNat, 9] S1x1.size (k0_off10_inb i 1)) numel1_S1x1
  let c0_i32 : BitVec 32 := 0#32
  let c0_i32_0 : BitVec 32 := 0#32
  let c0_i32_1 : BitVec 32 := 0#32
  ![arg0.toNat, arg1.toNat, v3.toNat, c0_i32.toNat, c0_i32_0.toNat]

def cc0_transform_26 (k0_off11_inb : ∀ i : grid0.Coords, ∀ (r : Fin 2), ∀ a, (k0_off11 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let v2 : Index := Scalar.indexCast v1
  let c10 : Index := 10#32
  let v3 : BitVec 32 := pf.at 0 (Rect.unit (s := S128x16) ![v2.toNat, 10] S1x1.size (k0_off11_inb i 1)) numel1_S1x1
  let c0_i32 : BitVec 32 := 0#32
  let c0_i32_0 : BitVec 32 := 0#32
  let c0_i32_1 : BitVec 32 := 0#32
  ![arg0.toNat, arg1.toNat, v3.toNat, c0_i32.toNat, c0_i32_0.toNat]

def cc0_transform_27 (k0_off12_inb : ∀ i : grid0.Coords, ∀ (r : Fin 2), ∀ a, (k0_off12 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let v2 : Index := Scalar.indexCast v1
  let c11 : Index := 11#32
  let v3 : BitVec 32 := pf.at 0 (Rect.unit (s := S128x16) ![v2.toNat, 11] S1x1.size (k0_off12_inb i 1)) numel1_S1x1
  let c0_i32 : BitVec 32 := 0#32
  let c0_i32_0 : BitVec 32 := 0#32
  let c0_i32_1 : BitVec 32 := 0#32
  ![arg0.toNat, arg1.toNat, v3.toNat, c0_i32.toNat, c0_i32_0.toNat]

def cc0_transform_28 (k0_off13_inb : ∀ i : grid0.Coords, ∀ (r : Fin 2), ∀ a, (k0_off13 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let v2 : Index := Scalar.indexCast v1
  let c12 : Index := 12#32
  let v3 : BitVec 32 := pf.at 0 (Rect.unit (s := S128x16) ![v2.toNat, 12] S1x1.size (k0_off13_inb i 1)) numel1_S1x1
  let c0_i32 : BitVec 32 := 0#32
  let c0_i32_0 : BitVec 32 := 0#32
  let c0_i32_1 : BitVec 32 := 0#32
  ![arg0.toNat, arg1.toNat, v3.toNat, c0_i32.toNat, c0_i32_0.toNat]

def cc0_transform_29 (k0_off14_inb : ∀ i : grid0.Coords, ∀ (r : Fin 2), ∀ a, (k0_off14 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let v2 : Index := Scalar.indexCast v1
  let c13 : Index := 13#32
  let v3 : BitVec 32 := pf.at 0 (Rect.unit (s := S128x16) ![v2.toNat, 13] S1x1.size (k0_off14_inb i 1)) numel1_S1x1
  let c0_i32 : BitVec 32 := 0#32
  let c0_i32_0 : BitVec 32 := 0#32
  let c0_i32_1 : BitVec 32 := 0#32
  ![arg0.toNat, arg1.toNat, v3.toNat, c0_i32.toNat, c0_i32_0.toNat]

def cc0_transform_30 (k0_off15_inb : ∀ i : grid0.Coords, ∀ (r : Fin 2), ∀ a, (k0_off15 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let v2 : Index := Scalar.indexCast v1
  let c14 : Index := 14#32
  let v3 : BitVec 32 := pf.at 0 (Rect.unit (s := S128x16) ![v2.toNat, 14] S1x1.size (k0_off15_inb i 1)) numel1_S1x1
  let c0_i32 : BitVec 32 := 0#32
  let c0_i32_0 : BitVec 32 := 0#32
  let c0_i32_1 : BitVec 32 := 0#32
  ![arg0.toNat, arg1.toNat, v3.toNat, c0_i32.toNat, c0_i32_0.toNat]

def cc0_transform_31 (k0_off16_inb : ∀ i : grid0.Coords, ∀ (r : Fin 2), ∀ a, (k0_off16 i (BitVec.ofNat 32 r.val)) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let v2 : Index := Scalar.indexCast v1
  let c15 : Index := 15#32
  let v3 : BitVec 32 := pf.at 0 (Rect.unit (s := S128x16) ![v2.toNat, 15] S1x1.size (k0_off16_inb i 1)) numel1_S1x1
  let c0_i32 : BitVec 32 := 0#32
  let c0_i32_0 : BitVec 32 := 0#32
  let c0_i32_1 : BitVec 32 := 0#32
  ![arg0.toNat, arg1.toNat, v3.toNat, c0_i32.toNat, c0_i32_0.toNat]

def cc0_transform_32 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_33 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_34 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_35 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_36 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

abbrev stage0_0 : Fin 2 → Memref sig .tc .vmem S1x1x1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1x1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x1x1x8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x1x1x8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x1x1x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x1x1x8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 2 → Memref sig .tc .vmem S1x1x1x8x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]

abbrev stage0_19 : Fin 2 → Memref sig .tc .vmem S1x1x1x8x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev stage0_20 : Fin 2 → Memref sig .tc .vmem S1x1x1x8x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, true]

abbrev stage0_21 : Fin 2 → Memref sig .tc .vmem S1x1x1x8x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true, true]

abbrev stage0_22 : Fin 2 → Memref sig .tc .vmem S1x1x1x8x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true, true]

abbrev stage0_23 : Fin 2 → Memref sig .tc .vmem S1x1x1x8x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true, true]

abbrev stage0_24 : Fin 2 → Memref sig .tc .vmem S1x1x1x8x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true, true]

abbrev stage0_25 : Fin 2 → Memref sig .tc .vmem S1x1x1x8x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true, true]

abbrev stage0_26 : Fin 2 → Memref sig .tc .vmem S1x1x1x8x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true, true]

abbrev stage0_27 : Fin 2 → Memref sig .tc .vmem S1x1x1x8x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true, true]

abbrev stage0_28 : Fin 2 → Memref sig .tc .vmem S1x1x1x8x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true, true]

abbrev stage0_29 : Fin 2 → Memref sig .tc .vmem S1x1x1x8x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true, true]

abbrev stage0_30 : Fin 2 → Memref sig .tc .vmem S1x1x1x8x1024 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true, true]

abbrev stage0_31 : Fin 2 → Memref sig .tc .vmem S1x1x1x8x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true, true]

abbrev stage0_32 : Fin 2 → Memref sig .tc .vmem S1x1024x256 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, false, false]

abbrev stage0_33 : Fin 2 → Memref sig .tc .vmem S1x1x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, false, false]

abbrev stage0_34 : Fin 2 → Memref sig .tc .vmem S1x128x128 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true, false, false]

abbrev stage0_35 : Fin 2 → Memref sig .tc .vmem S1x1x128 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true, false, false]

abbrev stage0_36 : Fin 2 → Memref sig .tc .vmem S1x2x1x128x128 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true, true, true]
-- ==== CompressPagesRefIdeal.lean ====
abbrev S2560x128x2x4x64 : Shape := ⟨5, ![2560, 128, 2, 4, 64]⟩
abbrev S128x16 : Shape := ⟨2, ![128, 16]⟩
abbrev S2x2048x128 : Shape := ⟨3, ![2, 2048, 128]⟩
abbrev S2x1x128 : Shape := ⟨3, ![2, 1, 128]⟩
abbrev S2x128x64 : Shape := ⟨3, ![2, 128, 64]⟩
abbrev S2x64 : Shape := ⟨2, ![2, 64]⟩
abbrev S_ : Shape := ⟨0, ![]⟩
abbrev S128x16x1 : Shape := ⟨3, ![128, 16, 1]⟩
abbrev S128x16x128x2x4x64 : Shape := ⟨6, ![128, 16, 128, 2, 4, 64]⟩
abbrev S128x128x16x2x4x64 : Shape := ⟨6, ![128, 128, 16, 2, 4, 64]⟩
abbrev S128x127x16x2x4x64 : Shape := ⟨6, ![128, 127, 16, 2, 4, 64]⟩
abbrev S128x127x32x2x4x64 : Shape := ⟨6, ![128, 127, 32, 2, 4, 64]⟩
abbrev S2x128x4x127x32x64 : Shape := ⟨6, ![2, 128, 4, 127, 32, 64]⟩
abbrev S2x128x4x127x2048 : Shape := ⟨5, ![2, 128, 4, 127, 2048]⟩
abbrev S2x128x4x127x128 : Shape := ⟨5, ![2, 128, 4, 127, 128]⟩
abbrev S2x1x1x1x128 : Shape := ⟨5, ![2, 1, 1, 1, 128]⟩
abbrev S2x128x4x127x64 : Shape := ⟨5, ![2, 128, 4, 127, 64]⟩
abbrev S2x1x1x1x64 : Shape := ⟨5, ![2, 1, 1, 1, 64]⟩

abbrev nBuf : Space → Nat
  | .hbm => 39
  | .vmem => 0
  | .smem => 0
  | _ => 0

abbrev bufTy : (tb : Table) → Fin (tcTables nBuf tb) → BufTy
  | .hbm, ⟨0, _⟩ => ⟨S2560x128x2x4x64, .f32⟩
  | .hbm, ⟨1, _⟩ => ⟨S128x16, .i32⟩
  | .hbm, ⟨2, _⟩ => ⟨S2x2048x128, .f32⟩
  | .hbm, ⟨3, _⟩ => ⟨S2x1x128, .f32⟩
  | .hbm, ⟨4, _⟩ => ⟨S2x128x64, .f32⟩
  | .hbm, ⟨5, _⟩ => ⟨S2x64, .f32⟩
  | .hbm, ⟨6, _⟩ => ⟨S_, .i32⟩
  | .hbm, ⟨7, _⟩ => ⟨S128x16, .i32⟩
  | .hbm, ⟨8, _⟩ => ⟨S128x16, .i1⟩
  | .hbm, ⟨9, _⟩ => ⟨S_, .i32⟩
  | .hbm, ⟨10, _⟩ => ⟨S128x16, .i32⟩
  | .hbm, ⟨11, _⟩ => ⟨S128x16, .i32⟩
  | .hbm, ⟨12, _⟩ => ⟨S128x16, .i32⟩
  | .hbm, ⟨13, _⟩ => ⟨S128x16x1, .i32⟩
  | .hbm, ⟨14, _⟩ => ⟨S128x16x128x2x4x64, .f32⟩
  | .hbm, ⟨15, _⟩ => ⟨S128x128x16x2x4x64, .f32⟩
  | .hbm, ⟨16, _⟩ => ⟨S128x127x16x2x4x64, .f32⟩
  | .hbm, ⟨17, _⟩ => ⟨S128x127x16x2x4x64, .f32⟩
  | .hbm, ⟨18, _⟩ => ⟨S128x127x32x2x4x64, .f32⟩
  | .hbm, ⟨19, _⟩ => ⟨S2x128x4x127x32x64, .f32⟩
  | .hbm, ⟨20, _⟩ => ⟨S2x128x4x127x2048, .f32⟩
  | .hbm, ⟨21, _⟩ => ⟨S2x128x4x127x128, .f32⟩
  | .hbm, ⟨22, _⟩ => ⟨S2x1x1x1x128, .f32⟩
  | .hbm, ⟨23, _⟩ => ⟨S2x128x4x127x128, .f32⟩
  | .hbm, ⟨24, _⟩ => ⟨S2x128x4x127x128, .f32⟩
  | .hbm, ⟨25, _⟩ => ⟨S2x128x4x127x128, .f32⟩
  | .hbm, ⟨26, _⟩ => ⟨S2x128x4x127x128, .f32⟩
  | .hbm, ⟨27, _⟩ => ⟨S_, .f32⟩
  | .hbm, ⟨28, _⟩ => ⟨S2x128x4x127x128, .f32⟩
  | .hbm, ⟨29, _⟩ => ⟨S2x128x4x127x128, .f32⟩
  | .hbm, ⟨30, _⟩ => ⟨S_, .f32⟩
  | .hbm, ⟨31, _⟩ => ⟨S2x128x4x127x128, .f32⟩
  | .hbm, ⟨32, _⟩ => ⟨S2x128x4x127x128, .f32⟩
  | .hbm, ⟨33, _⟩ => ⟨S2x128x4x127x128, .f32⟩
  | .hbm, ⟨34, _⟩ => ⟨S2x128x4x127x64, .f32⟩
  | .hbm, ⟨35, _⟩ => ⟨S2x1x1x1x64, .f32⟩
  | .hbm, ⟨36, _⟩ => ⟨S2x128x4x127x64, .f32⟩
  | .hbm, ⟨37, _⟩ => ⟨S2x128x4x127x64, .f32⟩
  | .hbm, ⟨38, _⟩ => ⟨S2x128x4x127x128, .f32⟩
  | _, _ => ⟨S2560x128x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Proof.Range.lean ====
/- The precondition, element by element: each word of the expert table is below 128. -/
module

public import proofs.«01_k».proof.Proof.Gen.Pre_expert_in_range
public import Idealize.ShloMosaic.Lib.ReduceAll

@[expose] public section

namespace Cert.Pre_expert_in_range

open Idealize.ShloMosaic Facts

instance scalar_subsingleton : Subsingleton S_.Idx := ⟨fun a b => funext fun x => absurd x.isLt (by simp)⟩

/-- A word that is at least 0 and less than 128 as a signed number is less than 128 as an unsigned one. -/
theorem word_lt (w : BitVec 32) (h0 : IntOp.cmpi .sge w 0#32 = 1#1) (h1 : IntOp.cmpi .slt w 128#32 = 1#1) : w.toNat < 128 := by
  simp only [IntOp.cmpi, BitVec.sle, BitVec.slt] at h0 h1
  have a0 : (0#32).toInt ≤ w.toInt := by
    by_contra h; rw [decide_eq_false h] at h0; exact absurd h0 (by decide)
  have a1 : w.toInt < (128#32).toInt := by
    by_contra h; rw [decide_eq_false h] at h1; exact absurd h1 (by decide)
  have e0 : (0#32).toInt = 0 := by decide
  have e1 : (128#32).toInt = 128 := by decide
  rw [e0] at a0; rw [e1] at a1
  rw [BitVec.toInt_eq_toNat_cond] at a0 a1
  have := w.isLt
  split at a0 <;> omega

/-- Where the precondition is one, every expert word is below 128. -/
theorem expert_lt [Facts] {F : FTy → Type} [FloatOps F] (x0 : IVec S77824x512 32) (x1 : IVec S304 32) (x2 : IVec S1 32)
    (x3 x4 : FVec F S128x1024x1024 .bf16) (x5 x6 : FVec F S128x1x1024 .f32) (x7 : FVec F S128x1024x1024 .f32) (x8 : FVec F S128x1x1024 .f32)
    (h : fn (F := F) x0 x1 x2 x3 x4 x5 x6 x7 x8 = fun _ => 1#1) (b : S304.Idx) : (x1 b).toNat < 128 := by
  have e := congrFun h (fun a => absurd a.isLt (by simp))
  have k := Host.reduce_andi_all _ _ reducesTo_S304_S_d0 h_S_ _ e b
  have two : ∀ p q : BitVec 1, IntOp.andi p q = 1#1 → p = 1#1 ∧ q = 1#1 := by decide
  obtain ⟨k0, k1⟩ := two _ _ k
  exact word_lt _ k0 k1

end Cert.Pre_expert_in_range
-- ==== Proof.MoeTables.lean ====
/- The feed-forward call on its routed rows: its run-time tables, and the blocks they choose. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The run-time words one call is made with: a block's expert, each below the layers' 128, and how many blocks are valid. -/
structure Tables where
  experts : S304.Idx → BitVec 32
  valid : S1.Idx → BitVec 32
  lt : ∀ x, (experts x).toNat < 128

/-- The two prefetched tables, whole. -/
abbrev tb0 : Memref sig .tc .smem S304 .i32 := Memref.whole main_arg1
abbrev tb1 : Memref sig .tc .smem S1 .i32 := Memref.whole main_arg2

/-- The tables' contents. -/
def contents (T : Tables) : pre0.Contents (Elt Ideal) := fun | ⟨0, _⟩ => T.experts | ⟨1, _⟩ => T.valid | ⟨_ + 2, h⟩ => absurd h (by simp)

/-- A block whose leading index is below 128 lies inside the leading axis. -/
theorem block_lead {n : ℕ} (h : n < 128) : (n + 1) * 1 ≤ 128 := by omega

/-- The memory holds the words `T` in its tables. -/
def Holds (T : Tables) (m : (ℓ : Loc nD τ sig) → Buf (Elt Ideal) ℓ) : Prop :=
  (∀ c : Dev nD, m ((c : Thread nD τ).loc main_arg1) = T.experts) ∧ (∀ c : Dev nD, m ((c : Thread nD τ).loc main_arg2) = T.valid)

/-- Window 1's blocks lie inside its array, whole words at a time. -/
theorem ok_win1 (T : Tables) : ∀ i : grid0.Coords, ∃ h : (∀ a, (cc0_transform_1 k0_off1_inb numel1_S1 (contents T) i a + 1) * S1x1024x1024.size a ≤ S128x1024x1024.size a),
    EltTy.bits .bf16 = 32 ∨ (Rect.block (s := S128x1024x1024) S1x1024x1024.size (cc0_transform_1 k0_off1_inb numel1_S1 (contents T) i) h).WholeWords (EltTy.packing .bf16) := fun i =>
  ⟨fun a => by
    match a with
    | ⟨0, _⟩ => exact block_lead (T.lt _)
    | ⟨1, _⟩ => exact Nat.le_refl _
    | ⟨2, _⟩ => exact Nat.le_refl _
    | ⟨_ + 3, h⟩ => exact absurd h (by simp), .inr (Affine.block_words_dvd (s := S128x1024x1024) (p := EltTy.packing .bf16) (by decide) (by decide))⟩

/-- Window 2's blocks lie inside its array, whole words at a time. -/
theorem ok_win2 (T : Tables) : ∀ i : grid0.Coords, ∃ h : (∀ a, (cc0_transform_2 k0_off1_inb numel1_S1 (contents T) i a + 1) * S1x1024x1024.size a ≤ S128x1024x1024.size a),
    EltTy.bits .bf16 = 32 ∨ (Rect.block (s := S128x1024x1024) S1x1024x1024.size (cc0_transform_2 k0_off1_inb numel1_S1 (contents T) i) h).WholeWords (EltTy.packing .bf16) := fun i =>
  ⟨fun a => by
    match a with
    | ⟨0, _⟩ => exact block_lead (T.lt _)
    | ⟨1, _⟩ => exact Nat.le_refl _
    | ⟨2, _⟩ => exact Nat.le_refl _
    | ⟨_ + 3, h⟩ => exact absurd h (by simp), .inr (Affine.block_words_dvd (s := S128x1024x1024) (p := EltTy.packing .bf16) (by decide) (by decide))⟩

/-- Window 3's blocks lie inside its array, whole words at a time. -/
theorem ok_win3 (T : Tables) : ∀ i : grid0.Coords, ∃ h : (∀ a, (cc0_transform_3 k0_off1_inb numel1_S1 (contents T) i a + 1) * S1x1x1024.size a ≤ S128x1x1024.size a),
    EltTy.bits .f32 = 32 ∨ (Rect.block (s := S128x1x1024) S1x1x1024.size (cc0_transform_3 k0_off1_inb numel1_S1 (contents T) i) h).WholeWords (EltTy.packing .f32) := fun i =>
  ⟨fun a => by
    match a with
    | ⟨0, _⟩ => exact block_lead (T.lt _)
    | ⟨1, _⟩ => exact Nat.le_refl _
    | ⟨2, _⟩ => exact Nat.le_refl _
    | ⟨_ + 3, h⟩ => exact absurd h (by simp), .inl rfl⟩

/-- Window 4's blocks lie inside its array, whole words at a time. -/
theorem ok_win4 (T : Tables) : ∀ i : grid0.Coords, ∃ h : (∀ a, (cc0_transform_4 k0_off1_inb numel1_S1 (contents T) i a + 1) * S1x1x1024.size a ≤ S128x1x1024.size a),
    EltTy.bits .f32 = 32 ∨ (Rect.block (s := S128x1x1024) S1x1x1024.size (cc0_transform_4 k0_off1_inb numel1_S1 (contents T) i) h).WholeWords (EltTy.packing .f32) := fun i =>
  ⟨fun a => by
    match a with
    | ⟨0, _⟩ => exact block_lead (T.lt _)
    | ⟨1, _⟩ => exact Nat.le_refl _
    | ⟨2, _⟩ => exact Nat.le_refl _
    | ⟨_ + 3, h⟩ => exact absurd h (by simp), .inl rfl⟩

/-- Window 5's blocks lie inside its array, whole words at a time. -/
theorem ok_win5 (T : Tables) : ∀ i : grid0.Coords, ∃ h : (∀ a, (cc0_transform_5 k0_off1_inb numel1_S1 (contents T) i a + 1) * S1x1024x1024.size a ≤ S128x1024x1024.size a),
    EltTy.bits .f32 = 32 ∨ (Rect.block (s := S128x1024x1024) S1x1024x1024.size (cc0_transform_5 k0_off1_inb numel1_S1 (contents T) i) h).WholeWords (EltTy.packing .f32) := fun i =>
  ⟨fun a => by
    match a with
    | ⟨0, _⟩ => exact block_lead (T.lt _)
    | ⟨1, _⟩ => exact Nat.le_refl _
    | ⟨2, _⟩ => exact Nat.le_refl _
    | ⟨_ + 3, h⟩ => exact absurd h (by simp), .inl rfl⟩

/-- Window 6's blocks lie inside its array, whole words at a time. -/
theorem ok_win6 (T : Tables) : ∀ i : grid0.Coords, ∃ h : (∀ a, (cc0_transform_6 k0_off1_inb numel1_S1 (contents T) i a + 1) * S1x1x1024.size a ≤ S128x1x1024.size a),
    EltTy.bits .f32 = 32 ∨ (Rect.block (s := S128x1x1024) S1x1x1024.size (cc0_transform_6 k0_off1_inb numel1_S1 (contents T) i) h).WholeWords (EltTy.packing .f32) := fun i =>
  ⟨fun a => by
    match a with
    | ⟨0, _⟩ => exact block_lead (T.lt _)
    | ⟨1, _⟩ => exact Nat.le_refl _
    | ⟨2, _⟩ => exact Nat.le_refl _
    | ⟨_ + 3, h⟩ => exact absurd h (by simp), .inl rfl⟩

/-- The launch's side condition on its tables. -/
theorem ok_contents (T : Tables) : ok0 (F := Ideal) (contents T) :=
  ⟨ok_win1 T, ok_win2 T, ok_win3 T, ok_win4 T, ok_win5 T, ok_win6 T⟩

/-- Exactly one of the body's two branches is taken. -/
theorem branch (i : grid0.Coords) (v : BitVec 32) : k0_cond2 i v = 1#1 ↔ ¬ k0_cond1 i v = 1#1 := by
  simp only [k0_cond1, k0_cond2, Scalar.cmpi, Scalar.extui, IntOp.cmpi]
  generalize BitVec.ofNat 32 (i 0).val = a
  unfold BitVec.sle BitVec.slt
  by_cases h : a.toInt < v.toInt
  · rw [decide_eq_true h, decide_eq_false (not_le.2 h)]; decide
  · rw [decide_eq_false h, decide_eq_true (not_lt.1 h)]; decide

/-- The contents the launch runs at, and the pipeline at them. -/
def adm (T : Tables) : (pcfg0 (F := Ideal)).Adm := ⟨contents T, ok_contents T⟩
abbrev cfgA (T : Tables) : Pipeline.Cfg sig Λ₀ := cfg0 (F := Ideal) (adm T)
abbrev pcs (T : Tables) : Fin 1 → Pipeline.Cfg sig Λ₀ := Pipeline.pin (pcfgs (F := Ideal)) fun _ => adm T

/-- Point `t`'s coordinates. -/
abbrev crd (T : Tables) (t : Fin (cfgA T).N) : (cfgA T).grid.Coords := (cfgA T).grid.coords t

/-- No point leaves the result's block as it was. -/
theorem never_idle (T : Tables) (i : grid0.Coords) : (cfgA T).idle (7 : Fin 8) i = false := by
  show (!(k0_cond1 i ((contents T).atD 1 ![0]) == 1#1) && !(k0_cond2 i ((contents T).atD 1 ![0]) == 1#1)) = false
  have h := branch i ((contents T).atD 1 ![0])
  by_cases h1 : k0_cond1 i ((contents T).atD 1 ![0]) = 1#1
  · rw [h1]; rfl
  · rw [h.2 h1]; exact Bool.and_false _

/-! ## A point's staging buffers and blocks -/

abbrev st0 (T : Tables) (t : Fin (cfgA T).N) : Memref sig .tc .vmem S256x512 .i32 := spec0_0.stage ((cfgA T).slots t (0 : Fin 8))
abbrev sw0 (T : Tables) (t : Fin (cfgA T).N) : (st0 T t).IsWhole := hstage0_0 (((cfgA T).slots t (0 : Fin 8)).cast nbuf0_0)
abbrev st1 (T : Tables) (t : Fin (cfgA T).N) : Memref sig .tc .vmem S1x1024x1024 .bf16 := spec0_1.stage ((cfgA T).slots t (1 : Fin 8))
abbrev sw1 (T : Tables) (t : Fin (cfgA T).N) : (st1 T t).IsWhole := hstage0_1 (((cfgA T).slots t (1 : Fin 8)).cast nbuf0_1)
abbrev st2 (T : Tables) (t : Fin (cfgA T).N) : Memref sig .tc .vmem S1x1024x1024 .bf16 := spec0_2.stage ((cfgA T).slots t (2 : Fin 8))
abbrev sw2 (T : Tables) (t : Fin (cfgA T).N) : (st2 T t).IsWhole := hstage0_2 (((cfgA T).slots t (2 : Fin 8)).cast nbuf0_2)
abbrev st3 (T : Tables) (t : Fin (cfgA T).N) : Memref sig .tc .vmem S1x1x1024 .f32 := spec0_3.stage ((cfgA T).slots t (3 : Fin 8))
abbrev sw3 (T : Tables) (t : Fin (cfgA T).N) : (st3 T t).IsWhole := hstage0_3 (((cfgA T).slots t (3 : Fin 8)).cast nbuf0_3)
abbrev st4 (T : Tables) (t : Fin (cfgA T).N) : Memref sig .tc .vmem S1x1x1024 .f32 := spec0_4.stage ((cfgA T).slots t (4 : Fin 8))
abbrev sw4 (T : Tables) (t : Fin (cfgA T).N) : (st4 T t).IsWhole := hstage0_4 (((cfgA T).slots t (4 : Fin 8)).cast nbuf0_4)
abbrev st5 (T : Tables) (t : Fin (cfgA T).N) : Memref sig .tc .vmem S1x1024x1024 .f32 := spec0_5.stage ((cfgA T).slots t (5 : Fin 8))
abbrev sw5 (T : Tables) (t : Fin (cfgA T).N) : (st5 T t).IsWhole := hstage0_5 (((cfgA T).slots t (5 : Fin 8)).cast nbuf0_5)
abbrev st6 (T : Tables) (t : Fin (cfgA T).N) : Memref sig .tc .vmem S1x1x1024 .f32 := spec0_6.stage ((cfgA T).slots t (6 : Fin 8))
abbrev sw6 (T : Tables) (t : Fin (cfgA T).N) : (st6 T t).IsWhole := hstage0_6 (((cfgA T).slots t (6 : Fin 8)).cast nbuf0_6)
abbrev st7 (T : Tables) (t : Fin (cfgA T).N) : Memref sig .tc .vmem S256x1024 .f32 := spec0_7.stage ((cfgA T).slots t (7 : Fin 8))
abbrev sw7 (T : Tables) (t : Fin (cfgA T).N) : (st7 T t).IsWhole := hstage0_7 (((cfgA T).slots t (7 : Fin 8)).cast nbuf0_7)

variable (T : Tables) (m : (ℓ : Loc nD τ sig) → Buf (Elt Ideal) ℓ) (ρ : Dev nD → PrngReg)

/-- Window `w`'s block at point `t`, read off its array at launch. -/
def blk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-- The number of valid blocks, as the body reads it. -/
abbrev nv (V : S1.Idx → Elt Ideal .i32) : Elt Ideal .i32 :=
  View.readAt (Elt Ideal) tb1.view (Rect.unit (s := S1) ![0] S1.size inb_S1_S1_0).toLoadRect V (Shape.Idx.first (numel1_S1.symm ▸ Nat.one_pos))

end Cert.KernelIdeal.Moe

end
-- ==== Proof.MoeRuns.lean ====
/- The feed-forward body at a valid block and past the valid ones. -/
module

public import proofs.«01_k».proof.Proof.MoeTables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A staging buffer of the result, through which its contents are stated. -/
abbrev VO : View sig .tc .vmem S256x1024 .f32 := (Memref.whole cc0_stg7_0 : Memref sig .tc .vmem S256x1024 .f32).view

set_option backward.proofsInPublic true in
set_option maxHeartbeats 8000000 in
/-- The body at a valid block: the pieces it stores into the result's block, with the proof that it runs from the inputs at their
    blocks and the tables, gives all of them back, and leaves the result's buffer written with those pieces. -/
noncomputable def run_valid (c : Dev nD) (i : grid0.Coords) (a0 : Memref sig .tc .vmem S256x512 .i32) (h0 : a0.IsWhole) (a1 : Memref sig .tc .vmem S1x1024x1024 .bf16) (h1 : a1.IsWhole) (a2 : Memref sig .tc .vmem S1x1024x1024 .bf16) (h2 : a2.IsWhole) (a3 : Memref sig .tc .vmem S1x1x1024 .f32) (h3 : a3.IsWhole) (a4 : Memref sig .tc .vmem S1x1x1024 .f32) (h4 : a4.IsWhole) (a5 : Memref sig .tc .vmem S1x1024x1024 .f32) (h5 : a5.IsWhole) (a6 : Memref sig .tc .vmem S1x1x1024 .f32) (h6 : a6.IsWhole) (a7 : Memref sig .tc .vmem S256x1024 .f32) (h7 : a7.IsWhole) (E : S304.Idx → Elt Ideal .i32) (V : S1.Idx → Elt Ideal .i32)
    (x0 : S256x512.Idx → Elt Ideal .i32) (x1 : S1x1024x1024.Idx → Elt Ideal .bf16) (x2 : S1x1024x1024.Idx → Elt Ideal .bf16) (x3 : S1x1x1024.Idx → Elt Ideal .f32) (x4 : S1x1x1024.Idx → Elt Ideal .f32) (x5 : S1x1024x1024.Idx → Elt Ideal .f32) (x6 : S1x1x1024.Idx → Elt Ideal .f32)
    (g1 : k0_cond1 i (nv V) = 1#1) (g2 : ¬ k0_cond2 i (nv V) = 1#1) :
    { L : List (View.Piece (Elt Ideal) S256x1024 .f32) //
      ∀ (K : PUnit → sProp 𝕄),
        iprop((a0.view.loc (c : Thread nD τ) ↦[a0.view.set]{fullShare} a0.view.rep x0)
          ∗ (a1.view.loc (c : Thread nD τ) ↦[a1.view.set]{fullShare} a1.view.rep x1)
          ∗ (a2.view.loc (c : Thread nD τ) ↦[a2.view.set]{fullShare} a2.view.rep x2)
          ∗ (a3.view.loc (c : Thread nD τ) ↦[a3.view.set]{fullShare} a3.view.rep x3)
          ∗ (a4.view.loc (c : Thread nD τ) ↦[a4.view.set]{fullShare} a4.view.rep x4)
          ∗ (a5.view.loc (c : Thread nD τ) ↦[a5.view.set]{fullShare} a5.view.rep x5)
          ∗ (a6.view.loc (c : Thread nD τ) ↦[a6.view.set]{fullShare} a6.view.rep x6)
          ∗ (tb0.view.loc (c : Thread nD τ) ↦{fullShare.right} E)
          ∗ (tb1.view.loc (c : Thread nD τ) ↦{fullShare.right} V)
          ∗ (∃ d, owns (c : Thread nD τ) a7 fullShare d)
          ∗ (iprop((a0.view.loc (c : Thread nD τ) ↦[a0.view.set]{fullShare} a0.view.rep x0)
              ∗ (a1.view.loc (c : Thread nD τ) ↦[a1.view.set]{fullShare} a1.view.rep x1)
              ∗ (a2.view.loc (c : Thread nD τ) ↦[a2.view.set]{fullShare} a2.view.rep x2)
              ∗ (a3.view.loc (c : Thread nD τ) ↦[a3.view.set]{fullShare} a3.view.rep x3)
              ∗ (a4.view.loc (c : Thread nD τ) ↦[a4.view.set]{fullShare} a4.view.rep x4)
              ∗ (a5.view.loc (c : Thread nD τ) ↦[a5.view.set]{fullShare} a5.view.rep x5)
              ∗ (a6.view.loc (c : Thread nD τ) ↦[a6.view.set]{fullShare} a6.view.rep x6)
              ∗ (tb0.view.loc (c : Thread nD τ) ↦{fullShare.right} E)
              ∗ (tb1.view.loc (c : Thread nD τ) ↦{fullShare.right} V)
              ∗ (∃ f, a7.view.loc (c : Thread nD τ) ↦[a7.view.set]{fullShare} a7.view.writes (Elt Ideal) f L)) -∗ K ⟨⟩))
          ⊢ wp frame (wpE (defs₀ (F := Ideal)) Variants.none c none) Set.univ (cc0_moe_ffn i tb0 (Memref.isWhole_whole _) tb1 (Memref.isWhole_whole _) a0 h0 a1 h1 a2 h2 a3 h3 a4 h4 a5 h5 a6 h6 a7 h7) K } :=
  ⟨_, fun K => by
    unfold owns
    rw [cc0_moe_ffn_eq_skeleton]; unfold cc0_moe_ffn_skel
    iintro ⟨H0, H1, H2, H3, H4, H5, H6, HE, HV, ⟨%d7, %f7, -, HO⟩, Hk⟩
    have hE : tb0.IsWhole := Memref.isWhole_whole _
    have hV : tb1.IsWhole := Memref.isWhole_whole _
    sl_exec! (disch := first | (guard_target = k0_cond1 _ _ = _; exact g1) | (guard_target = ¬(k0_cond2 _ _ = _); exact g2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HE]; · iexact HE
    isplitl [HV]; · iexact HV
    iexists _; iexact HO⟩

/-- Those pieces cover the block. -/
theorem cover_valid (c : Dev nD) (i : grid0.Coords) (a0 : Memref sig .tc .vmem S256x512 .i32) (h0 : a0.IsWhole) (a1 : Memref sig .tc .vmem S1x1024x1024 .bf16) (h1 : a1.IsWhole) (a2 : Memref sig .tc .vmem S1x1024x1024 .bf16) (h2 : a2.IsWhole) (a3 : Memref sig .tc .vmem S1x1x1024 .f32) (h3 : a3.IsWhole) (a4 : Memref sig .tc .vmem S1x1x1024 .f32) (h4 : a4.IsWhole) (a5 : Memref sig .tc .vmem S1x1024x1024 .f32) (h5 : a5.IsWhole) (a6 : Memref sig .tc .vmem S1x1x1024 .f32) (h6 : a6.IsWhole) (a7 : Memref sig .tc .vmem S256x1024 .f32) (h7 : a7.IsWhole) (E : S304.Idx → Elt Ideal .i32) (V : S1.Idx → Elt Ideal .i32)
    (x0 : S256x512.Idx → Elt Ideal .i32) (x1 : S1x1024x1024.Idx → Elt Ideal .bf16) (x2 : S1x1024x1024.Idx → Elt Ideal .bf16) (x3 : S1x1x1024.Idx → Elt Ideal .f32) (x4 : S1x1x1024.Idx → Elt Ideal .f32) (x5 : S1x1024x1024.Idx → Elt Ideal .f32) (x6 : S1x1x1024.Idx → Elt Ideal .f32)
    (g1 : k0_cond1 i (nv V) = 1#1) (g2 : ¬ k0_cond2 i (nv V) = 1#1) (y : S256x1024.Idx) :
    ∃ pc ∈ (run_valid c i a0 h0 a1 h1 a2 h2 a3 h3 a4 h4 a5 h5 a6 h6 a7 h7 E V x0 x1 x2 x3 x4 x5 x6 g1 g2).1, y ∈ pc.1.set :=
  View.cover_of_tiledL (run_valid c i a0 h0 a1 h1 a2 h2 a3 h3 a4 h4 a5 h5 a6 h6 a7 h7 E V x0 x1 x2 x3 x4 x5 x6 g1 g2).1 S256x1024.size (by sl_kernel_rfl) y

/-- The block they leave. -/
def out_valid (c : Dev nD) (i : grid0.Coords) (a0 : Memref sig .tc .vmem S256x512 .i32) (h0 : a0.IsWhole) (a1 : Memref sig .tc .vmem S1x1024x1024 .bf16) (h1 : a1.IsWhole) (a2 : Memref sig .tc .vmem S1x1024x1024 .bf16) (h2 : a2.IsWhole) (a3 : Memref sig .tc .vmem S1x1x1024 .f32) (h3 : a3.IsWhole) (a4 : Memref sig .tc .vmem S1x1x1024 .f32) (h4 : a4.IsWhole) (a5 : Memref sig .tc .vmem S1x1024x1024 .f32) (h5 : a5.IsWhole) (a6 : Memref sig .tc .vmem S1x1x1024 .f32) (h6 : a6.IsWhole) (a7 : Memref sig .tc .vmem S256x1024 .f32) (h7 : a7.IsWhole) (E : S304.Idx → Elt Ideal .i32) (V : S1.Idx → Elt Ideal .i32)
    (x0 : S256x512.Idx → Elt Ideal .i32) (x1 : S1x1024x1024.Idx → Elt Ideal .bf16) (x2 : S1x1024x1024.Idx → Elt Ideal .bf16) (x3 : S1x1x1024.Idx → Elt Ideal .f32) (x4 : S1x1x1024.Idx → Elt Ideal .f32) (x5 : S1x1024x1024.Idx → Elt Ideal .f32) (x6 : S1x1x1024.Idx → Elt Ideal .f32)
    (g1 : k0_cond1 i (nv V) = 1#1) (g2 : ¬ k0_cond2 i (nv V) = 1#1) : S256x1024.Idx → Elt Ideal .f32 :=
  VO.read (Elt Ideal) (VO.writes (Elt Ideal) VO.junk (run_valid c i a0 h0 a1 h1 a2 h2 a3 h3 a4 h4 a5 h5 a6 h6 a7 h7 E V x0 x1 x2 x3 x4 x5 x6 g1 g2).1)

set_option backward.proofsInPublic true in
set_option maxHeartbeats 8000000 in
/-- The body at a block past the valid ones: the pieces it stores into the result's block, with the proof that it runs from the inputs at their
    blocks and the tables, gives all of them back, and leaves the result's buffer written with those pieces. -/
noncomputable def run_past (c : Dev nD) (i : grid0.Coords) (a0 : Memref sig .tc .vmem S256x512 .i32) (h0 : a0.IsWhole) (a1 : Memref sig .tc .vmem S1x1024x1024 .bf16) (h1 : a1.IsWhole) (a2 : Memref sig .tc .vmem S1x1024x1024 .bf16) (h2 : a2.IsWhole) (a3 : Memref sig .tc .vmem S1x1x1024 .f32) (h3 : a3.IsWhole) (a4 : Memref sig .tc .vmem S1x1x1024 .f32) (h4 : a4.IsWhole) (a5 : Memref sig .tc .vmem S1x1024x1024 .f32) (h5 : a5.IsWhole) (a6 : Memref sig .tc .vmem S1x1x1024 .f32) (h6 : a6.IsWhole) (a7 : Memref sig .tc .vmem S256x1024 .f32) (h7 : a7.IsWhole) (E : S304.Idx → Elt Ideal .i32) (V : S1.Idx → Elt Ideal .i32)
    (x0 : S256x512.Idx → Elt Ideal .i32) (x1 : S1x1024x1024.Idx → Elt Ideal .bf16) (x2 : S1x1024x1024.Idx → Elt Ideal .bf16) (x3 : S1x1x1024.Idx → Elt Ideal .f32) (x4 : S1x1x1024.Idx → Elt Ideal .f32) (x5 : S1x1024x1024.Idx → Elt Ideal .f32) (x6 : S1x1x1024.Idx → Elt Ideal .f32)
    (g1 : ¬ k0_cond1 i (nv V) = 1#1) (g2 : k0_cond2 i (nv V) = 1#1) :
    { L : List (View.Piece (Elt Ideal) S256x1024 .f32) //
      ∀ (K : PUnit → sProp 𝕄),
        iprop((a0.view.loc (c : Thread nD τ) ↦[a0.view.set]{fullShare} a0.view.rep x0)
          ∗ (a1.view.loc (c : Thread nD τ) ↦[a1.view.set]{fullShare} a1.view.rep x1)
          ∗ (a2.view.loc (c : Thread nD τ) ↦[a2.view.set]{fullShare} a2.view.rep x2)
          ∗ (a3.view.loc (c : Thread nD τ) ↦[a3.view.set]{fullShare} a3.view.rep x3)
          ∗ (a4.view.loc (c : Thread nD τ) ↦[a4.view.set]{fullShare} a4.view.rep x4)
          ∗ (a5.view.loc (c : Thread nD τ) ↦[a5.view.set]{fullShare} a5.view.rep x5)
          ∗ (a6.view.loc (c : Thread nD τ) ↦[a6.view.set]{fullShare} a6.view.rep x6)
          ∗ (tb0.view.loc (c : Thread nD τ) ↦{fullShare.right} E)
          ∗ (tb1.view.loc (c : Thread nD τ) ↦{fullShare.right} V)
          ∗ (∃ d, owns (c : Thread nD τ) a7 fullShare d)
          ∗ (iprop((a0.view.loc (c : Thread nD τ) ↦[a0.view.set]{fullShare} a0.view.rep x0)
              ∗ (a1.view.loc (c : Thread nD τ) ↦[a1.view.set]{fullShare} a1.view.rep x1)
              ∗ (a2.view.loc (c : Thread nD τ) ↦[a2.view.set]{fullShare} a2.view.rep x2)
              ∗ (a3.view.loc (c : Thread nD τ) ↦[a3.view.set]{fullShare} a3.view.rep x3)
              ∗ (a4.view.loc (c : Thread nD τ) ↦[a4.view.set]{fullShare} a4.view.rep x4)
              ∗ (a5.view.loc (c : Thread nD τ) ↦[a5.view.set]{fullShare} a5.view.rep x5)
              ∗ (a6.view.loc (c : Thread nD τ) ↦[a6.view.set]{fullShare} a6.view.rep x6)
              ∗ (tb0.view.loc (c : Thread nD τ) ↦{fullShare.right} E)
              ∗ (tb1.view.loc (c : Thread nD τ) ↦{fullShare.right} V)
              ∗ (∃ f, a7.view.loc (c : Thread nD τ) ↦[a7.view.set]{fullShare} a7.view.writes (Elt Ideal) f L)) -∗ K ⟨⟩))
          ⊢ wp frame (wpE (defs₀ (F := Ideal)) Variants.none c none) Set.univ (cc0_moe_ffn i tb0 (Memref.isWhole_whole _) tb1 (Memref.isWhole_whole _) a0 h0 a1 h1 a2 h2 a3 h3 a4 h4 a5 h5 a6 h6 a7 h7) K } :=
  ⟨_, fun K => by
    unfold owns
    rw [cc0_moe_ffn_eq_skeleton]; unfold cc0_moe_ffn_skel
    iintro ⟨H0, H1, H2, H3, H4, H5, H6, HE, HV, ⟨%d7, %f7, -, HO⟩, Hk⟩
    have hE : tb0.IsWhole := Memref.isWhole_whole _
    have hV : tb1.IsWhole := Memref.isWhole_whole _
    sl_exec! (disch := first | (guard_target = ¬(k0_cond1 _ _ = _); exact g1) | (guard_target = k0_cond2 _ _ = _; exact g2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HE]; · iexact HE
    isplitl [HV]; · iexact HV
    iexists _; iexact HO⟩

/-- Those pieces cover the block. -/
theorem cover_past (c : Dev nD) (i : grid0.Coords) (a0 : Memref sig .tc .vmem S256x512 .i32) (h0 : a0.IsWhole) (a1 : Memref sig .tc .vmem S1x1024x1024 .bf16) (h1 : a1.IsWhole) (a2 : Memref sig .tc .vmem S1x1024x1024 .bf16) (h2 : a2.IsWhole) (a3 : Memref sig .tc .vmem S1x1x1024 .f32) (h3 : a3.IsWhole) (a4 : Memref sig .tc .vmem S1x1x1024 .f32) (h4 : a4.IsWhole) (a5 : Memref sig .tc .vmem S1x1024x1024 .f32) (h5 : a5.IsWhole) (a6 : Memref sig .tc .vmem S1x1x1024 .f32) (h6 : a6.IsWhole) (a7 : Memref sig .tc .vmem S256x1024 .f32) (h7 : a7.IsWhole) (E : S304.Idx → Elt Ideal .i32) (V : S1.Idx → Elt Ideal .i32)
    (x0 : S256x512.Idx → Elt Ideal .i32) (x1 : S1x1024x1024.Idx → Elt Ideal .bf16) (x2 : S1x1024x1024.Idx → Elt Ideal .bf16) (x3 : S1x1x1024.Idx → Elt Ideal .f32) (x4 : S1x1x1024.Idx → Elt Ideal .f32) (x5 : S1x1024x1024.Idx → Elt Ideal .f32) (x6 : S1x1x1024.Idx → Elt Ideal .f32)
    (g1 : ¬ k0_cond1 i (nv V) = 1#1) (g2 : k0_cond2 i (nv V) = 1#1) (y : S256x1024.Idx) :
    ∃ pc ∈ (run_past c i a0 h0 a1 h1 a2 h2 a3 h3 a4 h4 a5 h5 a6 h6 a7 h7 E V x0 x1 x2 x3 x4 x5 x6 g1 g2).1, y ∈ pc.1.set :=
  View.cover_of_tiledL (run_past c i a0 h0 a1 h1 a2 h2 a3 h3 a4 h4 a5 h5 a6 h6 a7 h7 E V x0 x1 x2 x3 x4 x5 x6 g1 g2).1 S256x1024.size (by sl_kernel_rfl) y

/-- The block they leave. -/
def out_past (c : Dev nD) (i : grid0.Coords) (a0 : Memref sig .tc .vmem S256x512 .i32) (h0 : a0.IsWhole) (a1 : Memref sig .tc .vmem S1x1024x1024 .bf16) (h1 : a1.IsWhole) (a2 : Memref sig .tc .vmem S1x1024x1024 .bf16) (h2 : a2.IsWhole) (a3 : Memref sig .tc .vmem S1x1x1024 .f32) (h3 : a3.IsWhole) (a4 : Memref sig .tc .vmem S1x1x1024 .f32) (h4 : a4.IsWhole) (a5 : Memref sig .tc .vmem S1x1024x1024 .f32) (h5 : a5.IsWhole) (a6 : Memref sig .tc .vmem S1x1x1024 .f32) (h6 : a6.IsWhole) (a7 : Memref sig .tc .vmem S256x1024 .f32) (h7 : a7.IsWhole) (E : S304.Idx → Elt Ideal .i32) (V : S1.Idx → Elt Ideal .i32)
    (x0 : S256x512.Idx → Elt Ideal .i32) (x1 : S1x1024x1024.Idx → Elt Ideal .bf16) (x2 : S1x1024x1024.Idx → Elt Ideal .bf16) (x3 : S1x1x1024.Idx → Elt Ideal .f32) (x4 : S1x1x1024.Idx → Elt Ideal .f32) (x5 : S1x1024x1024.Idx → Elt Ideal .f32) (x6 : S1x1x1024.Idx → Elt Ideal .f32)
    (g1 : ¬ k0_cond1 i (nv V) = 1#1) (g2 : k0_cond2 i (nv V) = 1#1) : S256x1024.Idx → Elt Ideal .f32 :=
  VO.read (Elt Ideal) (VO.writes (Elt Ideal) VO.junk (run_past c i a0 h0 a1 h1 a2 h2 a3 h3 a4 h4 a5 h5 a6 h6 a7 h7 E V x0 x1 x2 x3 x4 x5 x6 g1 g2).1)

end Cert.KernelIdeal.Moe

end
-- ==== Proof.MoeLaunch.lean ====
/- The feed-forward call: its proof data, its launch, and its frame. -/
module

public import proofs.«01_k».proof.Proof.MoeRuns
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The rounds library's share of the proof's resources. -/
abbrev EP : Emb (UR sig nD τ) 𝕄 := emb₁

variable (T : Tables) (m : (ℓ : Loc nD τ sig) → Buf (Elt Ideal) ℓ) (ρ : Dev nD → PrngReg)

/-- Point `t`'s block is a valid one. -/
abbrev IsValid (t : Fin (cfgA T).N) : Prop := k0_cond1 (crd T t) (nv T.valid) = 1#1

/-- The block of the result the body leaves at point `t`. -/
def outAt (c : Dev nD) (t : Fin (cfgA T).N) : S256x1024.Idx → Elt Ideal .f32 :=
  if q : IsValid T t then
    out_valid c (crd T t) (st0 T t) (sw0 T t) (st1 T t) (sw1 T t) (st2 T t) (sw2 T t) (st3 T t) (sw3 T t) (st4 T t) (sw4 T t) (st5 T t) (sw5 T t) (st6 T t) (sw6 T t) (st7 T t) (sw7 T t) T.experts T.valid (blk T m ρ c (0 : Fin 8) t) (blk T m ρ c (1 : Fin 8) t) (blk T m ρ c (2 : Fin 8) t) (blk T m ρ c (3 : Fin 8) t) (blk T m ρ c (4 : Fin 8) t) (blk T m ρ c (5 : Fin 8) t) (blk T m ρ c (6 : Fin 8) t) q (fun h => (branch _ _).1 h q)
  else
    out_past c (crd T t) (st0 T t) (sw0 T t) (st1 T t) (sw1 T t) (st2 T t) (sw2 T t) (st3 T t) (sw3 T t) (st4 T t) (sw4 T t) (st5 T t) (sw5 T t) (st6 T t) (sw6 T t) (st7 T t) (sw7 T t) T.experts T.valid (blk T m ρ c (0 : Fin 8) t) (blk T m ρ c (1 : Fin 8) t) (blk T m ρ c (2 : Fin 8) t) (blk T m ρ c (3 : Fin 8) t) (blk T m ρ c (4 : Fin 8) t) (blk T m ρ c (5 : Fin 8) t) (blk T m ρ c (6 : Fin 8) t) q ((branch _ _).2 q)

/-- Between points the core holds its halves of the tables. -/
def Inv (c : Dev nD) : sProp 𝕄 :=
  iprop((tb0.view.loc (c : Thread nD τ) ↦{fullShare.right} T.experts) ∗ (tb1.view.loc (c : Thread nD τ) ↦{fullShare.right} T.valid))

/-- The pipeline's proof data on core `c`. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => blk T m ρ c (0 : Fin 8) t
    | ⟨1, _⟩ => blk T m ρ c (1 : Fin 8) t
    | ⟨2, _⟩ => blk T m ρ c (2 : Fin 8) t
    | ⟨3, _⟩ => blk T m ρ c (3 : Fin 8) t
    | ⟨4, _⟩ => blk T m ρ c (4 : Fin 8) t
    | ⟨5, _⟩ => blk T m ρ c (5 : Fin 8) t
    | ⟨6, _⟩ => blk T m ρ c (6 : Fin 8) t
    | ⟨7, _⟩ => outAt T m ρ c t
  Φ _ := Inv T c
  q _ := fullShare
  owed _ := 0

theorem after0 (c : Dev nD) (t : Fin (cfgA T).N) : (dats T m ρ 0 c).after (0 : Fin 8) t = blk T m ρ c (0 : Fin 8) t := rfl
theorem after1 (c : Dev nD) (t : Fin (cfgA T).N) : (dats T m ρ 0 c).after (1 : Fin 8) t = blk T m ρ c (1 : Fin 8) t := rfl
theorem after2 (c : Dev nD) (t : Fin (cfgA T).N) : (dats T m ρ 0 c).after (2 : Fin 8) t = blk T m ρ c (2 : Fin 8) t := rfl
theorem after3 (c : Dev nD) (t : Fin (cfgA T).N) : (dats T m ρ 0 c).after (3 : Fin 8) t = blk T m ρ c (3 : Fin 8) t := rfl
theorem after4 (c : Dev nD) (t : Fin (cfgA T).N) : (dats T m ρ 0 c).after (4 : Fin 8) t = blk T m ρ c (4 : Fin 8) t := rfl
theorem after5 (c : Dev nD) (t : Fin (cfgA T).N) : (dats T m ρ 0 c).after (5 : Fin 8) t = blk T m ρ c (5 : Fin 8) t := rfl
theorem after6 (c : Dev nD) (t : Fin (cfgA T).N) : (dats T m ρ 0 c).after (6 : Fin 8) t = blk T m ρ c (6 : Fin 8) t := rfl
theorem after7 (c : Dev nD) (t : Fin (cfgA T).N) : (dats T m ρ 0 c).after (7 : Fin 8) t = outAt T m ρ c t := rfl

/-! An input window holds its block when the body runs. -/

theorem before0 (c : Dev nD) (t : Fin (cfgA T).N) (d) : (dats T m ρ 0 c).before (0 : Fin 8) t d = blk T m ρ c (0 : Fin 8) t :=
  ((dats T m ρ 0 c).before_in_eq_fetched (0 : Fin 8) rfl (fun _ => rfl) (fun _ _ _ => rfl) (fun t => by rw [after0]; unfold Dat.blockOf blk; rfl) t d).trans
    (by unfold Dat.fetched Dat.blockOf blk; rfl)
theorem before1 (c : Dev nD) (t : Fin (cfgA T).N) (d) : (dats T m ρ 0 c).before (1 : Fin 8) t d = blk T m ρ c (1 : Fin 8) t :=
  ((dats T m ρ 0 c).before_in_eq_fetched (1 : Fin 8) rfl (fun _ => rfl) (fun _ _ _ => rfl) (fun t => by rw [after1]; unfold Dat.blockOf blk; rfl) t d).trans
    (by unfold Dat.fetched Dat.blockOf blk; rfl)
theorem before2 (c : Dev nD) (t : Fin (cfgA T).N) (d) : (dats T m ρ 0 c).before (2 : Fin 8) t d = blk T m ρ c (2 : Fin 8) t :=
  ((dats T m ρ 0 c).before_in_eq_fetched (2 : Fin 8) rfl (fun _ => rfl) (fun _ _ _ => rfl) (fun t => by rw [after2]; unfold Dat.blockOf blk; rfl) t d).trans
    (by unfold Dat.fetched Dat.blockOf blk; rfl)
theorem before3 (c : Dev nD) (t : Fin (cfgA T).N) (d) : (dats T m ρ 0 c).before (3 : Fin 8) t d = blk T m ρ c (3 : Fin 8) t :=
  ((dats T m ρ 0 c).before_in_eq_fetched (3 : Fin 8) rfl (fun _ => rfl) (fun _ _ _ => rfl) (fun t => by rw [after3]; unfold Dat.blockOf blk; rfl) t d).trans
    (by unfold Dat.fetched Dat.blockOf blk; rfl)
theorem before4 (c : Dev nD) (t : Fin (cfgA T).N) (d) : (dats T m ρ 0 c).before (4 : Fin 8) t d = blk T m ρ c (4 : Fin 8) t :=
  ((dats T m ρ 0 c).before_in_eq_fetched (4 : Fin 8) rfl (fun _ => rfl) (fun _ _ _ => rfl) (fun t => by rw [after4]; unfold Dat.blockOf blk; rfl) t d).trans
    (by unfold Dat.fetched Dat.blockOf blk; rfl)
theorem before5 (c : Dev nD) (t : Fin (cfgA T).N) (d) : (dats T m ρ 0 c).before (5 : Fin 8) t d = blk T m ρ c (5 : Fin 8) t :=
  ((dats T m ρ 0 c).before_in_eq_fetched (5 : Fin 8) rfl (fun _ => rfl) (fun _ _ _ => rfl) (fun t => by rw [after5]; unfold Dat.blockOf blk; rfl) t d).trans
    (by unfold Dat.fetched Dat.blockOf blk; rfl)
theorem before6 (c : Dev nD) (t : Fin (cfgA T).N) (d) : (dats T m ρ 0 c).before (6 : Fin 8) t d = blk T m ρ c (6 : Fin 8) t :=
  ((dats T m ρ 0 c).before_in_eq_fetched (6 : Fin 8) rfl (fun _ => rfl) (fun _ _ _ => rfl) (fun t => by rw [after6]; unfold Dat.blockOf blk; rfl) t d).trans
    (by unfold Dat.fetched Dat.blockOf blk; rfl)

/-- The body at point `t`, as the pipeline calls it. -/
abbrev bodyAt (t : Fin (cfgA T).N) : Prog (TpuEff nD τ sig (Elt Ideal) Λ₀ .tc) PUnit :=
  cc0_moe_ffn (crd T t) (Memref.whole main_arg1) (Memref.isWhole_whole _) (Memref.whole main_arg2) (Memref.isWhole_whole _) (st0 T t) (sw0 T t) (st1 T t) (sw1 T t) (st2 T t) (sw2 T t) (st3 T t) (sw3 T t) (st4 T t) (sw4 T t) (st5 T t) (sw5 T t) (st6 T t) (sw6 T t) (st7 T t) (sw7 T t)

set_option maxHeartbeats 4000000 in
/-- The body's run at a generic point: the branch the words take, and what it leaves. -/
theorem body_sound (c : Dev nD) (t : Fin (cfgA T).N) :
    iprop((dats T m ρ 0 c).Φ t.castSucc ∗ (dats T m ρ 0 c).owesAt () t.castSucc
        ∗ (∃ d, owns (c : Thread nD τ) (st0 T t) fullShare ((dats T m ρ 0 c).before (0 : Fin 8) t d))
        ∗ (∃ d, owns (c : Thread nD τ) (st1 T t) fullShare ((dats T m ρ 0 c).before (1 : Fin 8) t d))
        ∗ (∃ d, owns (c : Thread nD τ) (st2 T t) fullShare ((dats T m ρ 0 c).before (2 : Fin 8) t d))
        ∗ (∃ d, owns (c : Thread nD τ) (st3 T t) fullShare ((dats T m ρ 0 c).before (3 : Fin 8) t d))
        ∗ (∃ d, owns (c : Thread nD τ) (st4 T t) fullShare ((dats T m ρ 0 c).before (4 : Fin 8) t d))
        ∗ (∃ d, owns (c : Thread nD τ) (st5 T t) fullShare ((dats T m ρ 0 c).before (5 : Fin 8) t d))
        ∗ (∃ d, owns (c : Thread nD τ) (st6 T t) fullShare ((dats T m ρ 0 c).before (6 : Fin 8) t d))
        ∗ (∃ d, owns (c : Thread nD τ) (st7 T t) fullShare ((dats T m ρ 0 c).before (7 : Fin 8) t d)))
      ⊢ wp frame (wpE (defs₀ (F := Ideal)) Variants.none c none) Set.univ (bodyAt T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  have i7 := never_idle T (crd T t)
  rewrite [i7]
  simp only [before0, before1, before2, before3, before4, before5, before6, after0, after1, after2, after3, after4, after5, after6, after7]
  rewrite [show (dats T m ρ 0 c).Φ t.succ = Inv T c from rfl, show (dats T m ρ 0 c).Φ t.castSucc = Inv T c from rfl,
    show (dats T m ρ 0 c).owesAt () t.succ = (dats T m ρ 0 c).owesAt () t.castSucc from rfl]
  unfold Inv
  by_cases q : IsValid T t
  · rewrite [show outAt T m ρ c t = out_valid c (crd T t) (st0 T t) (sw0 T t) (st1 T t) (sw1 T t) (st2 T t) (sw2 T t) (st3 T t) (sw3 T t) (st4 T t) (sw4 T t) (st5 T t) (sw5 T t) (st6 T t) (sw6 T t) (st7 T t) (sw7 T t) T.experts T.valid (blk T m ρ c (0 : Fin 8) t) (blk T m ρ c (1 : Fin 8) t) (blk T m ρ c (2 : Fin 8) t) (blk T m ρ c (3 : Fin 8) t) (blk T m ρ c (4 : Fin 8) t) (blk T m ρ c (5 : Fin 8) t) (blk T m ρ c (6 : Fin 8) t) q (fun h => (branch _ _).1 h q) from by unfold outAt; exact dif_pos q]
    iintro ⟨⟨HE, HV⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_valid c (crd T t) (st0 T t) (sw0 T t) (st1 T t) (sw1 T t) (st2 T t) (sw2 T t) (st3 T t) (sw3 T t) (st4 T t) (sw4 T t) (st5 T t) (sw5 T t) (st6 T t) (sw6 T t) (st7 T t) (sw7 T t) T.experts T.valid (blk T m ρ c (0 : Fin 8) t) (blk T m ρ c (1 : Fin 8) t) (blk T m ρ c (2 : Fin 8) t) (blk T m ρ c (3 : Fin 8) t) (blk T m ρ c (4 : Fin 8) t) (blk T m ρ c (5 : Fin 8) t) (blk T m ρ c (6 : Fin 8) t) q (fun h => (branch _ _).1 h q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HE]; · iexact HE
    isplitl [HV]; · iexact HV
    isplitl [H7]; · iexists _; iexact H7
    iintro ⟨H0, H1, H2, H3, H4, H5, H6, HE, HV, ⟨%e7, H7⟩⟩
    isplitl [HE HV]
    · isplitl [HE]
      · iexact HE
      iexact HV
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    unfold owns; iexists _; isplitr; swap
    · iexact H7
    · ipureintro; exact View.read_writes_of_cover _ _ _ _ _ (cover_valid c _ _ _ _ _ _ _ _ _ _ _ _ _ _ _ _ _ _ _ _ _ _ _ _ _ _ _ _)
  · rewrite [show outAt T m ρ c t = out_past c (crd T t) (st0 T t) (sw0 T t) (st1 T t) (sw1 T t) (st2 T t) (sw2 T t) (st3 T t) (sw3 T t) (st4 T t) (sw4 T t) (st5 T t) (sw5 T t) (st6 T t) (sw6 T t) (st7 T t) (sw7 T t) T.experts T.valid (blk T m ρ c (0 : Fin 8) t) (blk T m ρ c (1 : Fin 8) t) (blk T m ρ c (2 : Fin 8) t) (blk T m ρ c (3 : Fin 8) t) (blk T m ρ c (4 : Fin 8) t) (blk T m ρ c (5 : Fin 8) t) (blk T m ρ c (6 : Fin 8) t) q ((branch _ _).2 q) from by unfold outAt; exact dif_neg q]
    iintro ⟨⟨HE, HV⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_past c (crd T t) (st0 T t) (sw0 T t) (st1 T t) (sw1 T t) (st2 T t) (sw2 T t) (st3 T t) (sw3 T t) (st4 T t) (sw4 T t) (st5 T t) (sw5 T t) (st6 T t) (sw6 T t) (st7 T t) (sw7 T t) T.experts T.valid (blk T m ρ c (0 : Fin 8) t) (blk T m ρ c (1 : Fin 8) t) (blk T m ρ c (2 : Fin 8) t) (blk T m ρ c (3 : Fin 8) t) (blk T m ρ c (4 : Fin 8) t) (blk T m ρ c (5 : Fin 8) t) (blk T m ρ c (6 : Fin 8) t) q ((branch _ _).2 q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HE]; · iexact HE
    isplitl [HV]; · iexact HV
    isplitl [H7]; · iexists _; iexact H7
    iintro ⟨H0, H1, H2, H3, H4, H5, H6, HE, HV, ⟨%e7, H7⟩⟩
    isplitl [HE HV]
    · isplitl [HE]
      · iexact HE
      iexact HV
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    unfold owns; iexists _; isplitr; swap
    · iexact H7
    · ipureintro; exact View.read_writes_of_cover _ _ _ _ _ (cover_past c _ _ _ _ _ _ _ _ _ _ _ _ _ _ _ _ _ _ _ _ _ _ _ _ _ _ _ _)

/-- The library's body obligation. -/
theorem body_obligation (c : Dev nD) : BodyObligation (dats T m ρ 0 c) (defs₀ (F := Ideal)) Variants.none () Set.univ := fun t => by
  rw [bigSep_W0]
  exact body_sound T m ρ c t

/-! ## The launch -/

/-- The rounds library's launch element. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

/-- The tables as the launch hands them over. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem inv_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Inv T c from rfl]
  unfold Inv
  iintro ⟨-, ⟨HE, HV⟩, -⟩
  isplitl [HE]
  · iexact HE
  iexact HV

theorem inv_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Inv T c from rfl]
  unfold Inv
  iintro ⟨-, -⟩
  isplitr; · iempintro
  iempintro

/-- Every array ends at what the pipeline computes, and the tables as they began. -/
def Post : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem tables_at_launch (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From a memory that holds `T`, the call runs to its end, leaves `Post`, and leaves every counter at zero. -/
theorem run_main_quiescent (hp : Holds T m) : θ_run (defs (F := Ideal)) (onTc (τ := τ) (main (F := Ideal))) (s₀ m ρ) (fun r => Post T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := tables_at_launch T m hp)
    (X := fun _ => iprop(emp)) (Y := fun _ => iprop(emp)) (Z := fun _ => iprop(emp))
    (hX := fun c => by rw [unscopedRestP0_eq]; iintro -; isplitr <;> iempintro)
    (hin := inv_intro T m ρ)
    (hout := inv_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the counters. -/
theorem run_main (hp : Holds T m) : θ_run (defs (F := Ideal)) (onTc (τ := τ) (main (F := Ideal))) (s₀ m ρ) (Post T m ρ) :=
  (θ_run defs _ _).mono (fun _ h => h.1) (run_main_quiescent T m ρ hp)

/-- `Post` keeps the arguments. -/
theorem Post.unchanged (hp : Holds T m) {r : PUnit × MemSt nD τ sig (Elt Ideal)} (h : Post T m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 (0 : Fin 8)).trans ((dats T m ρ 0 c).arrAt_in (0 : Fin 8) rfl _), ((h c).2 0).trans (hp.1 c).symm, ((h c).2 1).trans (hp.2 c).symm, ((h c).1 (1 : Fin 8)).trans ((dats T m ρ 0 c).arrAt_in (1 : Fin 8) rfl _), ((h c).1 (2 : Fin 8)).trans ((dats T m ρ 0 c).arrAt_in (2 : Fin 8) rfl _), ((h c).1 (3 : Fin 8)).trans ((dats T m ρ 0 c).arrAt_in (3 : Fin 8) rfl _), ((h c).1 (4 : Fin 8)).trans ((dats T m ρ 0 c).arrAt_in (4 : Fin 8) rfl _), ((h c).1 (5 : Fin 8)).trans ((dats T m ρ 0 c).arrAt_in (5 : Fin 8) rfl _), ((h c).1 (6 : Fin 8)).trans ((dats T m ρ 0 c).arrAt_in (6 : Fin 8) rfl _)⟩

/-- The frame: the call runs to its end, keeps its arguments, and leaves every counter at zero. -/
theorem frame (hp : Holds T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => h.1.unchanged T m ρ hp c, h.2⟩) (run_main_quiescent T m ρ hp)

end Cert.KernelIdeal.Moe

end
-- ==== Proof.MoeOut.lean ====
/- What the feed-forward body leaves, as a function of its blocks. -/
module

public import proofs.«01_k».proof.Proof.MoeLaunch
public import Idealize.ShloMosaic.Lib.Pipeline.ValueKit
public import Idealize.ShloMosaic.Lib.Pointwise

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Block `b`'s rows. -/
abbrev rows (X : S77824x512.Idx → BitVec 32) (b : Fin 304) : S256x512.Idx → BitVec 32 := fun i =>
  X (ix2 ⟨b.val * 256 + (i 0).val, by have := b.isLt; have : (i 0).val < 256 := (i 0).isLt; omega⟩ (i 1))
/-- Expert `e`'s weights, and its biases. -/
abbrev page (W : S128x1024x1024.Idx → EReal) (e : Fin 128) : S1x1024x1024.Idx → EReal := fun i => W (ix3 e (i 1) (i 2))
abbrev pageB (W : S128x1x1024.Idx → EReal) (e : Fin 128) : S1x1x1024.Idx → EReal := fun i => W (ix3 e (i 1) (i 2))

/-- What a valid block is left with: the feed-forward of its rows under its expert's weights. -/
def ffn (x0 : S256x512.Idx → BitVec 32) (x1 x2 : S1x1024x1024.Idx → EReal) (x3 x4 : S1x1x1024.Idx → EReal) (x5 : S1x1024x1024.Idx → EReal) (x6 : S1x1x1024.Idx → EReal) :
    FVec Ideal S256x1024 .f32 :=
  k0_pay1 (F := Ideal) (k0_pay4 (F := Ideal) x0 x1 x3) (k0_pay5 (F := Ideal) x0 x2 x4) (k0_pay6 (F := Ideal) x0 x1 x3) x5 x6

set_option maxHeartbeats 1000000 in
/-- A valid block's pieces read back as its feed-forward. -/
theorem out_valid_eq (c : Dev nD) (i : grid0.Coords) (a0 : Memref sig .tc .vmem S256x512 .i32) (h0 : a0.IsWhole) (a1 : Memref sig .tc .vmem S1x1024x1024 .bf16) (h1 : a1.IsWhole) (a2 : Memref sig .tc .vmem S1x1024x1024 .bf16) (h2 : a2.IsWhole) (a3 : Memref sig .tc .vmem S1x1x1024 .f32) (h3 : a3.IsWhole) (a4 : Memref sig .tc .vmem S1x1x1024 .f32) (h4 : a4.IsWhole) (a5 : Memref sig .tc .vmem S1x1024x1024 .f32) (h5 : a5.IsWhole) (a6 : Memref sig .tc .vmem S1x1x1024 .f32) (h6 : a6.IsWhole) (a7 : Memref sig .tc .vmem S256x1024 .f32) (h7 : a7.IsWhole) (E : S304.Idx → Elt Ideal .i32) (V : S1.Idx → Elt Ideal .i32)
    (x0 : S256x512.Idx → Elt Ideal .i32) (x1 : S1x1024x1024.Idx → Elt Ideal .bf16) (x2 : S1x1024x1024.Idx → Elt Ideal .bf16) (x3 : S1x1x1024.Idx → Elt Ideal .f32) (x4 : S1x1x1024.Idx → Elt Ideal .f32) (x5 : S1x1024x1024.Idx → Elt Ideal .f32) (x6 : S1x1x1024.Idx → Elt Ideal .f32) (g1 : k0_cond1 i (nv V) = 1#1) (g2 : ¬ k0_cond2 i (nv V) = 1#1) :
    out_valid c i a0 h0 a1 h1 a2 h2 a3 h3 a4 h4 a5 h5 a6 h6 a7 h7 E V x0 x1 x2 x3 x4 x5 x6 g1 g2 = ffn x0 x1 x2 x3 x4 x5 x6 := by
  unfold out_valid run_valid ffn
  frame_out
  simp only [View.read_rep]

set_option maxHeartbeats 1000000 in
/-- A block past the valid ones is left with zeros. -/
theorem out_past_eq (c : Dev nD) (i : grid0.Coords) (a0 : Memref sig .tc .vmem S256x512 .i32) (h0 : a0.IsWhole) (a1 : Memref sig .tc .vmem S1x1024x1024 .bf16) (h1 : a1.IsWhole) (a2 : Memref sig .tc .vmem S1x1024x1024 .bf16) (h2 : a2.IsWhole) (a3 : Memref sig .tc .vmem S1x1x1024 .f32) (h3 : a3.IsWhole) (a4 : Memref sig .tc .vmem S1x1x1024 .f32) (h4 : a4.IsWhole) (a5 : Memref sig .tc .vmem S1x1024x1024 .f32) (h5 : a5.IsWhole) (a6 : Memref sig .tc .vmem S1x1x1024 .f32) (h6 : a6.IsWhole) (a7 : Memref sig .tc .vmem S256x1024 .f32) (h7 : a7.IsWhole) (E : S304.Idx → Elt Ideal .i32) (V : S1.Idx → Elt Ideal .i32)
    (x0 : S256x512.Idx → Elt Ideal .i32) (x1 : S1x1024x1024.Idx → Elt Ideal .bf16) (x2 : S1x1024x1024.Idx → Elt Ideal .bf16) (x3 : S1x1x1024.Idx → Elt Ideal .f32) (x4 : S1x1x1024.Idx → Elt Ideal .f32) (x5 : S1x1024x1024.Idx → Elt Ideal .f32) (x6 : S1x1x1024.Idx → Elt Ideal .f32) (g1 : ¬ k0_cond1 i (nv V) = 1#1) (g2 : k0_cond2 i (nv V) = 1#1) :
    out_past c i a0 h0 a1 h1 a2 h2 a3 h3 a4 h4 a5 h5 a6 h6 a7 h7 E V x0 x1 x2 x3 x4 x5 x6 g1 g2 = k0_pay2 (F := Ideal) := by
  unfold out_past run_past
  frame_out

end Cert.KernelIdeal.Moe

end
-- ==== Proof.MoeValue.lean ====
/- The array the feed-forward call leaves. -/
module

public import proofs.«01_k».proof.Proof.MoeOut

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (T : Tables) (m : (ℓ : Loc nD τ sig) → Buf (Elt Ideal) ℓ) (ρ : Dev nD → PrngReg)

/-- Block `b`'s expert. -/
def expertOf (b : Fin 304) : Fin 128 := ⟨(T.experts (ix1 b)).toNat, T.lt _⟩

theorem coord_val : ∀ t : Fin grid0.N, (grid0.coords t 0).val = t.val := by decide +kernel

theorem crd_val (t : Fin (cfgA T).N) : (crd T t 0).val = t.val := coord_val t

/-- Point `t`'s block number. -/
abbrev num (t : Fin (cfgA T).N) : Fin 304 := ⟨t.val, t.isLt⟩

/-- Its coordinate as a word. -/
theorem crd_word (t : Fin (cfgA T).N) : (BitVec.ofNat 32 (crd T t 0).val).toNat = t.val := by
  rw [crd_val, BitVec.toNat_ofNat]
  have : t.val < 304 := t.isLt
  omega

/-- The page a window's index map reads out of the table at a point. -/
theorem page_val (t : Fin (cfgA T).N) : (cc0_transform_1 k0_off1_inb numel1_S1 (contents T) (crd T t) 0) = (expertOf T (num T t)).val := by
  show (T.experts _).toNat = (T.experts _).toNat
  refine congrArg (fun x => (T.experts x).toNat) (funext fun a => Fin.ext ?_)
  match a with
  | ⟨0, _⟩ =>
    refine Eq.trans ?_ (crd_word T t)
    rfl

/-- Point `t` fetches its rows. -/
theorem blk0 (c : Dev nD) (t : Fin (cfgA T).N) : blk T m ρ c (0 : Fin 8) t = rows (m ((c : Thread nD τ).loc main_arg0)) (num T t) := by
  funext y
  unfold blk
  blk_simp
  refine congrArg (m ((c : Thread nD τ).loc main_arg0)) (funext fun a => Fin.ext ?_)
  match a with
  | ⟨0, _⟩ =>
    refine (((cfgA T).win (0 : Fin 8)).rect_emb_val t y 0).trans ?_
    exact congrArg (fun z => z * 256 + (y 0).val) (crd_word T t)
  | ⟨1, _⟩ =>
    refine (((cfgA T).win (0 : Fin 8)).rect_emb_val t y 1).trans ?_
    show 0 * 512 + (y 1).val = (y 1).val
    omega

/-- Point `t` fetches its expert's weights out of argument 3. -/
theorem blk1 (c : Dev nD) (t : Fin (cfgA T).N) : blk T m ρ c (1 : Fin 8) t = page (m ((c : Thread nD τ).loc main_arg3)) (expertOf T (num T t)) := by
  funext y
  unfold blk
  blk_simp
  refine congrArg (m ((c : Thread nD τ).loc main_arg3)) (funext fun a => Fin.ext ?_)
  match a with
  | ⟨0, _⟩ =>
    refine (((cfgA T).win (1 : Fin 8)).rect_emb_val t y 0).trans ?_
    refine Eq.trans (congrArg (fun z => z * 1 + (y 0).val) (page_val T t)) ?_
    have : (y 0).val < 1 := (y 0).isLt
    show (expertOf T (num T t)).val * 1 + (y 0).val = (expertOf T (num T t)).val
    omega
  | ⟨1, _⟩ =>
    refine (((cfgA T).win (1 : Fin 8)).rect_emb_val t y 1).trans ?_
    show 0 * 1024 + (y 1).val = (y 1).val
    omega
  | ⟨2, _⟩ =>
    refine (((cfgA T).win (1 : Fin 8)).rect_emb_val t y 2).trans ?_
    show 0 * 1024 + (y 2).val = (y 2).val
    omega

/-- Point `t` fetches its expert's weights out of argument 4. -/
theorem blk2 (c : Dev nD) (t : Fin (cfgA T).N) : blk T m ρ c (2 : Fin 8) t = page (m ((c : Thread nD τ).loc main_arg4)) (expertOf T (num T t)) := by
  funext y
  unfold blk
  blk_simp
  refine congrArg (m ((c : Thread nD τ).loc main_arg4)) (funext fun a => Fin.ext ?_)
  match a with
  | ⟨0, _⟩ =>
    refine (((cfgA T).win (2 : Fin 8)).rect_emb_val t y 0).trans ?_
    refine Eq.trans (congrArg (fun z => z * 1 + (y 0).val) (page_val T t)) ?_
    have : (y 0).val < 1 := (y 0).isLt
    show (expertOf T (num T t)).val * 1 + (y 0).val = (expertOf T (num T t)).val
    omega
  | ⟨1, _⟩ =>
    refine (((cfgA T).win (2 : Fin 8)).rect_emb_val t y 1).trans ?_
    show 0 * 1024 + (y 1).val = (y 1).val
    omega
  | ⟨2, _⟩ =>
    refine (((cfgA T).win (2 : Fin 8)).rect_emb_val t y 2).trans ?_
    show 0 * 1024 + (y 2).val = (y 2).val
    omega

/-- Point `t` fetches its expert's biases out of argument 5. -/
theorem blk3 (c : Dev nD) (t : Fin (cfgA T).N) : blk T m ρ c (3 : Fin 8) t = pageB (m ((c : Thread nD τ).loc main_arg5)) (expertOf T (num T t)) := by
  funext y
  unfold blk
  blk_simp
  refine congrArg (m ((c : Thread nD τ).loc main_arg5)) (funext fun a => Fin.ext ?_)
  match a with
  | ⟨0, _⟩ =>
    refine (((cfgA T).win (3 : Fin 8)).rect_emb_val t y 0).trans ?_
    refine Eq.trans (congrArg (fun z => z * 1 + (y 0).val) (page_val T t)) ?_
    have : (y 0).val < 1 := (y 0).isLt
    show (expertOf T (num T t)).val * 1 + (y 0).val = (expertOf T (num T t)).val
    omega
  | ⟨1, _⟩ =>
    refine (((cfgA T).win (3 : Fin 8)).rect_emb_val t y 1).trans ?_
    show 0 * 1 + (y 1).val = (y 1).val
    omega
  | ⟨2, _⟩ =>
    refine (((cfgA T).win (3 : Fin 8)).rect_emb_val t y 2).trans ?_
    show 0 * 1024 + (y 2).val = (y 2).val
    omega

/-- Point `t` fetches its expert's biases out of argument 6. -/
theorem blk4 (c : Dev nD) (t : Fin (cfgA T).N) : blk T m ρ c (4 : Fin 8) t = pageB (m ((c : Thread nD τ).loc main_arg6)) (expertOf T (num T t)) := by
  funext y
  unfold blk
  blk_simp
  refine congrArg (m ((c : Thread nD τ).loc main_arg6)) (funext fun a => Fin.ext ?_)
  match a with
  | ⟨0, _⟩ =>
    refine (((cfgA T).win (4 : Fin 8)).rect_emb_val t y 0).trans ?_
    refine Eq.trans (congrArg (fun z => z * 1 + (y 0).val) (page_val T t)) ?_
    have : (y 0).val < 1 := (y 0).isLt
    show (expertOf T (num T t)).val * 1 + (y 0).val = (expertOf T (num T t)).val
    omega
  | ⟨1, _⟩ =>
    refine (((cfgA T).win (4 : Fin 8)).rect_emb_val t y 1).trans ?_
    show 0 * 1 + (y 1).val = (y 1).val
    omega
  | ⟨2, _⟩ =>
    refine (((cfgA T).win (4 : Fin 8)).rect_emb_val t y 2).trans ?_
    show 0 * 1024 + (y 2).val = (y 2).val
    omega

/-- Point `t` fetches its expert's weights out of argument 7. -/
theorem blk5 (c : Dev nD) (t : Fin (cfgA T).N) : blk T m ρ c (5 : Fin 8) t = page (m ((c : Thread nD τ).loc main_arg7)) (expertOf T (num T t)) := by
  funext y
  unfold blk
  blk_simp
  refine congrArg (m ((c : Thread nD τ).loc main_arg7)) (funext fun a => Fin.ext ?_)
  match a with
  | ⟨0, _⟩ =>
    refine (((cfgA T).win (5 : Fin 8)).rect_emb_val t y 0).trans ?_
    refine Eq.trans (congrArg (fun z => z * 1 + (y 0).val) (page_val T t)) ?_
    have : (y 0).val < 1 := (y 0).isLt
    show (expertOf T (num T t)).val * 1 + (y 0).val = (expertOf T (num T t)).val
    omega
  | ⟨1, _⟩ =>
    refine (((cfgA T).win (5 : Fin 8)).rect_emb_val t y 1).trans ?_
    show 0 * 1024 + (y 1).val = (y 1).val
    omega
  | ⟨2, _⟩ =>
    refine (((cfgA T).win (5 : Fin 8)).rect_emb_val t y 2).trans ?_
    show 0 * 1024 + (y 2).val = (y 2).val
    omega

/-- Point `t` fetches its expert's biases out of argument 8. -/
theorem blk6 (c : Dev nD) (t : Fin (cfgA T).N) : blk T m ρ c (6 : Fin 8) t = pageB (m ((c : Thread nD τ).loc main_arg8)) (expertOf T (num T t)) := by
  funext y
  unfold blk
  blk_simp
  refine congrArg (m ((c : Thread nD τ).loc main_arg8)) (funext fun a => Fin.ext ?_)
  match a with
  | ⟨0, _⟩ =>
    refine (((cfgA T).win (6 : Fin 8)).rect_emb_val t y 0).trans ?_
    refine Eq.trans (congrArg (fun z => z * 1 + (y 0).val) (page_val T t)) ?_
    have : (y 0).val < 1 := (y 0).isLt
    show (expertOf T (num T t)).val * 1 + (y 0).val = (expertOf T (num T t)).val
    omega
  | ⟨1, _⟩ =>
    refine (((cfgA T).win (6 : Fin 8)).rect_emb_val t y 1).trans ?_
    show 0 * 1 + (y 1).val = (y 1).val
    omega
  | ⟨2, _⟩ =>
    refine (((cfgA T).win (6 : Fin 8)).rect_emb_val t y 2).trans ?_
    show 0 * 1024 + (y 2).val = (y 2).val
    omega

/-- Where point `t`'s result block lies in the result. -/
theorem place (t : Fin (cfgA T).N) (r : Fin 256) (n : Fin 1024) (hr) :
    (((cfgA T).win (7 : Fin 8)).blk t).view.emb (ix2 r n) = (ix2 (⟨t.val * 256 + r.val, hr⟩ : Fin 77824) n : S77824x1024.Idx) := by
  refine funext fun a => Fin.ext ?_
  match a with
  | ⟨0, _⟩ =>
    refine (((cfgA T).win (7 : Fin 8)).rect_emb_val t (ix2 r n) 0).trans ?_
    exact congrArg (fun z => z * 256 + r.val) (crd_word T t)
  | ⟨1, _⟩ =>
    refine (((cfgA T).win (7 : Fin 8)).rect_emb_val t (ix2 r n) 1).trans ?_
    show 0 * 1024 + n.val = n.val
    omega

/-- Every point writes its block back. -/
theorem flush7 (t : Fin (cfgA T).N) : ((cfgA T).win (7 : Fin 8)).flush t = true := by
  unfold Pipeline.Window.flush
  refine Bool.and_eq_true_iff.2 ⟨rfl, ?_⟩
  by_cases h : t.val + 1 = (cfgA T).grid.N
  · exact Bool.or_eq_true_iff.2 (.inl (decide_eq_true h))
  · refine Bool.or_eq_true_iff.2 (.inr (decide_eq_true ?_))
    have lt : t.val + 1 < (cfgA T).grid.N := by have h' : t.val < (cfgA T).grid.N := t.isLt; omega
    refine ⟨lt, fun e => ?_⟩
    have e0 : (BitVec.ofNat 32 (crd T ⟨t.val + 1, lt⟩ 0).val).toNat = (BitVec.ofNat 32 (crd T t 0).val).toNat := congrFun e 0
    rw [crd_word, crd_word] at e0
    exact absurd e0 (by simp)

/-- The number of valid blocks as the body reads it. -/
theorem nv_eq (V : S1.Idx → BitVec 32) : nv V = V (ix1 0) := by
  unfold nv
  rw [View.readAt_apply]
  exact congrArg V (funext fun a => match a with | ⟨0, _⟩ => rfl)

/-- A block is valid when its number is below the number of valid blocks. -/
theorem cond1_iff (i : grid0.Coords) (v : BitVec 32) : k0_cond1 i v = 1#1 ↔ IntOp.cmpi .slt (BitVec.ofNat 32 (i 0).val) v = 1#1 := by
  simp only [k0_cond1, Scalar.cmpi, Scalar.extui, IntOp.cmpi]
  generalize BitVec.slt _ v = b
  revert b; decide

/-- What point `t` leaves. -/
theorem outAt_eq (c : Dev nD) (t : Fin (cfgA T).N) (r : Fin 256) (n : Fin 1024) :
    outAt T m ρ c t (ix2 r n) = Scalar.select (IntOp.cmpi .slt (BitVec.ofNat 32 t.val) (T.valid (ix1 0)))
      (ffn (rows (m ((c : Thread nD τ).loc main_arg0)) (num T t)) (page (m ((c : Thread nD τ).loc main_arg3)) (expertOf T (num T t))) (page (m ((c : Thread nD τ).loc main_arg4)) (expertOf T (num T t)))
        (pageB (m ((c : Thread nD τ).loc main_arg5)) (expertOf T (num T t))) (pageB (m ((c : Thread nD τ).loc main_arg6)) (expertOf T (num T t)))
        (page (m ((c : Thread nD τ).loc main_arg7)) (expertOf T (num T t))) (pageB (m ((c : Thread nD τ).loc main_arg8)) (expertOf T (num T t))) (ix2 r n)) (0 : EReal) := by
  have key := cond1_iff (crd T t) (T.valid (ix1 0))
  rw [crd_val] at key
  unfold outAt
  by_cases q : IsValid T t
  · rw [dif_pos q, out_valid_eq, blk0, blk1, blk2, blk3, blk4, blk5, blk6]
    have : IntOp.cmpi .slt (BitVec.ofNat 32 t.val) (T.valid (ix1 0)) = 1#1 := key.1 (by have q' := q; unfold IsValid at q'; rwa [nv_eq] at q')
    rw [this]; rfl
  · rw [dif_neg q, out_past_eq]
    have : IntOp.cmpi .slt (BitVec.ofNat 32 t.val) (T.valid (ix1 0)) ≠ 1#1 := fun h => q (by unfold IsValid; rw [nv_eq]; exact key.2 h)
    rw [(BitVec.eq_zero_or_eq_one _).resolve_right this]
    exact (Ideal.ofBits_zero_f32 :)

/-- The result after the run is any array that agrees with the feed-forward on every valid block and with zero past them. -/
theorem result_eq (c : Dev nD) (G : S77824x1024.Idx → EReal)
    (hG : ∀ (b : Fin 304) (r : Fin 256) (n : Fin 1024) (hr), G (ix2 ⟨b.val * 256 + r.val, hr⟩ n)
      = Scalar.select (IntOp.cmpi .slt (BitVec.ofNat 32 b.val) (T.valid (ix1 0)))
        (ffn (rows (m ((c : Thread nD τ).loc main_arg0)) b) (page (m ((c : Thread nD τ).loc main_arg3)) (expertOf T b)) (page (m ((c : Thread nD τ).loc main_arg4)) (expertOf T b))
          (pageB (m ((c : Thread nD τ).loc main_arg5)) (expertOf T b)) (pageB (m ((c : Thread nD τ).loc main_arg6)) (expertOf T b))
          (page (m ((c : Thread nD τ).loc main_arg7)) (expertOf T b)) (pageB (m ((c : Thread nD τ).loc main_arg8)) (expertOf T b)) (ix2 r n)) (0 : EReal)) :
    (dats T m ρ 0 c).arrAt (7 : Fin 8) (cfgA T).N = G := by
  have lt : ∀ (t : Fin (cfgA T).N) (r : Fin 256), t.val * 256 + r.val < 77824 := fun t r => by
    have h : t.val < 304 := t.isLt
    have := r.isLt; omega
  refine (dats T m ρ 0 c).arrAt_eq_of_emb (7 : Fin 8) G (fun t _ y => ?_) (fun i => ?_)
  · obtain ⟨r, n, rfl⟩ : ∃ (r : Fin 256) (n : Fin 1024), y = ix2 r n := ⟨y 0, y 1, eq_ix2 y⟩
    rw [place T t r n (lt t r), hG (num T t) r n (lt t r), ← outAt_eq T m ρ c t r n]
    rfl
  · obtain ⟨r, n, rfl⟩ : ∃ (r : Fin 77824) (n : Fin 1024), i = ix2 r n := ⟨i 0, i 1, eq_ix2 i⟩
    have hr := r.isLt
    refine ⟨⟨r.val / 256, show _ < 304 by omega⟩, flush7 T _, ?_⟩
    have : (ix2 r n : S77824x1024.Idx) = _ := (show (ix2 r n : S77824x1024.Idx) = ix2 ⟨r.val / 256 * 256 + (⟨r.val % 256, Nat.mod_lt _ (by omega)⟩ : Fin 256).val, by show r.val / 256 * 256 + r.val % 256 < 77824; omega⟩ n from
      congrArg (fun z => ix2 z n) (Fin.ext (by show r.val = r.val / 256 * 256 + r.val % 256; omega))).trans (place T ⟨r.val / 256, show _ < 304 by omega⟩ _ n _).symm
    exact this ▸ View.emb_mem_set _ _

end Cert.KernelIdeal.Moe

end
-- ==== Proof.Gather.lean ====
/- Pages of a stack taken by a list of page numbers, read at an index. -/
module

public import Idealize.ShloMosaic.PureOps
public import Idealize.ShloMosaic.Lib.Pointwise

@[expose] public section

namespace Cert.Pages

open Idealize.ShloMosaic

/-- The dimension numbers of `stack[pages]`, for a stack of `N` pages of `a` by `b` and `n` page numbers. -/
def dims (N a b n : ℕ) (wf : GatherDims.WF ⟨3, ![N, a, b]⟩ ⟨2, ![n, 1]⟩ ⟨3, ![n, a, b]⟩ [1, 2] [0] [] [0] [] 1 ![1, a, b]) :
    GatherDims ⟨3, ![N, a, b]⟩ ⟨2, ![n, 1]⟩ ⟨3, ![n, a, b]⟩ where
  offsetDims := [1, 2]
  collapsedSliceDims := [0]
  operandBatchingDims := []
  startIndicesBatchingDims := []
  startIndexMap := [0]
  indexVectorDim := 1
  sliceSizes := ![1, a, b]
  wf := wf

/-- Row `y`, column `z` of page number `c` is that element of the page the number names, when it names one. -/
theorem gather_page {α : Type} {N a b n : ℕ} (wf) (x : (⟨3, ![N, a, b]⟩ : Shape).Idx → α) (idx : IVec ⟨2, ![n, 1]⟩ 32)
    (c : Fin n) (y : Fin a) (z : Fin b) (e : Fin N) (he : (idx (ix2 c 0)).toNat = e.val) (hN : N < 2 ^ 31) :
    Host.gather (dims N a b n wf) x idx (ix3 c y z) = x (ix3 e y z) := by
  unfold Host.gather
  refine congrArg x (funext fun k => Fin.ext ?_)
  have none : ∀ k, k ∉ (dims N a b n wf).operandBatchingDims := fun _ => List.not_mem_nil
  show (dims N a b n wf).start (ix3 c y z) idx k + (dims N a b n wf).batchCoord (ix3 c y z) k + (dims N a b n wf).offCoord (ix3 c y z) k = _
  rw [GatherDims.batchCoord_eq_zero _ _ _ (none k), Nat.add_zero]
  match k with
  | ⟨0, _⟩ =>
    have out : (0 : Fin 3) ∉ (dims N a b n wf).sKept := fun h => ((GatherDims.mem_sKept _ _).1 h).1 (List.mem_singleton.2 rfl)
    have inn : (0 : Fin 3) ∈ (dims N a b n wf).startIndexMap := List.mem_singleton.2 rfl
    show (dims N a b n wf).start (ix3 c y z) idx 0 + (dims N a b n wf).offCoord (ix3 c y z) 0 = e.val
    rw [GatherDims.offCoord_eq_zero _ _ _ out, Nat.add_zero]
    unfold GatherDims.start
    rw [dif_pos inn]
    have at_c : (dims N a b n wf).siIdx (ix3 c y z) ⟨List.idxOf (0 : Fin 3) (dims N a b n wf).startIndexMap, List.idxOf_lt_length_iff.2 inn⟩ = ix2 c 0 := by
      funext d
      match d with
      | ⟨0, _⟩ => rfl
      | ⟨1, _⟩ => rfl
    rw [at_c]
    have sgn : (idx (ix2 c 0)).toInt = e.val := by
      rw [BitVec.toInt_eq_toNat_cond, he]
      have := e.isLt
      rw [if_pos (by omega)]
    rw [sgn]
    show min ((e.val : ℤ)).toNat (N - 1) = e.val
    have := e.isLt
    omega
  | ⟨1, _⟩ =>
    show (dims N a b n wf).start (ix3 c y z) idx 1 + (dims N a b n wf).offCoord (ix3 c y z) 1 = y.val
    unfold GatherDims.start
    rw [dif_neg (show (1 : Fin 3) ∉ (dims N a b n wf).startIndexMap from by simp [dims]), Nat.zero_add]
    rfl
  | ⟨2, _⟩ =>
    show (dims N a b n wf).start (ix3 c y z) idx 2 + (dims N a b n wf).offCoord (ix3 c y z) 2 = z.val
    unfold GatherDims.start
    rw [dif_neg (show (2 : Fin 3) ∉ (dims N a b n wf).startIndexMap from by simp [dims]), Nat.zero_add]
    rfl

end Cert.Pages
-- ==== Proof.MoeReference.lean ====
/- The reference's result, block by block. -/
module

public import proofs.«01_k».proof.Proof.Gen.ReferenceIdeal.Run
public import proofs.«01_k».proof.Proof.MoeOut
public import proofs.«01_k».proof.Proof.Gather
public import Idealize.ShloMosaic.Lib.Tactic.CleanTypes

@[expose] public section

set_option maxRecDepth 16384
set_option Elab.async false

noncomputable section

namespace Cert.ReferenceIdeal.Value

open Cert.KernelIdeal.Moe (rows page pageB)
open Cert.ReferenceIdeal Cert.ReferenceIdeal.Gen Idealize.ShloMosaic Idealize.ShloMosaic.TcCoe

/-- The page numbers the reference reads the weights by. -/
abbrev pageOf (E : IVec S304 32) : IVec S304x1 32 :=
  broadcastInDim S304x1 ![0] bcast_S304_S304x1_0
    (select (cmpi .slt E (broadcastInDim S304 ![] bcast_S_S304 (constantI S_ 32 0#32)))
      (addi E (broadcastInDim S304 ![] bcast_S_S304 (constantI S_ 32 128#32))) E)

/-- A block's page number is its expert's word where that is in range. -/
theorem pageOf_apply (E : IVec S304 32) (b : Fin 304) (h : (E (ix1 b)).toNat < 128) : pageOf E (ix2 b 0) = E (ix1 b) := by
  unfold pageOf
  pointwise []
  generalize E (ix1 b) = w at h
  have : IntOp.cmpi .slt w 0#32 = 0#1 := by
    have hs : w.toInt = w.toNat := by rw [BitVec.toInt_eq_toNat_cond, if_pos (by omega)]
    have : ¬ w.toInt < (0#32).toInt := by rw [hs]; simp
    simp only [IntOp.cmpi, BitVec.slt, decide_eq_false this]
    rfl
  rw [this]
  rfl

/-- A stack of weight pages gathered by them is the expert's page. -/
theorem gather_weights {α : Type} (x : S128x1024x1024.Idx → α) (E : IVec S304 32) (b : Fin 304) (e : Fin 128) (h : (E (ix1 b)).toNat = e.val)
    (k n : Fin 1024) : Host.gather gather_S128x1024x1024_S304x1_S304x1024x1024_12_0_n_n_0_1_110241024 x (pageOf E) (ix3 b k n) = x (ix3 e k n) :=
  Pages.gather_page _ x (pageOf E) b k n e (by rw [pageOf_apply E b (h ▸ e.isLt), h]) (by omega)

/-- A stack of bias pages likewise. -/
theorem gather_biases {α : Type} (x : S128x1x1024.Idx → α) (E : IVec S304 32) (b : Fin 304) (e : Fin 128) (h : (E (ix1 b)).toNat = e.val)
    (k : Fin 1) (n : Fin 1024) : Host.gather gather_S128x1x1024_S304x1_S304x1x1024_12_0_n_n_0_1_111024 x (pageOf E) (ix3 b k n) = x (ix3 e k n) :=
  Pages.gather_page _ x (pageOf E) b k n e (by rw [pageOf_apply E b (h ▸ e.isLt), h]) (by omega)

/-- The two units shift by 16 alike. -/
theorem shl_units (w : BitVec 32) : IntOp.shli .host w 16#32 = IntOp.shli .vector w 16#32 := by
  simp [IntOp.shli]

theorem block_of (b : Fin 304) (r : Fin 256) (h) : (⟨(b.val * 256 + r.val) / 256, h⟩ : Fin 304) = b := Fin.ext (by have := r.isLt; show _ / 256 = b.val; omega)

set_option maxHeartbeats 4000000 in
/-- The reference's row `r` of block `b`: the feed-forward of the block's rows by its expert's weights where the block is valid, else zero. -/
theorem reference_apply (m : (ℓ : Loc nD τ sig) → Buf (Elt Ideal) ℓ) (c : Dev nD) (b : Fin 304) (e : Fin 128)
    (h : ((m ((c : Thread nD τ).loc main_arg1)) (ix1 b)).toNat = e.val) (r : Fin 256) (n : Fin 1024) (hr) :
    res_main_v82 m c (ix2 ⟨b.val * 256 + r.val, hr⟩ n)
      = Scalar.select (IntOp.cmpi .slt (BitVec.ofNat 32 b.val) ((m ((c : Thread nD τ).loc main_arg2)) (ix1 0)))
          (KernelIdeal.Moe.ffn (rows (m ((c : Thread nD τ).loc main_arg0)) b) (page (m ((c : Thread nD τ).loc main_arg3)) e) (page (m ((c : Thread nD τ).loc main_arg4)) e) (pageB (m ((c : Thread nD τ).loc main_arg5)) e) (pageB (m ((c : Thread nD τ).loc main_arg6)) e) (page (m ((c : Thread nD τ).loc main_arg7)) e) (pageB (m ((c : Thread nD τ).loc main_arg8)) e) (ix2 r n))
          (0 : EReal) := by
  unfold res_main_v82
  clean_types
  have gw : ∀ (x : S128x1024x1024.Idx → EReal) (k n : Fin 1024), _ := fun x k n => gather_weights x (m ((c : Thread nD τ).loc main_arg1)) b e h k n
  have gb : ∀ (x : S128x1x1024.Idx → EReal) (k : Fin 1) (n : Fin 1024), _ := fun x k n => gather_biases x (m ((c : Thread nD τ).loc main_arg1)) b e h k n
  unfold pageOf at gw gb
  unfold KernelIdeal.Moe.ffn
  pointwise [KernelIdeal.Gen.k0_pay1, KernelIdeal.Gen.k0_pay3, KernelIdeal.Gen.k0_pay4, KernelIdeal.Gen.k0_pay5, KernelIdeal.Gen.k0_pay6, id]
  simp only [gw, gb, shl_units, zero_sub]
  rfl

end Cert.ReferenceIdeal.Value

end
-- ==== Proof.MoeBitsTables.lean ====
/- The feed-forward call on its routed rows: its run-time tables, and the blocks they choose. -/
module

public import proofs.«01_k».proof.Proof.Gen.Kernel
public import proofs.«01_k».proof.Proof.Gen.Kernel.Skeleton
public import proofs.«01_k».proof.Proof.Gen.Kernel.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

/-- The run-time words one call is made with: a block's expert, each below the layers' 128, and how many blocks are valid. -/
structure Tables where
  experts : S304.Idx → BitVec 32
  valid : S1.Idx → BitVec 32
  lt : ∀ x, (experts x).toNat < 128

/-- The two prefetched tables, whole. -/
abbrev tb0 : Memref sig .tc .smem S304 .i32 := Memref.whole main_arg1
abbrev tb1 : Memref sig .tc .smem S1 .i32 := Memref.whole main_arg2

/-- The tables' contents. -/
def contents (T : Tables) : pre0.Contents (Elt Bits) := fun | ⟨0, _⟩ => T.experts | ⟨1, _⟩ => T.valid | ⟨_ + 2, h⟩ => absurd h (by simp)

/-- A block whose leading index is below 128 lies inside the leading axis. -/
theorem block_lead {n : ℕ} (h : n < 128) : (n + 1) * 1 ≤ 128 := by omega

/-- The memory holds the words `T` in its tables. -/
def Holds (T : Tables) (m : (ℓ : Loc nD τ sig) → Buf (Elt Bits) ℓ) : Prop :=
  (∀ c : Dev nD, m ((c : Thread nD τ).loc main_arg1) = T.experts) ∧ (∀ c : Dev nD, m ((c : Thread nD τ).loc main_arg2) = T.valid)

/-- Window 1's blocks lie inside its array, whole words at a time. -/
theorem ok_win1 (T : Tables) : ∀ i : grid0.Coords, ∃ h : (∀ a, (cc0_transform_1 k0_off1_inb numel1_S1 (contents T) i a + 1) * S1x1024x1024.size a ≤ S128x1024x1024.size a),
    EltTy.bits .bf16 = 32 ∨ (Rect.block (s := S128x1024x1024) S1x1024x1024.size (cc0_transform_1 k0_off1_inb numel1_S1 (contents T) i) h).WholeWords (EltTy.packing .bf16) := fun i =>
  ⟨fun a => by
    match a with
    | ⟨0, _⟩ => exact block_lead (T.lt _)
    | ⟨1, _⟩ => exact Nat.le_refl _
    | ⟨2, _⟩ => exact Nat.le_refl _
    | ⟨_ + 3, h⟩ => exact absurd h (by simp), .inr (Affine.block_words_dvd (s := S128x1024x1024) (p := EltTy.packing .bf16) (by decide) (by decide))⟩

/-- Window 2's blocks lie inside its array, whole words at a time. -/
theorem ok_win2 (T : Tables) : ∀ i : grid0.Coords, ∃ h : (∀ a, (cc0_transform_2 k0_off1_inb numel1_S1 (contents T) i a + 1) * S1x1024x1024.size a ≤ S128x1024x1024.size a),
    EltTy.bits .bf16 = 32 ∨ (Rect.block (s := S128x1024x1024) S1x1024x1024.size (cc0_transform_2 k0_off1_inb numel1_S1 (contents T) i) h).WholeWords (EltTy.packing .bf16) := fun i =>
  ⟨fun a => by
    match a with
    | ⟨0, _⟩ => exact block_lead (T.lt _)
    | ⟨1, _⟩ => exact Nat.le_refl _
    | ⟨2, _⟩ => exact Nat.le_refl _
    | ⟨_ + 3, h⟩ => exact absurd h (by simp), .inr (Affine.block_words_dvd (s := S128x1024x1024) (p := EltTy.packing .bf16) (by decide) (by decide))⟩

/-- Window 3's blocks lie inside its array, whole words at a time. -/
theorem ok_win3 (T : Tables) : ∀ i : grid0.Coords, ∃ h : (∀ a, (cc0_transform_3 k0_off1_inb numel1_S1 (contents T) i a + 1) * S1x1x1024.size a ≤ S128x1x1024.size a),
    EltTy.bits .f32 = 32 ∨ (Rect.block (s := S128x1x1024) S1x1x1024.size (cc0_transform_3 k0_off1_inb numel1_S1 (contents T) i) h).WholeWords (EltTy.packing .f32) := fun i =>
  ⟨fun a => by
    match a with
    | ⟨0, _⟩ => exact block_lead (T.lt _)
    | ⟨1, _⟩ => exact Nat.le_refl _
    | ⟨2, _⟩ => exact Nat.le_refl _
    | ⟨_ + 3, h⟩ => exact absurd h (by simp), .inl rfl⟩

/-- Window 4's blocks lie inside its array, whole words at a time. -/
theorem ok_win4 (T : Tables) : ∀ i : grid0.Coords, ∃ h : (∀ a, (cc0_transform_4 k0_off1_inb numel1_S1 (contents T) i a + 1) * S1x1x1024.size a ≤ S128x1x1024.size a),
    EltTy.bits .f32 = 32 ∨ (Rect.block (s := S128x1x1024) S1x1x1024.size (cc0_transform_4 k0_off1_inb numel1_S1 (contents T) i) h).WholeWords (EltTy.packing .f32) := fun i =>
  ⟨fun a => by
    match a with
    | ⟨0, _⟩ => exact block_lead (T.lt _)
    | ⟨1, _⟩ => exact Nat.le_refl _
    | ⟨2, _⟩ => exact Nat.le_refl _
    | ⟨_ + 3, h⟩ => exact absurd h (by simp), .inl rfl⟩

/-- Window 5's blocks lie inside its array, whole words at a time. -/
theorem ok_win5 (T : Tables) : ∀ i : grid0.Coords, ∃ h : (∀ a, (cc0_transform_5 k0_off1_inb numel1_S1 (contents T) i a + 1) * S1x1024x1024.size a ≤ S128x1024x1024.size a),
    EltTy.bits .f32 = 32 ∨ (Rect.block (s := S128x1024x1024) S1x1024x1024.size (cc0_transform_5 k0_off1_inb numel1_S1 (contents T) i) h).WholeWords (EltTy.packing .f32) := fun i =>
  ⟨fun a => by
    match a with
    | ⟨0, _⟩ => exact block_lead (T.lt _)
    | ⟨1, _⟩ => exact Nat.le_refl _
    | ⟨2, _⟩ => exact Nat.le_refl _
    | ⟨_ + 3, h⟩ => exact absurd h (by simp), .inl rfl⟩

/-- Window 6's blocks lie inside its array, whole words at a time. -/
theorem ok_win6 (T : Tables) : ∀ i : grid0.Coords, ∃ h : (∀ a, (cc0_transform_6 k0_off1_inb numel1_S1 (contents T) i a + 1) * S1x1x1024.size a ≤ S128x1x1024.size a),
    EltTy.bits .f32 = 32 ∨ (Rect.block (s := S128x1x1024) S1x1x1024.size (cc0_transform_6 k0_off1_inb numel1_S1 (contents T) i) h).WholeWords (EltTy.packing .f32) := fun i =>
  ⟨fun a => by
    match a with
    | ⟨0, _⟩ => exact block_lead (T.lt _)
    | ⟨1, _⟩ => exact Nat.le_refl _
    | ⟨2, _⟩ => exact Nat.le_refl _
    | ⟨_ + 3, h⟩ => exact absurd h (by simp), .inl rfl⟩

/-- The launch's side condition on its tables. -/
theorem ok_contents (T : Tables) : ok0 (F := Bits) (contents T) :=
  ⟨ok_win1 T, ok_win2 T, ok_win3 T, ok_win4 T, ok_win5 T, ok_win6 T⟩

/-- Exactly one of the body's two branches is taken. -/
theorem branch (i : grid0.Coords) (v : BitVec 32) : k0_cond2 i v = 1#1 ↔ ¬ k0_cond1 i v = 1#1 := by
  simp only [k0_cond1, k0_cond2, Scalar.cmpi, Scalar.extui, IntOp.cmpi]
  generalize BitVec.ofNat 32 (i 0).val = a
  unfold BitVec.sle BitVec.slt
  by_cases h : a.toInt < v.toInt
  · rw [decide_eq_true h, decide_eq_false (not_le.2 h)]; decide
  · rw [decide_eq_false h, decide_eq_true (not_lt.1 h)]; decide

/-- The contents the launch runs at, and the pipeline at them. -/
def adm (T : Tables) : (pcfg0 (F := Bits)).Adm := ⟨contents T, ok_contents T⟩
abbrev cfgA (T : Tables) : Pipeline.Cfg sig Λ₀ := cfg0 (F := Bits) (adm T)
abbrev pcs (T : Tables) : Fin 1 → Pipeline.Cfg sig Λ₀ := Pipeline.pin (pcfgs (F := Bits)) fun _ => adm T

/-- Point `t`'s coordinates. -/
abbrev crd (T : Tables) (t : Fin (cfgA T).N) : (cfgA T).grid.Coords := (cfgA T).grid.coords t

/-- No point leaves the result's block as it was. -/
theorem never_idle (T : Tables) (i : grid0.Coords) : (cfgA T).idle (7 : Fin 8) i = false := by
  show (!(k0_cond1 i ((contents T).atD 1 ![0]) == 1#1) && !(k0_cond2 i ((contents T).atD 1 ![0]) == 1#1)) = false
  have h := branch i ((contents T).atD 1 ![0])
  by_cases h1 : k0_cond1 i ((contents T).atD 1 ![0]) = 1#1
  · rw [h1]; rfl
  · rw [h.2 h1]; exact Bool.and_false _

/-! ## A point's staging buffers and blocks -/

abbrev st0 (T : Tables) (t : Fin (cfgA T).N) : Memref sig .tc .vmem S256x512 .i32 := spec0_0.stage ((cfgA T).slots t (0 : Fin 8))
abbrev sw0 (T : Tables) (t : Fin (cfgA T).N) : (st0 T t).IsWhole := hstage0_0 (((cfgA T).slots t (0 : Fin 8)).cast nbuf0_0)
abbrev st1 (T : Tables) (t : Fin (cfgA T).N) : Memref sig .tc .vmem S1x1024x1024 .bf16 := spec0_1.stage ((cfgA T).slots t (1 : Fin 8))
abbrev sw1 (T : Tables) (t : Fin (cfgA T).N) : (st1 T t).IsWhole := hstage0_1 (((cfgA T).slots t (1 : Fin 8)).cast nbuf0_1)
abbrev st2 (T : Tables) (t : Fin (cfgA T).N) : Memref sig .tc .vmem S1x1024x1024 .bf16 := spec0_2.stage ((cfgA T).slots t (2 : Fin 8))
abbrev sw2 (T : Tables) (t : Fin (cfgA T).N) : (st2 T t).IsWhole := hstage0_2 (((cfgA T).slots t (2 : Fin 8)).cast nbuf0_2)
abbrev st3 (T : Tables) (t : Fin (cfgA T).N) : Memref sig .tc .vmem S1x1x1024 .f32 := spec0_3.stage ((cfgA T).slots t (3 : Fin 8))
abbrev sw3 (T : Tables) (t : Fin (cfgA T).N) : (st3 T t).IsWhole := hstage0_3 (((cfgA T).slots t (3 : Fin 8)).cast nbuf0_3)
abbrev st4 (T : Tables) (t : Fin (cfgA T).N) : Memref sig .tc .vmem S1x1x1024 .f32 := spec0_4.stage ((cfgA T).slots t (4 : Fin 8))
abbrev sw4 (T : Tables) (t : Fin (cfgA T).N) : (st4 T t).IsWhole := hstage0_4 (((cfgA T).slots t (4 : Fin 8)).cast nbuf0_4)
abbrev st5 (T : Tables) (t : Fin (cfgA T).N) : Memref sig .tc .vmem S1x1024x1024 .f32 := spec0_5.stage ((cfgA T).slots t (5 : Fin 8))
abbrev sw5 (T : Tables) (t : Fin (cfgA T).N) : (st5 T t).IsWhole := hstage0_5 (((cfgA T).slots t (5 : Fin 8)).cast nbuf0_5)
abbrev st6 (T : Tables) (t : Fin (cfgA T).N) : Memref sig .tc .vmem S1x1x1024 .f32 := spec0_6.stage ((cfgA T).slots t (6 : Fin 8))
abbrev sw6 (T : Tables) (t : Fin (cfgA T).N) : (st6 T t).IsWhole := hstage0_6 (((cfgA T).slots t (6 : Fin 8)).cast nbuf0_6)
abbrev st7 (T : Tables) (t : Fin (cfgA T).N) : Memref sig .tc .vmem S256x1024 .f32 := spec0_7.stage ((cfgA T).slots t (7 : Fin 8))
abbrev sw7 (T : Tables) (t : Fin (cfgA T).N) : (st7 T t).IsWhole := hstage0_7 (((cfgA T).slots t (7 : Fin 8)).cast nbuf0_7)

variable (T : Tables) (m : (ℓ : Loc nD τ sig) → Buf (Elt Bits) ℓ) (ρ : Dev nD → PrngReg)

/-- Window `w`'s block at point `t`, read off its array at launch. -/
def blk (c : Dev nD) (w : Fin (cfgA T).W) (t : Fin (cfgA T).N) : (((cfgA T).win w).xblock (crd T t)).Idx → Elt Bits ((cfgA T).win w).elt :=
  (((cfgA T).win w).blk t).view.read (Elt Bits) ((s₀ m ρ).mem (((cfgA T).win w).arr.view.loc (c : Thread nD τ)))

/-- The number of valid blocks, as the body reads it. -/
abbrev nv (V : S1.Idx → Elt Bits .i32) : Elt Bits .i32 :=
  View.readAt (Elt Bits) tb1.view (Rect.unit (s := S1) ![0] S1.size inb_S1_S1_0).toLoadRect V (Shape.Idx.first (numel1_S1.symm ▸ Nat.one_pos))

end Cert.Kernel.Moe

end
-- ==== Proof.MoeBitsRuns.lean ====
/- The feed-forward body at a valid block and past the valid ones. -/
module

public import proofs.«01_k».proof.Proof.MoeBitsTables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

/-- A staging buffer of the result, through which its contents are stated. -/
abbrev VO : View sig .tc .vmem S256x1024 .f32 := (Memref.whole cc0_stg7_0 : Memref sig .tc .vmem S256x1024 .f32).view

set_option backward.proofsInPublic true in
set_option maxHeartbeats 8000000 in
/-- The body at a valid block: the pieces it stores into the result's block, with the proof that it runs from the inputs at their
    blocks and the tables, gives all of them back, and leaves the result's buffer written with those pieces. -/
noncomputable def run_valid (c : Dev nD) (i : grid0.Coords) (a0 : Memref sig .tc .vmem S256x512 .i32) (h0 : a0.IsWhole) (a1 : Memref sig .tc .vmem S1x1024x1024 .bf16) (h1 : a1.IsWhole) (a2 : Memref sig .tc .vmem S1x1024x1024 .bf16) (h2 : a2.IsWhole) (a3 : Memref sig .tc .vmem S1x1x1024 .f32) (h3 : a3.IsWhole) (a4 : Memref sig .tc .vmem S1x1x1024 .f32) (h4 : a4.IsWhole) (a5 : Memref sig .tc .vmem S1x1024x1024 .f32) (h5 : a5.IsWhole) (a6 : Memref sig .tc .vmem S1x1x1024 .f32) (h6 : a6.IsWhole) (a7 : Memref sig .tc .vmem S256x1024 .f32) (h7 : a7.IsWhole) (E : S304.Idx → Elt Bits .i32) (V : S1.Idx → Elt Bits .i32)
    (x0 : S256x512.Idx → Elt Bits .i32) (x1 : S1x1024x1024.Idx → Elt Bits .bf16) (x2 : S1x1024x1024.Idx → Elt Bits .bf16) (x3 : S1x1x1024.Idx → Elt Bits .f32) (x4 : S1x1x1024.Idx → Elt Bits .f32) (x5 : S1x1024x1024.Idx → Elt Bits .f32) (x6 : S1x1x1024.Idx → Elt Bits .f32)
    (g1 : k0_cond1 i (nv V) = 1#1) (g2 : ¬ k0_cond2 i (nv V) = 1#1) :
    { L : List (View.Piece (Elt Bits) S256x1024 .f32) //
      ∀ (K : PUnit → sProp 𝕄),
        iprop((a0.view.loc (c : Thread nD τ) ↦[a0.view.set]{fullShare} a0.view.rep x0)
          ∗ (a1.view.loc (c : Thread nD τ) ↦[a1.view.set]{fullShare} a1.view.rep x1)
          ∗ (a2.view.loc (c : Thread nD τ) ↦[a2.view.set]{fullShare} a2.view.rep x2)
          ∗ (a3.view.loc (c : Thread nD τ) ↦[a3.view.set]{fullShare} a3.view.rep x3)
          ∗ (a4.view.loc (c : Thread nD τ) ↦[a4.view.set]{fullShare} a4.view.rep x4)
          ∗ (a5.view.loc (c : Thread nD τ) ↦[a5.view.set]{fullShare} a5.view.rep x5)
          ∗ (a6.view.loc (c : Thread nD τ) ↦[a6.view.set]{fullShare} a6.view.rep x6)
          ∗ (tb0.view.loc (c : Thread nD τ) ↦{fullShare.right} E)
          ∗ (tb1.view.loc (c : Thread nD τ) ↦{fullShare.right} V)
          ∗ (∃ d, owns (c : Thread nD τ) a7 fullShare d)
          ∗ (iprop((a0.view.loc (c : Thread nD τ) ↦[a0.view.set]{fullShare} a0.view.rep x0)
              ∗ (a1.view.loc (c : Thread nD τ) ↦[a1.view.set]{fullShare} a1.view.rep x1)
              ∗ (a2.view.loc (c : Thread nD τ) ↦[a2.view.set]{fullShare} a2.view.rep x2)
              ∗ (a3.view.loc (c : Thread nD τ) ↦[a3.view.set]{fullShare} a3.view.rep x3)
              ∗ (a4.view.loc (c : Thread nD τ) ↦[a4.view.set]{fullShare} a4.view.rep x4)
              ∗ (a5.view.loc (c : Thread nD τ) ↦[a5.view.set]{fullShare} a5.view.rep x5)
              ∗ (a6.view.loc (c : Thread nD τ) ↦[a6.view.set]{fullShare} a6.view.rep x6)
              ∗ (tb0.view.loc (c : Thread nD τ) ↦{fullShare.right} E)
              ∗ (tb1.view.loc (c : Thread nD τ) ↦{fullShare.right} V)
              ∗ (∃ f, a7.view.loc (c : Thread nD τ) ↦[a7.view.set]{fullShare} a7.view.writes (Elt Bits) f L)) -∗ K ⟨⟩))
          ⊢ wp frame (wpE (defs₀ (F := Bits)) Variants.none c none) Set.univ (cc0_moe_ffn i tb0 (Memref.isWhole_whole _) tb1 (Memref.isWhole_whole _) a0 h0 a1 h1 a2 h2 a3 h3 a4 h4 a5 h5 a6 h6 a7 h7) K } :=
  ⟨_, fun K => by
    unfold owns
    rw [cc0_moe_ffn_eq_skeleton]; unfold cc0_moe_ffn_skel
    iintro ⟨H0, H1, H2, H3, H4, H5, H6, HE, HV, ⟨%d7, %f7, -, HO⟩, Hk⟩
    have hE : tb0.IsWhole := Memref.isWhole_whole _
    have hV : tb1.IsWhole := Memref.isWhole_whole _
    sl_exec! (disch := first | (guard_target = k0_cond1 _ _ = _; exact g1) | (guard_target = ¬(k0_cond2 _ _ = _); exact g2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HE]; · iexact HE
    isplitl [HV]; · iexact HV
    iexists _; iexact HO⟩

/-- Those pieces cover the block. -/
theorem cover_valid (c : Dev nD) (i : grid0.Coords) (a0 : Memref sig .tc .vmem S256x512 .i32) (h0 : a0.IsWhole) (a1 : Memref sig .tc .vmem S1x1024x1024 .bf16) (h1 : a1.IsWhole) (a2 : Memref sig .tc .vmem S1x1024x1024 .bf16) (h2 : a2.IsWhole) (a3 : Memref sig .tc .vmem S1x1x1024 .f32) (h3 : a3.IsWhole) (a4 : Memref sig .tc .vmem S1x1x1024 .f32) (h4 : a4.IsWhole) (a5 : Memref sig .tc .vmem S1x1024x1024 .f32) (h5 : a5.IsWhole) (a6 : Memref sig .tc .vmem S1x1x1024 .f32) (h6 : a6.IsWhole) (a7 : Memref sig .tc .vmem S256x1024 .f32) (h7 : a7.IsWhole) (E : S304.Idx → Elt Bits .i32) (V : S1.Idx → Elt Bits .i32)
    (x0 : S256x512.Idx → Elt Bits .i32) (x1 : S1x1024x1024.Idx → Elt Bits .bf16) (x2 : S1x1024x1024.Idx → Elt Bits .bf16) (x3 : S1x1x1024.Idx → Elt Bits .f32) (x4 : S1x1x1024.Idx → Elt Bits .f32) (x5 : S1x1024x1024.Idx → Elt Bits .f32) (x6 : S1x1x1024.Idx → Elt Bits .f32)
    (g1 : k0_cond1 i (nv V) = 1#1) (g2 : ¬ k0_cond2 i (nv V) = 1#1) (y : S256x1024.Idx) :
    ∃ pc ∈ (run_valid c i a0 h0 a1 h1 a2 h2 a3 h3 a4 h4 a5 h5 a6 h6 a7 h7 E V x0 x1 x2 x3 x4 x5 x6 g1 g2).1, y ∈ pc.1.set :=
  View.cover_of_tiledL (run_valid c i a0 h0 a1 h1 a2 h2 a3 h3 a4 h4 a5 h5 a6 h6 a7 h7 E V x0 x1 x2 x3 x4 x5 x6 g1 g2).1 S256x1024.size (by sl_kernel_rfl) y

/-- The block they leave. -/
def out_valid (c : Dev nD) (i : grid0.Coords) (a0 : Memref sig .tc .vmem S256x512 .i32) (h0 : a0.IsWhole) (a1 : Memref sig .tc .vmem S1x1024x1024 .bf16) (h1 : a1.IsWhole) (a2 : Memref sig .tc .vmem S1x1024x1024 .bf16) (h2 : a2.IsWhole) (a3 : Memref sig .tc .vmem S1x1x1024 .f32) (h3 : a3.IsWhole) (a4 : Memref sig .tc .vmem S1x1x1024 .f32) (h4 : a4.IsWhole) (a5 : Memref sig .tc .vmem S1x1024x1024 .f32) (h5 : a5.IsWhole) (a6 : Memref sig .tc .vmem S1x1x1024 .f32) (h6 : a6.IsWhole) (a7 : Memref sig .tc .vmem S256x1024 .f32) (h7 : a7.IsWhole) (E : S304.Idx → Elt Bits .i32) (V : S1.Idx → Elt Bits .i32)
    (x0 : S256x512.Idx → Elt Bits .i32) (x1 : S1x1024x1024.Idx → Elt Bits .bf16) (x2 : S1x1024x1024.Idx → Elt Bits .bf16) (x3 : S1x1x1024.Idx → Elt Bits .f32) (x4 : S1x1x1024.Idx → Elt Bits .f32) (x5 : S1x1024x1024.Idx → Elt Bits .f32) (x6 : S1x1x1024.Idx → Elt Bits .f32)
    (g1 : k0_cond1 i (nv V) = 1#1) (g2 : ¬ k0_cond2 i (nv V) = 1#1) : S256x1024.Idx → Elt Bits .f32 :=
  VO.read (Elt Bits) (VO.writes (Elt Bits) VO.junk (run_valid c i a0 h0 a1 h1 a2 h2 a3 h3 a4 h4 a5 h5 a6 h6 a7 h7 E V x0 x1 x2 x3 x4 x5 x6 g1 g2).1)

set_option backward.proofsInPublic true in
set_option maxHeartbeats 8000000 in
/-- The body at a block past the valid ones: the pieces it stores into the result's block, with the proof that it runs from the inputs at their
    blocks and the tables, gives all of them back, and leaves the result's buffer written with those pieces. -/
noncomputable def run_past (c : Dev nD) (i : grid0.Coords) (a0 : Memref sig .tc .vmem S256x512 .i32) (h0 : a0.IsWhole) (a1 : Memref sig .tc .vmem S1x1024x1024 .bf16) (h1 : a1.IsWhole) (a2 : Memref sig .tc .vmem S1x1024x1024 .bf16) (h2 : a2.IsWhole) (a3 : Memref sig .tc .vmem S1x1x1024 .f32) (h3 : a3.IsWhole) (a4 : Memref sig .tc .vmem S1x1x1024 .f32) (h4 : a4.IsWhole) (a5 : Memref sig .tc .vmem S1x1024x1024 .f32) (h5 : a5.IsWhole) (a6 : Memref sig .tc .vmem S1x1x1024 .f32) (h6 : a6.IsWhole) (a7 : Memref sig .tc .vmem S256x1024 .f32) (h7 : a7.IsWhole) (E : S304.Idx → Elt Bits .i32) (V : S1.Idx → Elt Bits .i32)
    (x0 : S256x512.Idx → Elt Bits .i32) (x1 : S1x1024x1024.Idx → Elt Bits .bf16) (x2 : S1x1024x1024.Idx → Elt Bits .bf16) (x3 : S1x1x1024.Idx → Elt Bits .f32) (x4 : S1x1x1024.Idx → Elt Bits .f32) (x5 : S1x1024x1024.Idx → Elt Bits .f32) (x6 : S1x1x1024.Idx → Elt Bits .f32)
    (g1 : ¬ k0_cond1 i (nv V) = 1#1) (g2 : k0_cond2 i (nv V) = 1#1) :
    { L : List (View.Piece (Elt Bits) S256x1024 .f32) //
      ∀ (K : PUnit → sProp 𝕄),
        iprop((a0.view.loc (c : Thread nD τ) ↦[a0.view.set]{fullShare} a0.view.rep x0)
          ∗ (a1.view.loc (c : Thread nD τ) ↦[a1.view.set]{fullShare} a1.view.rep x1)
          ∗ (a2.view.loc (c : Thread nD τ) ↦[a2.view.set]{fullShare} a2.view.rep x2)
          ∗ (a3.view.loc (c : Thread nD τ) ↦[a3.view.set]{fullShare} a3.view.rep x3)
          ∗ (a4.view.loc (c : Thread nD τ) ↦[a4.view.set]{fullShare} a4.view.rep x4)
          ∗ (a5.view.loc (c : Thread nD τ) ↦[a5.view.set]{fullShare} a5.view.rep x5)
          ∗ (a6.view.loc (c : Thread nD τ) ↦[a6.view.set]{fullShare} a6.view.rep x6)
          ∗ (tb0.view.loc (c : Thread nD τ) ↦{fullShare.right} E)
          ∗ (tb1.view.loc (c : Thread nD τ) ↦{fullShare.right} V)
          ∗ (∃ d, owns (c : Thread nD τ) a7 fullShare d)
          ∗ (iprop((a0.view.loc (c : Thread nD τ) ↦[a0.view.set]{fullShare} a0.view.rep x0)
              ∗ (a1.view.loc (c : Thread nD τ) ↦[a1.view.set]{fullShare} a1.view.rep x1)
              ∗ (a2.view.loc (c : Thread nD τ) ↦[a2.view.set]{fullShare} a2.view.rep x2)
              ∗ (a3.view.loc (c : Thread nD τ) ↦[a3.view.set]{fullShare} a3.view.rep x3)
              ∗ (a4.view.loc (c : Thread nD τ) ↦[a4.view.set]{fullShare} a4.view.rep x4)
              ∗ (a5.view.loc (c : Thread nD τ) ↦[a5.view.set]{fullShare} a5.view.rep x5)
              ∗ (a6.view.loc (c : Thread nD τ) ↦[a6.view.set]{fullShare} a6.view.rep x6)
              ∗ (tb0.view.loc (c : Thread nD τ) ↦{fullShare.right} E)
              ∗ (tb1.view.loc (c : Thread nD τ) ↦{fullShare.right} V)
              ∗ (∃ f, a7.view.loc (c : Thread nD τ) ↦[a7.view.set]{fullShare} a7.view.writes (Elt Bits) f L)) -∗ K ⟨⟩))
          ⊢ wp frame (wpE (defs₀ (F := Bits)) Variants.none c none) Set.univ (cc0_moe_ffn i tb0 (Memref.isWhole_whole _) tb1 (Memref.isWhole_whole _) a0 h0 a1 h1 a2 h2 a3 h3 a4 h4 a5 h5 a6 h6 a7 h7) K } :=
  ⟨_, fun K => by
    unfold owns
    rw [cc0_moe_ffn_eq_skeleton]; unfold cc0_moe_ffn_skel
    iintro ⟨H0, H1, H2, H3, H4, H5, H6, HE, HV, ⟨%d7, %f7, -, HO⟩, Hk⟩
    have hE : tb0.IsWhole := Memref.isWhole_whole _
    have hV : tb1.IsWhole := Memref.isWhole_whole _
    sl_exec! (disch := first | (guard_target = ¬(k0_cond1 _ _ = _); exact g1) | (guard_target = k0_cond2 _ _ = _; exact g2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HE]; · iexact HE
    isplitl [HV]; · iexact HV
    iexists _; iexact HO⟩

/-- Those pieces cover the block. -/
theorem cover_past (c : Dev nD) (i : grid0.Coords) (a0 : Memref sig .tc .vmem S256x512 .i32) (h0 : a0.IsWhole) (a1 : Memref sig .tc .vmem S1x1024x1024 .bf16) (h1 : a1.IsWhole) (a2 : Memref sig .tc .vmem S1x1024x1024 .bf16) (h2 : a2.IsWhole) (a3 : Memref sig .tc .vmem S1x1x1024 .f32) (h3 : a3.IsWhole) (a4 : Memref sig .tc .vmem S1x1x1024 .f32) (h4 : a4.IsWhole) (a5 : Memref sig .tc .vmem S1x1024x1024 .f32) (h5 : a5.IsWhole) (a6 : Memref sig .tc .vmem S1x1x1024 .f32) (h6 : a6.IsWhole) (a7 : Memref sig .tc .vmem S256x1024 .f32) (h7 : a7.IsWhole) (E : S304.Idx → Elt Bits .i32) (V : S1.Idx → Elt Bits .i32)
    (x0 : S256x512.Idx → Elt Bits .i32) (x1 : S1x1024x1024.Idx → Elt Bits .bf16) (x2 : S1x1024x1024.Idx → Elt Bits .bf16) (x3 : S1x1x1024.Idx → Elt Bits .f32) (x4 : S1x1x1024.Idx → Elt Bits .f32) (x5 : S1x1024x1024.Idx → Elt Bits .f32) (x6 : S1x1x1024.Idx → Elt Bits .f32)
    (g1 : ¬ k0_cond1 i (nv V) = 1#1) (g2 : k0_cond2 i (nv V) = 1#1) (y : S256x1024.Idx) :
    ∃ pc ∈ (run_past c i a0 h0 a1 h1 a2 h2 a3 h3 a4 h4 a5 h5 a6 h6 a7 h7 E V x0 x1 x2 x3 x4 x5 x6 g1 g2).1, y ∈ pc.1.set :=
  View.cover_of_tiledL (run_past c i a0 h0 a1 h1 a2 h2 a3 h3 a4 h4 a5 h5 a6 h6 a7 h7 E V x0 x1 x2 x3 x4 x5 x6 g1 g2).1 S256x1024.size (by sl_kernel_rfl) y

/-- The block they leave. -/
def out_past (c : Dev nD) (i : grid0.Coords) (a0 : Memref sig .tc .vmem S256x512 .i32) (h0 : a0.IsWhole) (a1 : Memref sig .tc .vmem S1x1024x1024 .bf16) (h1 : a1.IsWhole) (a2 : Memref sig .tc .vmem S1x1024x1024 .bf16) (h2 : a2.IsWhole) (a3 : Memref sig .tc .vmem S1x1x1024 .f32) (h3 : a3.IsWhole) (a4 : Memref sig .tc .vmem S1x1x1024 .f32) (h4 : a4.IsWhole) (a5 : Memref sig .tc .vmem S1x1024x1024 .f32) (h5 : a5.IsWhole) (a6 : Memref sig .tc .vmem S1x1x1024 .f32) (h6 : a6.IsWhole) (a7 : Memref sig .tc .vmem S256x1024 .f32) (h7 : a7.IsWhole) (E : S304.Idx → Elt Bits .i32) (V : S1.Idx → Elt Bits .i32)
    (x0 : S256x512.Idx → Elt Bits .i32) (x1 : S1x1024x1024.Idx → Elt Bits .bf16) (x2 : S1x1024x1024.Idx → Elt Bits .bf16) (x3 : S1x1x1024.Idx → Elt Bits .f32) (x4 : S1x1x1024.Idx → Elt Bits .f32) (x5 : S1x1024x1024.Idx → Elt Bits .f32) (x6 : S1x1x1024.Idx → Elt Bits .f32)
    (g1 : ¬ k0_cond1 i (nv V) = 1#1) (g2 : k0_cond2 i (nv V) = 1#1) : S256x1024.Idx → Elt Bits .f32 :=
  VO.read (Elt Bits) (VO.writes (Elt Bits) VO.junk (run_past c i a0 h0 a1 h1 a2 h2 a3 h3 a4 h4 a5 h5 a6 h6 a7 h7 E V x0 x1 x2 x3 x4 x5 x6 g1 g2).1)

end Cert.Kernel.Moe

end
-- ==== Proof.MoeBitsLaunch.lean ====
/- The feed-forward call: its proof data, its launch, and its frame. -/
module

public import proofs.«01_k».proof.Proof.MoeBitsRuns
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

/-- The rounds library's share of the proof's resources. -/
abbrev EP : Emb (UR sig nD τ) 𝕄 := emb₁

variable (T : Tables) (m : (ℓ : Loc nD τ sig) → Buf (Elt Bits) ℓ) (ρ : Dev nD → PrngReg)

/-- Point `t`'s block is a valid one. -/
abbrev IsValid (t : Fin (cfgA T).N) : Prop := k0_cond1 (crd T t) (nv T.valid) = 1#1

/-- The block of the result the body leaves at point `t`. -/
def outAt (c : Dev nD) (t : Fin (cfgA T).N) : S256x1024.Idx → Elt Bits .f32 :=
  if q : IsValid T t then
    out_valid c (crd T t) (st0 T t) (sw0 T t) (st1 T t) (sw1 T t) (st2 T t) (sw2 T t) (st3 T t) (sw3 T t) (st4 T t) (sw4 T t) (st5 T t) (sw5 T t) (st6 T t) (sw6 T t) (st7 T t) (sw7 T t) T.experts T.valid (blk T m ρ c (0 : Fin 8) t) (blk T m ρ c (1 : Fin 8) t) (blk T m ρ c (2 : Fin 8) t) (blk T m ρ c (3 : Fin 8) t) (blk T m ρ c (4 : Fin 8) t) (blk T m ρ c (5 : Fin 8) t) (blk T m ρ c (6 : Fin 8) t) q (fun h => (branch _ _).1 h q)
  else
    out_past c (crd T t) (st0 T t) (sw0 T t) (st1 T t) (sw1 T t) (st2 T t) (sw2 T t) (st3 T t) (sw3 T t) (st4 T t) (sw4 T t) (st5 T t) (sw5 T t) (st6 T t) (sw6 T t) (st7 T t) (sw7 T t) T.experts T.valid (blk T m ρ c (0 : Fin 8) t) (blk T m ρ c (1 : Fin 8) t) (blk T m ρ c (2 : Fin 8) t) (blk T m ρ c (3 : Fin 8) t) (blk T m ρ c (4 : Fin 8) t) (blk T m ρ c (5 : Fin 8) t) (blk T m ρ c (6 : Fin 8) t) q ((branch _ _).2 q)

/-- Between points the core holds its halves of the tables. -/
def Inv (c : Dev nD) : sProp 𝕄 :=
  iprop((tb0.view.loc (c : Thread nD τ) ↦{fullShare.right} T.experts) ∗ (tb1.view.loc (c : Thread nD τ) ↦{fullShare.right} T.valid))

/-- The pipeline's proof data on core `c`. -/
def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => blk T m ρ c (0 : Fin 8) t
    | ⟨1, _⟩ => blk T m ρ c (1 : Fin 8) t
    | ⟨2, _⟩ => blk T m ρ c (2 : Fin 8) t
    | ⟨3, _⟩ => blk T m ρ c (3 : Fin 8) t
    | ⟨4, _⟩ => blk T m ρ c (4 : Fin 8) t
    | ⟨5, _⟩ => blk T m ρ c (5 : Fin 8) t
    | ⟨6, _⟩ => blk T m ρ c (6 : Fin 8) t
    | ⟨7, _⟩ => outAt T m ρ c t
  Φ _ := Inv T c
  q _ := fullShare
  owed _ := 0

theorem after0 (c : Dev nD) (t : Fin (cfgA T).N) : (dats T m ρ 0 c).after (0 : Fin 8) t = blk T m ρ c (0 : Fin 8) t := rfl
theorem after1 (c : Dev nD) (t : Fin (cfgA T).N) : (dats T m ρ 0 c).after (1 : Fin 8) t = blk T m ρ c (1 : Fin 8) t := rfl
theorem after2 (c : Dev nD) (t : Fin (cfgA T).N) : (dats T m ρ 0 c).after (2 : Fin 8) t = blk T m ρ c (2 : Fin 8) t := rfl
theorem after3 (c : Dev nD) (t : Fin (cfgA T).N) : (dats T m ρ 0 c).after (3 : Fin 8) t = blk T m ρ c (3 : Fin 8) t := rfl
theorem after4 (c : Dev nD) (t : Fin (cfgA T).N) : (dats T m ρ 0 c).after (4 : Fin 8) t = blk T m ρ c (4 : Fin 8) t := rfl
theorem after5 (c : Dev nD) (t : Fin (cfgA T).N) : (dats T m ρ 0 c).after (5 : Fin 8) t = blk T m ρ c (5 : Fin 8) t := rfl
theorem after6 (c : Dev nD) (t : Fin (cfgA T).N) : (dats T m ρ 0 c).after (6 : Fin 8) t = blk T m ρ c (6 : Fin 8) t := rfl
theorem after7 (c : Dev nD) (t : Fin (cfgA T).N) : (dats T m ρ 0 c).after (7 : Fin 8) t = outAt T m ρ c t := rfl

/-! An input window holds its block when the body runs. -/

theorem before0 (c : Dev nD) (t : Fin (cfgA T).N) (d) : (dats T m ρ 0 c).before (0 : Fin 8) t d = blk T m ρ c (0 : Fin 8) t :=
  ((dats T m ρ 0 c).before_in_eq_fetched (0 : Fin 8) rfl (fun _ => rfl) (fun _ _ _ => rfl) (fun t => by rw [after0]; unfold Dat.blockOf blk; rfl) t d).trans
    (by unfold Dat.fetched Dat.blockOf blk; rfl)
theorem before1 (c : Dev nD) (t : Fin (cfgA T).N) (d) : (dats T m ρ 0 c).before (1 : Fin 8) t d = blk T m ρ c (1 : Fin 8) t :=
  ((dats T m ρ 0 c).before_in_eq_fetched (1 : Fin 8) rfl (fun _ => rfl) (fun _ _ _ => rfl) (fun t => by rw [after1]; unfold Dat.blockOf blk; rfl) t d).trans
    (by unfold Dat.fetched Dat.blockOf blk; rfl)
theorem before2 (c : Dev nD) (t : Fin (cfgA T).N) (d) : (dats T m ρ 0 c).before (2 : Fin 8) t d = blk T m ρ c (2 : Fin 8) t :=
  ((dats T m ρ 0 c).before_in_eq_fetched (2 : Fin 8) rfl (fun _ => rfl) (fun _ _ _ => rfl) (fun t => by rw [after2]; unfold Dat.blockOf blk; rfl) t d).trans
    (by unfold Dat.fetched Dat.blockOf blk; rfl)
theorem before3 (c : Dev nD) (t : Fin (cfgA T).N) (d) : (dats T m ρ 0 c).before (3 : Fin 8) t d = blk T m ρ c (3 : Fin 8) t :=
  ((dats T m ρ 0 c).before_in_eq_fetched (3 : Fin 8) rfl (fun _ => rfl) (fun _ _ _ => rfl) (fun t => by rw [after3]; unfold Dat.blockOf blk; rfl) t d).trans
    (by unfold Dat.fetched Dat.blockOf blk; rfl)
theorem before4 (c : Dev nD) (t : Fin (cfgA T).N) (d) : (dats T m ρ 0 c).before (4 : Fin 8) t d = blk T m ρ c (4 : Fin 8) t :=
  ((dats T m ρ 0 c).before_in_eq_fetched (4 : Fin 8) rfl (fun _ => rfl) (fun _ _ _ => rfl) (fun t => by rw [after4]; unfold Dat.blockOf blk; rfl) t d).trans
    (by unfold Dat.fetched Dat.blockOf blk; rfl)
theorem before5 (c : Dev nD) (t : Fin (cfgA T).N) (d) : (dats T m ρ 0 c).before (5 : Fin 8) t d = blk T m ρ c (5 : Fin 8) t :=
  ((dats T m ρ 0 c).before_in_eq_fetched (5 : Fin 8) rfl (fun _ => rfl) (fun _ _ _ => rfl) (fun t => by rw [after5]; unfold Dat.blockOf blk; rfl) t d).trans
    (by unfold Dat.fetched Dat.blockOf blk; rfl)
theorem before6 (c : Dev nD) (t : Fin (cfgA T).N) (d) : (dats T m ρ 0 c).before (6 : Fin 8) t d = blk T m ρ c (6 : Fin 8) t :=
  ((dats T m ρ 0 c).before_in_eq_fetched (6 : Fin 8) rfl (fun _ => rfl) (fun _ _ _ => rfl) (fun t => by rw [after6]; unfold Dat.blockOf blk; rfl) t d).trans
    (by unfold Dat.fetched Dat.blockOf blk; rfl)

/-- The body at point `t`, as the pipeline calls it. -/
abbrev bodyAt (t : Fin (cfgA T).N) : Prog (TpuEff nD τ sig (Elt Bits) Λ₀ .tc) PUnit :=
  cc0_moe_ffn (crd T t) (Memref.whole main_arg1) (Memref.isWhole_whole _) (Memref.whole main_arg2) (Memref.isWhole_whole _) (st0 T t) (sw0 T t) (st1 T t) (sw1 T t) (st2 T t) (sw2 T t) (st3 T t) (sw3 T t) (st4 T t) (sw4 T t) (st5 T t) (sw5 T t) (st6 T t) (sw6 T t) (st7 T t) (sw7 T t)

set_option maxHeartbeats 4000000 in
/-- The body's run at a generic point: the branch the words take, and what it leaves. -/
theorem body_sound (c : Dev nD) (t : Fin (cfgA T).N) :
    iprop((dats T m ρ 0 c).Φ t.castSucc ∗ (dats T m ρ 0 c).owesAt () t.castSucc
        ∗ (∃ d, owns (c : Thread nD τ) (st0 T t) fullShare ((dats T m ρ 0 c).before (0 : Fin 8) t d))
        ∗ (∃ d, owns (c : Thread nD τ) (st1 T t) fullShare ((dats T m ρ 0 c).before (1 : Fin 8) t d))
        ∗ (∃ d, owns (c : Thread nD τ) (st2 T t) fullShare ((dats T m ρ 0 c).before (2 : Fin 8) t d))
        ∗ (∃ d, owns (c : Thread nD τ) (st3 T t) fullShare ((dats T m ρ 0 c).before (3 : Fin 8) t d))
        ∗ (∃ d, owns (c : Thread nD τ) (st4 T t) fullShare ((dats T m ρ 0 c).before (4 : Fin 8) t d))
        ∗ (∃ d, owns (c : Thread nD τ) (st5 T t) fullShare ((dats T m ρ 0 c).before (5 : Fin 8) t d))
        ∗ (∃ d, owns (c : Thread nD τ) (st6 T t) fullShare ((dats T m ρ 0 c).before (6 : Fin 8) t d))
        ∗ (∃ d, owns (c : Thread nD τ) (st7 T t) fullShare ((dats T m ρ 0 c).before (7 : Fin 8) t d)))
      ⊢ wp frame (wpE (defs₀ (F := Bits)) Variants.none c none) Set.univ (bodyAt T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  have i7 := never_idle T (crd T t)
  rewrite [i7]
  simp only [before0, before1, before2, before3, before4, before5, before6, after0, after1, after2, after3, after4, after5, after6, after7]
  rewrite [show (dats T m ρ 0 c).Φ t.succ = Inv T c from rfl, show (dats T m ρ 0 c).Φ t.castSucc = Inv T c from rfl,
    show (dats T m ρ 0 c).owesAt () t.succ = (dats T m ρ 0 c).owesAt () t.castSucc from rfl]
  unfold Inv
  by_cases q : IsValid T t
  · rewrite [show outAt T m ρ c t = out_valid c (crd T t) (st0 T t) (sw0 T t) (st1 T t) (sw1 T t) (st2 T t) (sw2 T t) (st3 T t) (sw3 T t) (st4 T t) (sw4 T t) (st5 T t) (sw5 T t) (st6 T t) (sw6 T t) (st7 T t) (sw7 T t) T.experts T.valid (blk T m ρ c (0 : Fin 8) t) (blk T m ρ c (1 : Fin 8) t) (blk T m ρ c (2 : Fin 8) t) (blk T m ρ c (3 : Fin 8) t) (blk T m ρ c (4 : Fin 8) t) (blk T m ρ c (5 : Fin 8) t) (blk T m ρ c (6 : Fin 8) t) q (fun h => (branch _ _).1 h q) from by unfold outAt; exact dif_pos q]
    iintro ⟨⟨HE, HV⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_valid c (crd T t) (st0 T t) (sw0 T t) (st1 T t) (sw1 T t) (st2 T t) (sw2 T t) (st3 T t) (sw3 T t) (st4 T t) (sw4 T t) (st5 T t) (sw5 T t) (st6 T t) (sw6 T t) (st7 T t) (sw7 T t) T.experts T.valid (blk T m ρ c (0 : Fin 8) t) (blk T m ρ c (1 : Fin 8) t) (blk T m ρ c (2 : Fin 8) t) (blk T m ρ c (3 : Fin 8) t) (blk T m ρ c (4 : Fin 8) t) (blk T m ρ c (5 : Fin 8) t) (blk T m ρ c (6 : Fin 8) t) q (fun h => (branch _ _).1 h q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HE]; · iexact HE
    isplitl [HV]; · iexact HV
    isplitl [H7]; · iexists _; iexact H7
    iintro ⟨H0, H1, H2, H3, H4, H5, H6, HE, HV, ⟨%e7, H7⟩⟩
    isplitl [HE HV]
    · isplitl [HE]
      · iexact HE
      iexact HV
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    unfold owns; iexists _; isplitr; swap
    · iexact H7
    · ipureintro; exact View.read_writes_of_cover _ _ _ _ _ (cover_valid c _ _ _ _ _ _ _ _ _ _ _ _ _ _ _ _ _ _ _ _ _ _ _ _ _ _ _ _)
  · rewrite [show outAt T m ρ c t = out_past c (crd T t) (st0 T t) (sw0 T t) (st1 T t) (sw1 T t) (st2 T t) (sw2 T t) (st3 T t) (sw3 T t) (st4 T t) (sw4 T t) (st5 T t) (sw5 T t) (st6 T t) (sw6 T t) (st7 T t) (sw7 T t) T.experts T.valid (blk T m ρ c (0 : Fin 8) t) (blk T m ρ c (1 : Fin 8) t) (blk T m ρ c (2 : Fin 8) t) (blk T m ρ c (3 : Fin 8) t) (blk T m ρ c (4 : Fin 8) t) (blk T m ρ c (5 : Fin 8) t) (blk T m ρ c (6 : Fin 8) t) q ((branch _ _).2 q) from by unfold outAt; exact dif_neg q]
    iintro ⟨⟨HE, HV⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_past c (crd T t) (st0 T t) (sw0 T t) (st1 T t) (sw1 T t) (st2 T t) (sw2 T t) (st3 T t) (sw3 T t) (st4 T t) (sw4 T t) (st5 T t) (sw5 T t) (st6 T t) (sw6 T t) (st7 T t) (sw7 T t) T.experts T.valid (blk T m ρ c (0 : Fin 8) t) (blk T m ρ c (1 : Fin 8) t) (blk T m ρ c (2 : Fin 8) t) (blk T m ρ c (3 : Fin 8) t) (blk T m ρ c (4 : Fin 8) t) (blk T m ρ c (5 : Fin 8) t) (blk T m ρ c (6 : Fin 8) t) q ((branch _ _).2 q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HE]; · iexact HE
    isplitl [HV]; · iexact HV
    isplitl [H7]; · iexists _; iexact H7
    iintro ⟨H0, H1, H2, H3, H4, H5, H6, HE, HV, ⟨%e7, H7⟩⟩
    isplitl [HE HV]
    · isplitl [HE]
      · iexact HE
      iexact HV
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    unfold owns; iexists _; isplitr; swap
    · iexact H7
    · ipureintro; exact View.read_writes_of_cover _ _ _ _ _ (cover_past c _ _ _ _ _ _ _ _ _ _ _ _ _ _ _ _ _ _ _ _ _ _ _ _ _ _ _ _)

/-- The library's body obligation. -/
theorem body_obligation (c : Dev nD) : BodyObligation (dats T m ρ 0 c) (defs₀ (F := Bits)) Variants.none () Set.univ := fun t => by
  rw [bigSep_W0]
  exact body_sound T m ρ c t

/-! ## The launch -/

/-- The rounds library's launch element. -/
def u₀ : UR sig nD τ :=
  initOf (Pipeline.cells (pcs T) ((launch0 (F := Bits)).cellOf_inj fun _ => adm T))
    (Pipeline.launchToks (pcs T) ((launch0 (F := Bits)).cellOf_inj fun _ => adm T))

theorem share_eq (c : Dev nD) (w : Fin (cfgA T).W) : (dats T m ρ 0 c).share w = fullShare := by unfold Dat.share; split <;> rfl

/-- The tables as the launch hands them over. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem inv_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Inv T c from rfl]
  unfold Inv
  iintro ⟨-, ⟨HE, HV⟩, -⟩
  isplitl [HE]
  · iexact HE
  iexact HV

theorem inv_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Inv T c from rfl]
  unfold Inv
  iintro ⟨-, -⟩
  isplitr; · iempintro
  iempintro

/-- Every array ends at what the pipeline computes, and the tables as they began. -/
def Post : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem tables_at_launch (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From a memory that holds `T`, the call runs to its end, leaves `Post`, and leaves every counter at zero. -/
theorem run_main_quiescent (hp : Holds T m) : θ_run (defs (F := Bits)) (onTc (τ := τ) (main (F := Bits))) (s₀ m ρ) (fun r => Post T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre EP defs₀ Variants.none m ρ main
    (hbody := fun c => (body_obligation T m ρ c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := tables_at_launch T m hp)
    (X := fun _ => iprop(emp)) (Y := fun _ => iprop(emp)) (Z := fun _ => iprop(emp))
    (hX := fun c => by rw [unscopedRestP0_eq]; iintro -; isplitr <;> iempintro)
    (hin := inv_intro T m ρ)
    (hout := inv_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the counters. -/
theorem run_main (hp : Holds T m) : θ_run (defs (F := Bits)) (onTc (τ := τ) (main (F := Bits))) (s₀ m ρ) (Post T m ρ) :=
  (θ_run defs _ _).mono (fun _ h => h.1) (run_main_quiescent T m ρ hp)

/-- `Post` keeps the arguments. -/
theorem Post.unchanged (hp : Holds T m) {r : PUnit × MemSt nD τ sig (Elt Bits)} (h : Post T m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 (0 : Fin 8)).trans ((dats T m ρ 0 c).arrAt_in (0 : Fin 8) rfl _), ((h c).2 0).trans (hp.1 c).symm, ((h c).2 1).trans (hp.2 c).symm, ((h c).1 (1 : Fin 8)).trans ((dats T m ρ 0 c).arrAt_in (1 : Fin 8) rfl _), ((h c).1 (2 : Fin 8)).trans ((dats T m ρ 0 c).arrAt_in (2 : Fin 8) rfl _), ((h c).1 (3 : Fin 8)).trans ((dats T m ρ 0 c).arrAt_in (3 : Fin 8) rfl _), ((h c).1 (4 : Fin 8)).trans ((dats T m ρ 0 c).arrAt_in (4 : Fin 8) rfl _), ((h c).1 (5 : Fin 8)).trans ((dats T m ρ 0 c).arrAt_in (5 : Fin 8) rfl _), ((h c).1 (6 : Fin 8)).trans ((dats T m ρ 0 c).arrAt_in (6 : Fin 8) rfl _)⟩

/-- The frame: the call runs to its end, keeps its arguments, and leaves every counter at zero. -/
theorem frame (hp : Holds T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => h.1.unchanged T m ρ hp c, h.2⟩) (run_main_quiescent T m ρ hp)

end Cert.Kernel.Moe

end
-- ==== Proof.Bound.lean ====
/- The precondition of the recurrent mixer's projection, element by element: each bound is between nought and one. -/
module

public import proofs.«01_k».proof.Proof.Gen.Pre_bound_in_range
public import Idealize.ShloMosaic.Lib.ReduceAll
public import Idealize.ShloMosaic.PureOps.Ideal

@[expose] public section

noncomputable section

namespace Cert.Pre_bound_in_range

open Idealize.ShloMosaic Facts

instance scalar_subsingleton : Subsingleton S_.Idx := ⟨fun a b => funext fun x => absurd x.isLt (by simp)⟩

theorem ofBits_zero : (Ideal.ofBits .f32 0x00000000#32 : EReal) = 0 := by
  simp [Ideal.ofBits, Ideal.ieee]

theorem ofBits_one : (Ideal.ofBits .f32 0x3F800000#32 : EReal) = 1 := by
  simp [Ideal.ofBits, Ideal.ieee, -EReal.coe_mul]
  norm_num

/-- A comparison whose word is one holds. -/
theorem of_word {p : Prop} [Decidable p] (h : BitVec.ofBool (decide p) = 1#1) : p := by
  by_contra n
  rw [decide_eq_false n] at h
  exact absurd h (by decide)

/-- Where the precondition is one, every bound is between nought and one. -/
theorem bound_range [Facts] (x0 : FVec Ideal S8x2048x1024 .f32) (x1 : FVec Ideal S8x1x6144 .f32) (x2 : FVec Ideal S1024x4096 .f32) (x3 : FVec Ideal S1024 .f32)
    (h : fn (F := Ideal) x0 x1 x2 x3 = fun _ => 1#1) (i : S1024.Idx) : (0 : EReal) ≤ x3 i ∧ x3 i ≤ (1 : EReal) := by
  have e := congrFun h (fun a => absurd a.isLt (by simp))
  have k := Host.reduce_andi_all _ _ reducesTo_S1024_S_d0 h_S_ _ e i
  have two : ∀ p q : BitVec 1, IntOp.andi p q = 1#1 → p = 1#1 ∧ q = 1#1 := by decide
  obtain ⟨k0, k1⟩ := two _ _ k
  have a0 : (Ideal.ofBits .f32 0x00000000#32 : EReal) ≤ x3 i := of_word k0
  have a1 : x3 i ≤ (Ideal.ofBits .f32 0x3F800000#32 : EReal) := of_word k1
  rw [ofBits_zero] at a0
  rw [ofBits_one] at a1
  exact ⟨a0, a1⟩

end Cert.Pre_bound_in_range

end
-- ==== Proof.GateMath.lean ====
/- The forget gate over the extended reals: its logarithm, and what it leaves of one. -/
module

public import Idealize.ShloMosaic.PureOps.Ideal

@[expose] public section

noncomputable section

namespace Cert.Gate

open Idealize.ShloMosaic

/-- The logarithm of a bound, negative infinity where there is none. -/
def boundLog (l : EReal) : EReal := if 0 < l then Ideal.log l else ⊥
/-- The logarithm of the sum of two exponentials. -/
def logAdd (a b : EReal) : EReal := max a b + Ideal.log1p (Ideal.exp (-(max (a - b) (-(a - b)))))
/-- The correction both logarithms of sums with one carry. -/
def rest (z : EReal) : EReal := Ideal.log1p (Ideal.exp (-(max z (-z))))
/-- The logarithm of the logistic function. -/
def logSig (z : EReal) : EReal := min z 0 - rest z
/-- The logistic function. -/
def sig (z : EReal) : EReal := Ideal.div 1 (1 + Ideal.exp (-z))
/-- The logarithm of the gate. -/
def forget (l z : EReal) : EReal := logAdd (boundLog l) (Ideal.log1p (-l) + logSig z)

theorem coe_max (x y : ℝ) : ((max x y : ℝ) : EReal) = max (x : EReal) y := EReal.coe_strictMono.monotone.map_max
theorem coe_min (x y : ℝ) : ((min x y : ℝ) : EReal) = min (x : EReal) y := EReal.coe_strictMono.monotone.map_min

/-- The correction at a real number is a real number. -/
theorem rest_coe (x : ℝ) : rest x = ((Real.log (1 + Real.exp (-|x|)) : ℝ) : EReal) := by
  have e : max (x : EReal) (-(x : EReal)) = ((|x| : ℝ) : EReal) := by
    rw [← EReal.coe_neg, ← coe_max]; rfl
  unfold rest
  rw [e, ← EReal.coe_neg, Ideal.exp_coe]
  unfold Ideal.log1p
  rw [← EReal.coe_one, ← EReal.coe_add, Ideal.log_coe, if_neg (not_le.2 (by positivity))]

theorem rest_top : rest ⊤ = 0 := by
  unfold rest Ideal.log1p
  simp only [EReal.neg_top, max_eq_left bot_le, Ideal.exp_bot, add_zero]
  rw [← EReal.coe_one, Ideal.log_coe, if_neg (by norm_num), Real.log_one, EReal.coe_zero]

theorem rest_neg (z : EReal) : rest (-z) = rest z := by
  unfold rest; rw [neg_neg, max_comm]

theorem rest_bot : rest ⊥ = 0 := by rw [← EReal.neg_top, rest_neg, rest_top]

/-- The logarithm of the logistic function is minus the logarithm of one and the exponential of the opposite. -/
theorem neg_softplus (z : EReal) : -(max (-z) 0 + rest (-z)) = logSig z := by
  unfold logSig
  rw [rest_neg]
  have fin : rest z ≠ ⊥ ∧ rest z ≠ ⊤ := by
    induction z using EReal.rec with
    | bot => rw [rest_bot]; exact ⟨EReal.zero_ne_bot, EReal.zero_ne_top⟩
    | coe x => rw [rest_coe]; exact ⟨EReal.coe_ne_bot _, EReal.coe_ne_top _⟩
    | top => rw [rest_top]; exact ⟨EReal.zero_ne_bot, EReal.zero_ne_top⟩
  rw [EReal.neg_add (.inr fin.2) (.inr fin.1)]
  congr 1
  rcases le_total z 0 with h | h
  · rw [min_eq_left h, max_eq_left (by simpa using EReal.neg_le_neg_iff.2 h), neg_neg]
  · rw [min_eq_right h, max_eq_right (by simpa using EReal.neg_le_neg_iff.2 h), neg_zero]

/-- The logistic function at a real number. -/
theorem sig_coe (x : ℝ) : sig x = (((1 + Real.exp (-x))⁻¹ : ℝ) : EReal) := Ideal.logistic_coe x
theorem sig_top : sig ⊤ = 1 := Ideal.logistic_top
theorem sig_bot : sig ⊥ = 0 := Ideal.logistic_bot

/-- The logarithm of the logistic function at a real number. -/
theorem logSig_coe (x : ℝ) : logSig x = ((Real.log (1 + Real.exp (-x))⁻¹ : ℝ) : EReal) := by
  have e : logSig x = ((min x 0 - Real.log (1 + Real.exp (-|x|)) : ℝ) : EReal) := by
    unfold logSig; rw [rest_coe, ← EReal.coe_zero, ← coe_min, ← EReal.coe_sub]
  rw [e, EReal.coe_eq_coe_iff, Real.log_inv]
  rcases le_total x 0 with h | h
  · rw [min_eq_left h, abs_of_nonpos h, neg_neg]
    have : (1 + Real.exp (-x)) = Real.exp (-x) * (1 + Real.exp x) := by
      rw [mul_add, ← Real.exp_add, neg_add_cancel, Real.exp_zero]; ring
    rw [this, Real.log_mul (Real.exp_ne_zero _) (by positivity), Real.log_exp]; ring
  · rw [min_eq_right h, abs_of_nonneg h]; ring

theorem logSig_top : logSig ⊤ = 0 := by unfold logSig; rw [rest_top, min_eq_right le_top, sub_zero]
theorem logSig_bot : logSig ⊥ = ⊥ := by unfold logSig; rw [rest_bot, min_eq_left bot_le, sub_zero]

/-- A number that is real or negative infinity. -/
abbrev Below (a : EReal) : Prop := a = ⊥ ∨ ∃ x : ℝ, a = x

theorem below_logSig (z : EReal) : Below (logSig z) := by
  induction z using EReal.rec with
  | bot => exact .inl logSig_bot
  | coe x => exact .inr ⟨_, logSig_coe x⟩
  | top => exact .inr ⟨0, by rw [logSig_top, EReal.coe_zero]⟩

theorem exp_logSig (z : EReal) : Ideal.exp (logSig z) = sig z := by
  induction z using EReal.rec with
  | bot => rw [logSig_bot, sig_bot, Ideal.exp_bot]
  | coe x => rw [logSig_coe, sig_coe, Ideal.exp_coe, Real.exp_log (by positivity)]
  | top => rw [logSig_top, sig_top, ← EReal.coe_zero, Ideal.exp_coe, Real.exp_zero, EReal.coe_one]

/-- A sum of exponentials, in logarithms. -/
theorem exp_logAdd (a b : EReal) (ha : Below a) (hb : Below b) : Ideal.exp (logAdd a b) = Ideal.exp a + Ideal.exp b := by
  have r : ∀ z : EReal, Ideal.log1p (Ideal.exp (-(max z (-z)))) = rest z := fun _ => rfl
  unfold logAdd
  rw [r]
  rcases ha with rfl | ⟨x, rfl⟩ <;> rcases hb with rfl | ⟨y, rfl⟩
  · rw [max_self, show (⊥ : EReal) - ⊥ = ⊥ from rfl, rest_bot, add_zero, Ideal.exp_bot, add_zero]
  · rw [max_eq_right bot_le, show (⊥ : EReal) - (y : EReal) = ⊥ from rfl, rest_bot, add_zero, Ideal.exp_bot, zero_add]
  · rw [max_eq_left bot_le, show (x : EReal) - ⊥ = ⊤ from rfl, rest_top, add_zero, Ideal.exp_bot, add_zero]
  · rw [← EReal.coe_sub, rest_coe, ← coe_max, ← EReal.coe_add]
    simp only [Ideal.exp_coe]
    rw [← EReal.coe_add, EReal.coe_eq_coe_iff, Real.exp_add, Real.exp_log (by positivity)]
    rcases le_total x y with h | h
    · rw [max_eq_right h, abs_of_nonpos (sub_nonpos.2 h), neg_neg, mul_add, mul_one, ← Real.exp_add, add_comm]
      congr 2; ring
    · rw [max_eq_left h, abs_of_nonneg (sub_nonneg.2 h), mul_add, mul_one, ← Real.exp_add]
      congr 2; ring

/-- What the gate leaves of one, for a bound between 0 and 1. -/
theorem keep_eq (l z : EReal) (h0 : 0 ≤ l) (h1 : l ≤ 1) : -(Ideal.expm1 (forget l z)) = (1 - l) * sig (-z) := by
  obtain ⟨b, rfl⟩ : ∃ b : ℝ, l = b := by
    induction l using EReal.rec with
    | bot => exact absurd h0 (by simp)
    | coe x => exact ⟨x, rfl⟩
    | top => exact absurd (top_le_iff.1 h1) (EReal.coe_ne_top 1)
  have b0 : 0 ≤ b := by exact_mod_cast h0
  have b1 : b ≤ 1 := by exact_mod_cast h1
  obtain ⟨s, hs, hs'⟩ : ∃ s : ℝ, sig z = s ∧ sig (-z) = ((1 - s : ℝ) : EReal) := by
    induction z using EReal.rec with
    | bot => exact ⟨0, by rw [sig_bot, EReal.coe_zero], by rw [EReal.neg_bot, sig_top, sub_zero, EReal.coe_one]⟩
    | coe x =>
      refine ⟨_, sig_coe x, ?_⟩
      rw [← EReal.coe_neg, sig_coe, EReal.coe_eq_coe_iff, neg_neg]
      have p := Real.exp_pos x
      have e : Real.exp (-x) = (Real.exp x)⁻¹ := Real.exp_neg x
      rw [e]; field_simp; ring
    | top => exact ⟨1, by rw [sig_top, EReal.coe_one], by rw [EReal.neg_top, sig_bot, sub_self, EReal.coe_zero]⟩
  have lower : Below (boundLog b) ∧ Ideal.exp (boundLog b) = b := by
    unfold boundLog
    rcases b0.lt_or_eq with p | p
    · rw [if_pos (by exact_mod_cast p), Ideal.log_coe, if_neg (not_le.2 p), Ideal.exp_coe, Real.exp_log p]
      exact ⟨.inr ⟨_, rfl⟩, rfl⟩
    · subst p
      rw [if_neg (by simp), Ideal.exp_bot]
      exact ⟨.inl rfl, rfl⟩
  have other : Below (Ideal.log1p (-(b : EReal)) + logSig z) ∧ Ideal.exp (Ideal.log1p (-(b : EReal)) + logSig z) = (((1 - b) * s : ℝ) : EReal) := by
    have e : Ideal.log1p (-(b : EReal)) = if 1 - b ≤ 0 then ⊥ else ((Real.log (1 - b) : ℝ) : EReal) := by
      unfold Ideal.log1p
      rw [← EReal.coe_neg, ← EReal.coe_one, ← EReal.coe_add, Ideal.log_coe, ← sub_eq_add_neg]
    rcases b1.lt_or_eq with p | p
    · rw [e, if_neg (not_le.2 (sub_pos.2 p))]
      have x := exp_logSig z
      rw [hs] at x
      rcases below_logSig z with q | ⟨y, q⟩
      · rw [q] at x ⊢
        rw [EReal.add_bot, Ideal.exp_bot]
        rw [Ideal.exp_bot] at x
        have s0 : s = 0 := by exact_mod_cast x.symm
        exact ⟨.inl rfl, by rw [s0, mul_zero, EReal.coe_zero]⟩
      · rw [q] at x ⊢
        rw [Ideal.exp_coe, EReal.coe_eq_coe_iff] at x
        rw [← EReal.coe_add, Ideal.exp_coe, Real.exp_add, Real.exp_log (sub_pos.2 p), x]
        exact ⟨.inr ⟨_, rfl⟩, rfl⟩
    · rw [e, if_pos (by rw [p, sub_self]), EReal.bot_add, Ideal.exp_bot, p, sub_self, zero_mul, EReal.coe_zero]
      exact ⟨.inl rfl, rfl⟩
  unfold Ideal.expm1 forget
  rw [exp_logAdd _ _ lower.1 other.1, lower.2, other.2, hs', ← EReal.coe_add, ← EReal.coe_one, ← EReal.coe_sub, ← EReal.coe_sub, ← EReal.coe_neg,
    ← EReal.coe_mul, EReal.coe_eq_coe_iff]
  ring

end Cert.Gate

end
-- ==== Proof.HgrnGate.lean ====
/- The projection of the recurrent mixer: its terms, and the gate it computes. -/
module

public import proofs.«01_k».proof.Proof.Gen.HgrnInIdeal.Value
public import proofs.«01_k».proof.Proof.Gen.HgrnInRefIdeal
public import Idealize.ShloMosaic.Lib.Pipeline.ValueKit
public import Idealize.ShloMosaic.Lib.Pointwise
public import Idealize.ShloMosaic.Lib.Claim
public import proofs.«01_k».proof.Proof.GateMath

@[expose] public section

set_option maxRecDepth 16384

noncomputable section

open Idealize.ShloMosaic Idealize.ShloMosaic.TcCoe Idealize.SL.Sem

namespace Cert.HgrnInIdeal.Mixer

open Cert.HgrnInIdeal Cert.HgrnInIdeal.Gen

variable (m : (ℓ : Loc nD τ sig) → Buf (Elt Ideal) ℓ)

/-- The rows, scaled and shifted by their sequence's vector. -/
abbrev modulated (X : FVec Ideal S8x2048x1024 .f32) (M : FVec Ideal S8x1x6144 .f32) : FVec Ideal S8x2048x1024 .f32 :=
  addf (mulf X (broadcastInDim S8x2048x1024 ![0, 1, 2] Cert.HgrnInRefIdeal.Gen.bcast_S8x1x1024_S8x2048x1024_0_1_2 (addf (broadcastInDim Cert.HgrnInRefIdeal.S8x1x1024 ![] Cert.HgrnInRefIdeal.Gen.bcast_S_S8x1x1024 (constant Cert.HgrnInRefIdeal.S_ .f32 0x3F800000#32)) (extractStridedSlice Cert.HgrnInRefIdeal.S8x1x1024 ![0, 0, 1024] M Cert.HgrnInRefIdeal.Gen.slices_S8x1x6144_S8x1x1024_0_0_1024)))) (broadcastInDim S8x2048x1024 ![0, 1, 2] Cert.HgrnInRefIdeal.Gen.bcast_S8x1x1024_S8x2048x1024_0_1_2 (extractStridedSlice Cert.HgrnInRefIdeal.S8x1x1024 ![0, 0, 0] M Cert.HgrnInRefIdeal.Gen.slices_S8x1x6144_S8x1x1024_0_0_0))

/-- The rows' four products, side by side. -/
abbrev projected (X : FVec Ideal S8x2048x1024 .f32) (M : FVec Ideal S8x1x6144 .f32) (W : FVec Ideal S1024x4096 .f32) : FVec Ideal Cert.HgrnInRefIdeal.S8x2048x4096 .f32 :=
  Host.dotGeneral Cert.HgrnInRefIdeal.dot_S8x2048x1024_S1024x4096_S8x2048x4096_2_0_01_1_n_n none (modulated X M) W

/-- The gated query. -/
abbrev silu (Q : FVec Ideal S8x2048x1024 .f32) : FVec Ideal S8x2048x1024 .f32 :=
  mulf Q (Host.divf (broadcastInDim S8x2048x1024 ![] Cert.HgrnInRefIdeal.Gen.bcast_S_S8x2048x1024 (constant Cert.HgrnInRefIdeal.S_ .f32 0x3F800000#32))
    (addf (broadcastInDim S8x2048x1024 ![] Cert.HgrnInRefIdeal.Gen.bcast_S_S8x2048x1024 (constant Cert.HgrnInRefIdeal.S_ .f32 0x3F800000#32)) (Host.exp (Host.negf Q))))

/-- Of a number, the logarithm of the sum of its exponential and one. -/
abbrev softplus (Y : FVec Ideal S8x2048x1024 .f32) : FVec Ideal S8x2048x1024 .f32 :=
  select (cmpf .une (subf Y (broadcastInDim S8x2048x1024 ![] Cert.HgrnInRefIdeal.Gen.bcast_S_S8x2048x1024 (constant Cert.HgrnInRefIdeal.S_ .f32 0x00000000#32))) (subf Y (broadcastInDim S8x2048x1024 ![] Cert.HgrnInRefIdeal.Gen.bcast_S_S8x2048x1024 (constant Cert.HgrnInRefIdeal.S_ .f32 0x00000000#32))))
    (addf Y (broadcastInDim S8x2048x1024 ![] Cert.HgrnInRefIdeal.Gen.bcast_S_S8x2048x1024 (constant Cert.HgrnInRefIdeal.S_ .f32 0x00000000#32)))
    (addf (maximumf Y (broadcastInDim S8x2048x1024 ![] Cert.HgrnInRefIdeal.Gen.bcast_S_S8x2048x1024 (constant Cert.HgrnInRefIdeal.S_ .f32 0x00000000#32)))
      (Host.log1p (Host.exp (Host.negf (Host.absf (subf Y (broadcastInDim S8x2048x1024 ![] Cert.HgrnInRefIdeal.Gen.bcast_S_S8x2048x1024 (constant Cert.HgrnInRefIdeal.S_ .f32 0x00000000#32))))))))

/-- Of two numbers, the logarithm of the sum of their exponentials. -/
abbrev logAddExp (A B : FVec Ideal S8x2048x1024 .f32) : FVec Ideal S8x2048x1024 .f32 :=
  select (cmpf .une (subf A B) (subf A B)) (addf A B) (addf (maximumf A B) (Host.log1p (Host.exp (Host.negf (Host.absf (subf A B))))))

/-- The bounds' logarithms, negative infinity where there is no bound. -/
abbrev boundLog (L : FVec Ideal Cert.HgrnInRefIdeal.S1024 .f32) : FVec Ideal Cert.HgrnInRefIdeal.S1024 .f32 :=
  select (cmpf .ogt L (broadcastInDim Cert.HgrnInRefIdeal.S1024 ![] Cert.HgrnInRefIdeal.Gen.bcast_S_S1024 (constant Cert.HgrnInRefIdeal.S_ .f32 0x00000000#32)))
    (Host.log (select (cmpf .ogt L (broadcastInDim Cert.HgrnInRefIdeal.S1024 ![] Cert.HgrnInRefIdeal.Gen.bcast_S_S1024 (constant Cert.HgrnInRefIdeal.S_ .f32 0x00000000#32))) L (broadcastInDim Cert.HgrnInRefIdeal.S1024 ![] Cert.HgrnInRefIdeal.Gen.bcast_S_S1024 (id (constant Cert.HgrnInRefIdeal.S_ .f32 0x3F800000#32)))))
    (broadcastInDim Cert.HgrnInRefIdeal.S1024 ![] Cert.HgrnInRefIdeal.Gen.bcast_S_S1024 (id (constant Cert.HgrnInRefIdeal.S_ .f32 0xFF800000#32)))

/-- A row of the bounds' length, at every row of the result. -/
abbrev spread (L : FVec Ideal Cert.HgrnInRefIdeal.S1024 .f32) : FVec Ideal S8x2048x1024 .f32 :=
  broadcastInDim S8x2048x1024 ![0, 1, 2] Cert.HgrnInRefIdeal.Gen.bcast_S1x1x1024_S8x2048x1024_0_1_2 (broadcastInDim Cert.HgrnInRefIdeal.S1x1x1024 ![2] Cert.HgrnInRefIdeal.Gen.bcast_S1024_S1x1x1024_2 L)

/-- The logarithm of the forget gate. -/
abbrev forgetLog (F : FVec Ideal S8x2048x1024 .f32) (L : FVec Ideal Cert.HgrnInRefIdeal.S1024 .f32) : FVec Ideal S8x2048x1024 .f32 :=
  logAddExp (spread (boundLog L)) (addf (spread (Host.log1p (Host.negf L))) (Host.negf (softplus (Host.negf F))))

/-- A quarter of the columns. -/
abbrev part0 (P : FVec Ideal Cert.HgrnInRefIdeal.S8x2048x4096 .f32) : FVec Ideal S8x2048x1024 .f32 := extractStridedSlice S8x2048x1024 ![0, 0, 0] P Cert.HgrnInRefIdeal.Gen.slices_S8x2048x4096_S8x2048x1024_0_0_0
abbrev part1 (P : FVec Ideal Cert.HgrnInRefIdeal.S8x2048x4096 .f32) : FVec Ideal S8x2048x1024 .f32 := extractStridedSlice S8x2048x1024 ![0, 0, 1024] P Cert.HgrnInRefIdeal.Gen.slices_S8x2048x4096_S8x2048x1024_0_0_1024
abbrev part2 (P : FVec Ideal Cert.HgrnInRefIdeal.S8x2048x4096 .f32) : FVec Ideal S8x2048x1024 .f32 := extractStridedSlice S8x2048x1024 ![0, 0, 2048] P Cert.HgrnInRefIdeal.Gen.slices_S8x2048x4096_S8x2048x1024_0_0_2048
abbrev part3 (P : FVec Ideal Cert.HgrnInRefIdeal.S8x2048x4096 .f32) : FVec Ideal S8x2048x1024 .f32 := extractStridedSlice S8x2048x1024 ![0, 0, 3072] P Cert.HgrnInRefIdeal.Gen.slices_S8x2048x4096_S8x2048x1024_0_0_3072

/-- Where a point's blocks lie. -/
theorem place : ∀ t : Fin cfg0.N, win0_0.index t = ![t.val / 8, t.val % 8, 0] ∧ win0_1.index t = ![t.val / 8, 0, 0]
    ∧ win0_2.index t = ![t.val / 8, 0, 1] ∧ win0_3.index t = ![0, 0] ∧ win0_4.index t = ![0, 0]
    ∧ win0_5.index t = ![t.val / 8, t.val % 8, 0] ∧ win0_6.index t = ![t.val / 8, t.val % 8, 0] ∧ win0_7.index t = ![t.val / 8, t.val % 8, 0]
    ∧ win0_8.index t = ![t.val / 8, t.val % 8, 0] ∧ win0_9.index t = ![t.val / 8, t.val % 8, 0] :=
  (by decide +kernel : ∀ t : Fin grid0.N, _)

/-- The infinity a missing bound's logarithm is. -/
theorem no_bound : (Named.named (F := Ideal) κ "no_bound" (φ := .f32) 0xF149F2CA#32 : EReal) = ⊥ := by
  simp [Named.named, κ]
theorem ofBits_negInf : (Ideal.ofBits .f32 0xFF800000#32 : EReal) = ⊥ := by
  simp [Ideal.ofBits, Ideal.ieee]
/-- An absolute value is the larger of a number and its opposite. -/
theorem absf_eq (x : EReal) : (FloatOps.absf (F := Ideal) (φ := .f32) x : EReal) = max x (-x) := rfl
/-- The inner choice of a bound's logarithm never matters. -/
theorem boundLog_eq (l z : EReal) : (if 0 < l then Ideal.log (if 0 < l then l else z) else ⊥) = Cert.Gate.boundLog l := by
  unfold Cert.Gate.boundLog
  by_cases h : 0 < l
  · rw [if_pos h, if_pos h, if_pos h]
  · rw [if_neg h, if_neg h]

/-- The reference's logarithm of the gate, at an index. -/
theorem forgetLog_apply (F : FVec Ideal S8x2048x1024 .f32) (L : FVec Ideal Cert.HgrnInRefIdeal.S1024 .f32) (i : S8x2048x1024.Idx) :
    forgetLog F L i = Cert.Gate.forget (L (ix1 (i 2))) (F i) := by
  pointwise [forgetLog, logAddExp, spread, boundLog, softplus]
  have e : (id (constant Cert.HgrnInRefIdeal.S_ FTy.f32 4286578688#32 : FVec Ideal Cert.HgrnInRefIdeal.S_ .f32) ix0 : EReal) = ⊥ := ofBits_negInf
  simp only [e, ne_eq, not_true_eq_false, if_false, absf_eq, boundLog_eq]
  show Cert.Gate.logAdd (Cert.Gate.boundLog (L (ix1 (i 2)))) (Ideal.log1p (-L (ix1 (i 2))) + -(max (-F i) 0 + Cert.Gate.rest (-F i))) = _
  rw [Cert.Gate.neg_softplus]
  rfl

/-- The body's, at an index. -/
theorem body_forget (x0 : Vec Ideal S1x256x1024 .f32) (x1 x2 : Vec Ideal S1x1x1024 .f32) (x3 : Vec Ideal S1024x4096 .bf16) (x4 : Vec Ideal S1x1024 .f32) (y : S1x256x1024.Idx) :
    k0_pay11 (k0_pay7 x0 x2 x1 x3) (k0_pay8 x4) (k0_pay9 x4) y = Cert.Gate.forget (k0_pay6 x4 (ix2 0 (y 2))) (k0_pay5 x0 x2 x1 x3 (ix2 (y 1) (y 2))) := by
  pointwise [k0_pay11, k0_pay7, k0_pay8, k0_pay9]
  simp only [no_bound, zero_sub, absf_eq, boundLog_eq]
  rfl

/-- The body's gated key, at an index. -/
theorem body_keep (v : FVec Ideal S256x1024 .f32) (l : FVec Ideal S1x1024 .f32) (y : S1x256x1024.Idx) :
    k0_pay12 v l y = (1 - l (ix2 0 (y 2))) * Cert.Gate.sig (-v (ix2 (y 1) (y 2))) := by
  pointwise [k0_pay12]
  simp only [zero_sub]
  rfl

/-- Bounds between nought and one. -/
def InRange (L : FVec Ideal Cert.HgrnInRefIdeal.S1024 .f32) : Prop := ∀ i, 0 ≤ L i ∧ L i ≤ 1

/-- The reference's gated key, at an index. -/
theorem keep_apply (F : FVec Ideal S8x2048x1024 .f32) (L : FVec Ideal Cert.HgrnInRefIdeal.S1024 .f32) (i : S8x2048x1024.Idx)
    (h : 0 ≤ L (ix1 (i 2)) ∧ L (ix1 (i 2)) ≤ 1) :
    Host.negf (Host.expm1 (forgetLog F L)) i = (1 - L (ix1 (i 2))) * Cert.Gate.sig (-F i) :=
  (congrArg (fun x => -(Ideal.expm1 x)) (forgetLog_apply F L i)).trans (Cert.Gate.keep_eq _ _ h.1 h.2)

/-- The logits of the gate a point computes are the reference's, at the place the block has in the result. -/
theorem logit6_at (c : Dev nD) (t : Fin cfg0.N) (y : S1x256x1024.Idx) :
    k0_pay5 (iblk m c 0 t) (iblk m c 2 t) (iblk m c 1 t) (iblk m c 3 t) (ix2 (y 1) (y 2)) = part1 (projected (m ((c : Thread nD τ).loc main_arg0)) (m ((c : Thread nD τ).loc main_arg1)) (m ((c : Thread nD τ).loc main_arg2))) (((cfg0.win 6).blk t).view.emb y) := by
  pointwise [k0_pay3, k0_pay5, part1, projected, modulated]
  blk_point [iblk, V, place t]

/-- The bounds it reads are the argument's. -/
theorem bound6_at (c : Dev nD) (t : Fin cfg0.N) (y : S1x256x1024.Idx) :
    k0_pay6 (iblk m c 4 t) (ix2 0 (y 2)) = (m ((c : Thread nD τ).loc main_arg3)) (ix1 ((((cfg0.win 6).blk t).view.emb y : S8x2048x1024.Idx) 2)) := by
  pointwise [k0_pay6]
  blk_point [iblk, V, place t]

/-- The logits of the gate a point computes are the reference's, at the place the block has in the result. -/
theorem logit7_at (c : Dev nD) (t : Fin cfg0.N) (y : S1x256x1024.Idx) :
    k0_pay5 (iblk m c 0 t) (iblk m c 2 t) (iblk m c 1 t) (iblk m c 3 t) (ix2 (y 1) (y 2)) = part1 (projected (m ((c : Thread nD τ).loc main_arg0)) (m ((c : Thread nD τ).loc main_arg1)) (m ((c : Thread nD τ).loc main_arg2))) (((cfg0.win 7).blk t).view.emb y) := by
  pointwise [k0_pay3, k0_pay5, part1, projected, modulated]
  blk_point [iblk, V, place t]

/-- The bounds it reads are the argument's. -/
theorem bound7_at (c : Dev nD) (t : Fin cfg0.N) (y : S1x256x1024.Idx) :
    k0_pay6 (iblk m c 4 t) (ix2 0 (y 2)) = (m ((c : Thread nD τ).loc main_arg3)) (ix1 ((((cfg0.win 7).blk t).view.emb y : S8x2048x1024.Idx) 2)) := by
  pointwise [k0_pay6]
  blk_point [iblk, V, place t]

/-- The logarithms of the gate a point stores are the reference's. -/
theorem forget_at (c : Dev nD) (t : Fin cfg0.N) (y : S1x256x1024.Idx) :
    k0_pay11 (k0_pay7 (iblk m c 0 t) (iblk m c 2 t) (iblk m c 1 t) (iblk m c 3 t)) (k0_pay8 (iblk m c 4 t)) (k0_pay9 (iblk m c 4 t)) y
      = forgetLog (part1 (projected (m ((c : Thread nD τ).loc main_arg0)) (m ((c : Thread nD τ).loc main_arg1)) (m ((c : Thread nD τ).loc main_arg2)))) (m ((c : Thread nD τ).loc main_arg3)) (((cfg0.win 7).blk t).view.emb y) :=
  (body_forget (iblk m c 0 t) (iblk m c 1 t) (iblk m c 2 t) (iblk m c 3 t) (iblk m c 4 t) y).trans
    ((congrArg₂ Cert.Gate.forget (bound7_at m c t y) (logit7_at m c t y)).trans (forgetLog_apply _ _ _).symm)

/-- The gated keys a point stores are the reference's, where the bounds are in range. -/
theorem keep_at (c : Dev nD) (h : InRange (m ((c : Thread nD τ).loc main_arg3))) (t : Fin cfg0.N) (y : S1x256x1024.Idx) :
    k0_pay12 (k0_pay5 (iblk m c 0 t) (iblk m c 2 t) (iblk m c 1 t) (iblk m c 3 t)) (k0_pay6 (iblk m c 4 t)) y
      = Host.negf (Host.expm1 (forgetLog (part1 (projected (m ((c : Thread nD τ).loc main_arg0)) (m ((c : Thread nD τ).loc main_arg1)) (m ((c : Thread nD τ).loc main_arg2)))) (m ((c : Thread nD τ).loc main_arg3)))) (((cfg0.win 6).blk t).view.emb y) :=
  (body_keep _ _ y).trans
    ((congrArg₂ (fun l z : EReal => (1 - l) * Cert.Gate.sig (-z)) (bound6_at m c t y) (logit6_at m c t y)).trans (keep_apply _ _ _ (h _)).symm)

end Cert.HgrnInIdeal.Mixer

end
-- ==== Proof.HgrnValue.lean ====
/- The projection of the recurrent mixer: what its launch leaves in its five results. -/
module

public import proofs.«01_k».proof.Proof.HgrnGate

@[expose] public section

set_option maxRecDepth 16384

noncomputable section

open Idealize.ShloMosaic Idealize.ShloMosaic.TcCoe Idealize.SL.Sem

namespace Cert.HgrnInIdeal.Mixer

open Cert.HgrnInIdeal Cert.HgrnInIdeal.Gen

variable (m : (ℓ : Loc nD τ sig) → Buf (Elt Ideal) ℓ)

/-- The gated queries a point stores are the reference's, at the place the block has in the result. -/
theorem query_at (c : Dev nD) (t : Fin cfg0.N) (y) :
    k0_pay10 (k0_pay4 (iblk m c 0 t) (iblk m c 2 t) (iblk m c 1 t) (iblk m c 3 t)) y
      = silu (part0 (projected (m ((c : Thread nD τ).loc main_arg0)) (m ((c : Thread nD τ).loc main_arg1)) (m ((c : Thread nD τ).loc main_arg2)))) (((cfg0.win 5).blk t).view.emb y) := by
  pointwise [k0_pay3, k0_pay4, k0_pay10, silu, part0, projected, modulated]
  simp only [zero_sub]
  blk_point [iblk, V, place t]

/-- The gated queries the launch leaves. -/
theorem query_final (c : Dev nD) : (dats m 0 c).arrAt 5 (cfgs 0).N
    = silu (part0 (projected (m ((c : Thread nD τ).loc main_arg0)) (m ((c : Thread nD τ).loc main_arg1)) (m ((c : Thread nD τ).loc main_arg2)))) := by
  refine (dats m 0 c).arrAt_eq_of_covers 5 _ (by decide +kernel) fun t _ y => ?_
  blk_simp
  rw [after0_5]; frame_out
  exact query_at m c t y

/-- The values a point stores are the reference's, at the place the block has in the result. -/
theorem value_at (c : Dev nD) (t : Fin cfg0.N) (y) :
    k0_pay1 (k0_pay13 (k0_pay3 (iblk m c 0 t) (iblk m c 2 t) (iblk m c 1 t) (iblk m c 3 t))) y
      = part2 (projected (m ((c : Thread nD τ).loc main_arg0)) (m ((c : Thread nD τ).loc main_arg1)) (m ((c : Thread nD τ).loc main_arg2))) (((cfg0.win 8).blk t).view.emb y) := by
  pointwise [k0_pay1, k0_pay3, k0_pay13, part2, projected, modulated]
  blk_point [iblk, V, place t]

/-- The values the launch leaves. -/
theorem value_final (c : Dev nD) : (dats m 0 c).arrAt 8 (cfgs 0).N
    = part2 (projected (m ((c : Thread nD τ).loc main_arg0)) (m ((c : Thread nD τ).loc main_arg1)) (m ((c : Thread nD τ).loc main_arg2))) := by
  refine (dats m 0 c).arrAt_eq_of_covers 8 _ (by decide +kernel) fun t _ y => ?_
  blk_simp
  rw [after0_8]; unfold_out out0_8; frame_out
  exact value_at m c t y

/-- The output gates a point stores are the reference's, at the place the block has in the result. -/
theorem gate_at (c : Dev nD) (t : Fin cfg0.N) (y) :
    k0_pay2 (k0_pay3 (iblk m c 0 t) (iblk m c 2 t) (iblk m c 1 t) (iblk m c 3 t)) y
      = part3 (projected (m ((c : Thread nD τ).loc main_arg0)) (m ((c : Thread nD τ).loc main_arg1)) (m ((c : Thread nD τ).loc main_arg2))) (((cfg0.win 9).blk t).view.emb y) := by
  pointwise [k0_pay2, k0_pay3, part3, projected, modulated]
  blk_point [iblk, V, place t]

/-- The output gates the launch leaves. -/
theorem gate_final (c : Dev nD) : (dats m 0 c).arrAt 9 (cfgs 0).N
    = part3 (projected (m ((c : Thread nD τ).loc main_arg0)) (m ((c : Thread nD τ).loc main_arg1)) (m ((c : Thread nD τ).loc main_arg2))) := by
  refine (dats m 0 c).arrAt_eq_of_covers 9 _ (by decide +kernel) fun t _ y => ?_
  blk_simp
  rw [after0_9]; unfold_out out0_9; frame_out
  exact gate_at m c t y

/-- The logarithms of the gate the launch leaves. -/
theorem forget_final (c : Dev nD) : (dats m 0 c).arrAt 7 (cfgs 0).N
    = forgetLog (part1 (projected (m ((c : Thread nD τ).loc main_arg0)) (m ((c : Thread nD τ).loc main_arg1)) (m ((c : Thread nD τ).loc main_arg2)))) (m ((c : Thread nD τ).loc main_arg3)) := by
  refine (dats m 0 c).arrAt_eq_of_covers 7 _ (by decide +kernel) fun t _ y => ?_
  blk_simp
  rw [after0_7]; frame_out
  exact forget_at m c t y

/-- The gated keys the launch leaves. -/
theorem keep_final (c : Dev nD) (h : InRange (m ((c : Thread nD τ).loc main_arg3))) : (dats m 0 c).arrAt 6 (cfgs 0).N
    = Host.negf (Host.expm1 (forgetLog (part1 (projected (m ((c : Thread nD τ).loc main_arg0)) (m ((c : Thread nD τ).loc main_arg1)) (m ((c : Thread nD τ).loc main_arg2)))) (m ((c : Thread nD τ).loc main_arg3)))) := by
  refine (dats m 0 c).arrAt_eq_of_covers 6 _ (by decide +kernel) fun t _ y => ?_
  blk_simp
  rw [after0_6]; frame_out
  exact keep_at m c h t y

end Cert.HgrnInIdeal.Mixer

end
-- ==== Proof.NsaInValue.lean ====
/- The projection of the sparse mixer: what its launch leaves in its two results. -/
module

public import proofs.«01_k».proof.Proof.Gen.NsaInIdeal.Value
public import proofs.«01_k».proof.Proof.Gen.NsaInRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.NsaInIdeal.Mixer

open Cert.NsaInIdeal Cert.NsaInIdeal.Gen

variable (m : (ℓ : Loc nD τ sig) → Buf (Elt Ideal) ℓ)

/-- The rows, scaled and shifted by their sequence's vector. -/
abbrev modulated (X : FVec Ideal S8x2048x1024 .f32) (M : FVec Ideal S8x1x6144 .f32) : FVec Ideal S8x2048x1024 .f32 :=
  addf (mulf X (broadcastInDim S8x2048x1024 ![0, 1, 2] Cert.NsaInRefIdeal.Gen.bcast_S8x1x1024_S8x2048x1024_0_1_2 (addf (broadcastInDim Cert.NsaInRefIdeal.S8x1x1024 ![] Cert.NsaInRefIdeal.Gen.bcast_S_S8x1x1024 (constant Cert.NsaInRefIdeal.S_ .f32 0x3F800000#32)) (extractStridedSlice Cert.NsaInRefIdeal.S8x1x1024 ![0, 0, 1024] M Cert.NsaInRefIdeal.Gen.slices_S8x1x6144_S8x1x1024_0_0_1024)))) (broadcastInDim S8x2048x1024 ![0, 1, 2] Cert.NsaInRefIdeal.Gen.bcast_S8x1x1024_S8x2048x1024_0_1_2 (extractStridedSlice Cert.NsaInRefIdeal.S8x1x1024 ![0, 0, 0] M Cert.NsaInRefIdeal.Gen.slices_S8x1x6144_S8x1x1024_0_0_0))

/-- The scaled queries. -/
abbrev queries (X : FVec Ideal S8x2048x1024 .f32) (M : FVec Ideal S8x1x6144 .f32) (W : FVec Ideal S1024x1024 .f32) : FVec Ideal S8x2048x1024 .f32 :=
  mulf (Host.dotGeneral Cert.NsaInRefIdeal.dot_S8x2048x1024_S1024x1024_S8x2048x1024_2_0_01_1_n_n none (modulated X M) W)
    (broadcastInDim S8x2048x1024 ![] Cert.NsaInRefIdeal.Gen.bcast_S_S8x2048x1024 (constant Cert.NsaInRefIdeal.S_ .f32 0x3E000000#32))

/-- The gates of the branches. -/
abbrev gates (X : FVec Ideal S8x2048x1024 .f32) (M : FVec Ideal S8x1x6144 .f32) (W : FVec Ideal S1024x128 .f32) : FVec Ideal S8x2048x128 .f32 :=
  Host.divf (broadcastInDim S8x2048x128 ![] Cert.NsaInRefIdeal.Gen.bcast_S_S8x2048x128 (constant Cert.NsaInRefIdeal.S_ .f32 0x3F800000#32))
    (addf (broadcastInDim S8x2048x128 ![] Cert.NsaInRefIdeal.Gen.bcast_S_S8x2048x128 (constant Cert.NsaInRefIdeal.S_ .f32 0x3F800000#32))
      (Host.exp (Host.negf (Host.dotGeneral Cert.NsaInRefIdeal.dot_S8x2048x1024_S1024x128_S8x2048x128_2_0_01_1_n_n none (modulated X M) W))))

/-- Where a point's blocks lie. -/
theorem place : ∀ t : Fin cfg0.N, win0_0.index t = ![t.val / 8, t.val % 8, 0] ∧ win0_1.index t = ![t.val / 8, 0, 0]
    ∧ win0_2.index t = ![t.val / 8, 0, 1] ∧ win0_3.index t = ![0, 0] ∧ win0_4.index t = ![0, 0]
    ∧ win0_5.index t = ![t.val / 8, t.val % 8, 0] ∧ win0_6.index t = ![t.val / 8, t.val % 8, 0] :=
  (by decide +kernel : ∀ t : Fin grid0.N, _)

/-- The queries a point stores are the reference's, at the place the block has in the result. -/
theorem queries_at (c : Dev nD) (t : Fin cfg0.N) (y) :
    k0_pay2 (iblk m c 0 t) (iblk m c 2 t) (iblk m c 1 t) (iblk m c 3 t) y
      = queries (m ((c : Thread nD τ).loc main_arg0)) (m ((c : Thread nD τ).loc main_arg1)) (m ((c : Thread nD τ).loc main_arg2)) (((cfg0.win 5).blk t).view.emb y) := by
  pointwise [k0_pay1, k0_pay2, queries, modulated]
  blk_point [iblk, V, place t]

/-- The gates a point stores are the reference's, at the place the block has in the result. -/
theorem gates_at (c : Dev nD) (t : Fin cfg0.N) (y) :
    k0_pay3 (iblk m c 0 t) (iblk m c 2 t) (iblk m c 1 t) (iblk m c 4 t) y
      = gates (m ((c : Thread nD τ).loc main_arg0)) (m ((c : Thread nD τ).loc main_arg1)) (m ((c : Thread nD τ).loc main_arg3)) (((cfg0.win 6).blk t).view.emb y) := by
  pointwise [k0_pay1, k0_pay3, gates, modulated]
  simp only [zero_sub]
  blk_point [iblk, V, place t]

/-- The first result holds the queries. -/
theorem queries_final (c : Dev nD) : (dats m 0 c).arrAt 5 (cfgs 0).N
    = queries (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact queries_at m c t y

/-- The second result holds the gates. -/
theorem gates_final (c : Dev nD) : (dats m 0 c).arrAt 6 (cfgs 0).N
    = gates (m ((c : Thread nD τ).loc main_arg0)) (m ((c : Thread nD τ).loc main_arg1)) (m ((c : Thread nD τ).loc main_arg3)) := by
  refine (dats m 0 c).arrAt_eq_of_covers 6 _ (by decide +kernel) fun t _ y => ?_
  blk_simp
  rw [after0_6]; frame_out
  exact gates_at m c t y

end Cert.NsaInIdeal.Mixer

end
-- ==== Proof.KvProjValue.lean ====
/- The projection to the shared keys and values: what its launch leaves in its two results. -/
module

public import proofs.«01_k».proof.Proof.Gen.KvProjIdeal.Value
public import proofs.«01_k».proof.Proof.Gen.KvProjRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KvProjIdeal.Mixer

open Cert.KvProjIdeal Cert.KvProjIdeal.Gen

variable (m : (ℓ : Loc nD τ sig) → Buf (Elt Ideal) ℓ)

/-- The rows, scaled and shifted by their sequence's vector. -/
abbrev modulated (X : FVec Ideal S8x2048x1024 .f32) (M : FVec Ideal S8x1x2048 .f32) : FVec Ideal S8x2048x1024 .f32 :=
  addf (mulf X (broadcastInDim S8x2048x1024 ![0, 1, 2] Cert.KvProjRefIdeal.Gen.bcast_S8x1x1024_S8x2048x1024_0_1_2 (addf (broadcastInDim Cert.KvProjRefIdeal.S8x1x1024 ![] Cert.KvProjRefIdeal.Gen.bcast_S_S8x1x1024 (constant Cert.KvProjRefIdeal.S_ .f32 0x3F800000#32)) (extractStridedSlice Cert.KvProjRefIdeal.S8x1x1024 ![0, 0, 1024] M Cert.KvProjRefIdeal.Gen.slices_S8x1x2048_S8x1x1024_0_0_1024)))) (broadcastInDim S8x2048x1024 ![0, 1, 2] Cert.KvProjRefIdeal.Gen.bcast_S8x1x1024_S8x2048x1024_0_1_2 (extractStridedSlice Cert.KvProjRefIdeal.S8x1x1024 ![0, 0, 0] M Cert.KvProjRefIdeal.Gen.slices_S8x1x2048_S8x1x1024_0_0_0))

/-- The rows' keys and values, all columns. -/
abbrev projected (X : FVec Ideal S8x2048x1024 .f32) (M : FVec Ideal S8x1x2048 .f32) (W : FVec Ideal S1024x3584 .f32) : FVec Ideal Cert.KvProjRefIdeal.S8x2048x3584 .f32 :=
  Host.dotGeneral Cert.KvProjRefIdeal.dot_S8x2048x1024_S1024x3584_S8x2048x3584_2_0_01_1_n_n none (modulated X M) W

/-- The columns kept in full. -/
abbrev raw (X : FVec Ideal S8x2048x1024 .f32) (M : FVec Ideal S8x1x2048 .f32) (W : FVec Ideal S1024x3584 .f32) : FVec Ideal S8x2048x1536 .f32 :=
  extractStridedSlice S8x2048x1536 ![0, 0, 0] (projected X M W) Cert.KvProjRefIdeal.Gen.slices_S8x2048x3584_S8x2048x1536_0_0_0

/-- The columns the attention reads. -/
abbrev dup (X : FVec Ideal S8x2048x1024 .f32) (M : FVec Ideal S8x1x2048 .f32) (W : FVec Ideal S1024x3584 .f32) : FVec Ideal S8x2048x2048 .bf16 :=
  truncf .bf16 (extractStridedSlice S8x2048x2048 ![0, 0, 1536] (projected X M W) Cert.KvProjRefIdeal.Gen.slices_S8x2048x3584_S8x2048x2048_0_0_1536) Cert.KvProjRefIdeal.Gen.bitsLt_bf16_f32

/-- Where a point's blocks lie. -/
theorem place : ∀ t : Fin cfg0.N, win0_0.index t = ![t.val / 8, t.val % 8, 0] ∧ win0_1.index t = ![t.val / 8, 0, 0]
    ∧ win0_2.index t = ![t.val / 8, 0, 1] ∧ win0_3.index t = ![0, 0]
    ∧ win0_4.index t = ![t.val / 8, t.val % 8, 0] ∧ win0_5.index t = ![t.val / 8, t.val % 8, 0] :=
  (by decide +kernel : ∀ t : Fin grid0.N, _)

/-- The columns kept in full, as a point stores them, are the reference's at the place the block has in the result. -/
theorem raw_at (c : Dev nD) (t : Fin cfg0.N) (y) :
    k0_pay2 (iblk m c 0 t) (iblk m c 2 t) (iblk m c 1 t) (iblk m c 3 t) y
      = raw (m ((c : Thread nD τ).loc main_arg0)) (m ((c : Thread nD τ).loc main_arg1)) (m ((c : Thread nD τ).loc main_arg2)) (((cfg0.win 4).blk t).view.emb y) := by
  pointwise [k0_pay1, k0_pay2, raw, projected, modulated]
  blk_point [iblk, V, place t]

/-- The columns the attention reads, as a point stores them, are the reference's at the place the block has in the result. -/
theorem dup_at (c : Dev nD) (t : Fin cfg0.N) (y) :
    k0_pay3 (iblk m c 0 t) (iblk m c 2 t) (iblk m c 1 t) (iblk m c 3 t) y
      = dup (m ((c : Thread nD τ).loc main_arg0)) (m ((c : Thread nD τ).loc main_arg1)) (m ((c : Thread nD τ).loc main_arg2)) (((cfg0.win 5).blk t).view.emb y) := by
  pointwise [k0_pay1, k0_pay3, dup, projected, modulated]
  blk_point [iblk, V, place t]

/-- The first result holds them. -/
theorem raw_final (c : Dev nD) : (dats m 0 c).arrAt 4 (cfgs 0).N
    = raw (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact raw_at m c t y

/-- The second result holds them. -/
theorem dup_final (c : Dev nD) : (dats m 0 c).arrAt 5 (cfgs 0).N
    = dup (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact dup_at m c t y

end Cert.KvProjIdeal.Mixer

end
-- ==== Proof.SplitUpValue.lean ====
/- The parting of the experts' weights: what its launch leaves in its two results. -/
module

public import proofs.«01_k».proof.Proof.Gen.SplitUpIdeal.Value
public import proofs.«01_k».proof.Proof.Gen.SplitUpRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.SplitUpIdeal.Mixer

open Cert.SplitUpIdeal Cert.SplitUpIdeal.Gen

variable (m : (ℓ : Loc nD τ sig) → Buf (Elt Ideal) ℓ)

/-- The even columns. -/
abbrev evens (W : FVec Ideal S128x1024x2048 .f32) : FVec Ideal S128x1024x1024 .bf16 :=
  truncf .bf16 (Host.slice S128x1024x1024 ![0, 0, 0] ![1, 1, 2] W Cert.SplitUpRefIdeal.Gen.slicesBy_S128x1024x2048_S128x1024x1024_0s1_0s1_0s2) Cert.SplitUpRefIdeal.Gen.bitsLt_bf16_f32

/-- The odd columns. -/
abbrev odds (W : FVec Ideal S128x1024x2048 .f32) : FVec Ideal S128x1024x1024 .bf16 :=
  truncf .bf16 (Host.slice S128x1024x1024 ![0, 0, 1] ![1, 1, 2] W Cert.SplitUpRefIdeal.Gen.slicesBy_S128x1024x2048_S128x1024x1024_0s1_0s1_1s2) Cert.SplitUpRefIdeal.Gen.bitsLt_bf16_f32

/-- Where a point's blocks lie. -/
theorem place : ∀ t : Fin cfg0.N, win0_0.index t = ![t.val / 2, t.val % 2, 0] ∧ win0_1.index t = ![0, 0]
    ∧ win0_2.index t = ![t.val / 2, t.val % 2, 0] ∧ win0_3.index t = ![t.val / 2, t.val % 2, 0] :=
  (by decide +kernel : ∀ t : Fin grid0.N, _)

/-- The matrix that parts the columns: a column goes to the half its parity names. -/
def parting (k j : ℕ) : EReal := if k % 2 * 128 + k / 2 = j then 1 else 0

/-- The divisor, as the remainder takes it. -/
def divisor : BitVec 32 := Scalar.select (IntOp.cmpi .eq 2#32 0#32) 1#32 2#32

/-- The remainder by two, with the divisor's sign. -/
def parity (x : BitVec 32) : BitVec 32 :=
  Scalar.select (IntOp.andi (IntOp.cmpi .ne (IntOp.cmpi .slt (IntOp.remsi .host x divisor) 0#32) (IntOp.cmpi .slt divisor 0#32)) (IntOp.cmpi .ne (IntOp.remsi .host x divisor) 0#32))
    (IntOp.addi (IntOp.remsi .host x divisor) divisor) (IntOp.remsi .host x divisor)

/-- The sign of a word. -/
def sign (x : BitVec 32) : BitVec 32 := if x = 0 then 0 else if x.msb = true then -1 else 1

/-- The quotient by two, rounded down. -/
def half (x : BitVec 32) : BitVec 32 :=
  Scalar.select (IntOp.andi (IntOp.cmpi .ne (sign x) (sign 2#32)) (IntOp.cmpi .ne (IntOp.remsi .host x 2#32) 0#32))
    (IntOp.subi (IntOp.divsi .host x 2#32) 1#32) (IntOp.divsi .host x 2#32)

/-- Where a column goes, as the launch computes it. -/
def goal (k : ℕ) : BitVec 32 := IntOp.addi (IntOp.muli (parity (BitVec.ofNat 32 k)) 128#32) (half (BitVec.ofNat 32 k))

/-- Where a column goes: to the half its parity names. -/
theorem goal_eq : ∀ k : Fin 256, goal k = BitVec.ofNat 32 (k.val % 2 * 128 + k.val / 2) := by decide +kernel

/-- A comparison's bit, as a number. -/
theorem bit_eq (a b : ℕ) (ha : a < 2 ^ 32) (hb : b < 2 ^ 32) :
    (FloatOps.uitofp (F := Ideal) .bf16 (IntOp.cmpi .eq (BitVec.ofNat 32 a) (BitVec.ofNat 32 b)) : EReal) = if a = b then 1 else 0 := by
  by_cases h : a = b
  · subst h
    simp [IntOp.cmpi, FloatOps.uitofp]
  · have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    simp [IntOp.cmpi, FloatOps.uitofp, hne, h]

/-- The matrix the launch computes is that one. -/
theorem V_matrix (c : Dev nD) (i : S256x256.Idx) : V m c main_v12 i = parting (i 0) (i 1) := by
  unfold V
  simp only [hostOps0, hostOps0_1, hostOps0_2, hostOps0_3, hostOps0_4, StableHlo.TRef.ternary, StableHlo.TRef.binary, StableHlo.TRef.nullary, StableHlo.TRef.unary, StableHlo.TRef.toBuf, StableHlo.TRef.ofBuf, cast_eq, List.flatten_cons, List.flatten_nil, List.append_nil, List.cons_append, List.nil_append]
  after_results
  pointwise
  show (FloatOps.uitofp (F := Ideal) .bf16 (IntOp.cmpi .eq (goal (i 0)) (BitVec.ofNat 32 (i 1))) : EReal) = _
  have h0 : (i 0 : ℕ) < 256 := (i 0).isLt
  have h1 : (i 1 : ℕ) < 256 := (i 1).isLt
  rw [goal_eq ⟨i 0, h0⟩]
  exact bit_eq _ _ (by show (i 0 : ℕ) % 2 * 128 + (i 0 : ℕ) / 2 < _; omega) (by omega)

/-- A product with it: each column of the result is the column of the left factor it names. -/
theorem product_at (v : Vec Ideal S1x512x256 .f32) (p : Vec Ideal S256x256 .bf16) (hp : ∀ k j, p (ix2 k j) = parting k j)
    (r : Fin 512) (k j : Fin 256) (h : k.val % 2 * 128 + k.val / 2 = j.val) : k0_pay2 v p (ix2 r j) = v (ix3 0 r k) := by
  pointwise [k0_pay2]
  rw [Finset.sum_eq_single k]
  · rw [hp, parting, if_pos h, mul_one]
  · intro l _ hl
    rw [hp, parting, if_neg, mul_zero]
    intro e
    apply hl
    apply Fin.ext
    have hk := k.isLt
    have hl := l.isLt
    rcases Nat.mod_two_eq_zero_or_one k.val with a | a <;> rcases Nat.mod_two_eq_zero_or_one l.val with b | b <;> rw [a] at h <;> rw [b] at e <;> omega
  · intro h'
    exact absurd (Finset.mem_univ k) h'

/-- A block's matrix is that one. -/
theorem block_matrix (c : Dev nD) (t : Fin cfg0.N) (k j : Fin 256) : View.ld (iblk m c 1 t) r0_1 (ix2 k j) = parting k j := by
  refine Eq.trans (V_matrix m c (((cfg0.win 1).blk t).view.emb (r0_1.idx (ix2 k j)))) ?_
  have h0 : ((((cfg0.win 1).blk t).view.emb (r0_1.idx (ix2 k j)) : S256x256.Idx) 0 : ℕ) = k := by
    blk_simp [place t]
    rw [Rect.idx_unit_val]
    exact Nat.zero_add _
  have h1 : ((((cfg0.win 1).blk t).view.emb (r0_1.idx (ix2 k j)) : S256x256.Idx) 1 : ℕ) = j := by
    blk_simp [place t]
    rw [Rect.idx_unit_val]
    exact Nat.zero_add _
  exact congrArg₂ parting h0 h1

/-- The first half of a product holds the even columns. -/
theorem even_at (v : Vec Ideal S1x512x256 .f32) (p : Vec Ideal S256x256 .bf16) (hp : ∀ k j, p (ix2 k j) = parting k j)
    (x : S1x512x128.Idx) (k : Fin 256) (hk : k.val = 2 * (x 2 : ℕ)) : k0_pay3 v p x = v (ix3 0 (x 1) k) := by
  have h2 : (x 2 : ℕ) < 128 := (x 2).isLt
  refine Eq.trans ?_ (product_at v p hp (x 1) k ⟨x 2, by omega⟩ (by show k.val % 2 * 128 + k.val / 2 = (x 2 : ℕ); omega))
  pointwise [k0_pay3]
  try blk_point []

/-- The second half holds the odd ones. -/
theorem odd_at (v : Vec Ideal S1x512x256 .f32) (p : Vec Ideal S256x256 .bf16) (hp : ∀ k j, p (ix2 k j) = parting k j)
    (x : S1x512x128.Idx) (k : Fin 256) (hk : k.val = 2 * (x 2 : ℕ) + 1) : k0_pay4 v p x = v (ix3 0 (x 1) k) := by
  have h2 : (x 2 : ℕ) < 128 := (x 2).isLt
  refine Eq.trans ?_ (product_at v p hp (x 1) k ⟨x 2 + 128, by omega⟩ (by show k.val % 2 * 128 + k.val / 2 = (x 2 : ℕ) + 128; omega))
  pointwise [k0_pay4]
  try blk_point []

/-- What a point stores at an index of its first block. -/
theorem evens_at (c : Dev nD) (t : Fin cfg0.N) (y : S1x512x1024.Idx) :
    out0_2 (iblk m c 0 t) (iblk m c 1 t) y = evens (m ((c : Thread nD τ).loc main_arg0)) (((cfg0.win 2).blk t).view.emb y) := by
  obtain_idx i : S1x512x2048 := [0, (y 1 : ℕ), 2 * (y 2 : ℕ)] with hi
  refine Eq.trans (b := iblk m c 0 t i) ?_ ?_
  · canon_tiles x h
    all_goals
      refine (even_at _ _ (block_matrix m c t) x ⟨2 * (x 2 : ℕ), by omega⟩ rfl).trans ?_
      rw [View.ld_apply]
      refine congrArg (iblk m c 0 t) (funext fun a => Fin.ext ?_)
      rw [Rect.idx_unit_val]
      fin_cases a
      · exact hi0.symm
      · exact (Nat.zero_add _).trans (h1.symm.trans hi1.symm)
      · refine Eq.trans ?_ hi2.symm
        show _ + _ = _
        dsimp
        omega
  · pointwise [evens]
    blk_point [iblk, V, place t]

/-- What a point stores at an index of its second block. -/
theorem odds_at (c : Dev nD) (t : Fin cfg0.N) (y : S1x512x1024.Idx) :
    out0_3 (iblk m c 0 t) (iblk m c 1 t) y = odds (m ((c : Thread nD τ).loc main_arg0)) (((cfg0.win 3).blk t).view.emb y) := by
  obtain_idx i : S1x512x2048 := [0, (y 1 : ℕ), 2 * (y 2 : ℕ) + 1] with hi
  refine Eq.trans (b := iblk m c 0 t i) ?_ ?_
  · canon_tiles x h
    all_goals
      refine (odd_at _ _ (block_matrix m c t) x ⟨2 * (x 2 : ℕ) + 1, by omega⟩ rfl).trans ?_
      rw [View.ld_apply]
      refine congrArg (iblk m c 0 t) (funext fun a => Fin.ext ?_)
      rw [Rect.idx_unit_val]
      fin_cases a
      · exact hi0.symm
      · exact (Nat.zero_add _).trans (h1.symm.trans hi1.symm)
      · refine Eq.trans ?_ hi2.symm
        show _ + _ = _
        dsimp
        omega
  · pointwise [odds]
    blk_point [iblk, V, place t]

/-- The first result holds the even columns. -/
theorem evens_final (c : Dev nD) : (dats m 0 c).arrAt 2 (cfgs 0).N = evens (m ((c : Thread nD τ).loc main_arg0)) := by
  refine (dats m 0 c).arrAt_eq_of_covers 2 _ (by decide +kernel) fun t _ y => ?_
  blk_simp
  rw [after0_2]
  exact evens_at m c t y

/-- The second result holds the odd ones. -/
theorem odds_final (c : Dev nD) : (dats m 0 c).arrAt 3 (cfgs 0).N = odds (m ((c : Thread nD τ).loc main_arg0)) := by
  refine (dats m 0 c).arrAt_eq_of_covers 3 _ (by decide +kernel) fun t _ y => ?_
  blk_simp
  rw [after0_3]
  exact odds_at m c t y

end Cert.SplitUpIdeal.Mixer

end
-- ==== Proof.AdaValue.lean ====
/- The layers' modulation: what its launch leaves in its result. -/
module

public import proofs.«01_k».proof.Proof.Gen.AdaIdeal.Value
public import proofs.«01_k».proof.Proof.Gen.AdaRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AdaIdeal.Mixer

open Cert.AdaIdeal Cert.AdaIdeal.Gen

variable (m : (ℓ : Loc nD τ sig) → Buf (Elt Ideal) ℓ)

/-- The conditioning rows, each weighed by its own sigmoid. -/
abbrev silu (C : FVec Ideal S136x1024 .f32) : FVec Ideal S136x1024 .f32 :=
  mulf C (Host.divf (broadcastInDim S136x1024 ![] Cert.AdaRefIdeal.Gen.bcast_S_S136x1024 (constant Cert.AdaRefIdeal.S_ .f32 0x3F800000#32))
    (addf (broadcastInDim S136x1024 ![] Cert.AdaRefIdeal.Gen.bcast_S_S136x1024 (constant Cert.AdaRefIdeal.S_ .f32 0x3F800000#32)) (Host.exp (Host.negf C))))

/-- The modulation of every layer and every row. -/
abbrev vectors (C : FVec Ideal S136x1024 .f32) (W : FVec Ideal S4x1024x6144 .f32) (B : FVec Ideal S4x6144 .f32) : FVec Ideal S4x136x6144 .f32 :=
  addf (transpose S4x136x6144 [0, 2, 1] (Host.dotGeneral Cert.AdaRefIdeal.dot_S4x1024x6144_S136x1024_S4x6144x136_1_1_02_0_n_n none W (silu C)) Cert.AdaRefIdeal.Gen.transposes_S4x6144x136_S4x136x6144_0_2_1)
    (broadcastInDim S4x136x6144 ![0, 1, 2] Cert.AdaRefIdeal.Gen.bcast_S4x1x6144_S4x136x6144_0_1_2 (broadcastInDim Cert.AdaRefIdeal.S4x1x6144 ![0, 2] Cert.AdaRefIdeal.Gen.bcast_S4x6144_S4x1x6144_0_2 B))

/-- Where a point's blocks lie. -/
theorem place : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] :=
  (by decide +kernel : ∀ t : Fin grid0.N, _)

/-- What a point stores is the reference's, at the place the block has in the result. -/
theorem vectors_at (c : Dev nD) (t : Fin cfg0.N) (y) :
    k0_pay1 (iblk m c 0 t) (iblk m c 1 t) (iblk m c 2 t) y
      = vectors (m ((c : Thread nD τ).loc main_arg0)) (m ((c : Thread nD τ).loc main_arg1)) (m ((c : Thread nD τ).loc main_arg2)) (((cfg0.win 3).blk t).view.emb y) := by
  pointwise [k0_pay1, vectors, silu]
  simp only [zero_sub]
  refine (congrArg₂ (fun a b : EReal => a + b) (Finset.sum_congr rfl fun k _ => mul_comm (G := EReal) _ _) rfl).trans ?_
  blk_point [iblk, V, place t]

/-- The result holds them. -/
theorem vectors_final (c : Dev nD) : (dats m 0 c).arrAt 3 (cfgs 0).N
    = vectors (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact vectors_at m c t y

end Cert.AdaIdeal.Mixer

end
-- ==== Proof.MixerRow.lean ====
/- One row of the mixer's output: what it is, step by step, in extended reals. -/
module

public import Idealize.ShloMosaic.PureOps.Ideal
public import Idealize.ShloMosaic.Lib.Pointwise

@[expose] public section

noncomputable section

namespace Cert.MixerRow

open Idealize.ShloMosaic

/-- A row plus the gated projection of the mixer's row. -/
def mixed (x o : Fin 1024 → EReal) (w : Fin 1024 → Fin 1024 → EReal) (gm : Fin 1024 → EReal) (d : Fin 1024) : EReal :=
  Ideal.ofBits .f32 0x3FD744FD#32 * x d + (1 + gm d) * ∑ k, o k * w k d

/-- A row less its mean. -/
def centred (z : Fin 1024 → EReal) (d : Fin 1024) : EReal :=
  z d - Ideal.div (∑ k, z k) (Ideal.ofBits .f32 0x44800000#32)

/-- A centred row over its deviation, scaled and shifted. -/
def normed (z g b : Fin 1024 → EReal) (d : Fin 1024) : EReal :=
  z d * Ideal.rsqrt (Ideal.div (∑ k, z k * z k) (Ideal.ofBits .f32 0x44800000#32) + Ideal.ofBits .f32 0x3727C5AC#32) * g d + b d

/-- A row scaled and shifted by its sequence's vector. -/
def fed (n sc sh : Fin 1024 → EReal) (d : Fin 1024) : EReal := n d * (1 + sc d) + sh d

/-- The router's scores of a row. -/
def scores (h : Fin 1024 → EReal) (r : Fin 1024 → Fin 128 → EReal) (q : Fin 128 → EReal) (e : Fin 128) : EReal :=
  (∑ k, h k * r k e) + q e

end Cert.MixerRow

end
-- ==== Proof.MixerFinite.lean ====
/- Real inputs give the mixer's output real scores. -/
module

public import proofs.«01_k».proof.Proof.MixerRow

@[expose] public section

noncomputable section

namespace Cert.MixerRow

open Idealize.ShloMosaic

/-- An extended real that is a real. -/
def Real' (x : EReal) : Prop := ∃ r : ℝ, x = (r : EReal)

theorem Real'.add {x y : EReal} (hx : Real' x) (hy : Real' y) : Real' (x + y) := by
  obtain ⟨a, rfl⟩ := hx; obtain ⟨b, rfl⟩ := hy
  exact ⟨a + b, (EReal.coe_add a b).symm⟩

theorem Real'.sub {x y : EReal} (hx : Real' x) (hy : Real' y) : Real' (x - y) := by
  obtain ⟨a, rfl⟩ := hx; obtain ⟨b, rfl⟩ := hy
  exact ⟨a - b, (EReal.coe_sub a b).symm⟩

theorem Real'.mul {x y : EReal} (hx : Real' x) (hy : Real' y) : Real' (x * y) := by
  obtain ⟨a, rfl⟩ := hx; obtain ⟨b, rfl⟩ := hy
  exact ⟨a * b, (EReal.coe_mul a b).symm⟩

theorem Real'.one : Real' 1 := ⟨1, rfl⟩

theorem Real'.sum {n : Nat} {f : Fin n → EReal} (h : ∀ k, Real' (f k)) : Real' (∑ k, f k) := by
  choose g hg using h
  refine ⟨∑ k, g k, ?_⟩
  rw [Finset.sum_congr rfl fun k _ => hg k]
  exact (map_sum (⟨⟨fun r : ℝ => (r : EReal), rfl⟩, EReal.coe_add⟩ : ℝ →+ EReal) g Finset.univ).symm

theorem count : (Ideal.ofBits .f32 0x44800000#32 : EReal) = ((1024 : ℝ) : EReal) := by
  simp [Ideal.ofBits, Ideal.ieee, -EReal.coe_mul]
  norm_num

theorem tiny : ∃ r : ℝ, 0 < r ∧ (Ideal.ofBits .f32 0x3727C5AC#32 : EReal) = (r : EReal) := by
  refine ⟨10995116 / 2 ^ 40, by positivity, ?_⟩
  simp [Ideal.ofBits, Ideal.ieee, -EReal.coe_mul]
  norm_num

theorem factor : Real' (Ideal.ofBits .f32 0x3FD744FD#32 : EReal) := by
  refine ⟨14107901 / 2 ^ 23, ?_⟩
  simp [Ideal.ofBits, Ideal.ieee, -EReal.coe_mul]
  norm_num

theorem Real'.over_count {x : EReal} (hx : Real' x) : Real' (Ideal.div x (Ideal.ofBits .f32 0x44800000#32)) := by
  rw [count, Ideal.div_coe (by norm_num)]
  exact hx.mul ⟨_, rfl⟩

theorem mixed_fin {x o : Fin 1024 → EReal} {w : Fin 1024 → Fin 1024 → EReal} {gm : Fin 1024 → EReal}
    (hx : ∀ k, Real' (x k)) (ho : ∀ k, Real' (o k)) (hw : ∀ k l, Real' (w k l)) (hg : ∀ k, Real' (gm k)) (d : Fin 1024) :
    Real' (mixed x o w gm d) :=
  (factor.mul (hx d)).add ((Real'.one.add (hg d)).mul (Real'.sum fun k => (ho k).mul (hw k d)))

theorem centred_fin {z : Fin 1024 → EReal} (hz : ∀ k, Real' (z k)) (d : Fin 1024) : Real' (centred z d) :=
  (hz d).sub (Real'.sum hz).over_count

theorem deviation_fin {z : Fin 1024 → EReal} (hz : ∀ k, Real' (z k)) :
    Real' (Ideal.rsqrt (Ideal.div (∑ k, z k * z k) (Ideal.ofBits .f32 0x44800000#32) + Ideal.ofBits .f32 0x3727C5AC#32)) := by
  choose g hg using hz
  obtain ⟨t, ht, et⟩ := tiny
  have hs : (∑ k, z k * z k) = ((∑ k, g k * g k : ℝ) : EReal) := by
    rw [Finset.sum_congr rfl fun k _ => by rw [hg k, ← EReal.coe_mul]]
    exact (map_sum (⟨⟨fun r : ℝ => (r : EReal), rfl⟩, EReal.coe_add⟩ : ℝ →+ EReal) (fun k => g k * g k) Finset.univ).symm
  have h0 : 0 ≤ ∑ k, g k * g k := Finset.sum_nonneg fun k _ => mul_self_nonneg _
  have hp : 0 < (∑ k, g k * g k) * (1 / 1024) + t := by positivity
  rw [hs, count, Ideal.div_coe (by norm_num), et, ← EReal.coe_mul, ← EReal.coe_add, Ideal.rsqrt_coe,
    if_neg (not_lt.mpr hp.le), if_neg hp.ne']
  exact ⟨_, rfl⟩

theorem normed_fin {z g b : Fin 1024 → EReal} (hz : ∀ k, Real' (z k)) (hg : ∀ k, Real' (g k)) (hb : ∀ k, Real' (b k)) (d : Fin 1024) :
    Real' (normed z g b d) :=
  (((hz d).mul (deviation_fin hz)).mul (hg d)).add (hb d)

theorem fed_fin {n sc sh : Fin 1024 → EReal} (hn : ∀ k, Real' (n k)) (hc : ∀ k, Real' (sc k)) (hs : ∀ k, Real' (sh k)) (d : Fin 1024) :
    Real' (fed n sc sh d) :=
  ((hn d).mul (Real'.one.add (hc d))).add (hs d)

theorem scores_fin {h : Fin 1024 → EReal} {r : Fin 1024 → Fin 128 → EReal} {q : Fin 128 → EReal}
    (hh : ∀ k, Real' (h k)) (hr : ∀ k e, Real' (r k e)) (hq : ∀ e, Real' (q e)) (e : Fin 128) : Real' (scores h r q e) :=
  (Real'.sum fun k => (hh k).mul (hr k e)).add (hq e)

end Cert.MixerRow

end
-- ==== Proof.AllFinite.lean ====
/- The precondition of the mixer's output, element by element: each argument holds reals. -/
module

public import proofs.«01_k».proof.Proof.Gen.Pre_all_finite
public import proofs.«01_k».proof.Proof.MixerFinite
public import Idealize.ShloMosaic.Lib.ReduceAll
public import Idealize.ShloMosaic.PureOps.Ideal

@[expose] public section

noncomputable section

namespace Cert.Pre_all_finite

open Idealize.ShloMosaic Facts MixerRow

instance scalar_subsingleton : Subsingleton S_.Idx := ⟨fun a b => funext fun x => absurd x.isLt (by simp)⟩

theorem ofBits_top : (Ideal.ofBits .f32 0x7F800000#32 : EReal) = ⊤ := by
  simp [Ideal.ofBits, Ideal.ieee]

/-- A comparison whose word is one holds. -/
theorem of_word {p : Prop} [Decidable p] (h : BitVec.ofBool (decide p) = 1#1) : p := by
  by_contra n
  rw [decide_eq_false n] at h
  exact absurd h (by decide)

/-- An entry whose magnitude is below the infinity is a real. -/
theorem real_of (x : EReal) (h : max x (-x) < Ideal.ofBits .f32 0x7F800000#32) : Real' x := by
  rw [ofBits_top] at h
  induction x using EReal.rec with
  | bot => simp at h
  | coe r => exact ⟨r, rfl⟩
  | top => simp at h

theorem two (p q : BitVec 1) (h : IntOp.andi p q = 1#1) : p = 1#1 ∧ q = 1#1 := by
  revert p q; decide

/-- Where the precondition is one, every argument holds reals. -/
theorem all_real [Facts] (x0 : FVec Ideal S8x2048x1024 .f32) (x1 : FVec Ideal S1024x1024 .f32) (x2 : FVec Ideal S8x2048x1024 .f32) (x3 : FVec Ideal S8x1x6144 .f32)
    (x4 x5 : FVec Ideal S1024 .f32) (x6 : FVec Ideal S1024x128 .f32) (x7 : FVec Ideal S1x128 .f32)
    (h : fn (F := Ideal) x0 x1 x2 x3 x4 x5 x6 x7 = fun _ => 1#1) :
    (∀ i, Real' (x0 i)) ∧ (∀ i, Real' (x1 i)) ∧ (∀ i, Real' (x2 i)) ∧ (∀ i, Real' (x3 i)) ∧ (∀ i, Real' (x4 i)) ∧ (∀ i, Real' (x5 i))
      ∧ (∀ i, Real' (x6 i)) ∧ (∀ i, Real' (x7 i)) := by
  have e := congrFun h (fun a => absurd a.isLt (by simp))
  obtain ⟨e, e7⟩ := two _ _ e
  obtain ⟨e, e6⟩ := two _ _ e
  obtain ⟨e, e5⟩ := two _ _ e
  obtain ⟨e, e4⟩ := two _ _ e
  obtain ⟨e, e3⟩ := two _ _ e
  obtain ⟨e, e2⟩ := two _ _ e
  obtain ⟨e0, e1⟩ := two _ _ e
  refine ⟨fun i => ?_, fun i => ?_, fun i => ?_, fun i => ?_, fun i => ?_, fun i => ?_, fun i => ?_, fun i => ?_⟩
  · exact real_of _ (of_word (Host.reduce_andi_all _ _ reducesTo_S8x2048x1024_S_d0_1_2 h_S_ _ e0 i))
  · exact real_of _ (of_word (Host.reduce_andi_all _ _ reducesTo_S1024x1024_S_d0_1 h_S_ _ e1 i))
  · exact real_of _ (of_word (Host.reduce_andi_all _ _ reducesTo_S8x2048x1024_S_d0_1_2 h_S_ _ e2 i))
  · exact real_of _ (of_word (Host.reduce_andi_all _ _ reducesTo_S8x1x6144_S_d0_1_2 h_S_ _ e3 i))
  · exact real_of _ (of_word (Host.reduce_andi_all _ _ reducesTo_S1024_S_d0 h_S_ _ e4 i))
  · exact real_of _ (of_word (Host.reduce_andi_all _ _ reducesTo_S1024_S_d0 h_S_ _ e5 i))
  · exact real_of _ (of_word (Host.reduce_andi_all _ _ reducesTo_S1024x128_S_d0_1 h_S_ _ e6 i))
  · exact real_of _ (of_word (Host.reduce_andi_all _ _ reducesTo_S1x128_S_d0_1 h_S_ _ e7 i))

end Cert.Pre_all_finite

end
-- ==== Proof.MixerOutBlocks.lean ====
/- The blocks of the mixer's output: which part of each array a point is given. -/
module

public import proofs.«01_k».proof.Proof.Gen.MixerOutIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixerOutIdeal.Blocks

open Cert.MixerOutIdeal Cert.MixerOutIdeal.Gen

variable (m : (ℓ : Loc nD τ sig) → Buf (Elt Ideal) ℓ)

/-- Where a point's blocks lie. -/
theorem place : ∀ t : Fin cfg0.N, win0_0.index t = ![t.val / 8, t.val % 8, 0] ∧ win0_1.index t = ![0, 0]
    ∧ win0_2.index t = ![t.val / 8, t.val % 8, 0] ∧ win0_3.index t = ![t.val / 8, 0, 2] ∧ win0_4.index t = ![t.val / 8, 0, 3]
    ∧ win0_5.index t = ![t.val / 8, 0, 4] ∧ win0_6.index t = ![0, 0, 0] ∧ win0_7.index t = ![0, 0, 0]
    ∧ win0_8.index t = ![0, 0] ∧ win0_9.index t = ![0, 0]
    ∧ win0_10.index t = ![t.val / 8, t.val % 8, 0] ∧ win0_11.index t = ![t.val / 8, t.val % 8, 0]
    ∧ win0_12.index t = ![t.val / 8, t.val % 8, 0] ∧ win0_13.index t = ![t.val / 8, t.val % 8, 0] :=
  (by decide +kernel : ∀ t : Fin grid0.N, _)

/-- The sequence of a point. -/
abbrev seq (t : Fin cfg0.N) : Fin 8 := ⟨t.val / 8, by have : t.val < 64 := t.isLt; omega⟩

/-- The row of a sequence that is row `r` of a point's block. -/
abbrev row (t : Fin cfg0.N) (r : Fin 256) : Fin 2048 := ⟨t.val % 8 * 256 + r.val, by omega⟩

variable (c : Dev nD) (t : Fin cfg0.N)

theorem o_at (r : Fin 256) (k : Fin 1024) : (iblk m c 0 t) (ix3 0 r k) = m ((c : Thread nD τ).loc main_arg0) (ix3 (seq t) (row t r) k) := by
  blk_point [iblk, V, place t]

theorem w_at (k l : Fin 1024) : (show EReal from (iblk m c 1 t) (ix2 k l)) = m ((c : Thread nD τ).loc main_arg1) (ix2 k l) := by
  blk_point [iblk, V, place t]

theorem x_at (r : Fin 256) (k : Fin 1024) : (iblk m c 2 t) (ix3 0 r k) = m ((c : Thread nD τ).loc main_arg2) (ix3 (seq t) (row t r) k) := by
  blk_point [iblk, V, place t]

theorem gm_at (k : Fin 1024) : (iblk m c 3 t) (ix3 0 0 k) = m ((c : Thread nD τ).loc main_arg3) (ix3 (seq t) 0 ⟨2048 + k.val, by omega⟩) := by
  blk_point [iblk, V, place t]

theorem sh_at (k : Fin 1024) : (iblk m c 4 t) (ix3 0 0 k) = m ((c : Thread nD τ).loc main_arg3) (ix3 (seq t) 0 ⟨3072 + k.val, by omega⟩) := by
  blk_point [iblk, V, place t]

theorem sc_at (k : Fin 1024) : (iblk m c 5 t) (ix3 0 0 k) = m ((c : Thread nD τ).loc main_arg3) (ix3 (seq t) 0 ⟨4096 + k.val, by omega⟩) := by
  blk_point [iblk, V, place t]

theorem g_at (k : Fin 1024) : (iblk m c 6 t) (ix3 0 0 k) = m ((c : Thread nD τ).loc main_arg4) (ix1 k) := by
  blk_point [iblk, V, place t]

theorem b_at (k : Fin 1024) : (iblk m c 7 t) (ix3 0 0 k) = m ((c : Thread nD τ).loc main_arg5) (ix1 k) := by
  blk_point [iblk, V, place t]

theorem wr_at (k : Fin 1024) (l : Fin 128) : (iblk m c 8 t) (ix2 k l) = m ((c : Thread nD τ).loc main_arg6) (ix2 k l) := by
  blk_point [iblk, V, place t]

theorem br_at (l : Fin 128) : (iblk m c 9 t) (ix2 0 l) = m ((c : Thread nD τ).loc main_arg7) (ix2 0 l) := by
  blk_point [iblk, V, place t]

theorem out0_at (r : Fin 256) (k : Fin 1024) : ((cfg0.win 10).blk t).view.emb (ix3 0 r k) = ix3 (seq t) (row t r) k := by
  blk_ext [place t]

theorem out1_at (r : Fin 256) (k : Fin 1024) : ((cfg0.win 11).blk t).view.emb (ix3 0 r k) = ix3 (seq t) (row t r) k := by
  blk_ext [place t]

theorem out2_at (r : Fin 256) (k : Fin 128) : ((cfg0.win 12).blk t).view.emb (ix3 0 r k) = ix3 (seq t) (row t r) k := by
  blk_ext [place t]

theorem out3_at (r : Fin 256) (k : Fin 128) : ((cfg0.win 13).blk t).view.emb (ix3 0 r k) = ix3 (seq t) (row t r) k := by
  blk_ext [place t]

end Cert.MixerOutIdeal.Blocks

end
-- ==== Proof.TopFour.lean ====
/- The first of a row by a stable sort, and the same by taking the greatest again and again. -/
module

public import Idealize.ShloMosaic.Lib.SortFacts
public import Idealize.ShloMosaic.PureOps.Ideal
public import Idealize.ShloMosaic.Lib.Pointwise

@[expose] public section

noncomputable section

namespace Cert.TopFour

open Idealize.ShloMosaic

/-- Place `a` comes before place `b`: its entry is greater, or the two are equal and `a` is the earlier. -/
def Ahead {n : Nat} (L : Fin n → EReal) (a b : Fin n) : Prop := L b < L a ∨ (L b = L a ∧ a < b)

theorem Ahead.le {n : Nat} {L : Fin n → EReal} {a b : Fin n} (h : Ahead L a b) : L b ≤ L a := by
  rcases h with h | h
  · exact h.le
  · exact h.1.le

theorem insert_ahead {n : Nat} (L : Fin n → EReal) (before : Fin n → Fin n → Bool)
    (hb : ∀ a b, before a b = true ↔ L b < L a) (a : Fin n) (l : List (Fin n)) (ha : ∀ b ∈ l, a < b)
    (hl : l.Pairwise (Ahead L)) : (insertBefore before a l).Pairwise (Ahead L) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem b hc)) hl.2⟩
      rcases List.mem_cons.mp ((perm_insertBefore before a l).mem_iff.mp hc) with rfl | hc'
      · exact Or.inl ((hb _ _).mp h)
      · exact hl.1 c hc'
    · rename_i h
      have hle : L b ≤ L a := not_lt.mp fun h' => h ((hb _ _).mpr h')
      refine List.pairwise_cons.mpr ⟨fun c hc => ?_, List.pairwise_cons.mpr hl⟩
      have hca : L c ≤ L a := by
        rcases List.mem_cons.mp hc with rfl | hc'
        · exact hle
        · exact (hl.1 c hc').le.trans hle
      rcases hca.lt_or_eq with h1 | h1
      · exact Or.inl h1
      · exact Or.inr ⟨h1, ha c hc⟩

theorem stable_ahead {n : Nat} (L : Fin n → EReal) (before : Fin n → Fin n → Bool)
    (hb : ∀ a b, before a b = true ↔ L b < L a) (l : List (Fin n)) (h : l.Pairwise (· < ·)) :
    (stableSort before l).Pairwise (Ahead L) := by
  induction l with
  | nil => exact List.Pairwise.nil
  | cons a l ih =>
    rw [List.pairwise_cons] at h
    unfold stableSort
    exact insert_ahead L before hb a _ (fun b hb' => h.1 b ((perm_stableSort before l).mem_iff.mp hb')) (ih h.2)

/-- The sort puts each place after those it comes behind. -/
theorem sorted_ahead {n : Nat} (L : Fin n → EReal) (before : Fin n → Fin n → Bool)
    (hb : ∀ a b, before a b = true ↔ L b < L a) (i j : Fin n) (hij : i < j) :
    Ahead L (sortedFrom before i) (sortedFrom before j) := by
  have hp : ∀ a b : Fin (sortPositions n before).length, a < b →
      Ahead L ((sortPositions n before).get a) ((sortPositions n before).get b) :=
    List.pairwise_iff_get.mp (stable_ahead L before hb (List.finRange n) (List.pairwise_lt_finRange n))
  unfold sortedFrom
  exact hp _ _ (by simp only [Fin.lt_def, Fin.val_cast]; exact hij)

/-- What is left of a row when the first `k` places of the sort are taken out. -/
def left {n : Nat} (L : Fin n → EReal) (S : Fin n → Fin n) (k : Nat) (i : Fin n) : EReal :=
  if ∃ j : Fin n, j.val < k ∧ S j = i then ⊥ else L i

theorem left_zero {n : Nat} (L : Fin n → EReal) (S : Fin n → Fin n) : left L S 0 = L := by
  funext i
  unfold left
  rw [if_neg (by rintro ⟨j, h, _⟩; omega)]

theorem left_succ {n : Nat} (L : Fin n → EReal) (S : Fin n → Fin n) (k : Fin n) (i : Fin n) :
    left L S (k.val + 1) i = if i = S k then ⊥ else left L S k.val i := by
  unfold left
  by_cases h : i = S k
  · rw [if_pos h, if_pos ⟨k, by omega, h.symm⟩]
  · rw [if_neg h]
    refine if_congr ⟨?_, ?_⟩ rfl rfl
    · rintro ⟨j, hj, e⟩
      refine ⟨j, ?_, e⟩
      rcases Nat.lt_succ_iff_lt_or_eq.mp hj with h' | h'
      · exact h'
      · exact absurd (by rw [← e, Fin.ext h'] : i = S k) h
    · rintro ⟨j, hj, e⟩
      exact ⟨j, by omega, e⟩

section rounds
variable {n : Nat} (L : Fin n → EReal) (before : Fin n → Fin n → Bool) (hb : ∀ a b, before a b = true ↔ L b < L a)
  (hL : ∀ i, L i ≠ ⊥)
include hb hL

theorem left_at (k : Fin n) : left L (sortedFrom before) k.val (sortedFrom before k) = L (sortedFrom before k) := by
  unfold left
  rw [if_neg]
  rintro ⟨j, hj, e⟩
  rw [sortedFrom_injective before e] at hj
  omega

theorem left_le (k i : Fin n) : left L (sortedFrom before) k.val i ≤ L (sortedFrom before k) := by
  unfold left
  split
  · exact bot_le
  · rename_i h
    obtain ⟨j, rfl⟩ := sortedFrom_surjective before i
    rcases lt_trichotomy k j with h' | h' | h'
    · exact (sorted_ahead L before hb k j h').le
    · rw [h']
    · exact absurd ⟨j, h', rfl⟩ h

theorem left_first (k i : Fin n) (e : left L (sortedFrom before) k.val i = L (sortedFrom before k)) :
    (sortedFrom before k).val ≤ i.val := by
  unfold left at e
  split at e
  · exact absurd e.symm (hL _)
  · rename_i h
    obtain ⟨j, rfl⟩ := sortedFrom_surjective before i
    rcases lt_trichotomy k j with h' | h' | h'
    · rcases sorted_ahead L before hb k j h' with h1 | h1
      · exact absurd e h1.ne
      · exact Fin.le_def.mp h1.2.le
    · rw [h']
    · exact absurd ⟨j, h', rfl⟩ h

/-- The greatest of what is left is the next of the sort. -/
theorem fold_max (k : Fin n) : Finset.univ.fold max ⊥ (left L (sortedFrom before) k.val) = L (sortedFrom before k) := by
  have h : Finset.univ.fold max ⊥ (left L (sortedFrom before) k.val) ≤ L (sortedFrom before k) :=
    (Finset.fold_max_le _).mpr ⟨bot_le, fun i _ => left_le L before hb hL k i⟩
  refine le_antisymm h ?_
  exact (Finset.le_fold_max _).mpr (Or.inr ⟨sortedFrom before k, Finset.mem_univ _, (left_at L before hb hL k).ge⟩)

end rounds

/-- The least of words, taken as signed: a word among them that none is below. -/
theorem fold_min {ι : Type} [DecidableEq ι] [Fintype ι] (f : ι → BitVec 32) (k : ι) (h : ∀ i, (f k).toInt ≤ (f i).toInt) :
    Finset.univ.fold IntOp.minsi 2147483647#32 f = f k := by
  have step : ∀ s : Finset ι, (∀ i ∈ s, (s.fold IntOp.minsi 2147483647#32 f).toInt ≤ (f i).toInt)
      ∧ (s.fold IntOp.minsi 2147483647#32 f = 2147483647#32 ∨ ∃ i, s.fold IntOp.minsi 2147483647#32 f = f i) := by
    intro s
    induction s using Finset.induction_on with
    | empty => exact ⟨fun i hi => absurd hi (Finset.notMem_empty i), Or.inl rfl⟩
    | insert a s ha ih =>
      rw [Finset.fold_insert ha]
      have hm : ∀ x y : BitVec 32, IntOp.minsi x y = if x.toInt < y.toInt then x else y := by
        intro x y
        simp only [IntOp.minsi, BitVec.slt, decide_eq_true_eq]
      rw [hm]
      split
      · rename_i hle
        refine ⟨fun i hi => ?_, Or.inr ⟨a, rfl⟩⟩
        rcases Finset.mem_insert.mp hi with rfl | hi
        · exact le_refl _
        · exact hle.le.trans (ih.1 i hi)
      · rename_i hle
        refine ⟨fun i hi => ?_, ih.2⟩
        rcases Finset.mem_insert.mp hi with rfl | hi
        · omega
        · exact ih.1 i hi
  obtain ⟨h1, h2⟩ := step Finset.univ
  have h3 := h1 k (Finset.mem_univ k)
  apply BitVec.eq_of_toInt_eq
  rcases h2 with h2 | ⟨i, h2⟩
  · refine le_antisymm h3 ?_
    rw [h2]
    have := BitVec.toInt_lt (x := f k)
    simp at this ⊢
    omega
  · refine le_antisymm h3 ?_
    rw [h2]
    exact h i

/-- The greatest entry of a row. -/
def rowMax (M : Fin 128 → EReal) : EReal := Finset.univ.fold max ⊥ M

/-- The first place of a row that holds its greatest entry, as a word. -/
def rowPick (M : Fin 128 → EReal) : BitVec 32 :=
  Finset.univ.fold IntOp.minsi 2147483647#32 fun k : Fin 128 => if M k = rowMax M then BitVec.ofNat 32 k.val else 128#32

/-- A row with the entry at a place taken out. -/
def rowMask (M : Fin 128 → EReal) (w : BitVec 32) (k : Fin 128) : EReal :=
  if BitVec.ofNat 32 k.val = w then ⊥ else M k

theorem toInt_small (k : Nat) (h : k ≤ 128) : (BitVec.ofNat 32 k).toInt = k := by
  rw [BitVec.toInt_eq_toNat_cond, BitVec.toNat_ofNat]
  rw [Nat.mod_eq_of_lt (by omega), if_pos (by omega)]

section rows
variable (L : Fin 128 → EReal) (before : Fin 128 → Fin 128 → Bool) (hb : ∀ a b, before a b = true ↔ L b < L a)
  (hL : ∀ i, L i ≠ ⊥)
include hb hL

theorem rowMax_left (k : Fin 128) : rowMax (left L (sortedFrom before) k.val) = L (sortedFrom before k) :=
  fold_max L before hb hL k

theorem rowPick_left (k : Fin 128) :
    rowPick (left L (sortedFrom before) k.val) = BitVec.ofNat 32 (sortedFrom before k).val := by
  unfold rowPick
  rw [rowMax_left L before hb hL k]
  have e : (fun i : Fin 128 => if left L (sortedFrom before) k.val i = L (sortedFrom before k) then BitVec.ofNat 32 i.val else 128#32) (sortedFrom before k)
      = BitVec.ofNat 32 (sortedFrom before k).val := if_pos (left_at L before hb hL k)
  rw [← e]
  refine fold_min _ _ fun i => ?_
  rw [if_pos (left_at L before hb hL k)]
  have hs := (sortedFrom before k).isLt
  rw [toInt_small _ (by omega)]
  split
  · rename_i h
    rw [toInt_small _ (by omega)]
    exact_mod_cast left_first L before hb hL k i h
  · rw [show (128#32).toInt = 128 from rfl]
    omega

theorem rowMask_left (k : Fin 128) :
    rowMask (left L (sortedFrom before) k.val) (BitVec.ofNat 32 (sortedFrom before k).val)
      = left L (sortedFrom before) (k.val + 1) := by
  funext i
  rw [left_succ]
  unfold rowMask
  refine if_congr ⟨fun h => ?_, fun h => by rw [h]⟩ rfl rfl
  have h' := congrArg BitVec.toNat h
  rw [BitVec.toNat_ofNat, BitVec.toNat_ofNat] at h'
  apply Fin.ext
  have := i.isLt
  have := (sortedFrom before k).isLt
  omega

end rows

/-- The place in a row of the entry that comes `k`-th, the greatest first and equal ones in order of place. -/
def first (l : Fin 128 → EReal) : Fin 128 → Fin 128 :=
  sortedFrom fun k k' => FloatOps.cmpfTotal (F := Ideal) (φ := .f32) .gt (l k) (l k') == 1#1

theorem first_before (l : Fin 128 → EReal) (a b : Fin 128) :
    (FloatOps.cmpfTotal (F := Ideal) (φ := .f32) .gt (l a) (l b) == 1#1) = true ↔ l b < l a := by
  rw [beq_iff_eq]
  change BitVec.ofBool (decide (l b < l a)) = 1#1 ↔ _
  by_cases h : l b < l a
  · rw [decide_eq_true h]; exact ⟨fun _ => h, fun _ => rfl⟩
  · rw [decide_eq_false h]; exact ⟨fun e => absurd e (by decide), fun e => absurd e h⟩

theorem first_le (l : Fin 128 → EReal) (i j : Fin 128) (h : i ≤ j) : l (first l j) ≤ l (first l i) := by
  rcases h.lt_or_eq with h | h
  · exact (sorted_ahead l _ (first_before l) i j h).le
  · rw [h]

section taking
variable (l : Fin 128 → EReal) (hl : ∀ i, l i ≠ ⊥)
include hl

theorem max_first (k : Nat) (h : k < 128) : rowMax (left l (first l) k) = l (first l ⟨k, h⟩) :=
  rowMax_left l _ (first_before l) hl ⟨k, h⟩

theorem pick_first (k : Nat) (h : k < 128) : rowPick (left l (first l) k) = BitVec.ofNat 32 (first l ⟨k, h⟩).val :=
  rowPick_left l _ (first_before l) hl ⟨k, h⟩

theorem mask_first (k : Nat) (h : k < 128) :
    rowMask (left l (first l) k) (BitVec.ofNat 32 (first l ⟨k, h⟩).val) = left l (first l) (k + 1) :=
  rowMask_left l _ (first_before l) hl ⟨k, h⟩

end taking

/-- The power of the `k`-th of a row over the first. -/
def power (l : Fin 128 → EReal) (k : Fin 128) : EReal := Ideal.exp (l (first l k) - l (first l ⟨0, by decide⟩))

/-- The weights of the four greatest, as the powers of the last three and the one of the first over their sum. -/
def kernelWeight (l : Fin 128 → EReal) (k : Fin 128) : EReal :=
  Ideal.div (if k.val = 3 then power l ⟨3, by decide⟩ else if k.val = 2 then power l ⟨2, by decide⟩
    else if k.val = 1 then power l ⟨1, by decide⟩ else if k.val = 0 then 1 else 0)
    (1 + power l ⟨1, by decide⟩ + power l ⟨2, by decide⟩ + power l ⟨3, by decide⟩)

section weights
variable (l : Fin 128 → EReal) (hl : ∀ k, ∃ x : ℝ, l k = (x : EReal))
include hl

theorem power_real (k : Fin 128) : ∃ x : ℝ, 0 < x ∧ power l k = (x : EReal) := by
  obtain ⟨x, hx⟩ := hl (first l k)
  obtain ⟨y, hy⟩ := hl (first l ⟨0, by decide⟩)
  refine ⟨Real.exp (x - y), Real.exp_pos _, ?_⟩
  unfold power
  rw [hx, hy, ← EReal.coe_sub]
  rfl

theorem power_zero : power l ⟨0, by decide⟩ = 1 := by
  obtain ⟨y, hy⟩ := hl (first l ⟨0, by decide⟩)
  unfold power
  rw [hy, ← EReal.coe_sub, sub_self, Ideal.exp_coe, Real.exp_zero]
  rfl

/-- They are the powers of the four over their sum, and zero past the four. -/
theorem kernelWeight_eq (k : Fin 128) : kernelWeight l k
    = if k.val < 4 then Ideal.div (power l k) (∑ j : Fin 4, power l ⟨j.val, by omega⟩) else 0 := by
  have hs : (∑ j : Fin 4, power l ⟨j.val, by omega⟩) = 1 + power l ⟨1, by decide⟩ + power l ⟨2, by decide⟩ + power l ⟨3, by decide⟩ := by
    rw [Fin.sum_univ_four, ← power_zero l hl]
    rfl
  rw [hs]
  unfold kernelWeight
  by_cases h3 : k.val = 3
  · rw [if_pos h3, if_pos (by omega), show k = ⟨3, by decide⟩ from Fin.ext h3]
  rw [if_neg h3]
  by_cases h2 : k.val = 2
  · rw [if_pos h2, if_pos (by omega), show k = ⟨2, by decide⟩ from Fin.ext h2]
  rw [if_neg h2]
  by_cases h1 : k.val = 1
  · rw [if_pos h1, if_pos (by omega), show k = ⟨1, by decide⟩ from Fin.ext h1]
  rw [if_neg h1]
  by_cases h0 : k.val = 0
  · rw [if_pos h0, if_pos (by omega), show k = ⟨0, by decide⟩ from Fin.ext h0, power_zero l hl]
  rw [if_neg h0, if_neg (by omega)]
  obtain ⟨a, ha, ea⟩ := power_real l hl ⟨1, by decide⟩
  obtain ⟨b, hb, eb⟩ := power_real l hl ⟨2, by decide⟩
  obtain ⟨c, hc, ec⟩ := power_real l hl ⟨3, by decide⟩
  rw [ea, eb, ec, show (1 : EReal) = ((1 : ℝ) : EReal) from rfl, ← EReal.coe_add, ← EReal.coe_add, ← EReal.coe_add,
    Ideal.div_coe (by positivity), zero_mul]

/-- The greatest of the four is the first. -/
theorem max_four : max ⊥ (Finset.univ.fold max ⊥ fun k : Fin 4 => l (first l ⟨k.val, by omega⟩)) = l (first l ⟨0, by decide⟩) := by
  rw [max_eq_right bot_le]
  refine le_antisymm ((Finset.fold_max_le _).mpr ⟨bot_le, fun k _ => first_le l _ _ (Fin.le_def.mpr (Nat.zero_le _))⟩) ?_
  exact (Finset.le_fold_max _).mpr (Or.inr ⟨0, Finset.mem_univ _, le_refl _⟩)

end weights

end Cert.TopFour

end
-- ==== Proof.MixerOutRead.lean ====
/- What the mixer's output computes of a block of rows, read at an index. -/
module

public import proofs.«01_k».proof.Proof.Gen.MixerOutIdeal.Skeleton
public import proofs.«01_k».proof.Proof.MixerRow
public import proofs.«01_k».proof.Proof.TopFour

@[expose] public section

set_option maxRecDepth 16384

noncomputable section

open Idealize.ShloMosaic Idealize.ShloMosaic.TcCoe Idealize.SL.Sem

namespace Cert.MixerOutIdeal.Read

open Cert.MixerOutIdeal Cert.MixerOutIdeal.Gen

theorem bottom : (Ideal.ofBits .f32 0xFF800000#32 : EReal) = ⊥ := by
  simp [Ideal.ofBits, Ideal.ieee]

theorem select_eq {α : Type} (u v : BitVec 32) (x y : α) : Scalar.select (IntOp.cmpi .eq u v) x y = if u = v then x else y := by
  by_cases h : u = v
  · subst h; simp [Scalar.select, IntOp.cmpi]
  · rw [if_neg h]
    simp only [Scalar.select, IntOp.cmpi, beq_eq_false_iff_ne.mpr h]
    rfl

theorem four_cases {α : Type} (k : Fin 128) (f : Fin 128 → α) (z : α) :
    (if k.val = 3 then f ⟨3, by decide⟩ else if k.val = 2 then f ⟨2, by decide⟩ else if k.val = 1 then f ⟨1, by decide⟩
      else if k.val = 0 then f ⟨0, by decide⟩ else z) = if k.val < 4 then f k else z := by
  split
  · rename_i h; rw [if_pos (by omega)]; congr 1; exact Fin.ext h.symm
  split
  · rename_i h; rw [if_pos (by omega)]; congr 1; exact Fin.ext h.symm
  split
  · rename_i h; rw [if_pos (by omega)]; congr 1; exact Fin.ext h.symm
  split
  · rename_i h; rw [if_pos (by omega)]; congr 1; exact Fin.ext h.symm
  · rw [if_neg (by omega)]

theorem place_eq (k : Fin 128) (n : Nat) (hn : n < 128) : (BitVec.ofNat 32 k.val = BitVec.ofNat 32 n) = (k.val = n) := by
  refine propext ⟨fun h => ?_, fun h => by rw [h]⟩
  have h' := congrArg BitVec.toNat h
  rw [BitVec.toNat_ofNat, BitVec.toNat_ofNat] at h'
  have := k.isLt
  omega

theorem centred_at (v0 : FVec Ideal S1x256x1024 .f32) (v3 : FVec Ideal S1024x1024 .bf16) (v7 : FVec Ideal S1x256x1024 .f32) (v10 : FVec Ideal S1x1x1024 .f32) (r : Fin 256) (d : Fin 1024) :
    k0_pay3 (F := Ideal) v0 v3 v7 v10 (ix3 0 r d) = MixerRow.centred (MixerRow.mixed (fun k => v7 (ix3 0 r k)) (fun k => v0 (ix3 0 r k)) (fun k l => v3 (ix2 k l)) (fun k => v10 (ix3 0 0 k))) d := by
  pointwise [k0_pay3, MixerRow.centred, MixerRow.mixed, zero_add]

theorem normed_at (v0 : FVec Ideal S1x256x1024 .f32) (v3 : FVec Ideal S1024x1024 .bf16) (v7 : FVec Ideal S1x256x1024 .f32) (v10 v16 v18 : FVec Ideal S1x1x1024 .f32) (r : Fin 256) (d : Fin 1024) :
    k0_pay5 (F := Ideal) (k0_pay1 v16) (k0_pay2 v18) (k0_pay3 v0 v3 v7 v10) (k0_pay4 v0 v3 v7 v10) (ix3 0 r d)
      = MixerRow.normed (fun k => k0_pay3 (F := Ideal) v0 v3 v7 v10 (ix3 0 r k)) (fun k => v16 (ix3 0 0 k)) (fun k => v18 (ix3 0 0 k)) d := by
  pointwise [k0_pay1, k0_pay2, k0_pay4, k0_pay5, MixerRow.normed, zero_add]

theorem wide_at (v17 v19 : FVec Ideal S1x1x1024 .f32) (v25 : FVec Ideal S1x256x1024 .f32) (v32 : FVec Ideal S1x256x1 .f32) (v41 v46 : FVec Ideal S1x1x1024 .f32) (r : Fin 256) (d : Fin 1024) :
    k0_pay6 v17 v19 v25 v32 v41 v46 (ix3 0 r d)
      = MixerRow.fed (fun k => k0_pay5 v17 v19 v25 v32 (ix3 0 r k)) (fun k => v41 (ix3 0 0 k)) (fun k => v46 (ix3 0 0 k)) d := by
  pointwise [k0_pay6, MixerRow.fed]

theorem fed_at (v17 v19 : FVec Ideal S1x1x1024 .f32) (v25 : FVec Ideal S1x256x1024 .f32) (v32 : FVec Ideal S1x256x1 .f32) (v41 v46 : FVec Ideal S1x1x1024 .f32) (r : Fin 256) (d : Fin 1024) :
    k0_pay7 v17 v19 v25 v32 v41 v46 (ix3 0 r d) = k0_pay6 v17 v19 v25 v32 v41 v46 (ix3 0 r d) := by
  pointwise [k0_pay7]

theorem scores_at (v17 v19 : FVec Ideal S1x1x1024 .f32) (v25 : FVec Ideal S1x256x1024 .f32) (v32 : FVec Ideal S1x256x1 .f32) (v41 v46 : FVec Ideal S1x1x1024 .f32) (v52 : FVec Ideal S1024x128 .f32) (v54 : FVec Ideal S1x128 .f32) (r : Fin 256) (e : Fin 128) :
    k0_pay8 v17 v19 v25 v32 v41 v46 v52 v54 (ix2 r e)
      = MixerRow.scores (fun k => k0_pay6 v17 v19 v25 v32 v41 v46 (ix3 0 r k)) (fun k l => v52 (ix2 k l)) (fun l => v54 (ix2 0 l)) e := by
  pointwise [k0_pay8, MixerRow.scores, zero_add]

section first_round
variable (v17 v19 : FVec Ideal S1x1x1024 .f32) (v25 : FVec Ideal S1x256x1024 .f32) (v32 : FVec Ideal S1x256x1 .f32) (v41 v46 : FVec Ideal S1x1x1024 .f32) (v52 : FVec Ideal S1024x128 .f32) (v54 : FVec Ideal S1x128 .f32)

theorem max0_at (r : Fin 256) : k0_pay11 v17 v19 v25 v32 v41 v46 v52 v54 (ix2 r 0)
    = TopFour.rowMax (fun k => k0_pay8 v17 v19 v25 v32 v41 v46 v52 v54 (ix2 r k)) := by
  pointwise [k0_pay11, TopFour.rowMax, bottom]

theorem pick0_at (r : Fin 256) : k0_pay12 v17 v19 v25 v32 v41 v46 v52 v54 (ix2 r 0)
    = TopFour.rowPick (fun k => k0_pay8 v17 v19 v25 v32 v41 v46 v52 v54 (ix2 r k)) := by
  pointwise [k0_pay12, TopFour.rowPick, max0_at]

end first_round

section rounds
variable (v56 : FVec Ideal S256x128 .f32) (v67 : IVec S256x1 32)

/-- The places of the columns. -/
abbrev places : IVec S256x128 32 := iota .tc S256x128 32 [1] iota_S256x128_d1_w32

theorem mask1_at (r : Fin 256) (k : Fin 128) : k0_pay14 v56 places v67 (ix2 r k)
    = TopFour.rowMask (fun k => v56 (ix2 r k)) (v67 (ix2 r 0)) k := by
  pointwise [k0_pay14, TopFour.rowMask, bottom]
  rw [select_eq]

theorem max1_at (r : Fin 256) : k0_pay15 v56 places v67 (ix2 r 0) = TopFour.rowMax (fun k => k0_pay14 v56 places v67 (ix2 r k)) := by
  pointwise [k0_pay15, TopFour.rowMax, bottom]

theorem pick1_at (r : Fin 256) : k0_pay16 v56 places v67 (ix2 r 0) = TopFour.rowPick (fun k => k0_pay14 v56 places v67 (ix2 r k)) := by
  pointwise [k0_pay16, TopFour.rowPick, max1_at]

theorem mask2_at (r : Fin 256) (k : Fin 128) : k0_pay21 v56 places v67 (ix2 r k)
    = TopFour.rowMask (fun k => k0_pay14 v56 places v67 (ix2 r k)) (k0_pay16 v56 places v67 (ix2 r 0)) k := by
  pointwise [k0_pay21, TopFour.rowMask, bottom]
  rw [select_eq]

theorem max2_at (r : Fin 256) : k0_pay22 v56 places v67 (ix2 r 0) = TopFour.rowMax (fun k => k0_pay21 v56 places v67 (ix2 r k)) := by
  pointwise [k0_pay22, TopFour.rowMax, bottom]

theorem pick2_at (r : Fin 256) : k0_pay23 v56 places v67 (ix1 r) = TopFour.rowPick (fun k => k0_pay21 v56 places v67 (ix2 r k)) := by
  pointwise [k0_pay23, TopFour.rowPick, max2_at]

variable (v107 : FVec Ideal S256x128 .f32) (v114 : IVec S256 32)

theorem mask3_at (r : Fin 256) (k : Fin 128) : k0_pay25 places v107 v114 (ix2 r k)
    = TopFour.rowMask (fun k => v107 (ix2 r k)) (v114 (ix1 r)) k := by
  pointwise [k0_pay24, k0_pay25, TopFour.rowMask, bottom]
  rw [select_eq]

theorem max3_at (r : Fin 256) : k0_pay26 places v107 v114 (ix2 r 0) = TopFour.rowMax (fun k => k0_pay25 places v107 v114 (ix2 r k)) := by
  pointwise [k0_pay26, TopFour.rowMax, bottom]

/-- The columns a row's result names. -/
theorem chosen_at (r : Fin 256) (k : Fin 128) :
    k0_pay27 places (k0_pay19 v56 places k0_pay9 v67) v107 v114 (ix3 0 r k)
      = if k.val = 3 then TopFour.rowPick (fun k => k0_pay25 places v107 v114 (ix2 r k))
        else if k.val = 2 then v114 (ix1 r)
        else if k.val = 1 then k0_pay16 v56 places v67 (ix2 r 0)
        else if k.val = 0 then v67 (ix2 r 0) else 0#32 := by
  pointwise [k0_pay27, k0_pay19, k0_pay9, k0_pay24, TopFour.rowPick, max3_at]
  simp only [select_eq, place_eq k 3 (by decide), place_eq k 2 (by decide), place_eq k 1 (by decide), place_eq k 0 (by decide)]

/-- The weights of a row's result. -/
theorem weights_at (v61 v109 : FVec Ideal S256x1 .f32) (r : Fin 256) (k : Fin 128) :
    k0_pay28 places v61 (k0_pay18 v56 places v61 v67) (k0_pay20 v56 places k0_pay10 v61 v67) v107 v109 v114 (ix3 0 r k)
      = Ideal.div (if k.val = 3 then Ideal.exp (k0_pay26 places v107 v114 (ix2 r 0) - v61 (ix2 r 0))
        else if k.val = 2 then Ideal.exp (v109 (ix2 r 0) - v61 (ix2 r 0))
        else if k.val = 1 then Ideal.exp (k0_pay15 v56 places v67 (ix2 r 0) - v61 (ix2 r 0))
        else if k.val = 0 then 1 else 0)
        (1 + Ideal.exp (k0_pay15 v56 places v67 (ix2 r 0) - v61 (ix2 r 0)) + Ideal.exp (v109 (ix2 r 0) - v61 (ix2 r 0)) + Ideal.exp (k0_pay26 places v107 v114 (ix2 r 0) - v61 (ix2 r 0))) := by
  pointwise [k0_pay28, k0_pay18, k0_pay20, k0_pay10, k0_pay13, k0_pay17]
  simp only [select_eq, place_eq k 3 (by decide), place_eq k 2 (by decide), place_eq k 1 (by decide), place_eq k 0 (by decide)]

end rounds

section whole
variable (v17 v19 : FVec Ideal S1x1x1024 .f32) (v25 : FVec Ideal S1x256x1024 .f32) (v32 : FVec Ideal S1x256x1 .f32) (v41 v46 : FVec Ideal S1x1x1024 .f32) (v52 : FVec Ideal S1024x128 .f32) (v54 : FVec Ideal S1x128 .f32)

/-- The scores of a block. -/
abbrev sc : FVec Ideal S256x128 .f32 := k0_pay8 v17 v19 v25 v32 v41 v46 v52 v54

/-- The first column taken from each row of a block. -/
abbrev pk : IVec S256x1 32 := k0_pay12 v17 v19 v25 v32 v41 v46 v52 v54

/-- The greatest score of each row of a block. -/
abbrev mx : FVec Ideal S256x1 .f32 := k0_pay11 v17 v19 v25 v32 v41 v46 v52 v54

variable (r : Fin 256) (l : Fin 128 → EReal) (e : ∀ k, k0_pay8 v17 v19 v25 v32 v41 v46 v52 v54 (ix2 r k) = l k) (hl : ∀ k, l k ≠ ⊥)
include e hl

theorem row0 : (fun k => k0_pay8 v17 v19 v25 v32 v41 v46 v52 v54 (ix2 r k)) = TopFour.left l (TopFour.first l) 0 :=
  (funext e).trans (TopFour.left_zero l _).symm

theorem max0 : mx v17 v19 v25 v32 v41 v46 v52 v54 (ix2 r 0) = l (TopFour.first l ⟨0, by decide⟩) := by
  change k0_pay11 v17 v19 v25 v32 v41 v46 v52 v54 (ix2 r 0) = _
  rw [max0_at, row0 v17 v19 v25 v32 v41 v46 v52 v54 r l e hl, TopFour.max_first l hl]

theorem pick0 : pk v17 v19 v25 v32 v41 v46 v52 v54 (ix2 r 0) = BitVec.ofNat 32 (TopFour.first l ⟨0, by decide⟩).val := by
  change k0_pay12 v17 v19 v25 v32 v41 v46 v52 v54 (ix2 r 0) = _
  rw [pick0_at, row0 v17 v19 v25 v32 v41 v46 v52 v54 r l e hl, TopFour.pick_first l hl]

theorem row1 : (fun k => k0_pay14 (sc v17 v19 v25 v32 v41 v46 v52 v54) places (pk v17 v19 v25 v32 v41 v46 v52 v54) (ix2 r k)) = TopFour.left l (TopFour.first l) 1 := by
  funext k
  rw [mask1_at, row0 v17 v19 v25 v32 v41 v46 v52 v54 r l e hl, pick0 v17 v19 v25 v32 v41 v46 v52 v54 r l e hl, TopFour.mask_first l hl]

theorem max1 : k0_pay15 (sc v17 v19 v25 v32 v41 v46 v52 v54) places (pk v17 v19 v25 v32 v41 v46 v52 v54) (ix2 r 0) = l (TopFour.first l ⟨1, by decide⟩) := by
  rw [max1_at, row1 v17 v19 v25 v32 v41 v46 v52 v54 r l e hl, TopFour.max_first l hl]

theorem pick1 : k0_pay16 (sc v17 v19 v25 v32 v41 v46 v52 v54) places (pk v17 v19 v25 v32 v41 v46 v52 v54) (ix2 r 0) = BitVec.ofNat 32 (TopFour.first l ⟨1, by decide⟩).val := by
  rw [pick1_at, row1 v17 v19 v25 v32 v41 v46 v52 v54 r l e hl, TopFour.pick_first l hl]

theorem row2 : (fun k => k0_pay21 (sc v17 v19 v25 v32 v41 v46 v52 v54) places (pk v17 v19 v25 v32 v41 v46 v52 v54) (ix2 r k)) = TopFour.left l (TopFour.first l) 2 := by
  funext k
  rw [mask2_at, row1 v17 v19 v25 v32 v41 v46 v52 v54 r l e hl, pick1 v17 v19 v25 v32 v41 v46 v52 v54 r l e hl, TopFour.mask_first l hl]

theorem max2 : k0_pay22 (sc v17 v19 v25 v32 v41 v46 v52 v54) places (pk v17 v19 v25 v32 v41 v46 v52 v54) (ix2 r 0) = l (TopFour.first l ⟨2, by decide⟩) := by
  rw [max2_at, row2 v17 v19 v25 v32 v41 v46 v52 v54 r l e hl, TopFour.max_first l hl]

theorem pick2 : k0_pay23 (sc v17 v19 v25 v32 v41 v46 v52 v54) places (pk v17 v19 v25 v32 v41 v46 v52 v54) (ix1 r) = BitVec.ofNat 32 (TopFour.first l ⟨2, by decide⟩).val := by
  rw [pick2_at, row2 v17 v19 v25 v32 v41 v46 v52 v54 r l e hl, TopFour.pick_first l hl]

theorem row3 : (fun k => k0_pay25 places (k0_pay21 (sc v17 v19 v25 v32 v41 v46 v52 v54) places (pk v17 v19 v25 v32 v41 v46 v52 v54)) (k0_pay23 (sc v17 v19 v25 v32 v41 v46 v52 v54) places (pk v17 v19 v25 v32 v41 v46 v52 v54)) (ix2 r k)) = TopFour.left l (TopFour.first l) 3 := by
  funext k
  rw [mask3_at, row2 v17 v19 v25 v32 v41 v46 v52 v54 r l e hl, pick2 v17 v19 v25 v32 v41 v46 v52 v54 r l e hl, TopFour.mask_first l hl]

theorem max3 : k0_pay26 places (k0_pay21 (sc v17 v19 v25 v32 v41 v46 v52 v54) places (pk v17 v19 v25 v32 v41 v46 v52 v54)) (k0_pay23 (sc v17 v19 v25 v32 v41 v46 v52 v54) places (pk v17 v19 v25 v32 v41 v46 v52 v54)) (ix2 r 0) = l (TopFour.first l ⟨3, by decide⟩) := by
  rw [max3_at, row3 v17 v19 v25 v32 v41 v46 v52 v54 r l e hl, TopFour.max_first l hl]

/-- The columns a row's result names are those of its four greatest scores, in their order. -/
theorem chosen (k : Fin 128) :
    k0_pay27 places (k0_pay19 (sc v17 v19 v25 v32 v41 v46 v52 v54) places k0_pay9 (pk v17 v19 v25 v32 v41 v46 v52 v54))
        (k0_pay21 (sc v17 v19 v25 v32 v41 v46 v52 v54) places (pk v17 v19 v25 v32 v41 v46 v52 v54)) (k0_pay23 (sc v17 v19 v25 v32 v41 v46 v52 v54) places (pk v17 v19 v25 v32 v41 v46 v52 v54)) (ix3 0 r k)
      = if k.val < 4 then BitVec.ofNat 32 (TopFour.first l k).val else 0#32 := by
  rw [chosen_at, row3 v17 v19 v25 v32 v41 v46 v52 v54 r l e hl, TopFour.pick_first l hl 3 (by decide), pick2 v17 v19 v25 v32 v41 v46 v52 v54 r l e hl,
    pick1 v17 v19 v25 v32 v41 v46 v52 v54 r l e hl, pick0 v17 v19 v25 v32 v41 v46 v52 v54 r l e hl]
  exact four_cases k (fun j => BitVec.ofNat 32 (TopFour.first l j).val) 0#32

/-- The weights of a row's result are those of its four greatest scores. -/
theorem weights (k : Fin 128) :
    k0_pay28 places (mx v17 v19 v25 v32 v41 v46 v52 v54) (k0_pay18 (sc v17 v19 v25 v32 v41 v46 v52 v54) places (mx v17 v19 v25 v32 v41 v46 v52 v54) (pk v17 v19 v25 v32 v41 v46 v52 v54))
        (k0_pay20 (sc v17 v19 v25 v32 v41 v46 v52 v54) places k0_pay10 (mx v17 v19 v25 v32 v41 v46 v52 v54) (pk v17 v19 v25 v32 v41 v46 v52 v54))
        (k0_pay21 (sc v17 v19 v25 v32 v41 v46 v52 v54) places (pk v17 v19 v25 v32 v41 v46 v52 v54)) (k0_pay22 (sc v17 v19 v25 v32 v41 v46 v52 v54) places (pk v17 v19 v25 v32 v41 v46 v52 v54))
        (k0_pay23 (sc v17 v19 v25 v32 v41 v46 v52 v54) places (pk v17 v19 v25 v32 v41 v46 v52 v54)) (ix3 0 r k)
      = TopFour.kernelWeight l k := by
  rw [weights_at, max3 v17 v19 v25 v32 v41 v46 v52 v54 r l e hl, max2 v17 v19 v25 v32 v41 v46 v52 v54 r l e hl,
    max1 v17 v19 v25 v32 v41 v46 v52 v54 r l e hl]
  rw [show mx v17 v19 v25 v32 v41 v46 v52 v54 (ix2 r 0) = _ from max0 v17 v19 v25 v32 v41 v46 v52 v54 r l e hl]
  rfl

end whole

end Cert.MixerOutIdeal.Read

end
-- ==== Proof.MixerOutRef.lean ====
/- The reference of the mixer's output: its results, part by part, and each read at an index. -/
module

public import proofs.«01_k».proof.Proof.Gen.MixerOutRefIdeal
public import proofs.«01_k».proof.Proof.Gen.MixerOutRefIdeal.Run
public import proofs.«01_k».proof.Proof.MixerRow
public import proofs.«01_k».proof.Proof.TopFour

@[expose] public section

set_option maxRecDepth 16384

noncomputable section

open Idealize.ShloMosaic Idealize.ShloMosaic.TcCoe Idealize.SL.Sem

namespace Cert.MixerOutRefIdeal.Parts

open Cert.MixerOutRefIdeal Cert.MixerOutRefIdeal.Gen

variable (O X : FVec Ideal S8x2048x1024 .f32) (W : FVec Ideal S1024x1024 .f32) (M : FVec Ideal S8x1x6144 .f32)
  (G B : FVec Ideal S1024 .f32) (R : FVec Ideal S1024x128 .f32) (Q : FVec Ideal S1x128 .f32)

/-- The rows plus the gated projection. -/
def mixed : FVec Ideal S8x2048x1024 .f32 :=
  addf (mulf (broadcastInDim S8x2048x1024 ![] bcast_S_S8x2048x1024 (constant S_ .f32 0x3FD744FD#32)) X) (mulf (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 2048] M slices_S8x1x6144_S8x1x1024_0_0_2048))) (Host.dotGeneral dot_S8x2048x1024_S1024x1024_S8x2048x1024_2_0_01_1_n_n none O W))

/-- The same less each row's mean. -/
def centred : FVec Ideal S8x2048x1024 .f32 :=
  subf (mixed O X W M) (broadcastInDim S8x2048x1024 ![0, 1, 2] bcast_S8x2048x1_S8x2048x1024_0_1_2 (Host.divf (broadcastInDim S8x2048x1 ![0, 1] bcast_S8x2048_S8x2048x1_0_1 (Host.reduceAdd (mixed O X W M) (constant S_ .f32 0x00000000#32) reducesTo_S8x2048x1024_S8x2048_d2 h_S_)) (broadcastInDim S8x2048x1 ![] bcast_S_S8x2048x1 (constant S_ .f32 0x44800000#32))))

/-- The normed rows. -/
def normed : FVec Ideal S8x2048x1024 .f32 :=
  addf (mulf (mulf (centred O X W M) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (centred O X W M) (centred O X W M)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x3727C5AC#32)))))) (broadcastInDim S8x2048x1024 ![0, 1, 2] bcast_S1x1x1024_S8x2048x1024_0_1_2 (broadcastInDim S1x1x1024 ![2] bcast_S1024_S1x1x1024_2 G))) (broadcastInDim S8x2048x1024 ![0, 1, 2] bcast_S1x1x1024_S8x2048x1024_0_1_2 (broadcastInDim S1x1x1024 ![2] bcast_S1024_S1x1x1024_2 B))

/-- The rows the experts are given, before they are rounded. -/
def wide : FVec Ideal S8x2048x1024 .f32 :=
  addf (mulf (normed O X W M G B) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 4096] M slices_S8x1x6144_S8x1x1024_0_0_4096)))) (broadcastInDim S8x2048x1024 ![0, 1, 2] bcast_S8x1x1024_S8x2048x1024_0_1_2 (extractStridedSlice S8x1x1024 ![0, 0, 3072] M slices_S8x1x6144_S8x1x1024_0_0_3072))

/-- The rows the experts are given. -/
def fed : FVec Ideal S8x2048x1024 .bf16 := truncf .bf16 (wide O X W M G B) bitsLt_bf16_f32

/-- The router's scores. -/
def scores : FVec Ideal S8x2048x128 .f32 :=
  addf (Host.dotGeneral dot_S8x2048x1024_S1024x128_S8x2048x128_2_0_01_1_n_n none (wide O X W M G B) R) (broadcastInDim S8x2048x128 ![0, 1, 2] bcast_S1x1x128_S8x2048x128_0_1_2 (broadcastInDim S1x1x128 ![1, 2] bcast_S1x128_S1x1x128_1_2 Q))

/-- The four greatest scores of each row, with their columns. -/
def best (L : FVec Ideal S8x2048x128 .f32) : FVec Ideal S8x2048x4 .f32 × IVec S8x2048x4 32 :=
  Host.topK S8x2048x4 2 (FloatOps.cmpfTotal .gt) L sliceFits_S8x2048x128_S8x2048x4

/-- The columns of the four greatest, the other columns of the result zero. -/
def chosen (L : FVec Ideal S8x2048x128 .f32) : IVec S8x2048x128 32 :=
  pad S8x2048x128 ![0, 0, 0] ![0, 0, 124] ![0, 0, 0] (best L).2 (id (constantI S_ 32 0#32)) pads_S8x2048x4_S8x2048x128_000_000_01240 h_S_

/-- The exponentials of the four, each less the greatest. -/
def powers (T : FVec Ideal S8x2048x4 .f32) : FVec Ideal S8x2048x4 .f32 :=
  Host.exp (subf T (broadcastInDim S8x2048x4 ![0, 1, 2] bcast_S8x2048x1_S8x2048x4_0_1_2 (broadcastInDim S8x2048x1 ![0, 1] bcast_S8x2048_S8x2048x1_0_1 (maximumf (broadcastInDim S8x2048 ![] bcast_S_S8x2048 (constant S_ .f32 0xFF800000#32)) (Host.reduce FloatOps.maximumf T (constant S_ .f32 0xFF800000#32) reducesTo_S8x2048x4_S8x2048_d2 h_S_)))))

/-- The weights of the four, the other columns of the result zero. -/
def weights (L : FVec Ideal S8x2048x128 .f32) : FVec Ideal S8x2048x128 .f32 :=
  pad S8x2048x128 ![0, 0, 0] ![0, 0, 124] ![0, 0, 0] (Host.divf (powers (best L).1) (broadcastInDim S8x2048x4 ![0, 1, 2] bcast_S8x2048x1_S8x2048x4_0_1_2 (broadcastInDim S8x2048x1 ![0, 1] bcast_S8x2048_S8x2048x1_0_1 (Host.reduceAdd (powers (best L).1) (constant S_ .f32 0x00000000#32) reducesTo_S8x2048x4_S8x2048_d2 h_S_)))) (sitofp .f32 (constantI S_ 32 0#32)) pads_S8x2048x4_S8x2048x128_000_000_01240 h_S_

section results
variable (m : (ℓ : Loc nD τ sig) → Buf (Elt Ideal) ℓ) (c : Dev nD)

theorem res_normed : Value.res_main_v37 m c = normed (m ((c.tc : Thread nD τ).loc main_arg0)) (m ((c.tc : Thread nD τ).loc main_arg2)) (m ((c.tc : Thread nD τ).loc main_arg1)) (m ((c.tc : Thread nD τ).loc main_arg3)) (m ((c.tc : Thread nD τ).loc main_arg4)) (m ((c.tc : Thread nD τ).loc main_arg5)) := by
  unfold Value.res_main_v37 normed centred mixed
  rfl

theorem res_fed : Value.res_main_v48 m c = fed (m ((c.tc : Thread nD τ).loc main_arg0)) (m ((c.tc : Thread nD τ).loc main_arg2)) (m ((c.tc : Thread nD τ).loc main_arg1)) (m ((c.tc : Thread nD τ).loc main_arg3)) (m ((c.tc : Thread nD τ).loc main_arg4)) (m ((c.tc : Thread nD τ).loc main_arg5)) := by
  unfold Value.res_main_v48 fed wide normed centred mixed
  rfl

theorem res_chosen : Value.res_main_v49 m c = chosen (scores (m ((c.tc : Thread nD τ).loc main_arg0)) (m ((c.tc : Thread nD τ).loc main_arg2)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold Value.res_main_v49 chosen best scores wide normed centred mixed
  rfl

theorem res_weights : Value.res_main_v61 m c = weights (scores (m ((c.tc : Thread nD τ).loc main_arg0)) (m ((c.tc : Thread nD τ).loc main_arg2)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold Value.res_main_v61 weights powers best scores wide normed centred mixed
  rfl

end results

/-! ### Read at an index -/

theorem mixed_at (b : Fin 8) (t : Fin 2048) (d : Fin 1024) : mixed O X W M (ix3 b t d)
    = MixerRow.mixed (fun k => X (ix3 b t k)) (fun k => O (ix3 b t k)) (fun k l => W (ix2 k l)) (fun k => M (ix3 b 0 ⟨2048 + k.val, by omega⟩)) d := by
  pointwise [mixed, MixerRow.mixed]

theorem centred_at (b : Fin 8) (t : Fin 2048) (d : Fin 1024) : centred O X W M (ix3 b t d)
    = MixerRow.centred (fun k => mixed O X W M (ix3 b t k)) d := by
  pointwise [centred, MixerRow.centred, zero_add]

theorem normed_at (b : Fin 8) (t : Fin 2048) (d : Fin 1024) : normed O X W M G B (ix3 b t d)
    = MixerRow.normed (fun k => centred O X W M (ix3 b t k)) (fun k => G (ix1 k)) (fun k => B (ix1 k)) d := by
  pointwise [normed, MixerRow.normed, zero_add]

theorem wide_at (b : Fin 8) (t : Fin 2048) (d : Fin 1024) : wide O X W M G B (ix3 b t d)
    = MixerRow.fed (fun k => normed O X W M G B (ix3 b t k)) (fun k => M (ix3 b 0 ⟨4096 + k.val, by omega⟩)) (fun k => M (ix3 b 0 ⟨3072 + k.val, by omega⟩)) d := by
  pointwise [wide, MixerRow.fed]

theorem fed_at (b : Fin 8) (t : Fin 2048) (d : Fin 1024) : fed O X W M G B (ix3 b t d) = wide O X W M G B (ix3 b t d) := by
  pointwise [fed]

theorem scores_at (b : Fin 8) (t : Fin 2048) (e : Fin 128) : scores O X W M G B R Q (ix3 b t e)
    = MixerRow.scores (fun k => wide O X W M G B (ix3 b t k)) (fun k l => R (ix2 k l)) (fun l => Q (ix2 0 l)) e := by
  pointwise [scores, MixerRow.scores]

theorem along_last (b : Fin 8) (t : Fin 2048) (x k : Fin 128) : (ix3 b t x : S8x2048x128.Idx).along 2 k = ix3 b t k := by
  funext a
  fin_cases a <;> rfl

theorem bottom : (Ideal.ofBits .f32 0xFF800000#32 : EReal) = ⊥ := by
  simp [Ideal.ofBits, Ideal.ieee]

theorem best_value_at (L : FVec Ideal S8x2048x128 .f32) (b : Fin 8) (t : Fin 2048) (e : Fin 4) :
    (best L).1 (ix3 b t e) = L (ix3 b t (TopFour.first (fun k => L (ix3 b t k)) ⟨e.val, by omega⟩)) := by
  pointwise [best, Host.topK, Host.sort2]
  exact (congrArg L (along_last b t _ _)).trans (congrArg (fun f : Fin 128 → Fin 128 => L (ix3 b t (f ⟨e.val, by omega⟩)))
    (by unfold TopFour.first; simp only [along_last]))

theorem best_place_at (L : FVec Ideal S8x2048x128 .f32) (b : Fin 8) (t : Fin 2048) (e : Fin 4) :
    (best L).2 (ix3 b t e) = BitVec.ofNat 32 (TopFour.first (fun k => L (ix3 b t k)) ⟨e.val, by omega⟩).val := by
  pointwise [best, Host.topK, Host.sort2]
  simp only [along_last]
  unfold TopFour.first
  rfl

theorem chosen_at (L : FVec Ideal S8x2048x128 .f32) (b : Fin 8) (t : Fin 2048) (e : Fin 128) :
    chosen L (ix3 b t e) = if h : e.val < 4 then (best L).2 (ix3 b t ⟨e.val, h⟩) else 0#32 := by
  pointwise [chosen]
  rfl

theorem powers_at (T : FVec Ideal S8x2048x4 .f32) (b : Fin 8) (t : Fin 2048) (e : Fin 4) :
    powers T (ix3 b t e) = Ideal.exp (T (ix3 b t e) - max ⊥ (Finset.univ.fold max ⊥ fun k : Fin 4 => T (ix3 b t k))) := by
  pointwise [powers, bottom]

theorem weights_at (L : FVec Ideal S8x2048x128 .f32) (b : Fin 8) (t : Fin 2048) (e : Fin 128) :
    weights L (ix3 b t e) = if h : e.val < 4 then Ideal.div (powers (best L).1 (ix3 b t ⟨e.val, h⟩)) (∑ k : Fin 4, powers (best L).1 (ix3 b t k)) else 0 := by
  pointwise [weights, zero_add]
  rw [show (FloatOps.sitofp (F := Ideal) FTy.f32 0#32 : EReal) = 0 from by simp [FloatOps.sitofp]]

section rows
variable (L : FVec Ideal S8x2048x128 .f32) (b : Fin 8) (t : Fin 2048)

/-- The columns of a row's result are those of its four greatest scores, in their order. -/
theorem chosen_row (e : Fin 128) :
    chosen L (ix3 b t e) = if e.val < 4 then BitVec.ofNat 32 (TopFour.first (fun k => L (ix3 b t k)) e).val else 0#32 := by
  rw [chosen_at]
  by_cases h : e.val < 4
  · rw [dif_pos h, if_pos h, best_place_at]
  · rw [dif_neg h, if_neg h]

variable (hl : ∀ k : Fin 128, ∃ x : ℝ, L (ix3 b t k) = (x : EReal))
include hl

theorem powers_row (e : Fin 4) : powers (best L).1 (ix3 b t e) = TopFour.power (fun k => L (ix3 b t k)) ⟨e.val, by omega⟩ := by
  rw [powers_at]
  simp only [best_value_at]
  rw [TopFour.max_four (fun k => L (ix3 b t k)) hl]
  rfl

/-- The weights of a row's result are those of its four greatest scores. -/
theorem weights_row (e : Fin 128) :
    weights L (ix3 b t e) = TopFour.kernelWeight (fun k => L (ix3 b t k)) e := by
  rw [weights_at, TopFour.kernelWeight_eq _ hl]
  simp only [powers_row L b t hl]
  by_cases h : e.val < 4
  · rw [dif_pos h, if_pos h]
  · rw [dif_neg h, if_neg h]

end rows

end Cert.MixerOutRefIdeal.Parts

end
-- ==== Proof.MixerOutValue.lean ====
/- The mixer's output: its four results are the reference's. -/
module

public import proofs.«01_k».proof.Proof.MixerOutBlocks
public import proofs.«01_k».proof.Proof.MixerOutRead
public import proofs.«01_k».proof.Proof.MixerOutRef
public import proofs.«01_k».proof.Proof.MixerFinite

@[expose] public section

set_option maxRecDepth 16384

noncomputable section

open Idealize.ShloMosaic Idealize.ShloMosaic.TcCoe Idealize.SL.Sem

namespace Cert.MixerOutIdeal.Mixer

open Cert.MixerOutIdeal Cert.MixerOutIdeal.Gen Cert.MixerOutIdeal.Blocks

variable (m : (ℓ : Loc nD τ sig) → Buf (Elt Ideal) ℓ) (c : Dev nD)

/-- The normed rows, of the arguments. -/
abbrev normed : FVec Ideal S8x2048x1024 .f32 :=
  Cert.MixerOutRefIdeal.Parts.normed (m ((c.tc : Thread nD τ).loc main_arg0)) (m ((c.tc : Thread nD τ).loc main_arg2)) (m ((c.tc : Thread nD τ).loc main_arg1)) (m ((c.tc : Thread nD τ).loc main_arg3)) (m ((c.tc : Thread nD τ).loc main_arg4)) (m ((c.tc : Thread nD τ).loc main_arg5))

/-- The rows the experts are given before they are rounded, of the arguments. -/
abbrev wide : FVec Ideal S8x2048x1024 .f32 :=
  Cert.MixerOutRefIdeal.Parts.wide (m ((c.tc : Thread nD τ).loc main_arg0)) (m ((c.tc : Thread nD τ).loc main_arg2)) (m ((c.tc : Thread nD τ).loc main_arg1)) (m ((c.tc : Thread nD τ).loc main_arg3)) (m ((c.tc : Thread nD τ).loc main_arg4)) (m ((c.tc : Thread nD τ).loc main_arg5))

/-- The rows the experts are given, of the arguments. -/
abbrev fed : FVec Ideal S8x2048x1024 .bf16 :=
  Cert.MixerOutRefIdeal.Parts.fed (m ((c.tc : Thread nD τ).loc main_arg0)) (m ((c.tc : Thread nD τ).loc main_arg2)) (m ((c.tc : Thread nD τ).loc main_arg1)) (m ((c.tc : Thread nD τ).loc main_arg3)) (m ((c.tc : Thread nD τ).loc main_arg4)) (m ((c.tc : Thread nD τ).loc main_arg5))

/-- The router's scores, of the arguments. -/
abbrev scores : FVec Ideal S8x2048x128 .f32 :=
  Cert.MixerOutRefIdeal.Parts.scores (m ((c.tc : Thread nD τ).loc main_arg0)) (m ((c.tc : Thread nD τ).loc main_arg2)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (t : Fin cfg0.N)

theorem centred_block (r : Fin 256) (d : Fin 1024) :
    k0_pay3 (F := Ideal) (iblk m c 0 t) (iblk m c 1 t) (iblk m c 2 t) (iblk m c 3 t) (ix3 0 r d)
      = Cert.MixerOutRefIdeal.Parts.centred (m ((c.tc : Thread nD τ).loc main_arg0)) (m ((c.tc : Thread nD τ).loc main_arg2)) (m ((c.tc : Thread nD τ).loc main_arg1)) (m ((c.tc : Thread nD τ).loc main_arg3)) (ix3 (seq t) (row t r) d) := by
  rw [Read.centred_at, Cert.MixerOutRefIdeal.Parts.centred_at]
  congr 1
  funext k
  rw [Cert.MixerOutRefIdeal.Parts.mixed_at]
  congr 1
  · funext k; exact x_at m c t r k
  · funext k; exact o_at m c t r k
  · funext k l; exact w_at m c t k l
  · funext k; exact gm_at m c t k

theorem normed_block (r : Fin 256) (d : Fin 1024) :
    k0_pay5 (F := Ideal) (k0_pay1 (iblk m c 6 t)) (k0_pay2 (iblk m c 7 t)) (k0_pay3 (iblk m c 0 t) (iblk m c 1 t) (iblk m c 2 t) (iblk m c 3 t)) (k0_pay4 (iblk m c 0 t) (iblk m c 1 t) (iblk m c 2 t) (iblk m c 3 t)) (ix3 0 r d)
      = normed m c (ix3 (seq t) (row t r) d) := by
  rw [Read.normed_at, normed, Cert.MixerOutRefIdeal.Parts.normed_at]
  congr 1
  · funext k; exact centred_block m c t r k
  · funext k; exact g_at m c t k
  · funext k; exact b_at m c t k

theorem wide_block (r : Fin 256) (d : Fin 1024) :
    k0_pay6 (F := Ideal) (k0_pay1 (iblk m c 6 t)) (k0_pay2 (iblk m c 7 t)) (k0_pay3 (iblk m c 0 t) (iblk m c 1 t) (iblk m c 2 t) (iblk m c 3 t)) (k0_pay4 (iblk m c 0 t) (iblk m c 1 t) (iblk m c 2 t) (iblk m c 3 t)) (iblk m c 5 t) (iblk m c 4 t) (ix3 0 r d)
      = wide m c (ix3 (seq t) (row t r) d) := by
  rw [Read.wide_at, wide, Cert.MixerOutRefIdeal.Parts.wide_at]
  congr 1
  · funext k; exact normed_block m c t r k
  · funext k; exact sc_at m c t k
  · funext k; exact sh_at m c t k

theorem fed_block (r : Fin 256) (d : Fin 1024) :
    (show EReal from k0_pay7 (F := Ideal) (k0_pay1 (iblk m c 6 t)) (k0_pay2 (iblk m c 7 t)) (k0_pay3 (iblk m c 0 t) (iblk m c 1 t) (iblk m c 2 t) (iblk m c 3 t)) (k0_pay4 (iblk m c 0 t) (iblk m c 1 t) (iblk m c 2 t) (iblk m c 3 t)) (iblk m c 5 t) (iblk m c 4 t) (ix3 0 r d))
      = fed m c (ix3 (seq t) (row t r) d) :=
  (Read.fed_at _ _ _ _ _ _ r d).trans ((wide_block m c t r d).trans (Cert.MixerOutRefIdeal.Parts.fed_at _ _ _ _ _ _ _ _ d).symm)

theorem scores_block (r : Fin 256) (e : Fin 128) :
    k0_pay8 (F := Ideal) (k0_pay1 (iblk m c 6 t)) (k0_pay2 (iblk m c 7 t)) (k0_pay3 (iblk m c 0 t) (iblk m c 1 t) (iblk m c 2 t) (iblk m c 3 t)) (k0_pay4 (iblk m c 0 t) (iblk m c 1 t) (iblk m c 2 t) (iblk m c 3 t)) (iblk m c 5 t) (iblk m c 4 t) (iblk m c 8 t) (iblk m c 9 t) (ix2 r e)
      = scores m c (ix3 (seq t) (row t r) e) := by
  refine (Read.scores_at _ _ _ _ _ _ _ _ r e).trans (Eq.trans ?_ (Cert.MixerOutRefIdeal.Parts.scores_at _ _ _ _ _ _ _ _ (seq t) (row t r) e).symm)
  exact congrFun (congr (congr (congrArg MixerRow.scores (funext fun k => wide_block m c t r k)) (funext fun k => funext fun l => wr_at m c t k l))
    (funext fun l => br_at m c t l)) e

/-- Every argument holds reals. -/
def Finite : Prop :=
  (∀ i, MixerRow.Real' (m ((c.tc : Thread nD τ).loc main_arg0) i)) ∧ (∀ i, MixerRow.Real' (m ((c.tc : Thread nD τ).loc main_arg1) i))
    ∧ (∀ i, MixerRow.Real' (m ((c.tc : Thread nD τ).loc main_arg2) i)) ∧ (∀ i, MixerRow.Real' (m ((c.tc : Thread nD τ).loc main_arg3) i))
    ∧ (∀ i, MixerRow.Real' (m ((c.tc : Thread nD τ).loc main_arg4) i)) ∧ (∀ i, MixerRow.Real' (m ((c.tc : Thread nD τ).loc main_arg5) i))
    ∧ (∀ i, MixerRow.Real' (m ((c.tc : Thread nD τ).loc main_arg6) i)) ∧ (∀ i, MixerRow.Real' (m ((c.tc : Thread nD τ).loc main_arg7) i))

variable (h : Finite m c)
include h

/-- Of reals the scores are reals. -/
theorem scores_real (b : Fin 8) (s : Fin 2048) (e : Fin 128) : MixerRow.Real' (scores m c (ix3 b s e)) := by
  obtain ⟨h0, h1, h2, h3, h4, h5, h6, h7⟩ := h
  rw [scores, Cert.MixerOutRefIdeal.Parts.scores_at]
  refine MixerRow.scores_fin (fun k => ?_) (fun k l => h6 _) (fun l => h7 _) e
  rw [Cert.MixerOutRefIdeal.Parts.wide_at]
  refine MixerRow.fed_fin (fun k => ?_) (fun k => h3 _) (fun k => h3 _) k
  rw [Cert.MixerOutRefIdeal.Parts.normed_at]
  refine MixerRow.normed_fin (fun k => ?_) (fun k => h4 _) (fun k => h5 _) k
  rw [Cert.MixerOutRefIdeal.Parts.centred_at]
  refine MixerRow.centred_fin (fun k => ?_) k
  rw [Cert.MixerOutRefIdeal.Parts.mixed_at]
  exact MixerRow.mixed_fin (fun k => h2 _) (fun k => h0 _) (fun k l => h1 _) (fun k => h3 _) k

theorem scores_low (b : Fin 8) (s : Fin 2048) (e : Fin 128) : scores m c (ix3 b s e) ≠ ⊥ := by
  obtain ⟨x, e⟩ := scores_real m c h b s e
  rw [e]
  exact EReal.coe_ne_bot x

omit h in
/-- The first result holds the normed rows. -/
theorem normed_final : (dats m 0 c).arrAt 10 (cfgs 0).N = normed m c := by
  refine (dats m 0 c).arrAt_eq_of_covers 10 _ (by decide +kernel) fun t _ y => ?_
  blk_simp
  rw [after0_10]; unfold_out out0_10; frame_out
  idx_vars y
  obtain rfl : y0 = 0 := Subsingleton.elim _ _
  exact (normed_block m c t y1 y2).trans (congrArg (normed m c) (out0_at t y1 y2).symm)

omit h in
/-- The second result holds the rows the experts are given. -/
theorem fed_final : (dats m 0 c).arrAt 11 (cfgs 0).N = fed m c := by
  refine (dats m 0 c).arrAt_eq_of_covers 11 _ (by decide +kernel) fun t _ y => ?_
  blk_simp
  rw [after0_11]; unfold_out out0_11; frame_out
  idx_vars y
  obtain rfl : y0 = 0 := Subsingleton.elim _ _
  exact (fed_block m c t y1 y2).trans (congrArg (fed m c) (out1_at t y1 y2).symm)

/-- The third result holds the columns of the four greatest scores. -/
theorem chosen_final : (dats m 0 c).arrAt 12 (cfgs 0).N = Cert.MixerOutRefIdeal.Parts.chosen (scores m c) := by
  refine (dats m 0 c).arrAt_eq_of_covers 12 _ (by decide +kernel) fun t _ y => ?_
  blk_simp
  rw [after0_12]; unfold_out out0_12; frame_out
  idx_vars y
  obtain rfl : y0 = 0 := Subsingleton.elim _ _
  exact (Read.chosen (k0_pay1 (iblk m c 6 t)) (k0_pay2 (iblk m c 7 t)) (k0_pay3 (iblk m c 0 t) (iblk m c 1 t) (iblk m c 2 t) (iblk m c 3 t)) (k0_pay4 (iblk m c 0 t) (iblk m c 1 t) (iblk m c 2 t) (iblk m c 3 t)) (iblk m c 5 t) (iblk m c 4 t) (iblk m c 8 t) (iblk m c 9 t) y1 (fun k => scores m c (ix3 (seq t) (row t y1) k)) (fun k => scores_block m c t y1 k) (fun k => scores_low m c h _ _ k) y2).trans
    ((Cert.MixerOutRefIdeal.Parts.chosen_row _ _ _ y2).symm.trans (congrArg (Cert.MixerOutRefIdeal.Parts.chosen (scores m c)) (out2_at t y1 y2).symm))

/-- The fourth result holds the weights of the four. -/
theorem weights_final : (dats m 0 c).arrAt 13 (cfgs 0).N = Cert.MixerOutRefIdeal.Parts.weights (scores m c) := by
  refine (dats m 0 c).arrAt_eq_of_covers 13 _ (by decide +kernel) fun t _ y => ?_
  blk_simp
  rw [after0_13]; unfold_out out0_13; frame_out
  idx_vars y
  obtain rfl : y0 = 0 := Subsingleton.elim _ _
  exact (Read.weights (k0_pay1 (iblk m c 6 t)) (k0_pay2 (iblk m c 7 t)) (k0_pay3 (iblk m c 0 t) (iblk m c 1 t) (iblk m c 2 t) (iblk m c 3 t)) (k0_pay4 (iblk m c 0 t) (iblk m c 1 t) (iblk m c 2 t) (iblk m c 3 t)) (iblk m c 5 t) (iblk m c 4 t) (iblk m c 8 t) (iblk m c 9 t) y1 (fun k => scores m c (ix3 (seq t) (row t y1) k)) (fun k => scores_block m c t y1 k) (fun k => scores_low m c h _ _ k) y2).trans
    ((Cert.MixerOutRefIdeal.Parts.weights_row _ _ _ (fun k => scores_real m c h _ _ k) y2).symm.trans (congrArg (Cert.MixerOutRefIdeal.Parts.weights (scores m c)) (out3_at t y1 y2).symm))

end Cert.MixerOutIdeal.Mixer

end
-- ==== Proof.CmpConstValue.lean ====
/- The part of the compression's first layer that its positions give: what its launch leaves in its result. -/
module

public import proofs.«01_k».proof.Proof.Gen.CmpConstIdeal.Value
public import proofs.«01_k».proof.Proof.Gen.CmpConstRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.CmpConstIdeal.Mixer

open Cert.CmpConstIdeal Cert.CmpConstIdeal.Gen

variable (m : (ℓ : Loc nD τ sig) → Buf (Elt Ideal) ℓ)

/-- The positions through the first layer, with its bias. -/
abbrev constant_part (P : FVec Ideal S2x32x64 .f32) (W : FVec Ideal S2x2048x128 .f32) (B : FVec Ideal S2x128 .f32) : FVec Ideal S2x1x128 .f32 :=
  broadcastInDim S2x1x128 ![0, 2] Cert.CmpConstRefIdeal.Gen.bcast_S2x128_S2x1x128_0_2 (addf (Host.dotGeneral Cert.CmpConstRefIdeal.dot_S2x2048_S2x2048x128_S2x128_1_1_n_2_0_0 none (shapeCast _ P Cert.CmpConstRefIdeal.Gen.shapeCasts_S2x32x64_S2x2048) W) B)

/-- Where a point's blocks lie. -/
theorem place : ∀ t : Fin cfg0.N, win0_0.index t = ![t.val, 0, 0] ∧ win0_1.index t = ![t.val, 0, 0]
    ∧ win0_2.index t = ![t.val, 0, 0] ∧ win0_3.index t = ![t.val, 0, 0] :=
  (by decide +kernel : ∀ t : Fin grid0.N, _)

/-- What a point stores is the reference's, at the place the block has in the result. -/
theorem part_at (c : Dev nD) (t : Fin cfg0.N) (y) :
    k0_pay1 (iblk m c 0 t) (iblk m c 1 t) (iblk m c 2 t) y
      = constant_part (m ((c : Thread nD τ).loc main_arg0)) (m ((c : Thread nD τ).loc main_arg1)) (m ((c : Thread nD τ).loc main_arg2)) (((cfg0.win 3).blk t).view.emb y) := by
  pointwise [k0_pay1, constant_part]
  blk_point [iblk, V, place t]

/-- The result holds them. -/
theorem part_final (c : Dev nD) : (dats m 0 c).arrAt 3 (cfgs 0).N
    = constant_part (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact part_at m c t y

end Cert.CmpConstIdeal.Mixer

end
-- ==== Proof.CompressRef.lean ====
/- The compression of the keys and values as the reference writes it, entry by entry. -/
module

public import proofs.«01_k».proof.Proof.Gen.CompressRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.CompressRefIdeal.Parts

open Cert.CompressRefIdeal Cert.CompressRefIdeal.Gen

/-- The rows parted in chunks of sixteen, and the columns in keys and values, heads and entries. -/
def parted (X : FVec Ideal S8x2048x512 .f32) : FVec Ideal S8x128x16x2x4x64 .f32 := shapeCast _ X shapeCasts_S8x2048x512_S8x128x16x2x4x64

/-- Each block of two chunks laid in one row. -/
def flat (Y : FVec Ideal S8x128x16x2x4x64 .f32) : FVec Ideal S2x32x127x2048 .f32 :=
  shapeCast _ (transpose S2x8x4x127x32x64 [3, 0, 4, 1, 2, 5] (concatenate S8x127x32x2x4x64 2 [⟨S8x127x16x2x4x64, (extractStridedSlice S8x127x16x2x4x64 ![0, 0, 0, 0, 0, 0] Y slices_S8x128x16x2x4x64_S8x127x16x2x4x64_0_0_0_0_0_0)⟩, ⟨S8x127x16x2x4x64, (extractStridedSlice S8x127x16x2x4x64 ![0, 1, 0, 0, 0, 0] Y slices_S8x128x16x2x4x64_S8x127x16x2x4x64_0_1_0_0_0_0)⟩] concatenates_S8x127x16x2x4x64_S8x127x16x2x4x64_S8x127x32x2x4x64_d2) transposes_S8x127x32x2x4x64_S2x8x4x127x32x64_3_0_4_1_2_5) shapeCasts_S2x8x4x127x32x64_S2x32x127x2048

/-- The first layer, before its nonlinearity. -/
def hidden (L : FVec Ideal S2x32x127x2048 .f32) (W : FVec Ideal S2x2048x128 .f32) (C : FVec Ideal S2x1x128 .f32) : FVec Ideal S2x32x127x128 .f32 :=
  addf (Host.dotGeneral dot_S2x32x127x2048_S2x2048x128_S2x32x127x128_3_1_12_2_0_0 none L W) (broadcastInDim S2x32x127x128 ![0, 1, 2, 3] bcast_S2x1x1x128_S2x32x127x128_0_1_2_3 (broadcastInDim S2x1x1x128 ![0, 2, 3] bcast_S2x1x128_S2x1x1x128_0_2_3 C))

/-- The nonlinearity. -/
def acted (H : FVec Ideal S2x32x127x128 .f32) : FVec Ideal S2x32x127x128 .f32 :=
  mulf H (Host.divf (broadcastInDim S2x32x127x128 ![] bcast_S_S2x32x127x128 (constant S_ .f32 0x3F800000#32)) (addf (broadcastInDim S2x32x127x128 ![] bcast_S_S2x32x127x128 (constant S_ .f32 0x3F800000#32)) (Host.exp (Host.negf H))))

/-- The second layer. -/
def summary (A : FVec Ideal S2x32x127x128 .f32) (W : FVec Ideal S2x128x64 .f32) (B : FVec Ideal S2x64 .f32) : FVec Ideal S2x32x127x64 .f32 :=
  addf (Host.dotGeneral dot_S2x32x127x128_S2x128x64_S2x32x127x64_3_1_12_2_0_0 none A W) (broadcastInDim S2x32x127x64 ![0, 1, 2, 3] bcast_S2x1x1x64_S2x32x127x64_0_1_2_3 (broadcastInDim S2x1x1x64 ![0, 3] bcast_S2x64_S2x1x1x64_0_3 B))

/-- Each summary twice, side by side. -/
def twice (S : FVec Ideal S2x32x127x64 .f32) : FVec Ideal S2x32x127x128 .f32 :=
  concatenate S2x32x127x128 3 [⟨S2x32x127x64, S⟩, ⟨S2x32x127x64, S⟩] concatenates_S2x32x127x64_S2x32x127x64_S2x32x127x128_d3

/-- The summaries of the blocks. -/
def summaries (X : FVec Ideal S8x2048x512 .f32) (W1 : FVec Ideal S2x2048x128 .f32) (C : FVec Ideal S2x1x128 .f32) (W2 : FVec Ideal S2x128x64 .f32) (B : FVec Ideal S2x64 .f32) :
    FVec Ideal S2x32x127x128 .f32 :=
  twice (summary (acted (hidden (flat (parted X)) W1 C)) W2 B)

/-- The reference's result is they. -/
theorem res_summaries (m : (ℓ : Loc nD τ sig) → Buf (Elt Ideal) ℓ) (c : Dev nD) :
    Value.res_main_v15 m c = summaries (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

theorem twice_at (S : FVec Ideal S2x32x127x64 .f32) (a : Fin 2) (r : Fin 32) (n : Fin 127) (d : Fin 128) :
    twice S (ix4 a r n d) = S (ix4 a r n ⟨d.val % 64, by omega⟩) := by
  pointwise [twice]
  split
  · congr 2
    apply Fin.ext
    show (d : ℕ) = (d : ℕ) % 64
    omega
  · congr 2
    apply Fin.ext
    show (d : ℕ) - 64 = (d : ℕ) % 64
    omega

theorem summary_at (A : FVec Ideal S2x32x127x128 .f32) (W : FVec Ideal S2x128x64 .f32) (B : FVec Ideal S2x64 .f32) (a : Fin 2) (r : Fin 32) (n : Fin 127) (d : Fin 64) :
    summary A W B (ix4 a r n d) = ∑ x : Fin 128, A (ix4 a r n x) * W (ix3 a x d) + B (ix2 a d) := by
  pointwise [summary]

theorem acted_at (H : FVec Ideal S2x32x127x128 .f32) (a : Fin 2) (r : Fin 32) (n : Fin 127) (x : Fin 128) :
    acted H (ix4 a r n x) = H (ix4 a r n x) * Ideal.div 1 (1 + Ideal.exp (-H (ix4 a r n x))) := by
  pointwise [acted]

theorem hidden_at (L : FVec Ideal S2x32x127x2048 .f32) (W : FVec Ideal S2x2048x128 .f32) (C : FVec Ideal S2x1x128 .f32) (a : Fin 2) (r : Fin 32) (n : Fin 127) (x : Fin 128) :
    hidden L W C (ix4 a r n x) = ∑ k : Fin 2048, L (ix4 a r n k) * W (ix3 a k x) + C (ix3 a 0 x) := by
  pointwise [hidden]

/-- A chunk laid in one row. -/
abbrev chunk (Y : FVec Ideal S8x128x16x2x4x64 .f32) (a : Fin 2) (r : Fin 32) (n : Fin 128) (k : Fin 1024) : EReal :=
  Y (ix6 ⟨r.val / 4, by omega⟩ n ⟨k.val / 64, by omega⟩ a ⟨r.val % 4, by omega⟩ ⟨k.val % 64, by omega⟩)

/-- The first half of a block is its first chunk. -/
theorem flat_low (Y : FVec Ideal S8x128x16x2x4x64 .f32) (a : Fin 2) (r : Fin 32) (n : Fin 127) (k : Fin 1024) :
    flat Y (ix4 a r n ⟨k.val, by omega⟩) = chunk Y a r ⟨n.val, by omega⟩ k := by
  have h : k.val / 64 < 16 := by omega
  pointwise [flat, chunk]
  rw [dif_pos h]

/-- The second half is the chunk after it. -/
theorem flat_high (Y : FVec Ideal S8x128x16x2x4x64 .f32) (a : Fin 2) (r : Fin 32) (n : Fin 127) (k : Fin 1024) :
    flat Y (ix4 a r n ⟨1024 + k.val, by omega⟩) = chunk Y a r ⟨n.val + 1, by omega⟩ k := by
  have h : ¬ (1024 + k.val) / 64 < 16 := by omega
  pointwise [flat, chunk]
  rw [dif_neg h]
  congr 2
  all_goals (apply Fin.ext; simp only []; omega)

/-- The first layer, over the two chunks of a block apart. -/
theorem hidden_flat (Y : FVec Ideal S8x128x16x2x4x64 .f32) (W : FVec Ideal S2x2048x128 .f32) (C : FVec Ideal S2x1x128 .f32) (a : Fin 2) (r : Fin 32) (n : Fin 127) (x : Fin 128) :
    hidden (flat Y) W C (ix4 a r n x) = ∑ k : Fin 1024, chunk Y a r ⟨n.val, by omega⟩ k * W (ix3 a ⟨k.val, by omega⟩ x)
      + ∑ k : Fin 1024, chunk Y a r ⟨n.val + 1, by omega⟩ k * W (ix3 a ⟨1024 + k.val, by omega⟩ x) + C (ix3 a 0 x) := by
  rw [hidden_at]
  refine congrArg (fun s : EReal => s + C (ix3 a 0 x)) ?_
  refine (Fin.sum_univ_add (a := 1024) (b := 1024) fun k : Fin 2048 => (show EReal from flat Y (ix4 a r n k)) * W (ix3 a k x)).trans ?_
  refine congrArg₂ (fun s t : EReal => s + t) (Finset.sum_congr rfl fun k _ => ?_) (Finset.sum_congr rfl fun k _ => ?_)
  · exact congrArg (fun s : EReal => s * W (ix3 a ⟨k.val, by omega⟩ x)) (flat_low Y a r n k)
  · exact congrArg (fun s : EReal => s * W (ix3 a ⟨1024 + k.val, by omega⟩ x)) (flat_high Y a r n k)

end Cert.CompressRefIdeal.Parts

end
-- ==== Proof.CompressValue.lean ====
/- The compression of the keys and values: what its launch leaves in its result. -/
module

public import proofs.«01_k».proof.Proof.Gen.CompressIdeal.Frame
public import proofs.«01_k».proof.Proof.CompressRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.CompressIdeal.Mixer

open Cert.CompressIdeal Cert.CompressIdeal.Gen

variable (m : (ℓ : Loc nD τ sig) → Buf (Elt Ideal) ℓ)

/-- Where a point's blocks lie. -/
theorem place : ∀ t : Fin cfg0.N, win0_0.index t = ![t.val / 4, t.val % 4, 0, 0] ∧ win0_1.index t = ![t.val / 4, 0, 0]
    ∧ win0_2.index t = ![t.val / 4, 0, 0] ∧ win0_3.index t = ![t.val / 4, 0, 0] ∧ win0_4.index t = ![t.val / 4, 0, 0]
    ∧ win0_5.index t = ![t.val / 4, t.val % 4, 0, 0] :=
  (by decide +kernel : ∀ t : Fin grid0.N, _)

/-- The chunks as the launch lays them. -/
theorem V_chunks (c : Dev nD) (a : Fin 2) (r : Fin 32) (n : Fin 128) (k : Fin 1024) : (show EReal from V m c main_v2 (ix4 a r n k))
    = Cert.CompressRefIdeal.Parts.chunk (Cert.CompressRefIdeal.Parts.parted (m ((c : Thread nD τ).loc main_arg0))) a r n k := by
  unfold V V0
  simp only [hostOps0, List.flatten_cons, List.flatten_nil, List.append_nil, List.cons_append, List.nil_append]
  after_results
  pointwise [Cert.CompressRefIdeal.Parts.chunk, Cert.CompressRefIdeal.Parts.parted]

/-- The first half of the first layer's weights lies in the first columns. -/
theorem V_low (c : Dev nD) (a : Fin 2) (k : Fin 1024) (h : Fin 128) : (show EReal from V m c main_v5 (ix3 a k ⟨h.val, by omega⟩))
    = m ((c : Thread nD τ).loc main_arg1) (ix3 a ⟨k.val, by omega⟩ h) := by
  unfold V V0
  simp only [hostOps0, List.flatten_cons, List.flatten_nil, List.append_nil, List.cons_append, List.nil_append]
  after_results
  pointwise

/-- The second half lies beside it. -/
theorem V_high (c : Dev nD) (a : Fin 2) (k : Fin 1024) (h : Fin 128) : (show EReal from V m c main_v5 (ix3 a k ⟨128 + h.val, by omega⟩))
    = m ((c : Thread nD τ).loc main_arg1) (ix3 a ⟨1024 + k.val, by omega⟩ h) := by
  unfold V V0
  simp only [hostOps0, List.flatten_cons, List.flatten_nil, List.append_nil, List.cons_append, List.nil_append]
  after_results
  pointwise

/-- The second layer's weights, twice. -/
theorem V_second (c : Dev nD) (a : Fin 2) (k d : Fin 128) : (show EReal from V m c main_v6 (ix3 a k d))
    = m ((c : Thread nD τ).loc main_arg3) (ix3 a k ⟨d.val % 64, by omega⟩) := by
  unfold V V0
  simp only [hostOps0, List.flatten_cons, List.flatten_nil, List.append_nil, List.cons_append, List.nil_append]
  after_results
  pointwise
  split
  · refine congrArg (m (c, Proc.tc.devRef main_arg3)) (congrArg (ix3 a _) (Fin.ext ?_))
    show (d : ℕ) = (d : ℕ) % 64
    omega
  · refine congrArg (m (c, Proc.tc.devRef main_arg3)) (congrArg (ix3 a _) (Fin.ext ?_))
    show (d : ℕ) - 64 = (d : ℕ) % 64
    omega

/-- Its bias, twice. -/
theorem V_bias (c : Dev nD) (a : Fin 2) (d : Fin 128) : (show EReal from V m c main_v8 (ix3 a 0 d))
    = m ((c : Thread nD τ).loc main_arg4) (ix2 a ⟨d.val % 64, by omega⟩) := by
  unfold V V0
  simp only [hostOps0, List.flatten_cons, List.flatten_nil, List.append_nil, List.cons_append, List.nil_append]
  after_results
  pointwise
  split
  · refine congrArg (m (c, Proc.tc.devRef main_arg4)) (congrArg (ix2 a) (Fin.ext ?_))
    show (d : ℕ) = (d : ℕ) % 64
    omega
  · refine congrArg (m (c, Proc.tc.devRef main_arg4)) (congrArg (ix2 a) (Fin.ext ?_))
    show (d : ℕ) - 64 = (d : ℕ) % 64
    omega

/-- The first layer as the launch takes it: a row's chunk through the first columns, and through the others the chunk of the
    row after it, the last of eight sequences followed by the first. -/
def hid (X : FVec Ideal S2x32x128x1024 .f32) (W : FVec Ideal S2x1024x256 .f32) (C : FVec Ideal S2x1x128 .f32) (a : Fin 2) (r : Fin 32) (n x : Fin 128) : EReal :=
  ∑ k : Fin 1024, X (ix4 a r n k) * W (ix3 a k ⟨x.val, by omega⟩)
    + ∑ k : Fin 1024, X (ix4 a ⟨r.val / 8 * 8 + (r.val % 8 * 128 + n.val + 1024 - 1023) % 1024 / 128, by omega⟩ ⟨(r.val % 8 * 128 + n.val + 1024 - 1023) % 1024 % 128, by omega⟩ k)
        * W (ix3 a k ⟨128 + x.val, by omega⟩)
    + C (ix3 a 0 x)

/-- What the launch leaves, every row. -/
def left (X : FVec Ideal S2x32x128x1024 .f32) (W : FVec Ideal S2x1024x256 .f32) (C : FVec Ideal S2x1x128 .f32) (W2 : FVec Ideal S2x128x128 .f32) (B : FVec Ideal S2x1x128 .f32) :
    FVec Ideal S2x32x128x128 .f32 := fun i =>
  ∑ x : Fin 128, hid X W C (i 0) (i 1) (i 2) x * Ideal.div 1 (1 + Ideal.exp (-hid X W C (i 0) (i 1) (i 2) x)) * W2 (ix3 (i 0) x (i 3)) + B (ix3 (i 0) 0 (i 3))

/-- A point's first layer, at the place its block has. -/
theorem hid_block (c : Dev nD) (t : Fin cfg0.N) (b : Fin 8) (i x : Fin 128) :
    ∑ k : Fin 1024, (show EReal from (iblk m c 0 t) (ix4 0 b i k)) * (show EReal from (iblk m c 1 t) (ix3 0 k ⟨x.val, by omega⟩))
      + ∑ k : Fin 1024, (show EReal from (iblk m c 0 t) (ix4 0 ⟨(b.val * 128 + i.val + 1024 - 1023) % 1024 / 128, by omega⟩ ⟨(b.val * 128 + i.val + 1024 - 1023) % 1024 % 128, by omega⟩ k))
          * (show EReal from (iblk m c 1 t) (ix3 0 k ⟨128 + x.val, by omega⟩))
      + (show EReal from (iblk m c 2 t) (ix3 0 0 x))
    = hid (V m c main_v2) (V m c main_v5) (V m c main_arg2) ⟨t.val / 4, by have : t.val < 8 := t.isLt; omega⟩ ⟨t.val % 4 * 8 + b.val, by omega⟩ i x := by
  unfold hid
  refine congrArg₂ (fun s u : EReal => s + u) (congrArg₂ (fun s u : EReal => s + u) (Finset.sum_congr rfl fun k _ => ?_) (Finset.sum_congr rfl fun k _ => ?_)) ?_
  · refine congrArg₂ (fun s u : EReal => s * u) ?_ ?_ <;> blk_point [iblk, place t]
  · refine congrArg₂ (fun s u : EReal => s * u) ?_ ?_ <;> blk_point [iblk, place t]
  · blk_point [iblk, place t]

/-- What a point stores, from its first layer. -/
theorem stored_at (v0 : Vec Ideal S1x8x128x1024 .f32) (v4 : Vec Ideal S1x1024x256 .f32) (v11 : Vec Ideal S1x1x128 .f32) (v24 : Vec Ideal S1x128x128 .f32) (v27 : Vec Ideal S1x1x128 .f32)
    (b : Fin 8) (i d : Fin 128) (H : Fin 128 → EReal)
    (hH : ∀ x : Fin 128, ∑ k : Fin 1024, (v0 (ix4 0 b i k) : EReal) * v4 (ix3 0 k ⟨x.val, by omega⟩)
      + ∑ k : Fin 1024, (v0 (ix4 0 ⟨(b.val * 128 + i.val + 1024 - 1023) % 1024 / 128, by omega⟩ ⟨(b.val * 128 + i.val + 1024 - 1023) % 1024 % 128, by omega⟩ k) : EReal)
          * v4 (ix3 0 k ⟨128 + x.val, by omega⟩)
      + v11 (ix3 0 0 x) = H x) :
    k0_pay1 (k0_pay2 v0 v4 v11 v24 v27) (ix4 0 b i d)
      = ∑ x : Fin 128, H x * Ideal.div 1 (1 + Ideal.exp (-H x)) * v24 (ix3 0 x d) + v27 (ix3 0 0 d) := by
  pointwise [k0_pay1, k0_pay2]
  refine congrArg (fun s : EReal => s + v27 (ix3 0 0 d)) (Finset.sum_congr rfl fun x _ => ?_)
  rw [hH x, zero_sub]

/-- The launch's array holds it. -/
theorem left_final (c : Dev nD) : (dats m 0 c).arrAt 5 (cfgs 0).N = left (V m c main_v2) (V m c main_v5) (V m c main_arg2) (V m c main_v6) (V m c main_v8) := by
  refine (dats m 0 c).arrAt_eq_of_covers 5 _ (by decide +kernel) fun t _ y => ?_
  blk_simp
  rw [after0_5]; frame_out
  idx_vars y
  obtain rfl : y0 = 0 := Subsingleton.elim _ _
  refine (stored_at (iblk m c 0 t) (iblk m c 1 t) (iblk m c 2 t) (iblk m c 3 t) (iblk m c 4 t) y1 y2 y3 _ (fun x => hid_block m c t y1 y2 x)).trans ?_
  have place_emb : (((cfg0.win 5).blk t).view.emb (ix4 0 y1 y2 y3) : S2x32x128x128.Idx)
      = ix4 ⟨t.val / 4, by have : t.val < 8 := t.isLt; omega⟩ ⟨t.val % 4 * 8 + y1.val, by omega⟩ y2 y3 := by
    blk_ext [place t]
  refine Eq.trans ?_ (congrArg (left (V m c main_v2) (V m c main_v5) (V m c main_arg2) (V m c main_v6) (V m c main_v8)) place_emb).symm
  refine congrArg₂ (fun s u : EReal => s + u) (Finset.sum_congr rfl fun x _ => congrArg₂ (fun s u : EReal => s * u) rfl ?_) ?_ <;> blk_point [iblk, place t]

/-- What the run leaves in the result: the array's rows but the last of each sequence. -/
theorem tail_result (c : Dev nD) : Pipeline.afterTail₀ cfgs (dats m) 0 (V0 m) [hostOps1] c main_v10
    = extractStridedSlice S2x32x127x128 ![0, 0, 0, 0] ((dats m 0 c).arrAt 5 (cfgs 0).N) slices_S2x32x128x128_S2x32x127x128_0_0_0_0 := by
  unfold Pipeline.afterTail₀
  simp only [hostOps1, List.flatten_cons, List.flatten_nil, List.append_nil, List.cons_append, List.nil_append]
  after_results
  exact congrArg (fun A => extractStridedSlice S2x32x127x128 ![0, 0, 0, 0] A slices_S2x32x128x128_S2x32x127x128_0_0_0_0)
    (Pipeline.withArrays_arr (cfgs 0).spec (by decide) c (V0 m c) (fun w => (dats m 0 c).arrAt w (cfgs 0).N) 5)

/-- The launch's first layer is the reference's, on every row but the last. -/
theorem hid_eq (c : Dev nD) (a : Fin 2) (r : Fin 32) (n : Fin 127) (x : Fin 128) :
    hid (V m c main_v2) (V m c main_v5) (V m c main_arg2) a r ⟨n.val, by omega⟩ x
      = Cert.CompressRefIdeal.Parts.hidden (Cert.CompressRefIdeal.Parts.flat (Cert.CompressRefIdeal.Parts.parted (m ((c : Thread nD τ).loc main_arg0))))
          (m ((c : Thread nD τ).loc main_arg1)) (m ((c : Thread nD τ).loc main_arg2)) (ix4 a r n x) := by
  rw [Cert.CompressRefIdeal.Parts.hidden_flat]
  unfold hid
  have hr : (⟨r.val / 8 * 8 + (r.val % 8 * 128 + n.val + 1024 - 1023) % 1024 / 128, by omega⟩ : Fin 32) = r := Fin.ext (by simp only []; omega)
  have hn : (⟨(r.val % 8 * 128 + n.val + 1024 - 1023) % 1024 % 128, by omega⟩ : Fin 128) = ⟨n.val + 1, by omega⟩ := Fin.ext (by simp only []; omega)
  refine congrArg₂ (fun s u : EReal => s + u) (congrArg₂ (fun s u : EReal => s + u) (Finset.sum_congr rfl fun k _ => ?_) (Finset.sum_congr rfl fun k _ => ?_)) ?_
  · exact congrArg₂ (fun s u : EReal => s * u) (V_chunks m c a r ⟨n.val, by omega⟩ k) (V_low m c a k x)
  · rw [hr, hn]
    exact congrArg₂ (fun s u : EReal => s * u) (V_chunks m c a r ⟨n.val + 1, by omega⟩ k) (V_high m c a k x)
  · exact congrFun (V_main_arg2 m c) _

/-- The result is the reference's summaries. -/
theorem summaries_final (c : Dev nD) : Pipeline.afterTail₀ cfgs (dats m) 0 (V0 m) [hostOps1] c main_v10
    = Cert.CompressRefIdeal.Parts.summaries (m ((c : Thread nD τ).loc main_arg0)) (m ((c : Thread nD τ).loc main_arg1)) (m ((c : Thread nD τ).loc main_arg2))
        (m ((c : Thread nD τ).loc main_arg3)) (m ((c : Thread nD τ).loc main_arg4)) := by
  rw [tail_result, left_final]
  funext y
  idx_vars y
  unfold Cert.CompressRefIdeal.Parts.summaries
  rw [Cert.CompressRefIdeal.Parts.twice_at, Cert.CompressRefIdeal.Parts.summary_at]
  refine Eq.trans (b := left (V m c main_v2) (V m c main_v5) (V m c main_arg2) (V m c main_v6) (V m c main_v8) (ix4 y0 y1 ⟨y2.val, by omega⟩ y3)) ?_ ?_
  · pointwise
  refine congrArg₂ (fun s u : EReal => s + u) (Finset.sum_congr rfl fun x _ => ?_) (V_bias m c y0 y3)
  refine congrArg₂ (fun s u : EReal => s * u) ?_ (V_second m c y0 x y3)
  rw [Cert.CompressRefIdeal.Parts.acted_at, ← hid_eq]
  rfl

/-- The run leaves the summaries in the result and the arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v10) = Cert.CompressRefIdeal.Parts.summaries (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).2 main_v10 (Pipeline.mem_restRefs_of main_v10 (by decide) (by decide))).trans (summaries_final m c), h.2 c⟩)
    (θ_run_and (run_main m ρ) (unchanged m ρ))

end Cert.CompressIdeal.Mixer

end
-- ==== Proof.PagesRange.lean ====
/- The precondition, element by element: each word of the page table is below 2560. -/
module

public import proofs.«01_k».proof.Proof.Gen.Pre_page_in_range
public import Idealize.ShloMosaic.Lib.ReduceAll

@[expose] public section

namespace Cert.Pre_page_in_range

open Idealize.ShloMosaic Facts

instance scalar_subsingleton : Subsingleton S_.Idx := ⟨fun a b => funext fun x => absurd x.isLt (by simp)⟩

/-- A word that is at least 0 and less than 2560 as a signed number is less than 2560 as an unsigned one. -/
theorem word_lt (w : BitVec 32) (h0 : IntOp.cmpi .sge w 0#32 = 1#1) (h1 : IntOp.cmpi .slt w 2560#32 = 1#1) : w.toNat < 2560 := by
  simp only [IntOp.cmpi, BitVec.sle, BitVec.slt] at h0 h1
  have a0 : (0#32).toInt ≤ w.toInt := by
    by_contra h; rw [decide_eq_false h] at h0; exact absurd h0 (by decide)
  have a1 : w.toInt < (2560#32).toInt := by
    by_contra h; rw [decide_eq_false h] at h1; exact absurd h1 (by decide)
  have e0 : (0#32).toInt = 0 := by decide
  have e1 : (2560#32).toInt = 2560 := by decide
  rw [e0] at a0; rw [e1] at a1
  rw [BitVec.toInt_eq_toNat_cond] at a0 a1
  have := w.isLt
  split at a0 <;> omega

/-- Where the precondition is one, every page number is below 2560. -/
theorem page_lt [Facts] {F : FTy → Type} [FloatOps F] (x0 : FVec F S2560x128x2x4x64 .f32) (x1 : IVec S128x16 32)
    (x2 : FVec F S2x2048x128 .f32) (x3 : FVec F S2x1x128 .f32) (x4 : FVec F S2x128x64 .f32) (x5 : FVec F S2x64 .f32)
    (h : fn (F := F) x0 x1 x2 x3 x4 x5 = fun _ => 1#1) (b : S128x16.Idx) : (x1 b).toNat < 2560 := by
  have e := congrFun h (fun a => absurd a.isLt (by simp))
  have k := Host.reduce_andi_all _ _ reducesTo_S128x16_S_d0_1 h_S_ _ e b
  have two : ∀ p q : BitVec 1, IntOp.andi p q = 1#1 → p = 1#1 ∧ q = 1#1 := by decide
  obtain ⟨k0, k1⟩ := two _ _ k
  exact word_lt _ k0 k1

end Cert.Pre_page_in_range
-- ==== Proof.PagesRef.lean ====
/- The summaries of cached pages as the reference writes them, entry by entry. -/
module

public import proofs.«01_k».proof.Proof.Gen.CompressPagesRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.CompressPagesRefIdeal.Parts

open Cert.CompressPagesRefIdeal Cert.CompressPagesRefIdeal.Gen

/-- The page numbers the reference reads the pool by. -/
abbrev pageOf (E : IVec S128x16 32) : IVec S128x16x1 32 :=
  broadcastInDim S128x16x1 ![0, 1] bcast_S128x16_S128x16x1_0_1
    (select (cmpi .slt E (broadcastInDim S128x16 ![] bcast_S_S128x16 (constantI S_ 32 0#32)))
      (addi E (broadcastInDim S128x16 ![] bcast_S_S128x16 (constantI S_ 32 2560#32))) E)

/-- A page number is its word in the table where that is in range. -/
theorem pageOf_apply (E : IVec S128x16 32) (s : Fin 128) (p : Fin 16) (h : (E (ix2 s p)).toNat < 2560) : pageOf E (ix3 s p 0) = E (ix2 s p) := by
  unfold pageOf
  pointwise []
  generalize E (ix2 s p) = w at h
  have : IntOp.cmpi .slt w 0#32 = 0#1 := by
    have hs : w.toInt = w.toNat := by rw [BitVec.toInt_eq_toNat_cond, if_pos (by omega)]
    have : ¬ w.toInt < (0#32).toInt := by rw [hs]; simp
    simp only [IntOp.cmpi, BitVec.slt, decide_eq_false this]
    rfl
  rw [this]
  rfl

/-- The pool's pages by the table. -/
def taken (X : FVec Ideal S2560x128x2x4x64 .f32) (E : IVec S128x16 32) : FVec Ideal S128x16x128x2x4x64 .f32 :=
  Host.gather gather_S2560x128x2x4x64_S128x16x1_S128x16x128x2x4x64_2345_0_n_n_0_2_11282464 X (pageOf E)

/-- How the pool is read by the table. -/
abbrev D : GatherDims S2560x128x2x4x64 S128x16x1 S128x16x128x2x4x64 := gather_S2560x128x2x4x64_S128x16x1_S128x16x128x2x4x64_2345_0_n_n_0_2_11282464

/-- A page taken by the table is the page the table's word names. -/
theorem taken_at (X : FVec Ideal S2560x128x2x4x64 .f32) (E : IVec S128x16 32) (s : Fin 128) (p : Fin 16) (o : Fin 128) (a : Fin 2) (g : Fin 4) (j : Fin 64)
    (e : Fin 2560) (h : (E (ix2 s p)).toNat = e.val) : taken X E (ix6 s p o a g j) = X (ix5 e o a g j) := by
  have he : (pageOf E (ix3 s p 0)).toNat = e.val := by rw [pageOf_apply E s p (h ▸ e.isLt), h]
  unfold taken
  generalize pageOf E = idx at he
  unfold Host.gather
  refine congrArg X (funext fun k => Fin.ext ?_)
  have none : ∀ k, k ∉ D.operandBatchingDims := fun _ => List.not_mem_nil
  show D.start (ix6 s p o a g j) idx k + D.batchCoord (ix6 s p o a g j) k + D.offCoord (ix6 s p o a g j) k = _
  rw [GatherDims.batchCoord_eq_zero _ _ _ (none k), Nat.add_zero]
  match k with
  | ⟨0, _⟩ =>
    have out : (0 : Fin 5) ∉ D.sKept := fun h => ((GatherDims.mem_sKept _ _).1 h).1 (List.mem_singleton.2 rfl)
    have inn : (0 : Fin 5) ∈ D.startIndexMap := List.mem_singleton.2 rfl
    show D.start (ix6 s p o a g j) idx 0 + D.offCoord (ix6 s p o a g j) 0 = e.val
    rw [GatherDims.offCoord_eq_zero _ _ _ out, Nat.add_zero]
    unfold GatherDims.start
    rw [dif_pos inn]
    have at_c : D.siIdx (ix6 s p o a g j) ⟨List.idxOf (0 : Fin 5) D.startIndexMap, List.idxOf_lt_length_iff.2 inn⟩ = ix3 s p 0 := by
      funext d
      match d with
      | ⟨0, _⟩ => rfl
      | ⟨1, _⟩ => rfl
      | ⟨2, _⟩ => rfl
    rw [at_c]
    have sgn : (idx (ix3 s p 0)).toInt = e.val := by
      rw [BitVec.toInt_eq_toNat_cond, he]
      have := e.isLt
      rw [if_pos (by omega)]
    rw [sgn]
    show min ((e.val : ℤ)).toNat (2560 - 1) = e.val
    have := e.isLt
    omega
  | ⟨1, _⟩ =>
    show D.start (ix6 s p o a g j) idx 1 + D.offCoord (ix6 s p o a g j) 1 = o.val
    unfold GatherDims.start
    rw [dif_neg (by decide), Nat.zero_add]
    rfl
  | ⟨2, _⟩ =>
    show D.start (ix6 s p o a g j) idx 2 + D.offCoord (ix6 s p o a g j) 2 = a.val
    unfold GatherDims.start
    rw [dif_neg (by decide), Nat.zero_add]
    rfl
  | ⟨3, _⟩ =>
    show D.start (ix6 s p o a g j) idx 3 + D.offCoord (ix6 s p o a g j) 3 = g.val
    unfold GatherDims.start
    rw [dif_neg (by decide), Nat.zero_add]
    rfl
  | ⟨4, _⟩ =>
    show D.start (ix6 s p o a g j) idx 4 + D.offCoord (ix6 s p o a g j) 4 = j.val
    unfold GatherDims.start
    rw [dif_neg (by decide), Nat.zero_add]
    rfl

/-- Each sequence's pages one after the other, parted in chunks of sixteen rows. -/
def parted (Z : FVec Ideal S128x16x128x2x4x64 .f32) : FVec Ideal S128x128x16x2x4x64 .f32 := shapeCast _ Z shapeCasts_S128x16x128x2x4x64_S128x128x16x2x4x64

/-- Each block of two chunks laid in one row. -/
def flat (Y : FVec Ideal S128x128x16x2x4x64 .f32) : FVec Ideal S2x128x4x127x2048 .f32 :=
  shapeCast _ (transpose S2x128x4x127x32x64 [3, 0, 4, 1, 2, 5] (concatenate S128x127x32x2x4x64 2 [⟨S128x127x16x2x4x64, (extractStridedSlice S128x127x16x2x4x64 ![0, 0, 0, 0, 0, 0] Y slices_S128x128x16x2x4x64_S128x127x16x2x4x64_0_0_0_0_0_0)⟩, ⟨S128x127x16x2x4x64, (extractStridedSlice S128x127x16x2x4x64 ![0, 1, 0, 0, 0, 0] Y slices_S128x128x16x2x4x64_S128x127x16x2x4x64_0_1_0_0_0_0)⟩] concatenates_S128x127x16x2x4x64_S128x127x16x2x4x64_S128x127x32x2x4x64_d2) transposes_S128x127x32x2x4x64_S2x128x4x127x32x64_3_0_4_1_2_5) shapeCasts_S2x128x4x127x32x64_S2x128x4x127x2048

/-- The first layer, before its nonlinearity. -/
def hidden (L : FVec Ideal S2x128x4x127x2048 .f32) (W : FVec Ideal S2x2048x128 .f32) (C : FVec Ideal S2x1x128 .f32) : FVec Ideal S2x128x4x127x128 .f32 :=
  addf (Host.dotGeneral dot_S2x128x4x127x2048_S2x2048x128_S2x128x4x127x128_4_1_123_2_0_0 none L W) (broadcastInDim S2x128x4x127x128 ![0, 1, 2, 3, 4] bcast_S2x1x1x1x128_S2x128x4x127x128_0_1_2_3_4 (broadcastInDim S2x1x1x1x128 ![0, 3, 4] bcast_S2x1x128_S2x1x1x1x128_0_3_4 C))

/-- The nonlinearity. -/
def acted (H : FVec Ideal S2x128x4x127x128 .f32) : FVec Ideal S2x128x4x127x128 .f32 :=
  mulf H (Host.divf (broadcastInDim S2x128x4x127x128 ![] bcast_S_S2x128x4x127x128 (constant S_ .f32 0x3F800000#32)) (addf (broadcastInDim S2x128x4x127x128 ![] bcast_S_S2x128x4x127x128 (constant S_ .f32 0x3F800000#32)) (Host.exp (Host.negf H))))

/-- The second layer. -/
def summary (A : FVec Ideal S2x128x4x127x128 .f32) (W : FVec Ideal S2x128x64 .f32) (B : FVec Ideal S2x64 .f32) : FVec Ideal S2x128x4x127x64 .f32 :=
  addf (Host.dotGeneral dot_S2x128x4x127x128_S2x128x64_S2x128x4x127x64_4_1_123_2_0_0 none A W) (broadcastInDim S2x128x4x127x64 ![0, 1, 2, 3, 4] bcast_S2x1x1x1x64_S2x128x4x127x64_0_1_2_3_4 (broadcastInDim S2x1x1x1x64 ![0, 4] bcast_S2x64_S2x1x1x1x64_0_4 B))

/-- Each summary twice, side by side. -/
def twice (S : FVec Ideal S2x128x4x127x64 .f32) : FVec Ideal S2x128x4x127x128 .f32 :=
  concatenate S2x128x4x127x128 4 [⟨S2x128x4x127x64, S⟩, ⟨S2x128x4x127x64, S⟩] concatenates_S2x128x4x127x64_S2x128x4x127x64_S2x128x4x127x128_d4

/-- The summaries of the blocks. -/
def summaries (X : FVec Ideal S2560x128x2x4x64 .f32) (E : IVec S128x16 32) (W1 : FVec Ideal S2x2048x128 .f32) (C : FVec Ideal S2x1x128 .f32) (W2 : FVec Ideal S2x128x64 .f32) (B : FVec Ideal S2x64 .f32) :
    FVec Ideal S2x128x4x127x128 .f32 :=
  twice (summary (acted (hidden (flat (parted (taken X E))) W1 C)) W2 B)

/-- The reference's result is they. -/
theorem res_summaries (m : (ℓ : Loc nD τ sig) → Buf (Elt Ideal) ℓ) (c : Dev nD) :
    Value.res_main_v22 m c = summaries (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

theorem twice_at (S : FVec Ideal S2x128x4x127x64 .f32) (a : Fin 2) (s : Fin 128) (g : Fin 4) (n : Fin 127) (d : Fin 128) :
    twice S (ix5 a s g n d) = S (ix5 a s g n ⟨d.val % 64, by omega⟩) := by
  pointwise [twice]
  split
  · congr 2
    apply Fin.ext
    show (d : ℕ) = (d : ℕ) % 64
    omega
  · congr 2
    apply Fin.ext
    show (d : ℕ) - 64 = (d : ℕ) % 64
    omega

theorem summary_at (A : FVec Ideal S2x128x4x127x128 .f32) (W : FVec Ideal S2x128x64 .f32) (B : FVec Ideal S2x64 .f32) (a : Fin 2) (s : Fin 128) (g : Fin 4) (n : Fin 127) (d : Fin 64) :
    summary A W B (ix5 a s g n d) = ∑ x : Fin 128, A (ix5 a s g n x) * W (ix3 a x d) + B (ix2 a d) := by
  pointwise [summary]

theorem acted_at (H : FVec Ideal S2x128x4x127x128 .f32) (a : Fin 2) (s : Fin 128) (g : Fin 4) (n : Fin 127) (x : Fin 128) :
    acted H (ix5 a s g n x) = H (ix5 a s g n x) * Ideal.div 1 (1 + Ideal.exp (-H (ix5 a s g n x))) := by
  pointwise [acted]

theorem hidden_at (L : FVec Ideal S2x128x4x127x2048 .f32) (W : FVec Ideal S2x2048x128 .f32) (C : FVec Ideal S2x1x128 .f32) (a : Fin 2) (s : Fin 128) (g : Fin 4) (n : Fin 127) (x : Fin 128) :
    hidden L W C (ix5 a s g n x) = ∑ k : Fin 2048, L (ix5 a s g n k) * W (ix3 a k x) + C (ix3 a 0 x) := by
  pointwise [hidden]

/-- A chunk laid in one row. -/
abbrev chunk (Y : FVec Ideal S128x128x16x2x4x64 .f32) (a : Fin 2) (s : Fin 128) (g : Fin 4) (n : Fin 128) (k : Fin 1024) : EReal :=
  Y (ix6 s n ⟨k.val / 64, by omega⟩ a g ⟨k.val % 64, by omega⟩)

/-- A chunk's rows are rows of the page it lies in. -/
theorem chunk_parted (X : FVec Ideal S2560x128x2x4x64 .f32) (E : IVec S128x16 32) (a : Fin 2) (s : Fin 128) (g : Fin 4) (n : Fin 128) (k : Fin 1024)
    (e : Fin 2560) (h : (E (ix2 s ⟨n.val / 8, by omega⟩)).toNat = e.val) :
    chunk (parted (taken X E)) a s g n k = X (ix5 e ⟨n.val % 8 * 16 + k.val / 64, by omega⟩ a g ⟨k.val % 64, by omega⟩) := by
  rw [← taken_at X E s ⟨n.val / 8, by omega⟩ ⟨n.val % 8 * 16 + k.val / 64, by omega⟩ a g ⟨k.val % 64, by omega⟩ e h]
  generalize taken X E = Z
  pointwise [chunk, parted]

/-- The first half of a block is its first chunk. -/
theorem flat_low (Y : FVec Ideal S128x128x16x2x4x64 .f32) (a : Fin 2) (s : Fin 128) (g : Fin 4) (n : Fin 127) (k : Fin 1024) :
    flat Y (ix5 a s g n ⟨k.val, by omega⟩) = chunk Y a s g ⟨n.val, by omega⟩ k := by
  have h : k.val / 64 < 16 := by omega
  pointwise [flat, chunk]
  rw [dif_pos h]

/-- The second half is the chunk after it. -/
theorem flat_high (Y : FVec Ideal S128x128x16x2x4x64 .f32) (a : Fin 2) (s : Fin 128) (g : Fin 4) (n : Fin 127) (k : Fin 1024) :
    flat Y (ix5 a s g n ⟨1024 + k.val, by omega⟩) = chunk Y a s g ⟨n.val + 1, by omega⟩ k := by
  have h : ¬ (1024 + k.val) / 64 < 16 := by omega
  pointwise [flat, chunk]
  rw [dif_neg h]
  congr 2
  all_goals (apply Fin.ext; simp only []; omega)

/-- The first layer, over the two chunks of a block apart. -/
theorem hidden_flat (Y : FVec Ideal S128x128x16x2x4x64 .f32) (W : FVec Ideal S2x2048x128 .f32) (C : FVec Ideal S2x1x128 .f32) (a : Fin 2) (s : Fin 128) (g : Fin 4) (n : Fin 127) (x : Fin 128) :
    hidden (flat Y) W C (ix5 a s g n x) = ∑ k : Fin 1024, chunk Y a s g ⟨n.val, by omega⟩ k * W (ix3 a ⟨k.val, by omega⟩ x)
      + ∑ k : Fin 1024, chunk Y a s g ⟨n.val + 1, by omega⟩ k * W (ix3 a ⟨1024 + k.val, by omega⟩ x) + C (ix3 a 0 x) := by
  rw [hidden_at]
  refine congrArg (fun s : EReal => s + C (ix3 a 0 x)) ?_
  refine (Fin.sum_univ_add (a := 1024) (b := 1024) fun k : Fin 2048 => (show EReal from flat Y (ix5 a s g n k)) * W (ix3 a k x)).trans ?_
  refine congrArg₂ (fun s t : EReal => s + t) (Finset.sum_congr rfl fun k _ => ?_) (Finset.sum_congr rfl fun k _ => ?_)
  · exact congrArg (fun s : EReal => s * W (ix3 a ⟨k.val, by omega⟩ x)) (flat_low Y a s g n k)
  · exact congrArg (fun s : EReal => s * W (ix3 a ⟨1024 + k.val, by omega⟩ x)) (flat_high Y a s g n k)

end Cert.CompressPagesRefIdeal.Parts

end
-- ==== Proof.PagesLaunch.lean ====
/- The summaries of cached pages: the page table, the body's run, and the call's run around the host's lines. -/
module

public import proofs.«01_k».proof.Proof.Gen.CompressPagesIdeal
public import proofs.«01_k».proof.Proof.Gen.CompressPagesIdeal.Skeleton
public import proofs.«01_k».proof.Proof.Gen.CompressPagesIdeal.Launch
public import Idealize.ShloMosaic.Lib.Pipeline.Quiescent
public import Idealize.ShloMosaic.Lib.Pipeline.FrameBody
public import Idealize.ShloMosaic.Lib.Pipeline.FrameSuffix
public import Idealize.ShloMosaic.Lib.Claim
public import Idealize.ShloMosaic.Lib.Pipeline.Kit
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.WordCmp
public import Idealize.ShloMosaic.PureOps.Ideal

@[expose] public section

set_option maxRecDepth 16384
set_option Elab.async false

noncomputable section

namespace Cert.CompressPagesIdeal.Pages

open Cert.CompressPagesIdeal Cert.CompressPagesIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The page table one call is made with: every page lies in the pool of 2560. -/
structure Table where
  pages : S128x16.Idx → BitVec 32
  lt : ∀ x, (pages x).toNat < 2560

/-- The prefetched contents. -/
def contents (T : Table) : pre0.Contents (Elt Ideal) := fun | ⟨0, _⟩ => T.pages | ⟨_ + 1, h⟩ => absurd h (by simp)

/-- The memory holds the table `T`. -/
def Holds (T : Table) (m : (ℓ : Loc nD τ sig) → Buf (Elt Ideal) ℓ) : Prop := ∀ c : Dev nD, m ((c : Thread nD τ).loc main_arg1) = T.pages

theorem lead {n k : ℕ} (h : n < k) : (n + 1) * 1 ≤ k := by omega

theorem word_lead {n k : ℕ} (h : n < k) : ((BitVec.ofNat 32 n).toNat + 1) * 1 ≤ k := by
  have : (BitVec.ofNat 32 n).toNat ≤ n := by rw [BitVec.toNat_ofNat]; exact Nat.mod_le _ _
  omega

/-- A page's block lies inside the pool, whichever row of the table it is read from. -/
theorem block_inside (i : grid0.Coords) (b : BitVec 32) (hb : b.toNat < 2560) (a : Fin 5) :
    ((![(BitVec.ofNat 32 (i 0).val).toNat, (BitVec.ofNat 32 (i 1).val).toNat, b.toNat, (0#32).toNat, (0#32).toNat] : Fin 5 → ℕ) a + 1) * S1x1x1x8x1024.size a ≤ S2x4x2560x8x1024.size a := by
  match a with
  | ⟨0, _⟩ => exact word_lead (i 0).isLt
  | ⟨1, _⟩ => exact word_lead (i 1).isLt
  | ⟨2, _⟩ => exact lead hb
  | ⟨3, _⟩ => exact Nat.le_refl _
  | ⟨4, _⟩ => exact Nat.le_refl _
  | ⟨_ + 5, h⟩ => exact absurd h (by simp)

/-- The launch's side condition on its table. -/
theorem ok_contents (T : Table) : ok0 (F := Ideal) (contents T) := by
  unfold ok0
  repeat' apply And.intro
  all_goals exact fun i => ⟨fun a => block_inside i _ (T.lt _) a, .inl rfl⟩

/-- The contents the launch runs at, and the pipeline at them. -/
def adm (T : Table) : (pcfg0 (F := Ideal)).Adm := ⟨contents T, ok_contents T⟩
abbrev cfgA (T : Table) : Pipeline.Cfg sig Λ₀ := cfg0 (F := Ideal) (adm T)
abbrev pcs (T : Table) : Fin 1 → Pipeline.Cfg sig Λ₀ := Pipeline.pin (pcfgs (F := Ideal)) fun _ => adm T

/-- Point `t`'s coordinates. -/
abbrev crd (T : Table) (t : Fin (cfgA T).N) : (cfgA T).grid.Coords := (cfgA T).grid.coords t

/-! ## A point's staging buffers -/

abbrev st0 (T : Table) (t : Fin (cfgA T).N) : Memref sig .tc .vmem S1x1x1x8x1024 .f32 := spec0_0.stage ((cfgA T).slots t (0 : Fin 37))
abbrev sw0 (T : Table) (t : Fin (cfgA T).N) : (st0 T t).IsWhole := hstage0_0 (((cfgA T).slots t (0 : Fin 37)).cast nbuf0_0)
abbrev st1 (T : Table) (t : Fin (cfgA T).N) : Memref sig .tc .vmem S1x1x1x8x1024 .f32 := spec0_1.stage ((cfgA T).slots t (1 : Fin 37))
abbrev sw1 (T : Table) (t : Fin (cfgA T).N) : (st1 T t).IsWhole := hstage0_1 (((cfgA T).slots t (1 : Fin 37)).cast nbuf0_1)
abbrev st2 (T : Table) (t : Fin (cfgA T).N) : Memref sig .tc .vmem S1x1x1x8x1024 .f32 := spec0_2.stage ((cfgA T).slots t (2 : Fin 37))
abbrev sw2 (T : Table) (t : Fin (cfgA T).N) : (st2 T t).IsWhole := hstage0_2 (((cfgA T).slots t (2 : Fin 37)).cast nbuf0_2)
abbrev st3 (T : Table) (t : Fin (cfgA T).N) : Memref sig .tc .vmem S1x1x1x8x1024 .f32 := spec0_3.stage ((cfgA T).slots t (3 : Fin 37))
abbrev sw3 (T : Table) (t : Fin (cfgA T).N) : (st3 T t).IsWhole := hstage0_3 (((cfgA T).slots t (3 : Fin 37)).cast nbuf0_3)
abbrev st4 (T : Table) (t : Fin (cfgA T).N) : Memref sig .tc .vmem S1x1x1x8x1024 .f32 := spec0_4.stage ((cfgA T).slots t (4 : Fin 37))
abbrev sw4 (T : Table) (t : Fin (cfgA T).N) : (st4 T t).IsWhole := hstage0_4 (((cfgA T).slots t (4 : Fin 37)).cast nbuf0_4)
abbrev st5 (T : Table) (t : Fin (cfgA T).N) : Memref sig .tc .vmem S1x1x1x8x1024 .f32 := spec0_5.stage ((cfgA T).slots t (5 : Fin 37))
abbrev sw5 (T : Table) (t : Fin (cfgA T).N) : (st5 T t).IsWhole := hstage0_5 (((cfgA T).slots t (5 : Fin 37)).cast nbuf0_5)
abbrev st6 (T : Table) (t : Fin (cfgA T).N) : Memref sig .tc .vmem S1x1x1x8x1024 .f32 := spec0_6.stage ((cfgA T).slots t (6 : Fin 37))
abbrev sw6 (T : Table) (t : Fin (cfgA T).N) : (st6 T t).IsWhole := hstage0_6 (((cfgA T).slots t (6 : Fin 37)).cast nbuf0_6)
abbrev st7 (T : Table) (t : Fin (cfgA T).N) : Memref sig .tc .vmem S1x1x1x8x1024 .f32 := spec0_7.stage ((cfgA T).slots t (7 : Fin 37))
abbrev sw7 (T : Table) (t : Fin (cfgA T).N) : (st7 T t).IsWhole := hstage0_7 (((cfgA T).slots t (7 : Fin 37)).cast nbuf0_7)
abbrev st8 (T : Table) (t : Fin (cfgA T).N) : Memref sig .tc .vmem S1x1x1x8x1024 .f32 := spec0_8.stage ((cfgA T).slots t (8 : Fin 37))
abbrev sw8 (T : Table) (t : Fin (cfgA T).N) : (st8 T t).IsWhole := hstage0_8 (((cfgA T).slots t (8 : Fin 37)).cast nbuf0_8)
abbrev st9 (T : Table) (t : Fin (cfgA T).N) : Memref sig .tc .vmem S1x1x1x8x1024 .f32 := spec0_9.stage ((cfgA T).slots t (9 : Fin 37))
abbrev sw9 (T : Table) (t : Fin (cfgA T).N) : (st9 T t).IsWhole := hstage0_9 (((cfgA T).slots t (9 : Fin 37)).cast nbuf0_9)
abbrev st10 (T : Table) (t : Fin (cfgA T).N) : Memref sig .tc .vmem S1x1x1x8x1024 .f32 := spec0_10.stage ((cfgA T).slots t (10 : Fin 37))
abbrev sw10 (T : Table) (t : Fin (cfgA T).N) : (st10 T t).IsWhole := hstage0_10 (((cfgA T).slots t (10 : Fin 37)).cast nbuf0_10)
abbrev st11 (T : Table) (t : Fin (cfgA T).N) : Memref sig .tc .vmem S1x1x1x8x1024 .f32 := spec0_11.stage ((cfgA T).slots t (11 : Fin 37))
abbrev sw11 (T : Table) (t : Fin (cfgA T).N) : (st11 T t).IsWhole := hstage0_11 (((cfgA T).slots t (11 : Fin 37)).cast nbuf0_11)
abbrev st12 (T : Table) (t : Fin (cfgA T).N) : Memref sig .tc .vmem S1x1x1x8x1024 .f32 := spec0_12.stage ((cfgA T).slots t (12 : Fin 37))
abbrev sw12 (T : Table) (t : Fin (cfgA T).N) : (st12 T t).IsWhole := hstage0_12 (((cfgA T).slots t (12 : Fin 37)).cast nbuf0_12)
abbrev st13 (T : Table) (t : Fin (cfgA T).N) : Memref sig .tc .vmem S1x1x1x8x1024 .f32 := spec0_13.stage ((cfgA T).slots t (13 : Fin 37))
abbrev sw13 (T : Table) (t : Fin (cfgA T).N) : (st13 T t).IsWhole := hstage0_13 (((cfgA T).slots t (13 : Fin 37)).cast nbuf0_13)
abbrev st14 (T : Table) (t : Fin (cfgA T).N) : Memref sig .tc .vmem S1x1x1x8x1024 .f32 := spec0_14.stage ((cfgA T).slots t (14 : Fin 37))
abbrev sw14 (T : Table) (t : Fin (cfgA T).N) : (st14 T t).IsWhole := hstage0_14 (((cfgA T).slots t (14 : Fin 37)).cast nbuf0_14)
abbrev st15 (T : Table) (t : Fin (cfgA T).N) : Memref sig .tc .vmem S1x1x1x8x1024 .f32 := spec0_15.stage ((cfgA T).slots t (15 : Fin 37))
abbrev sw15 (T : Table) (t : Fin (cfgA T).N) : (st15 T t).IsWhole := hstage0_15 (((cfgA T).slots t (15 : Fin 37)).cast nbuf0_15)
abbrev st16 (T : Table) (t : Fin (cfgA T).N) : Memref sig .tc .vmem S1x1x1x8x1024 .f32 := spec0_16.stage ((cfgA T).slots t (16 : Fin 37))
abbrev sw16 (T : Table) (t : Fin (cfgA T).N) : (st16 T t).IsWhole := hstage0_16 (((cfgA T).slots t (16 : Fin 37)).cast nbuf0_16)
abbrev st17 (T : Table) (t : Fin (cfgA T).N) : Memref sig .tc .vmem S1x1x1x8x1024 .f32 := spec0_17.stage ((cfgA T).slots t (17 : Fin 37))
abbrev sw17 (T : Table) (t : Fin (cfgA T).N) : (st17 T t).IsWhole := hstage0_17 (((cfgA T).slots t (17 : Fin 37)).cast nbuf0_17)
abbrev st18 (T : Table) (t : Fin (cfgA T).N) : Memref sig .tc .vmem S1x1x1x8x1024 .f32 := spec0_18.stage ((cfgA T).slots t (18 : Fin 37))
abbrev sw18 (T : Table) (t : Fin (cfgA T).N) : (st18 T t).IsWhole := hstage0_18 (((cfgA T).slots t (18 : Fin 37)).cast nbuf0_18)
abbrev st19 (T : Table) (t : Fin (cfgA T).N) : Memref sig .tc .vmem S1x1x1x8x1024 .f32 := spec0_19.stage ((cfgA T).slots t (19 : Fin 37))
abbrev sw19 (T : Table) (t : Fin (cfgA T).N) : (st19 T t).IsWhole := hstage0_19 (((cfgA T).slots t (19 : Fin 37)).cast nbuf0_19)
abbrev st20 (T : Table) (t : Fin (cfgA T).N) : Memref sig .tc .vmem S1x1x1x8x1024 .f32 := spec0_20.stage ((cfgA T).slots t (20 : Fin 37))
abbrev sw20 (T : Table) (t : Fin (cfgA T).N) : (st20 T t).IsWhole := hstage0_20 (((cfgA T).slots t (20 : Fin 37)).cast nbuf0_20)
abbrev st21 (T : Table) (t : Fin (cfgA T).N) : Memref sig .tc .vmem S1x1x1x8x1024 .f32 := spec0_21.stage ((cfgA T).slots t (21 : Fin 37))
abbrev sw21 (T : Table) (t : Fin (cfgA T).N) : (st21 T t).IsWhole := hstage0_21 (((cfgA T).slots t (21 : Fin 37)).cast nbuf0_21)
abbrev st22 (T : Table) (t : Fin (cfgA T).N) : Memref sig .tc .vmem S1x1x1x8x1024 .f32 := spec0_22.stage ((cfgA T).slots t (22 : Fin 37))
abbrev sw22 (T : Table) (t : Fin (cfgA T).N) : (st22 T t).IsWhole := hstage0_22 (((cfgA T).slots t (22 : Fin 37)).cast nbuf0_22)
abbrev st23 (T : Table) (t : Fin (cfgA T).N) : Memref sig .tc .vmem S1x1x1x8x1024 .f32 := spec0_23.stage ((cfgA T).slots t (23 : Fin 37))
abbrev sw23 (T : Table) (t : Fin (cfgA T).N) : (st23 T t).IsWhole := hstage0_23 (((cfgA T).slots t (23 : Fin 37)).cast nbuf0_23)
abbrev st24 (T : Table) (t : Fin (cfgA T).N) : Memref sig .tc .vmem S1x1x1x8x1024 .f32 := spec0_24.stage ((cfgA T).slots t (24 : Fin 37))
abbrev sw24 (T : Table) (t : Fin (cfgA T).N) : (st24 T t).IsWhole := hstage0_24 (((cfgA T).slots t (24 : Fin 37)).cast nbuf0_24)
abbrev st25 (T : Table) (t : Fin (cfgA T).N) : Memref sig .tc .vmem S1x1x1x8x1024 .f32 := spec0_25.stage ((cfgA T).slots t (25 : Fin 37))
abbrev sw25 (T : Table) (t : Fin (cfgA T).N) : (st25 T t).IsWhole := hstage0_25 (((cfgA T).slots t (25 : Fin 37)).cast nbuf0_25)
abbrev st26 (T : Table) (t : Fin (cfgA T).N) : Memref sig .tc .vmem S1x1x1x8x1024 .f32 := spec0_26.stage ((cfgA T).slots t (26 : Fin 37))
abbrev sw26 (T : Table) (t : Fin (cfgA T).N) : (st26 T t).IsWhole := hstage0_26 (((cfgA T).slots t (26 : Fin 37)).cast nbuf0_26)
abbrev st27 (T : Table) (t : Fin (cfgA T).N) : Memref sig .tc .vmem S1x1x1x8x1024 .f32 := spec0_27.stage ((cfgA T).slots t (27 : Fin 37))
abbrev sw27 (T : Table) (t : Fin (cfgA T).N) : (st27 T t).IsWhole := hstage0_27 (((cfgA T).slots t (27 : Fin 37)).cast nbuf0_27)
abbrev st28 (T : Table) (t : Fin (cfgA T).N) : Memref sig .tc .vmem S1x1x1x8x1024 .f32 := spec0_28.stage ((cfgA T).slots t (28 : Fin 37))
abbrev sw28 (T : Table) (t : Fin (cfgA T).N) : (st28 T t).IsWhole := hstage0_28 (((cfgA T).slots t (28 : Fin 37)).cast nbuf0_28)
abbrev st29 (T : Table) (t : Fin (cfgA T).N) : Memref sig .tc .vmem S1x1x1x8x1024 .f32 := spec0_29.stage ((cfgA T).slots t (29 : Fin 37))
abbrev sw29 (T : Table) (t : Fin (cfgA T).N) : (st29 T t).IsWhole := hstage0_29 (((cfgA T).slots t (29 : Fin 37)).cast nbuf0_29)
abbrev st30 (T : Table) (t : Fin (cfgA T).N) : Memref sig .tc .vmem S1x1x1x8x1024 .f32 := spec0_30.stage ((cfgA T).slots t (30 : Fin 37))
abbrev sw30 (T : Table) (t : Fin (cfgA T).N) : (st30 T t).IsWhole := hstage0_30 (((cfgA T).slots t (30 : Fin 37)).cast nbuf0_30)
abbrev st31 (T : Table) (t : Fin (cfgA T).N) : Memref sig .tc .vmem S1x1x1x8x1024 .f32 := spec0_31.stage ((cfgA T).slots t (31 : Fin 37))
abbrev sw31 (T : Table) (t : Fin (cfgA T).N) : (st31 T t).IsWhole := hstage0_31 (((cfgA T).slots t (31 : Fin 37)).cast nbuf0_31)
abbrev st32 (T : Table) (t : Fin (cfgA T).N) : Memref sig .tc .vmem S1x1024x256 .f32 := spec0_32.stage ((cfgA T).slots t (32 : Fin 37))
abbrev sw32 (T : Table) (t : Fin (cfgA T).N) : (st32 T t).IsWhole := hstage0_32 (((cfgA T).slots t (32 : Fin 37)).cast nbuf0_32)
abbrev st33 (T : Table) (t : Fin (cfgA T).N) : Memref sig .tc .vmem S1x1x128 .f32 := spec0_33.stage ((cfgA T).slots t (33 : Fin 37))
abbrev sw33 (T : Table) (t : Fin (cfgA T).N) : (st33 T t).IsWhole := hstage0_33 (((cfgA T).slots t (33 : Fin 37)).cast nbuf0_33)
abbrev st34 (T : Table) (t : Fin (cfgA T).N) : Memref sig .tc .vmem S1x128x128 .f32 := spec0_34.stage ((cfgA T).slots t (34 : Fin 37))
abbrev sw34 (T : Table) (t : Fin (cfgA T).N) : (st34 T t).IsWhole := hstage0_34 (((cfgA T).slots t (34 : Fin 37)).cast nbuf0_34)
abbrev st35 (T : Table) (t : Fin (cfgA T).N) : Memref sig .tc .vmem S1x1x128 .f32 := spec0_35.stage ((cfgA T).slots t (35 : Fin 37))
abbrev sw35 (T : Table) (t : Fin (cfgA T).N) : (st35 T t).IsWhole := hstage0_35 (((cfgA T).slots t (35 : Fin 37)).cast nbuf0_35)
abbrev st36 (T : Table) (t : Fin (cfgA T).N) : Memref sig .tc .vmem S1x2x1x128x128 .f32 := spec0_36.stage ((cfgA T).slots t (36 : Fin 37))
abbrev sw36 (T : Table) (t : Fin (cfgA T).N) : (st36 T t).IsWhole := hstage0_36 (((cfgA T).slots t (36 : Fin 37)).cast nbuf0_36)

variable (T : Table) (m : (ℓ : Loc nD τ sig) → Buf (Elt Ideal) ℓ) (ρ : Dev nD → PrngReg)

/-! ## The host's lines around the call -/

/-- What each buffer holds when the call begins. -/
abbrev V0 (c : Dev nD) : Valuation τ sig (Elt Ideal) := StableHlo.after (List.flatten [hostOps0]) (fun b => m (c, b))
abbrev V (c : Dev nD) (b : Ref sig .tc) : Buf (Elt Ideal) ((c : Thread nD τ).loc b) := V0 m c (Proc.devRef .tc b)

theorem lines_fresh : (hostOps0 : List (HloOp τ sig (Elt Ideal))).Forall fun op => op.fresh = ∅ := by
  simp only [List.Forall]; repeat' constructor

set_option maxHeartbeats 800000 in
/-- The program: the host's lines, the call, the host's last line. -/
theorem hmain (𝒱₀ : Variants) : Pipeline.HMainPK (Ix := Unit) (Name := ℕ) (U := UR sig nD τ) (Lvl := ℕ) (pcfgs (F := Ideal)) 0 defs₀ 𝒱₀ m (main (F := Ideal)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact lines_fresh) main_chain

/-- The last line reads the result's array and writes a buffer of its own. -/
theorem sfx_sub : ∀ ops ∈ ([hostOps1] : List (List (HloOp τ sig (Elt Ideal)))), ∀ op ∈ ops,
    op.bufs ⊆ Pipeline.tailRefs sig pre0 spec0 := by
  intro ops hops op hop
  simp only [List.mem_cons, List.mem_nil_iff, or_false] at hops
  rcases hops with rfl
  simp only [hostOps1, List.mem_cons, List.mem_nil_iff, or_false] at hop
  rcases hop with rfl
  intro x hx
  have key : x = Proc.devRef .tc main_v9 ∨ x = Proc.devRef .tc main_v10 := by
    simpa [StableHlo.unary] using hx
  rcases key with rfl | rfl
  · exact Finset.mem_map.mpr ⟨main_v9, Finset.mem_union_left _ (Finset.mem_image.mpr ⟨(36 : Fin 37), Finset.mem_univ _, rfl⟩), rfl⟩
  · exact Finset.mem_map.mpr ⟨main_v10, Finset.mem_union_right _ (by decide), rfl⟩

theorem sfx_fresh : ∀ ops ∈ ([hostOps1] : List (List (HloOp τ sig (Elt Ideal)))), ∀ op ∈ ops, op.fresh = ∅ := by
  intro ops hops op hop
  simp only [List.mem_cons, List.mem_nil_iff, or_false] at hops
  rcases hops with rfl
  simp only [hostOps1, List.mem_cons, List.mem_nil_iff, or_false] at hop
  rcases hop with rfl
  rfl

theorem sfx_keeps : ∀ ops ∈ ([hostOps1] : List (List (HloOp τ sig (Elt Ideal)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  simp only [StableHlo.unary_writes, Finset.mem_singleton]
  exact StableHlo.devRef_ne_of_ne ((by decide : ∀ w, Pipeline.arrRef spec0 w ≠ main_v10) w)

/-! The lines before the call leave the arguments as they were. -/

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.binary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.binary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.binary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.binary_writes, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.binary_writes, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.binary_writes, StableHlo.reshape_writes, Finset.mem_singleton]
    repeat' apply And.intro
    all_goals exact StableHlo.devRef_ne_of_ne (by decide)))

/-! So does the line after it. -/

theorem W_arg0 (dats : (p : Fin 1) → (c : Dev nD) → Dat τ (Elt Ideal) Unit ℕ (UR sig nD τ) ℕ (pcs T p) c) (c : Dev nD) :
    Pipeline.afterTail (pcfgs (F := Ideal)) (fun _ => adm T) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_arg0 m c
theorem W_arg1 (dats : (p : Fin 1) → (c : Dev nD) → Dat τ (Elt Ideal) Unit ℕ (UR sig nD τ) ℕ (pcs T p) c) (c : Dev nD) :
    Pipeline.afterTail (pcfgs (F := Ideal)) (fun _ => adm T) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_arg1 m c
theorem W_arg2 (dats : (p : Fin 1) → (c : Dev nD) → Dat τ (Elt Ideal) Unit ℕ (UR sig nD τ) ℕ (pcs T p) c) (c : Dev nD) :
    Pipeline.afterTail (pcfgs (F := Ideal)) (fun _ => adm T) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_arg2 m c
theorem W_arg4 (dats : (p : Fin 1) → (c : Dev nD) → Dat τ (Elt Ideal) Unit ℕ (UR sig nD τ) ℕ (pcs T p) c) (c : Dev nD) :
    Pipeline.afterTail (pcfgs (F := Ideal)) (fun _ => adm T) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_arg4 m c
theorem W_arg5 (dats : (p : Fin 1) → (c : Dev nD) → Dat τ (Elt Ideal) Unit ℕ (UR sig nD τ) ℕ (pcs T p) c) (c : Dev nD) :
    Pipeline.afterTail (pcfgs (F := Ideal)) (fun _ => adm T) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_arg5 m c

/-! ## The windows' blocks -/

/-- Window `w`'s block at point `t`, read off its array when the call begins. -/
def iblk (c : Dev nD) (w : Fin (cfgA T).W) (t : Fin (cfgA T).N) : (((cfgA T).win w).xblock (crd T t)).Idx → Elt Ideal ((cfgA T).win w).elt :=
  (((cfgA T).win w).blk t).view.read (Elt Ideal) (V m c (Pipeline.arrRef spec0 w))

/-! ## The body -/

abbrev rp : Rect S1x1x1x8x1024 := Rect.unit (s := S1x1x1x8x1024) ![0, 0, 0, 0, 0] S1x1x1x8x1024.size inb_S1x1x1x8x1024_S1x1x1x8x1024_0_0_0_0_0
abbrev rw1 : Rect S1x1024x256 := Rect.unit (s := S1x1024x256) ![0, 0, 0] S1x1024x256.size inb_S1x1024x256_S1x1024x256_0_0_0
abbrev rv : Rect S1x1x128 := Rect.unit (s := S1x1x128) ![0, 0, 0] S1x1x128.size inb_S1x1x128_S1x1x128_0_0_0
abbrev rw2 : Rect S1x128x128 := Rect.unit (s := S1x128x128) ![0, 0, 0] S1x128x128.size inb_S1x128x128_S1x128x128_0_0_0
abbrev ro : Rect S1x2x1x128x128 := Rect.unit (s := S1x2x1x128x128) ![0, 0, 0, 0, 0] S1x2x1x128x128.size inb_S1x2x1x128x128_S1x2x1x128x128_0_0_0_0_0

/-- What the body leaves in the result's buffer, from its operands' blocks. -/
def outp (x0 x1 x2 x3 x4 x5 x6 x7 x8 x9 x10 x11 x12 x13 x14 x15 x16 x17 x18 x19 x20 x21 x22 x23 x24 x25 x26 x27 x28 x29 x30 x31 : Vec Ideal S1x1x1x8x1024 .f32) (x32 : Vec Ideal S1x1024x256 .f32) (x33 : Vec Ideal S1x1x128 .f32) (x34 : Vec Ideal S1x128x128 .f32) (x35 : Vec Ideal S1x1x128 .f32) : Vec Ideal S1x2x1x128x128 .f32 :=
  View.canon [⟨ro, k0_pay1 (k0_pay27 (k0_pay2 (View.ld x0 rp)) (k0_pay3 (View.ld x1 rp)) (k0_pay4 (View.ld x2 rp)) (k0_pay5 (View.ld x3 rp)) (k0_pay6 (View.ld x4 rp)) (k0_pay7 (View.ld x5 rp)) (k0_pay8 (View.ld x6 rp)) (k0_pay9 (View.ld x7 rp)) (k0_pay10 (View.ld x8 rp)) (k0_pay11 (View.ld x9 rp)) (k0_pay12 (View.ld x10 rp)) (k0_pay13 (View.ld x11 rp)) (k0_pay14 (View.ld x12 rp)) (k0_pay15 (View.ld x13 rp)) (k0_pay16 (View.ld x14 rp)) (k0_pay17 (View.ld x15 rp)) (k0_pay18 (View.ld x16 rp)) (k0_pay19 (View.ld x17 rp)) (k0_pay20 (View.ld x18 rp)) (k0_pay21 (View.ld x19 rp)) (k0_pay22 (View.ld x20 rp)) (k0_pay23 (View.ld x21 rp)) (k0_pay24 (View.ld x22 rp)) (k0_pay25 (View.ld x23 rp)) (k0_pay26 (View.ld x24 rp)) (View.ld x25 rp) (View.ld x26 rp) (View.ld x27 rp) (View.ld x28 rp) (View.ld x29 rp) (View.ld x30 rp) (View.ld x31 rp) (View.ld x32 rw1)) (k0_pay28 (k0_pay2 (View.ld x0 rp)) (k0_pay3 (View.ld x1 rp)) (k0_pay4 (View.ld x2 rp)) (k0_pay5 (View.ld x3 rp)) (k0_pay6 (View.ld x4 rp)) (k0_pay7 (View.ld x5 rp)) (k0_pay8 (View.ld x6 rp)) (k0_pay9 (View.ld x7 rp)) (k0_pay10 (View.ld x8 rp)) (k0_pay11 (View.ld x9 rp)) (k0_pay12 (View.ld x10 rp)) (k0_pay13 (View.ld x11 rp)) (k0_pay14 (View.ld x12 rp)) (k0_pay15 (View.ld x13 rp)) (k0_pay16 (View.ld x14 rp)) (k0_pay17 (View.ld x15 rp)) (k0_pay18 (View.ld x16 rp)) (k0_pay19 (View.ld x17 rp)) (k0_pay20 (View.ld x18 rp)) (k0_pay21 (View.ld x19 rp)) (k0_pay22 (View.ld x20 rp)) (k0_pay23 (View.ld x21 rp)) (k0_pay24 (View.ld x22 rp)) (k0_pay25 (View.ld x23 rp)) (k0_pay26 (View.ld x24 rp)) (View.ld x25 rp) (View.ld x26 rp) (View.ld x27 rp) (View.ld x28 rp) (View.ld x29 rp) (View.ld x30 rp) (View.ld x31 rp) (View.ld x32 rw1)) (View.ld x33 rv) (View.ld x34 rw2) (View.ld x35 rv)⟩]

theorem coverp (p0 : Vec Ideal S1x2x1x128x128 .f32) (y : S1x2x1x128x128.Idx) :
    ∃ pc ∈ ([⟨ro, p0⟩] : List (View.Piece (Elt Ideal) S1x2x1x128x128 .f32)), y ∈ pc.1.set :=
  View.cover_of_tiled [⟨ro, p0⟩] S1x2x1x128x128.size (by rfl) y

set_option maxHeartbeats 8000000 in
/-- The body on whole buffers: it reads its operands, leaves them as they were, and leaves `outp` of them in the result's. -/
theorem sound_kernel (c : Dev nD) (E : Set ℕ) (i : grid0.Coords) (arg3 : Memref sig .tc .smem S128x16 .i32) (harg3 : arg3.IsWhole) (arg4 : Memref sig .tc .vmem S1x1x1x8x1024 .f32) (harg4 : arg4.IsWhole) (arg5 : Memref sig .tc .vmem S1x1x1x8x1024 .f32) (harg5 : arg5.IsWhole) (arg6 : Memref sig .tc .vmem S1x1x1x8x1024 .f32) (harg6 : arg6.IsWhole) (arg7 : Memref sig .tc .vmem S1x1x1x8x1024 .f32) (harg7 : arg7.IsWhole) (arg8 : Memref sig .tc .vmem S1x1x1x8x1024 .f32) (harg8 : arg8.IsWhole) (arg9 : Memref sig .tc .vmem S1x1x1x8x1024 .f32) (harg9 : arg9.IsWhole) (arg10 : Memref sig .tc .vmem S1x1x1x8x1024 .f32) (harg10 : arg10.IsWhole) (arg11 : Memref sig .tc .vmem S1x1x1x8x1024 .f32) (harg11 : arg11.IsWhole) (arg12 : Memref sig .tc .vmem S1x1x1x8x1024 .f32) (harg12 : arg12.IsWhole) (arg13 : Memref sig .tc .vmem S1x1x1x8x1024 .f32) (harg13 : arg13.IsWhole) (arg14 : Memref sig .tc .vmem S1x1x1x8x1024 .f32) (harg14 : arg14.IsWhole) (arg15 : Memref sig .tc .vmem S1x1x1x8x1024 .f32) (harg15 : arg15.IsWhole) (arg16 : Memref sig .tc .vmem S1x1x1x8x1024 .f32) (harg16 : arg16.IsWhole) (arg17 : Memref sig .tc .vmem S1x1x1x8x1024 .f32) (harg17 : arg17.IsWhole) (arg18 : Memref sig .tc .vmem S1x1x1x8x1024 .f32) (harg18 : arg18.IsWhole) (arg19 : Memref sig .tc .vmem S1x1x1x8x1024 .f32) (harg19 : arg19.IsWhole) (arg20 : Memref sig .tc .vmem S1x1x1x8x1024 .f32) (harg20 : arg20.IsWhole) (arg21 : Memref sig .tc .vmem S1x1x1x8x1024 .f32) (harg21 : arg21.IsWhole) (arg22 : Memref sig .tc .vmem S1x1x1x8x1024 .f32) (harg22 : arg22.IsWhole) (arg23 : Memref sig .tc .vmem S1x1x1x8x1024 .f32) (harg23 : arg23.IsWhole) (arg24 : Memref sig .tc .vmem S1x1x1x8x1024 .f32) (harg24 : arg24.IsWhole) (arg25 : Memref sig .tc .vmem S1x1x1x8x1024 .f32) (harg25 : arg25.IsWhole) (arg26 : Memref sig .tc .vmem S1x1x1x8x1024 .f32) (harg26 : arg26.IsWhole) (arg27 : Memref sig .tc .vmem S1x1x1x8x1024 .f32) (harg27 : arg27.IsWhole) (arg28 : Memref sig .tc .vmem S1x1x1x8x1024 .f32) (harg28 : arg28.IsWhole) (arg29 : Memref sig .tc .vmem S1x1x1x8x1024 .f32) (harg29 : arg29.IsWhole) (arg30 : Memref sig .tc .vmem S1x1x1x8x1024 .f32) (harg30 : arg30.IsWhole) (arg31 : Memref sig .tc .vmem S1x1x1x8x1024 .f32) (harg31 : arg31.IsWhole) (arg32 : Memref sig .tc .vmem S1x1x1x8x1024 .f32) (harg32 : arg32.IsWhole) (arg33 : Memref sig .tc .vmem S1x1x1x8x1024 .f32) (harg33 : arg33.IsWhole) (arg34 : Memref sig .tc .vmem S1x1x1x8x1024 .f32) (harg34 : arg34.IsWhole) (arg35 : Memref sig .tc .vmem S1x1x1x8x1024 .f32) (harg35 : arg35.IsWhole) (arg36 : Memref sig .tc .vmem S1x1024x256 .f32) (harg36 : arg36.IsWhole) (arg37 : Memref sig .tc .vmem S1x1x128 .f32) (harg37 : arg37.IsWhole) (arg38 : Memref sig .tc .vmem S1x128x128 .f32) (harg38 : arg38.IsWhole) (arg39 : Memref sig .tc .vmem S1x1x128 .f32) (harg39 : arg39.IsWhole) (arg40 : Memref sig .tc .vmem S1x2x1x128x128 .f32) (harg40 : arg40.IsWhole)
    (x0 x1 x2 x3 x4 x5 x6 x7 x8 x9 x10 x11 x12 x13 x14 x15 x16 x17 x18 x19 x20 x21 x22 x23 x24 x25 x26 x27 x28 x29 x30 x31 : Vec Ideal S1x1x1x8x1024 .f32) (x32 : Vec Ideal S1x1024x256 .f32) (x33 : Vec Ideal S1x1x128 .f32) (x34 : Vec Ideal S1x128x128 .f32) (x35 : Vec Ideal S1x1x128 .f32) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ owns (c : Thread nD τ) arg20 fullShare x16 ∗ owns (c : Thread nD τ) arg21 fullShare x17 ∗ owns (c : Thread nD τ) arg22 fullShare x18 ∗ owns (c : Thread nD τ) arg23 fullShare x19 ∗ owns (c : Thread nD τ) arg24 fullShare x20 ∗ owns (c : Thread nD τ) arg25 fullShare x21 ∗ owns (c : Thread nD τ) arg26 fullShare x22 ∗ owns (c : Thread nD τ) arg27 fullShare x23 ∗ owns (c : Thread nD τ) arg28 fullShare x24 ∗ owns (c : Thread nD τ) arg29 fullShare x25 ∗ owns (c : Thread nD τ) arg30 fullShare x26 ∗ owns (c : Thread nD τ) arg31 fullShare x27 ∗ owns (c : Thread nD τ) arg32 fullShare x28 ∗ owns (c : Thread nD τ) arg33 fullShare x29 ∗ owns (c : Thread nD τ) arg34 fullShare x30 ∗ owns (c : Thread nD τ) arg35 fullShare x31 ∗ owns (c : Thread nD τ) arg36 fullShare x32 ∗ owns (c : Thread nD τ) arg37 fullShare x33 ∗ owns (c : Thread nD τ) arg38 fullShare x34 ∗ owns (c : Thread nD τ) arg39 fullShare x35 ∗ (∃ d, owns (c : Thread nD τ) arg40 fullShare d)
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ owns (c : Thread nD τ) arg20 fullShare x16 ∗ owns (c : Thread nD τ) arg21 fullShare x17 ∗ owns (c : Thread nD τ) arg22 fullShare x18 ∗ owns (c : Thread nD τ) arg23 fullShare x19 ∗ owns (c : Thread nD τ) arg24 fullShare x20 ∗ owns (c : Thread nD τ) arg25 fullShare x21 ∗ owns (c : Thread nD τ) arg26 fullShare x22 ∗ owns (c : Thread nD τ) arg27 fullShare x23 ∗ owns (c : Thread nD τ) arg28 fullShare x24 ∗ owns (c : Thread nD τ) arg29 fullShare x25 ∗ owns (c : Thread nD τ) arg30 fullShare x26 ∗ owns (c : Thread nD τ) arg31 fullShare x27 ∗ owns (c : Thread nD τ) arg32 fullShare x28 ∗ owns (c : Thread nD τ) arg33 fullShare x29 ∗ owns (c : Thread nD τ) arg34 fullShare x30 ∗ owns (c : Thread nD τ) arg35 fullShare x31 ∗ owns (c : Thread nD τ) arg36 fullShare x32 ∗ owns (c : Thread nD τ) arg37 fullShare x33 ∗ owns (c : Thread nD τ) arg38 fullShare x34 ∗ owns (c : Thread nD τ) arg39 fullShare x35 ∗ owns (c : Thread nD τ) arg40 fullShare (outp x0 x1 x2 x3 x4 x5 x6 x7 x8 x9 x10 x11 x12 x13 x14 x15 x16 x17 x18 x19 x20 x21 x22 x23 x24 x25 x26 x27 x28 x29 x30 x31 x32 x33 x34 x35)) -∗ K ⟨⟩))
      ⊢ wp frame (wpE (defs₀ (F := Ideal)) Variants.none c none) E (cc0_compress_paged i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K := by
  simp only [cc0_compress_paged_eq_skeleton]; unfold cc0_compress_paged_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%d36, %f36, -, H36⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  iexists _; isplitr
  swap; · iexact H36
  ipureintro
  exact View.read_writes_eq_canon _ _ _ (coverp _)

/-! ## The pipeline's proof data -/

/-- The windows on the pool of pages each hold their part of it; the others hold their arrays whole. -/
def dats (_ : Fin 1) (c : Dev nD) : Dat τ (Elt Ideal) Unit ℕ (UR sig nD τ) ℕ (cfgA T) c where
  A w := V m c (Pipeline.arrRef spec0 w)
  after w t := match w with
    | ⟨0, _⟩ => iblk T m c (0 : Fin 37) t
    | ⟨1, _⟩ => iblk T m c (1 : Fin 37) t
    | ⟨2, _⟩ => iblk T m c (2 : Fin 37) t
    | ⟨3, _⟩ => iblk T m c (3 : Fin 37) t
    | ⟨4, _⟩ => iblk T m c (4 : Fin 37) t
    | ⟨5, _⟩ => iblk T m c (5 : Fin 37) t
    | ⟨6, _⟩ => iblk T m c (6 : Fin 37) t
    | ⟨7, _⟩ => iblk T m c (7 : Fin 37) t
    | ⟨8, _⟩ => iblk T m c (8 : Fin 37) t
    | ⟨9, _⟩ => iblk T m c (9 : Fin 37) t
    | ⟨10, _⟩ => iblk T m c (10 : Fin 37) t
    | ⟨11, _⟩ => iblk T m c (11 : Fin 37) t
    | ⟨12, _⟩ => iblk T m c (12 : Fin 37) t
    | ⟨13, _⟩ => iblk T m c (13 : Fin 37) t
    | ⟨14, _⟩ => iblk T m c (14 : Fin 37) t
    | ⟨15, _⟩ => iblk T m c (15 : Fin 37) t
    | ⟨16, _⟩ => iblk T m c (16 : Fin 37) t
    | ⟨17, _⟩ => iblk T m c (17 : Fin 37) t
    | ⟨18, _⟩ => iblk T m c (18 : Fin 37) t
    | ⟨19, _⟩ => iblk T m c (19 : Fin 37) t
    | ⟨20, _⟩ => iblk T m c (20 : Fin 37) t
    | ⟨21, _⟩ => iblk T m c (21 : Fin 37) t
    | ⟨22, _⟩ => iblk T m c (22 : Fin 37) t
    | ⟨23, _⟩ => iblk T m c (23 : Fin 37) t
    | ⟨24, _⟩ => iblk T m c (24 : Fin 37) t
    | ⟨25, _⟩ => iblk T m c (25 : Fin 37) t
    | ⟨26, _⟩ => iblk T m c (26 : Fin 37) t
    | ⟨27, _⟩ => iblk T m c (27 : Fin 37) t
    | ⟨28, _⟩ => iblk T m c (28 : Fin 37) t
    | ⟨29, _⟩ => iblk T m c (29 : Fin 37) t
    | ⟨30, _⟩ => iblk T m c (30 : Fin 37) t
    | ⟨31, _⟩ => iblk T m c (31 : Fin 37) t
    | ⟨32, _⟩ => iblk T m c (32 : Fin 37) t
    | ⟨33, _⟩ => iblk T m c (33 : Fin 37) t
    | ⟨34, _⟩ => iblk T m c (34 : Fin 37) t
    | ⟨35, _⟩ => iblk T m c (35 : Fin 37) t
    | ⟨36, _⟩ => outp (iblk T m c (0 : Fin 37) t) (iblk T m c (1 : Fin 37) t) (iblk T m c (2 : Fin 37) t) (iblk T m c (3 : Fin 37) t) (iblk T m c (4 : Fin 37) t) (iblk T m c (5 : Fin 37) t) (iblk T m c (6 : Fin 37) t) (iblk T m c (7 : Fin 37) t) (iblk T m c (8 : Fin 37) t) (iblk T m c (9 : Fin 37) t) (iblk T m c (10 : Fin 37) t) (iblk T m c (11 : Fin 37) t) (iblk T m c (12 : Fin 37) t) (iblk T m c (13 : Fin 37) t) (iblk T m c (14 : Fin 37) t) (iblk T m c (15 : Fin 37) t) (iblk T m c (16 : Fin 37) t) (iblk T m c (17 : Fin 37) t) (iblk T m c (18 : Fin 37) t) (iblk T m c (19 : Fin 37) t) (iblk T m c (20 : Fin 37) t) (iblk T m c (21 : Fin 37) t) (iblk T m c (22 : Fin 37) t) (iblk T m c (23 : Fin 37) t) (iblk T m c (24 : Fin 37) t) (iblk T m c (25 : Fin 37) t) (iblk T m c (26 : Fin 37) t) (iblk T m c (27 : Fin 37) t) (iblk T m c (28 : Fin 37) t) (iblk T m c (29 : Fin 37) t) (iblk T m c (30 : Fin 37) t) (iblk T m c (31 : Fin 37) t) (iblk T m c (32 : Fin 37) t) (iblk T m c (33 : Fin 37) t) (iblk T m c (34 : Fin 37) t) (iblk T m c (35 : Fin 37) t)
    | ⟨_ + 37, h⟩ => absurd h (by simp)
  Φ _ := Pipeline.ΦA spec0 c
  q w := Pipeline.shareOf spec0 w
  owed _ := 0

theorem A_eq (c : Dev nD) (w : Fin (cfgA T).W) : (dats T m 0 c).A w = V m c (Pipeline.arrRef spec0 w) := by
  dsimp only [dats]

theorem after0 (c : Dev nD) (t : Fin (cfgA T).N) : (dats T m 0 c).after (0 : Fin 37) t = iblk T m c (0 : Fin 37) t := by dsimp only [dats]
theorem after1 (c : Dev nD) (t : Fin (cfgA T).N) : (dats T m 0 c).after (1 : Fin 37) t = iblk T m c (1 : Fin 37) t := by dsimp only [dats]
theorem after2 (c : Dev nD) (t : Fin (cfgA T).N) : (dats T m 0 c).after (2 : Fin 37) t = iblk T m c (2 : Fin 37) t := by dsimp only [dats]
theorem after3 (c : Dev nD) (t : Fin (cfgA T).N) : (dats T m 0 c).after (3 : Fin 37) t = iblk T m c (3 : Fin 37) t := by dsimp only [dats]
theorem after4 (c : Dev nD) (t : Fin (cfgA T).N) : (dats T m 0 c).after (4 : Fin 37) t = iblk T m c (4 : Fin 37) t := by dsimp only [dats]
theorem after5 (c : Dev nD) (t : Fin (cfgA T).N) : (dats T m 0 c).after (5 : Fin 37) t = iblk T m c (5 : Fin 37) t := by dsimp only [dats]
theorem after6 (c : Dev nD) (t : Fin (cfgA T).N) : (dats T m 0 c).after (6 : Fin 37) t = iblk T m c (6 : Fin 37) t := by dsimp only [dats]
theorem after7 (c : Dev nD) (t : Fin (cfgA T).N) : (dats T m 0 c).after (7 : Fin 37) t = iblk T m c (7 : Fin 37) t := by dsimp only [dats]
theorem after8 (c : Dev nD) (t : Fin (cfgA T).N) : (dats T m 0 c).after (8 : Fin 37) t = iblk T m c (8 : Fin 37) t := by dsimp only [dats]
theorem after9 (c : Dev nD) (t : Fin (cfgA T).N) : (dats T m 0 c).after (9 : Fin 37) t = iblk T m c (9 : Fin 37) t := by dsimp only [dats]
theorem after10 (c : Dev nD) (t : Fin (cfgA T).N) : (dats T m 0 c).after (10 : Fin 37) t = iblk T m c (10 : Fin 37) t := by dsimp only [dats]
theorem after11 (c : Dev nD) (t : Fin (cfgA T).N) : (dats T m 0 c).after (11 : Fin 37) t = iblk T m c (11 : Fin 37) t := by dsimp only [dats]
theorem after12 (c : Dev nD) (t : Fin (cfgA T).N) : (dats T m 0 c).after (12 : Fin 37) t = iblk T m c (12 : Fin 37) t := by dsimp only [dats]
theorem after13 (c : Dev nD) (t : Fin (cfgA T).N) : (dats T m 0 c).after (13 : Fin 37) t = iblk T m c (13 : Fin 37) t := by dsimp only [dats]
theorem after14 (c : Dev nD) (t : Fin (cfgA T).N) : (dats T m 0 c).after (14 : Fin 37) t = iblk T m c (14 : Fin 37) t := by dsimp only [dats]
theorem after15 (c : Dev nD) (t : Fin (cfgA T).N) : (dats T m 0 c).after (15 : Fin 37) t = iblk T m c (15 : Fin 37) t := by dsimp only [dats]
theorem after16 (c : Dev nD) (t : Fin (cfgA T).N) : (dats T m 0 c).after (16 : Fin 37) t = iblk T m c (16 : Fin 37) t := by dsimp only [dats]
theorem after17 (c : Dev nD) (t : Fin (cfgA T).N) : (dats T m 0 c).after (17 : Fin 37) t = iblk T m c (17 : Fin 37) t := by dsimp only [dats]
theorem after18 (c : Dev nD) (t : Fin (cfgA T).N) : (dats T m 0 c).after (18 : Fin 37) t = iblk T m c (18 : Fin 37) t := by dsimp only [dats]
theorem after19 (c : Dev nD) (t : Fin (cfgA T).N) : (dats T m 0 c).after (19 : Fin 37) t = iblk T m c (19 : Fin 37) t := by dsimp only [dats]
theorem after20 (c : Dev nD) (t : Fin (cfgA T).N) : (dats T m 0 c).after (20 : Fin 37) t = iblk T m c (20 : Fin 37) t := by dsimp only [dats]
theorem after21 (c : Dev nD) (t : Fin (cfgA T).N) : (dats T m 0 c).after (21 : Fin 37) t = iblk T m c (21 : Fin 37) t := by dsimp only [dats]
theorem after22 (c : Dev nD) (t : Fin (cfgA T).N) : (dats T m 0 c).after (22 : Fin 37) t = iblk T m c (22 : Fin 37) t := by dsimp only [dats]
theorem after23 (c : Dev nD) (t : Fin (cfgA T).N) : (dats T m 0 c).after (23 : Fin 37) t = iblk T m c (23 : Fin 37) t := by dsimp only [dats]
theorem after24 (c : Dev nD) (t : Fin (cfgA T).N) : (dats T m 0 c).after (24 : Fin 37) t = iblk T m c (24 : Fin 37) t := by dsimp only [dats]
theorem after25 (c : Dev nD) (t : Fin (cfgA T).N) : (dats T m 0 c).after (25 : Fin 37) t = iblk T m c (25 : Fin 37) t := by dsimp only [dats]
theorem after26 (c : Dev nD) (t : Fin (cfgA T).N) : (dats T m 0 c).after (26 : Fin 37) t = iblk T m c (26 : Fin 37) t := by dsimp only [dats]
theorem after27 (c : Dev nD) (t : Fin (cfgA T).N) : (dats T m 0 c).after (27 : Fin 37) t = iblk T m c (27 : Fin 37) t := by dsimp only [dats]
theorem after28 (c : Dev nD) (t : Fin (cfgA T).N) : (dats T m 0 c).after (28 : Fin 37) t = iblk T m c (28 : Fin 37) t := by dsimp only [dats]
theorem after29 (c : Dev nD) (t : Fin (cfgA T).N) : (dats T m 0 c).after (29 : Fin 37) t = iblk T m c (29 : Fin 37) t := by dsimp only [dats]
theorem after30 (c : Dev nD) (t : Fin (cfgA T).N) : (dats T m 0 c).after (30 : Fin 37) t = iblk T m c (30 : Fin 37) t := by dsimp only [dats]
theorem after31 (c : Dev nD) (t : Fin (cfgA T).N) : (dats T m 0 c).after (31 : Fin 37) t = iblk T m c (31 : Fin 37) t := by dsimp only [dats]
theorem after32 (c : Dev nD) (t : Fin (cfgA T).N) : (dats T m 0 c).after (32 : Fin 37) t = iblk T m c (32 : Fin 37) t := by dsimp only [dats]
theorem after33 (c : Dev nD) (t : Fin (cfgA T).N) : (dats T m 0 c).after (33 : Fin 37) t = iblk T m c (33 : Fin 37) t := by dsimp only [dats]
theorem after34 (c : Dev nD) (t : Fin (cfgA T).N) : (dats T m 0 c).after (34 : Fin 37) t = iblk T m c (34 : Fin 37) t := by dsimp only [dats]
theorem after35 (c : Dev nD) (t : Fin (cfgA T).N) : (dats T m 0 c).after (35 : Fin 37) t = iblk T m c (35 : Fin 37) t := by dsimp only [dats]
theorem after36 (c : Dev nD) (t : Fin (cfgA T).N) : (dats T m 0 c).after (36 : Fin 37) t = outp (iblk T m c (0 : Fin 37) t) (iblk T m c (1 : Fin 37) t) (iblk T m c (2 : Fin 37) t) (iblk T m c (3 : Fin 37) t) (iblk T m c (4 : Fin 37) t) (iblk T m c (5 : Fin 37) t) (iblk T m c (6 : Fin 37) t) (iblk T m c (7 : Fin 37) t) (iblk T m c (8 : Fin 37) t) (iblk T m c (9 : Fin 37) t) (iblk T m c (10 : Fin 37) t) (iblk T m c (11 : Fin 37) t) (iblk T m c (12 : Fin 37) t) (iblk T m c (13 : Fin 37) t) (iblk T m c (14 : Fin 37) t) (iblk T m c (15 : Fin 37) t) (iblk T m c (16 : Fin 37) t) (iblk T m c (17 : Fin 37) t) (iblk T m c (18 : Fin 37) t) (iblk T m c (19 : Fin 37) t) (iblk T m c (20 : Fin 37) t) (iblk T m c (21 : Fin 37) t) (iblk T m c (22 : Fin 37) t) (iblk T m c (23 : Fin 37) t) (iblk T m c (24 : Fin 37) t) (iblk T m c (25 : Fin 37) t) (iblk T m c (26 : Fin 37) t) (iblk T m c (27 : Fin 37) t) (iblk T m c (28 : Fin 37) t) (iblk T m c (29 : Fin 37) t) (iblk T m c (30 : Fin 37) t) (iblk T m c (31 : Fin 37) t) (iblk T m c (32 : Fin 37) t) (iblk T m c (33 : Fin 37) t) (iblk T m c (34 : Fin 37) t) (iblk T m c (35 : Fin 37) t) := by dsimp only [dats]

theorem before0 (c : Dev nD) (t : Fin (cfgA T).N) (d) : (dats T m 0 c).before (0 : Fin 37) t d = iblk T m c (0 : Fin 37) t :=
  ((dats T m 0 c).before_in_eq_fetched (0 : Fin 37) rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgA T).N) (d) : (dats T m 0 c).before (1 : Fin 37) t d = iblk T m c (1 : Fin 37) t :=
  ((dats T m 0 c).before_in_eq_fetched (1 : Fin 37) rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgA T).N) (d) : (dats T m 0 c).before (2 : Fin 37) t d = iblk T m c (2 : Fin 37) t :=
  ((dats T m 0 c).before_in_eq_fetched (2 : Fin 37) rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgA T).N) (d) : (dats T m 0 c).before (3 : Fin 37) t d = iblk T m c (3 : Fin 37) t :=
  ((dats T m 0 c).before_in_eq_fetched (3 : Fin 37) rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfgA T).N) (d) : (dats T m 0 c).before (4 : Fin 37) t d = iblk T m c (4 : Fin 37) t :=
  ((dats T m 0 c).before_in_eq_fetched (4 : Fin 37) rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin (cfgA T).N) (d) : (dats T m 0 c).before (5 : Fin 37) t d = iblk T m c (5 : Fin 37) t :=
  ((dats T m 0 c).before_in_eq_fetched (5 : Fin 37) rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin (cfgA T).N) (d) : (dats T m 0 c).before (6 : Fin 37) t d = iblk T m c (6 : Fin 37) t :=
  ((dats T m 0 c).before_in_eq_fetched (6 : Fin 37) rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin (cfgA T).N) (d) : (dats T m 0 c).before (7 : Fin 37) t d = iblk T m c (7 : Fin 37) t :=
  ((dats T m 0 c).before_in_eq_fetched (7 : Fin 37) rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin (cfgA T).N) (d) : (dats T m 0 c).before (8 : Fin 37) t d = iblk T m c (8 : Fin 37) t :=
  ((dats T m 0 c).before_in_eq_fetched (8 : Fin 37) rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin (cfgA T).N) (d) : (dats T m 0 c).before (9 : Fin 37) t d = iblk T m c (9 : Fin 37) t :=
  ((dats T m 0 c).before_in_eq_fetched (9 : Fin 37) rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin (cfgA T).N) (d) : (dats T m 0 c).before (10 : Fin 37) t d = iblk T m c (10 : Fin 37) t :=
  ((dats T m 0 c).before_in_eq_fetched (10 : Fin 37) rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin (cfgA T).N) (d) : (dats T m 0 c).before (11 : Fin 37) t d = iblk T m c (11 : Fin 37) t :=
  ((dats T m 0 c).before_in_eq_fetched (11 : Fin 37) rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin (cfgA T).N) (d) : (dats T m 0 c).before (12 : Fin 37) t d = iblk T m c (12 : Fin 37) t :=
  ((dats T m 0 c).before_in_eq_fetched (12 : Fin 37) rfl (fun _ => rfl) (fun _ _ _ => rfl) (fun t => by rw [after12]; unfold Dat.blockOf iblk; rw [A_eq]; try rfl) t d).trans
    (by unfold Dat.fetched Dat.blockOf iblk; rw [A_eq]; try rfl)
theorem before13 (c : Dev nD) (t : Fin (cfgA T).N) (d) : (dats T m 0 c).before (13 : Fin 37) t d = iblk T m c (13 : Fin 37) t :=
  ((dats T m 0 c).before_in_eq_fetched (13 : Fin 37) rfl (fun _ => rfl) (fun _ _ _ => rfl) (fun t => by rw [after13]; unfold Dat.blockOf iblk; rw [A_eq]; try rfl) t d).trans
    (by unfold Dat.fetched Dat.blockOf iblk; rw [A_eq]; try rfl)
theorem before14 (c : Dev nD) (t : Fin (cfgA T).N) (d) : (dats T m 0 c).before (14 : Fin 37) t d = iblk T m c (14 : Fin 37) t :=
  ((dats T m 0 c).before_in_eq_fetched (14 : Fin 37) rfl (fun _ => rfl) (fun _ _ _ => rfl) (fun t => by rw [after14]; unfold Dat.blockOf iblk; rw [A_eq]; try rfl) t d).trans
    (by unfold Dat.fetched Dat.blockOf iblk; rw [A_eq]; try rfl)
theorem before15 (c : Dev nD) (t : Fin (cfgA T).N) (d) : (dats T m 0 c).before (15 : Fin 37) t d = iblk T m c (15 : Fin 37) t :=
  ((dats T m 0 c).before_in_eq_fetched (15 : Fin 37) rfl (fun _ => rfl) (fun _ _ _ => rfl) (fun t => by rw [after15]; unfold Dat.blockOf iblk; rw [A_eq]; try rfl) t d).trans
    (by unfold Dat.fetched Dat.blockOf iblk; rw [A_eq]; try rfl)
theorem before16 (c : Dev nD) (t : Fin (cfgA T).N) (d) : (dats T m 0 c).before (16 : Fin 37) t d = iblk T m c (16 : Fin 37) t :=
  ((dats T m 0 c).before_in_eq_fetched (16 : Fin 37) rfl (fun _ => rfl) (fun _ _ _ => rfl) (fun t => by rw [after16]; unfold Dat.blockOf iblk; rw [A_eq]; try rfl) t d).trans
    (by unfold Dat.fetched Dat.blockOf iblk; rw [A_eq]; try rfl)
theorem before17 (c : Dev nD) (t : Fin (cfgA T).N) (d) : (dats T m 0 c).before (17 : Fin 37) t d = iblk T m c (17 : Fin 37) t :=
  ((dats T m 0 c).before_in_eq_fetched (17 : Fin 37) rfl (fun _ => rfl) (fun _ _ _ => rfl) (fun t => by rw [after17]; unfold Dat.blockOf iblk; rw [A_eq]; try rfl) t d).trans
    (by unfold Dat.fetched Dat.blockOf iblk; rw [A_eq]; try rfl)
theorem before18 (c : Dev nD) (t : Fin (cfgA T).N) (d) : (dats T m 0 c).before (18 : Fin 37) t d = iblk T m c (18 : Fin 37) t :=
  ((dats T m 0 c).before_in_eq_fetched (18 : Fin 37) rfl (fun _ => rfl) (fun _ _ _ => rfl) (fun t => by rw [after18]; unfold Dat.blockOf iblk; rw [A_eq]; try rfl) t d).trans
    (by unfold Dat.fetched Dat.blockOf iblk; rw [A_eq]; try rfl)
theorem before19 (c : Dev nD) (t : Fin (cfgA T).N) (d) : (dats T m 0 c).before (19 : Fin 37) t d = iblk T m c (19 : Fin 37) t :=
  ((dats T m 0 c).before_in_eq_fetched (19 : Fin 37) rfl (fun _ => rfl) (fun _ _ _ => rfl) (fun t => by rw [after19]; unfold Dat.blockOf iblk; rw [A_eq]; try rfl) t d).trans
    (by unfold Dat.fetched Dat.blockOf iblk; rw [A_eq]; try rfl)
theorem before20 (c : Dev nD) (t : Fin (cfgA T).N) (d) : (dats T m 0 c).before (20 : Fin 37) t d = iblk T m c (20 : Fin 37) t :=
  ((dats T m 0 c).before_in_eq_fetched (20 : Fin 37) rfl (fun _ => rfl) (fun _ _ _ => rfl) (fun t => by rw [after20]; unfold Dat.blockOf iblk; rw [A_eq]; try rfl) t d).trans
    (by unfold Dat.fetched Dat.blockOf iblk; rw [A_eq]; try rfl)
theorem before21 (c : Dev nD) (t : Fin (cfgA T).N) (d) : (dats T m 0 c).before (21 : Fin 37) t d = iblk T m c (21 : Fin 37) t :=
  ((dats T m 0 c).before_in_eq_fetched (21 : Fin 37) rfl (fun _ => rfl) (fun _ _ _ => rfl) (fun t => by rw [after21]; unfold Dat.blockOf iblk; rw [A_eq]; try rfl) t d).trans
    (by unfold Dat.fetched Dat.blockOf iblk; rw [A_eq]; try rfl)
theorem before22 (c : Dev nD) (t : Fin (cfgA T).N) (d) : (dats T m 0 c).before (22 : Fin 37) t d = iblk T m c (22 : Fin 37) t :=
  ((dats T m 0 c).before_in_eq_fetched (22 : Fin 37) rfl (fun _ => rfl) (fun _ _ _ => rfl) (fun t => by rw [after22]; unfold Dat.blockOf iblk; rw [A_eq]; try rfl) t d).trans
    (by unfold Dat.fetched Dat.blockOf iblk; rw [A_eq]; try rfl)
theorem before23 (c : Dev nD) (t : Fin (cfgA T).N) (d) : (dats T m 0 c).before (23 : Fin 37) t d = iblk T m c (23 : Fin 37) t :=
  ((dats T m 0 c).before_in_eq_fetched (23 : Fin 37) rfl (fun _ => rfl) (fun _ _ _ => rfl) (fun t => by rw [after23]; unfold Dat.blockOf iblk; rw [A_eq]; try rfl) t d).trans
    (by unfold Dat.fetched Dat.blockOf iblk; rw [A_eq]; try rfl)
theorem before24 (c : Dev nD) (t : Fin (cfgA T).N) (d) : (dats T m 0 c).before (24 : Fin 37) t d = iblk T m c (24 : Fin 37) t :=
  ((dats T m 0 c).before_in_eq_fetched (24 : Fin 37) rfl (fun _ => rfl) (fun _ _ _ => rfl) (fun t => by rw [after24]; unfold Dat.blockOf iblk; rw [A_eq]; try rfl) t d).trans
    (by unfold Dat.fetched Dat.blockOf iblk; rw [A_eq]; try rfl)
theorem before25 (c : Dev nD) (t : Fin (cfgA T).N) (d) : (dats T m 0 c).before (25 : Fin 37) t d = iblk T m c (25 : Fin 37) t :=
  ((dats T m 0 c).before_in_eq_fetched (25 : Fin 37) rfl (fun _ => rfl) (fun _ _ _ => rfl) (fun t => by rw [after25]; unfold Dat.blockOf iblk; rw [A_eq]; try rfl) t d).trans
    (by unfold Dat.fetched Dat.blockOf iblk; rw [A_eq]; try rfl)
theorem before26 (c : Dev nD) (t : Fin (cfgA T).N) (d) : (dats T m 0 c).before (26 : Fin 37) t d = iblk T m c (26 : Fin 37) t :=
  ((dats T m 0 c).before_in_eq_fetched (26 : Fin 37) rfl (fun _ => rfl) (fun _ _ _ => rfl) (fun t => by rw [after26]; unfold Dat.blockOf iblk; rw [A_eq]; try rfl) t d).trans
    (by unfold Dat.fetched Dat.blockOf iblk; rw [A_eq]; try rfl)
theorem before27 (c : Dev nD) (t : Fin (cfgA T).N) (d) : (dats T m 0 c).before (27 : Fin 37) t d = iblk T m c (27 : Fin 37) t :=
  ((dats T m 0 c).before_in_eq_fetched (27 : Fin 37) rfl (fun _ => rfl) (fun _ _ _ => rfl) (fun t => by rw [after27]; unfold Dat.blockOf iblk; rw [A_eq]; try rfl) t d).trans
    (by unfold Dat.fetched Dat.blockOf iblk; rw [A_eq]; try rfl)
theorem before28 (c : Dev nD) (t : Fin (cfgA T).N) (d) : (dats T m 0 c).before (28 : Fin 37) t d = iblk T m c (28 : Fin 37) t :=
  ((dats T m 0 c).before_in_eq_fetched (28 : Fin 37) rfl (fun _ => rfl) (fun _ _ _ => rfl) (fun t => by rw [after28]; unfold Dat.blockOf iblk; rw [A_eq]; try rfl) t d).trans
    (by unfold Dat.fetched Dat.blockOf iblk; rw [A_eq]; try rfl)
theorem before29 (c : Dev nD) (t : Fin (cfgA T).N) (d) : (dats T m 0 c).before (29 : Fin 37) t d = iblk T m c (29 : Fin 37) t :=
  ((dats T m 0 c).before_in_eq_fetched (29 : Fin 37) rfl (fun _ => rfl) (fun _ _ _ => rfl) (fun t => by rw [after29]; unfold Dat.blockOf iblk; rw [A_eq]; try rfl) t d).trans
    (by unfold Dat.fetched Dat.blockOf iblk; rw [A_eq]; try rfl)
theorem before30 (c : Dev nD) (t : Fin (cfgA T).N) (d) : (dats T m 0 c).before (30 : Fin 37) t d = iblk T m c (30 : Fin 37) t :=
  ((dats T m 0 c).before_in_eq_fetched (30 : Fin 37) rfl (fun _ => rfl) (fun _ _ _ => rfl) (fun t => by rw [after30]; unfold Dat.blockOf iblk; rw [A_eq]; try rfl) t d).trans
    (by unfold Dat.fetched Dat.blockOf iblk; rw [A_eq]; try rfl)
theorem before31 (c : Dev nD) (t : Fin (cfgA T).N) (d) : (dats T m 0 c).before (31 : Fin 37) t d = iblk T m c (31 : Fin 37) t :=
  ((dats T m 0 c).before_in_eq_fetched (31 : Fin 37) rfl (fun _ => rfl) (fun _ _ _ => rfl) (fun t => by rw [after31]; unfold Dat.blockOf iblk; rw [A_eq]; try rfl) t d).trans
    (by unfold Dat.fetched Dat.blockOf iblk; rw [A_eq]; try rfl)
theorem before32 (c : Dev nD) (t : Fin (cfgA T).N) (d) : (dats T m 0 c).before (32 : Fin 37) t d = iblk T m c (32 : Fin 37) t :=
  ((dats T m 0 c).before_in_eq_fetched (32 : Fin 37) rfl (fun _ => rfl) (fun _ _ _ => rfl) (fun t => by rw [after32]; unfold Dat.blockOf iblk; rw [A_eq]; try rfl) t d).trans
    (by unfold Dat.fetched Dat.blockOf iblk; rw [A_eq]; try rfl)
theorem before33 (c : Dev nD) (t : Fin (cfgA T).N) (d) : (dats T m 0 c).before (33 : Fin 37) t d = iblk T m c (33 : Fin 37) t :=
  ((dats T m 0 c).before_in_eq_fetched (33 : Fin 37) rfl (fun _ => rfl) (fun _ _ _ => rfl) (fun t => by rw [after33]; unfold Dat.blockOf iblk; rw [A_eq]; try rfl) t d).trans
    (by unfold Dat.fetched Dat.blockOf iblk; rw [A_eq]; try rfl)
theorem before34 (c : Dev nD) (t : Fin (cfgA T).N) (d) : (dats T m 0 c).before (34 : Fin 37) t d = iblk T m c (34 : Fin 37) t :=
  ((dats T m 0 c).before_in_eq_fetched (34 : Fin 37) rfl (fun _ => rfl) (fun _ _ _ => rfl) (fun t => by rw [after34]; unfold Dat.blockOf iblk; rw [A_eq]; try rfl) t d).trans
    (by unfold Dat.fetched Dat.blockOf iblk; rw [A_eq]; try rfl)
theorem before35 (c : Dev nD) (t : Fin (cfgA T).N) (d) : (dats T m 0 c).before (35 : Fin 37) t d = iblk T m c (35 : Fin 37) t :=
  ((dats T m 0 c).before_in_eq_fetched (35 : Fin 37) rfl (fun _ => rfl) (fun _ _ _ => rfl) (fun t => by rw [after35]; unfold Dat.blockOf iblk; rw [A_eq]; try rfl) t d).trans
    (by unfold Dat.fetched Dat.blockOf iblk; rw [A_eq]; try rfl)

/-- The body at point `t`, as the pipeline calls it. -/
abbrev bodyAt (t : Fin (cfgA T).N) : Prog (TpuEff nD τ sig (Elt Ideal) Λ₀ .tc) PUnit :=
  cc0_compress_paged (crd T t) (Memref.whole main_arg1) (Memref.isWhole_whole _) (st0 T t) (sw0 T t) (st1 T t) (sw1 T t) (st2 T t) (sw2 T t) (st3 T t) (sw3 T t) (st4 T t) (sw4 T t) (st5 T t) (sw5 T t) (st6 T t) (sw6 T t) (st7 T t) (sw7 T t) (st8 T t) (sw8 T t) (st9 T t) (sw9 T t) (st10 T t) (sw10 T t) (st11 T t) (sw11 T t) (st12 T t) (sw12 T t) (st13 T t) (sw13 T t) (st14 T t) (sw14 T t) (st15 T t) (sw15 T t) (st16 T t) (sw16 T t) (st17 T t) (sw17 T t) (st18 T t) (sw18 T t) (st19 T t) (sw19 T t) (st20 T t) (sw20 T t) (st21 T t) (sw21 T t) (st22 T t) (sw22 T t) (st23 T t) (sw23 T t) (st24 T t) (sw24 T t) (st25 T t) (sw25 T t) (st26 T t) (sw26 T t) (st27 T t) (sw27 T t) (st28 T t) (sw28 T t) (st29 T t) (sw29 T t) (st30 T t) (sw30 T t) (st31 T t) (sw31 T t) (st32 T t) (sw32 T t) (st33 T t) (sw33 T t) (st34 T t) (sw34 T t) (st35 T t) (sw35 T t) (st36 T t) (sw36 T t)

/-- What the body is called with at point `t`. -/
def bodyPre (c : Dev nD) (t : Fin (cfgA T).N) : sProp 𝕄 :=
  iprop((dats T m 0 c).Φ t.castSucc ∗ (dats T m 0 c).owesAt () t.castSucc
    ∗ (∃ d, owns (c : Thread nD τ) (st0 T t) fullShare ((dats T m 0 c).before (0 : Fin 37) t d))
    ∗ (∃ d, owns (c : Thread nD τ) (st1 T t) fullShare ((dats T m 0 c).before (1 : Fin 37) t d))
    ∗ (∃ d, owns (c : Thread nD τ) (st2 T t) fullShare ((dats T m 0 c).before (2 : Fin 37) t d))
    ∗ (∃ d, owns (c : Thread nD τ) (st3 T t) fullShare ((dats T m 0 c).before (3 : Fin 37) t d))
    ∗ (∃ d, owns (c : Thread nD τ) (st4 T t) fullShare ((dats T m 0 c).before (4 : Fin 37) t d))
    ∗ (∃ d, owns (c : Thread nD τ) (st5 T t) fullShare ((dats T m 0 c).before (5 : Fin 37) t d))
    ∗ (∃ d, owns (c : Thread nD τ) (st6 T t) fullShare ((dats T m 0 c).before (6 : Fin 37) t d))
    ∗ (∃ d, owns (c : Thread nD τ) (st7 T t) fullShare ((dats T m 0 c).before (7 : Fin 37) t d))
    ∗ (∃ d, owns (c : Thread nD τ) (st8 T t) fullShare ((dats T m 0 c).before (8 : Fin 37) t d))
    ∗ (∃ d, owns (c : Thread nD τ) (st9 T t) fullShare ((dats T m 0 c).before (9 : Fin 37) t d))
    ∗ (∃ d, owns (c : Thread nD τ) (st10 T t) fullShare ((dats T m 0 c).before (10 : Fin 37) t d))
    ∗ (∃ d, owns (c : Thread nD τ) (st11 T t) fullShare ((dats T m 0 c).before (11 : Fin 37) t d))
    ∗ (∃ d, owns (c : Thread nD τ) (st12 T t) fullShare ((dats T m 0 c).before (12 : Fin 37) t d))
    ∗ (∃ d, owns (c : Thread nD τ) (st13 T t) fullShare ((dats T m 0 c).before (13 : Fin 37) t d))
    ∗ (∃ d, owns (c : Thread nD τ) (st14 T t) fullShare ((dats T m 0 c).before (14 : Fin 37) t d))
    ∗ (∃ d, owns (c : Thread nD τ) (st15 T t) fullShare ((dats T m 0 c).before (15 : Fin 37) t d))
    ∗ (∃ d, owns (c : Thread nD τ) (st16 T t) fullShare ((dats T m 0 c).before (16 : Fin 37) t d))
    ∗ (∃ d, owns (c : Thread nD τ) (st17 T t) fullShare ((dats T m 0 c).before (17 : Fin 37) t d))
    ∗ (∃ d, owns (c : Thread nD τ) (st18 T t) fullShare ((dats T m 0 c).before (18 : Fin 37) t d))
    ∗ (∃ d, owns (c : Thread nD τ) (st19 T t) fullShare ((dats T m 0 c).before (19 : Fin 37) t d))
    ∗ (∃ d, owns (c : Thread nD τ) (st20 T t) fullShare ((dats T m 0 c).before (20 : Fin 37) t d))
    ∗ (∃ d, owns (c : Thread nD τ) (st21 T t) fullShare ((dats T m 0 c).before (21 : Fin 37) t d))
    ∗ (∃ d, owns (c : Thread nD τ) (st22 T t) fullShare ((dats T m 0 c).before (22 : Fin 37) t d))
    ∗ (∃ d, owns (c : Thread nD τ) (st23 T t) fullShare ((dats T m 0 c).before (23 : Fin 37) t d))
    ∗ (∃ d, owns (c : Thread nD τ) (st24 T t) fullShare ((dats T m 0 c).before (24 : Fin 37) t d))
    ∗ (∃ d, owns (c : Thread nD τ) (st25 T t) fullShare ((dats T m 0 c).before (25 : Fin 37) t d))
    ∗ (∃ d, owns (c : Thread nD τ) (st26 T t) fullShare ((dats T m 0 c).before (26 : Fin 37) t d))
    ∗ (∃ d, owns (c : Thread nD τ) (st27 T t) fullShare ((dats T m 0 c).before (27 : Fin 37) t d))
    ∗ (∃ d, owns (c : Thread nD τ) (st28 T t) fullShare ((dats T m 0 c).before (28 : Fin 37) t d))
    ∗ (∃ d, owns (c : Thread nD τ) (st29 T t) fullShare ((dats T m 0 c).before (29 : Fin 37) t d))
    ∗ (∃ d, owns (c : Thread nD τ) (st30 T t) fullShare ((dats T m 0 c).before (30 : Fin 37) t d))
    ∗ (∃ d, owns (c : Thread nD τ) (st31 T t) fullShare ((dats T m 0 c).before (31 : Fin 37) t d))
    ∗ (∃ d, owns (c : Thread nD τ) (st32 T t) fullShare ((dats T m 0 c).before (32 : Fin 37) t d))
    ∗ (∃ d, owns (c : Thread nD τ) (st33 T t) fullShare ((dats T m 0 c).before (33 : Fin 37) t d))
    ∗ (∃ d, owns (c : Thread nD τ) (st34 T t) fullShare ((dats T m 0 c).before (34 : Fin 37) t d))
    ∗ (∃ d, owns (c : Thread nD τ) (st35 T t) fullShare ((dats T m 0 c).before (35 : Fin 37) t d))
    ∗ (∃ d, owns (c : Thread nD τ) (st36 T t) fullShare ((dats T m 0 c).before (36 : Fin 37) t d)))

/-- What it returns. -/
def bodyPost (c : Dev nD) (t : Fin (cfgA T).N) : sProp 𝕄 :=
  iprop((dats T m 0 c).Φ t.succ ∗ (dats T m 0 c).owesAt () t.succ
    ∗ owns (c : Thread nD τ) (st0 T t) fullShare ((dats T m 0 c).after (0 : Fin 37) t)
    ∗ owns (c : Thread nD τ) (st1 T t) fullShare ((dats T m 0 c).after (1 : Fin 37) t)
    ∗ owns (c : Thread nD τ) (st2 T t) fullShare ((dats T m 0 c).after (2 : Fin 37) t)
    ∗ owns (c : Thread nD τ) (st3 T t) fullShare ((dats T m 0 c).after (3 : Fin 37) t)
    ∗ owns (c : Thread nD τ) (st4 T t) fullShare ((dats T m 0 c).after (4 : Fin 37) t)
    ∗ owns (c : Thread nD τ) (st5 T t) fullShare ((dats T m 0 c).after (5 : Fin 37) t)
    ∗ owns (c : Thread nD τ) (st6 T t) fullShare ((dats T m 0 c).after (6 : Fin 37) t)
    ∗ owns (c : Thread nD τ) (st7 T t) fullShare ((dats T m 0 c).after (7 : Fin 37) t)
    ∗ owns (c : Thread nD τ) (st8 T t) fullShare ((dats T m 0 c).after (8 : Fin 37) t)
    ∗ owns (c : Thread nD τ) (st9 T t) fullShare ((dats T m 0 c).after (9 : Fin 37) t)
    ∗ owns (c : Thread nD τ) (st10 T t) fullShare ((dats T m 0 c).after (10 : Fin 37) t)
    ∗ owns (c : Thread nD τ) (st11 T t) fullShare ((dats T m 0 c).after (11 : Fin 37) t)
    ∗ owns (c : Thread nD τ) (st12 T t) fullShare ((dats T m 0 c).after (12 : Fin 37) t)
    ∗ owns (c : Thread nD τ) (st13 T t) fullShare ((dats T m 0 c).after (13 : Fin 37) t)
    ∗ owns (c : Thread nD τ) (st14 T t) fullShare ((dats T m 0 c).after (14 : Fin 37) t)
    ∗ owns (c : Thread nD τ) (st15 T t) fullShare ((dats T m 0 c).after (15 : Fin 37) t)
    ∗ owns (c : Thread nD τ) (st16 T t) fullShare ((dats T m 0 c).after (16 : Fin 37) t)
    ∗ owns (c : Thread nD τ) (st17 T t) fullShare ((dats T m 0 c).after (17 : Fin 37) t)
    ∗ owns (c : Thread nD τ) (st18 T t) fullShare ((dats T m 0 c).after (18 : Fin 37) t)
    ∗ owns (c : Thread nD τ) (st19 T t) fullShare ((dats T m 0 c).after (19 : Fin 37) t)
    ∗ owns (c : Thread nD τ) (st20 T t) fullShare ((dats T m 0 c).after (20 : Fin 37) t)
    ∗ owns (c : Thread nD τ) (st21 T t) fullShare ((dats T m 0 c).after (21 : Fin 37) t)
    ∗ owns (c : Thread nD τ) (st22 T t) fullShare ((dats T m 0 c).after (22 : Fin 37) t)
    ∗ owns (c : Thread nD τ) (st23 T t) fullShare ((dats T m 0 c).after (23 : Fin 37) t)
    ∗ owns (c : Thread nD τ) (st24 T t) fullShare ((dats T m 0 c).after (24 : Fin 37) t)
    ∗ owns (c : Thread nD τ) (st25 T t) fullShare ((dats T m 0 c).after (25 : Fin 37) t)
    ∗ owns (c : Thread nD τ) (st26 T t) fullShare ((dats T m 0 c).after (26 : Fin 37) t)
    ∗ owns (c : Thread nD τ) (st27 T t) fullShare ((dats T m 0 c).after (27 : Fin 37) t)
    ∗ owns (c : Thread nD τ) (st28 T t) fullShare ((dats T m 0 c).after (28 : Fin 37) t)
    ∗ owns (c : Thread nD τ) (st29 T t) fullShare ((dats T m 0 c).after (29 : Fin 37) t)
    ∗ owns (c : Thread nD τ) (st30 T t) fullShare ((dats T m 0 c).after (30 : Fin 37) t)
    ∗ owns (c : Thread nD τ) (st31 T t) fullShare ((dats T m 0 c).after (31 : Fin 37) t)
    ∗ owns (c : Thread nD τ) (st32 T t) fullShare ((dats T m 0 c).after (32 : Fin 37) t)
    ∗ owns (c : Thread nD τ) (st33 T t) fullShare ((dats T m 0 c).after (33 : Fin 37) t)
    ∗ owns (c : Thread nD τ) (st34 T t) fullShare ((dats T m 0 c).after (34 : Fin 37) t)
    ∗ owns (c : Thread nD τ) (st35 T t) fullShare ((dats T m 0 c).after (35 : Fin 37) t)
    ∗ owns (c : Thread nD τ) (st36 T t) fullShare ((dats T m 0 c).after (36 : Fin 37) t))

set_option maxHeartbeats 8000000 in
/-- The body at any point. -/
theorem sound_body (c : Dev nD) (t : Fin (cfgA T).N) :
    bodyPre T m c t ⊢ wp frame (wpE (defs₀ (F := Ideal)) Variants.none c none) Set.univ (bodyAt T t) (fun _ => bodyPost T m c t) := by
  unfold bodyPre bodyPost bodyAt
  simp only [before0, before1, before2, before3, before4, before5, before6, before7, before8, before9, before10, before11, before12, before13, before14, before15, before16, before17, before18, before19, before20, before21, before22, before23, before24, before25, before26, before27, before28, before29, before30, before31, before32, before33, before34, before35]
  rw [show (dats T m 0 c).Φ t.succ = (dats T m 0 c).Φ t.castSucc from rfl,
    show (dats T m 0 c).owesAt () t.succ = (dats T m 0 c).owesAt () t.castSucc from rfl,
    after0, after1, after2, after3, after4, after5, after6, after7, after8, after9, after10, after11, after12, after13, after14, after15, after16, after17, after18, after19, after20, after21, after22, after23, after24, after25, after26, after27, after28, after29, after30, after31, after32, after33, after34, after35, after36]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
  iapply (sound_kernel c Set.univ (crd T t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk T m c (0 : Fin 37) t) (iblk T m c (1 : Fin 37) t) (iblk T m c (2 : Fin 37) t) (iblk T m c (3 : Fin 37) t) (iblk T m c (4 : Fin 37) t) (iblk T m c (5 : Fin 37) t) (iblk T m c (6 : Fin 37) t) (iblk T m c (7 : Fin 37) t) (iblk T m c (8 : Fin 37) t) (iblk T m c (9 : Fin 37) t) (iblk T m c (10 : Fin 37) t) (iblk T m c (11 : Fin 37) t) (iblk T m c (12 : Fin 37) t) (iblk T m c (13 : Fin 37) t) (iblk T m c (14 : Fin 37) t) (iblk T m c (15 : Fin 37) t) (iblk T m c (16 : Fin 37) t) (iblk T m c (17 : Fin 37) t) (iblk T m c (18 : Fin 37) t) (iblk T m c (19 : Fin 37) t) (iblk T m c (20 : Fin 37) t) (iblk T m c (21 : Fin 37) t) (iblk T m c (22 : Fin 37) t) (iblk T m c (23 : Fin 37) t) (iblk T m c (24 : Fin 37) t) (iblk T m c (25 : Fin 37) t) (iblk T m c (26 : Fin 37) t) (iblk T m c (27 : Fin 37) t) (iblk T m c (28 : Fin 37) t) (iblk T m c (29 : Fin 37) t) (iblk T m c (30 : Fin 37) t) (iblk T m c (31 : Fin 37) t) (iblk T m c (32 : Fin 37) t) (iblk T m c (33 : Fin 37) t) (iblk T m c (34 : Fin 37) t) (iblk T m c (35 : Fin 37) t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexists _; iexact H36
  iintro ⟨H0, H1, H2, H3, H4, H5, H6, H7, H8, H9, H10, H11, H12, H13, H14, H15, H16, H17, H18, H19, H20, H21, H22, H23, H24, H25, H26, H27, H28, H29, H30, H31, H32, H33, H34, H35, H36⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  iexact H36

theorem body_row (t : Fin (cfgA T).N) :
    defs₀ (F := Ideal) .tc (cfgA T).body ((cfgA T).bodyArgs t ((cfgA T).slots t)) = bodyAt T t := by
  unfold defs₀; rw [Defs.onTc_tc]

set_option maxHeartbeats 8000000 in
/-- The library's body obligation. -/
theorem body_obligation (c : Dev nD) : BodyObligation (dats T m 0 c) (defs₀ (F := Ideal)) Variants.none () Set.univ := fun t => by
  rw [bigSep_W0, bigSep_W0, body_row]
  exact triple_restated (sound_body T m c t) rfl .rfl fun _ => .rfl

/-! ## The run and the frame -/

/-- What every final state is. -/
abbrev Post : PUnit × MemSt nD τ sig (Elt Ideal) → Prop :=
  Pipeline.FramePost (pcs T) (dats T m) 0 (Pipeline.afterTail (pcfgs (F := Ideal)) (fun _ => adm T) (dats T m) 0 (V0 m) [hostOps1])

theorem table_at_launch (hp : Holds T m) (c : Dev nD) (k : Fin 1) : V0 m c (Proc.devRef .tc (pre0.ref k)) = (adm T).1 k := by
  obtain rfl : k = 0 := Subsingleton.elim _ _
  exact (V_arg1 m c).trans (hp c)

set_option backward.isDefEq.respectTransparency.types false in
set_option maxHeartbeats 8000000 in
/-- From a memory that holds `T`, the program runs to its end, leaves `Post`, and leaves every counter at zero. -/
theorem run_main_quiescent (hp : Holds T m) : θ_run (defs (F := Ideal)) (onTc (τ := τ) (main (F := Ideal))) (s₀ m ρ) (fun r => Post T m r ∧ r.2.sem = fun _ => 0) :=
  Pipeline.θ_run_frameP_around_track_shared (Q' := _) (pcfgs (F := Ideal)) (fun _ => adm T) (dats T m) (0 : Fin 1) launch₀0 defs₀ Variants.none m ρ main
    (hbody := fun c => (body_obligation T m c).loose) (hq := fun c w _ => by dsimp only [dats]) (howed := fun _ _ => rfl)
    (V₀ := V0 m) (opss := [hostOps1]) (hsub := sfx_sub) (hfresh := sfx_fresh) (hkeep := sfx_keeps)
    (hmain := hmain m Variants.none) (hA := A_eq T m) (hpf := table_at_launch T m hp)
    (hin := fun c => by
      rw [show (dats T m 0 c).Φ 0 = Pipeline.ΦA spec0 c from rfl]
      iintro ⟨H, -⟩; iexact H)
    (hout := fun c => .rfl)
    (hQ' := fun _ h => h)

theorem run_main (hp : Holds T m) : θ_run (defs (F := Ideal)) (onTc (τ := τ) (main (F := Ideal))) (s₀ m ρ) (Post T m) :=
  (θ_run defs _ _).mono (fun _ h => h.1) (run_main_quiescent T m ρ hp)

/-- `Post` keeps the arguments. -/
theorem Post.unchanged {r : PUnit × MemSt nD τ sig (Elt Ideal)} (h : Post T m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by exact (by decide : ∀ w, Pipeline.arrRef spec0 w ≠ main_arg0)))).trans (W_arg0 T m (dats T m) c), ((h c).2 main_arg1 (Pipeline.mem_restRefs_of main_arg1 (by decide) (by exact (by decide : ∀ w, Pipeline.arrRef spec0 w ≠ main_arg1)))).trans (W_arg1 T m (dats T m) c), ((h c).2 main_arg2 (Pipeline.mem_restRefs_of main_arg2 (by decide) (by exact (by decide : ∀ w, Pipeline.arrRef spec0 w ≠ main_arg2)))).trans (W_arg2 T m (dats T m) c), ((h c).1 (33 : Fin 37)).trans (((dats T m 0 c).arrAt_in (33 : Fin 37) rfl _).trans ((A_eq T m c (33 : Fin 37)).trans (V_arg3 m c))), ((h c).2 main_arg4 (Pipeline.mem_restRefs_of main_arg4 (by decide) (by exact (by decide : ∀ w, Pipeline.arrRef spec0 w ≠ main_arg4)))).trans (W_arg4 T m (dats T m) c), ((h c).2 main_arg5 (Pipeline.mem_restRefs_of main_arg5 (by decide) (by exact (by decide : ∀ w, Pipeline.arrRef spec0 w ≠ main_arg5)))).trans (W_arg5 T m (dats T m) c)⟩

/-- The frame: the program runs to its end, keeps its arguments, and leaves every counter at zero. -/
theorem frame (hp : Holds T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => Post.unchanged T m h.1 c, h.2⟩) (run_main_quiescent T m ρ hp)

end Cert.CompressPagesIdeal.Pages

end
-- ==== Proof.PagesBody.lean ====
/- The summaries of cached pages: what the body stores, from the blocks it reads. -/
module

public import proofs.«01_k».proof.Proof.Gen.CompressPagesIdeal
public import proofs.«01_k».proof.Proof.Gen.CompressPagesIdeal.Skeleton
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.CompressPagesIdeal.Pages

open Cert.CompressPagesIdeal Cert.CompressPagesIdeal.Gen

/-- The first layer over the rows of thirty-two pages laid one below the other. -/
def prod (f : Fin 32 → Vec Ideal S1x1x1x8x1024 .f32) (w : Vec Ideal S1x1024x256 .f32) : FVec Ideal S256x256 .f32 :=
  k0_pay27 (k0_pay2 (f 0)) (k0_pay3 (f 1)) (k0_pay4 (f 2)) (k0_pay5 (f 3)) (k0_pay6 (f 4)) (k0_pay7 (f 5)) (k0_pay8 (f 6)) (k0_pay9 (f 7)) (k0_pay10 (f 8)) (k0_pay11 (f 9)) (k0_pay12 (f 10)) (k0_pay13 (f 11)) (k0_pay14 (f 12)) (k0_pay15 (f 13)) (k0_pay16 (f 14)) (k0_pay17 (f 15)) (k0_pay18 (f 16)) (k0_pay19 (f 17)) (k0_pay20 (f 18)) (k0_pay21 (f 19)) (k0_pay22 (f 20)) (k0_pay23 (f 21)) (k0_pay24 (f 22)) (k0_pay25 (f 23)) (k0_pay26 (f 24)) (f 25) (f 26) (f 27) (f 28) (f 29) (f 30) (f 31) w

theorem fits₀ : Shape.Concatenates ((List.ofFn fun n : Fin 32 => (⟨S8x1024, fun _ => (0 : EReal)⟩ : (s : Shape) × (s.Idx → EReal))).map (·.1)) S256x1024 0 := by
  decide

theorem fits (f : Fin 32 → Vec Ideal S1x1x1x8x1024 .f32) :
    Shape.Concatenates ((List.ofFn fun n : Fin 32 => (⟨S8x1024, shapeCast S8x1024 (f n) shapeCasts_S1x1x1x8x1024_S8x1024⟩ : (s : Shape) × (s.Idx → Ideal .f32))).map (·.1)) S256x1024 0 := fits₀

/-- The pages' rows laid one below the other. -/
def rows (f : Fin 32 → Vec Ideal S1x1x1x8x1024 .f32) : FVec Ideal S256x1024 .f32 :=
  concatenate S256x1024 0 (List.ofFn fun n : Fin 32 => (⟨S8x1024, shapeCast S8x1024 (f n) shapeCasts_S1x1x1x8x1024_S8x1024⟩ : (s : Shape) × (s.Idx → Ideal .f32))) (fits f)

theorem rows_at (f : Fin 32 → Vec Ideal S1x1x1x8x1024 .f32) (r : Fin 256) (k : Fin 1024) :
    rows f (ix2 r k) = f ⟨r.val / 8, by omega⟩ (ix5 0 0 0 ⟨r.val % 8, by omega⟩ k) := by
  unfold rows
  refine (concatenate_ofFn_apply (t := S256x1024) (s₁ := S8x1024) (0 : Fin 2) (fun n : Fin 32 => shapeCast S8x1024 (f n) shapeCasts_S1x1x1x8x1024_S8x1024) (fits f) rfl 8 rfl (ix2 r k)
    ⟨r.val / 8, by omega⟩ rfl (ix2 ⟨r.val % 8, by omega⟩ k) rfl (fun b hb => ?_)).trans ?_
  · match b with
    | ⟨0, _⟩ => exact absurd rfl hb
    | ⟨1, _⟩ => rfl
  · generalize f ⟨r.val / 8, _⟩ = z
    pointwise

theorem prod_eq (f : Fin 32 → Vec Ideal S1x1x1x8x1024 .f32) (w : Vec Ideal S1x1024x256 .f32) :
    prod f w = matmul dot_S256x1024_S1024x256_S256x256_1_0_0_1_n_n none (truncf .bf16 (rows f) bitsLt_bf16_f32)
      (truncf .bf16 (shapeCast S1024x256 w shapeCasts_S1x1024x256_S1024x256) bitsLt_bf16_f32) (constant S256x256 .f32 0x00000000#32) := rfl

/-- An entry of the first layer. -/
theorem prod_at (f : Fin 32 → Vec Ideal S1x1x1x8x1024 .f32) (w : Vec Ideal S1x1024x256 .f32) (r x : Fin 256) :
    (prod f w (ix2 r x) : EReal) = ∑ k : Fin 1024, (f ⟨r.val / 8, by omega⟩ (ix5 0 0 0 ⟨r.val % 8, by omega⟩ k) : EReal) * w (ix3 0 k x) := by
  rw [prod_eq f w]
  have e : ∀ k : Fin 1024, (rows f (ix2 r k) : EReal) = f ⟨r.val / 8, by omega⟩ (ix5 0 0 0 ⟨r.val % 8, by omega⟩ k) := fun k => rows_at f r k
  simp only [← e]
  generalize rows f = R
  pointwise

/-- The second columns of the first layer, each row's taken from the row below. -/
def below (P : FVec Ideal S256x256 .f32) : FVec Ideal S256x128 .f32 :=
  dynamicRotate 0 255#32 none (extractStridedSlice S256x128 ![0, 128] P slices_S256x256_o0_128_S256x128) rotates_S256x128_d0

theorem below_eq (f : Fin 32 → Vec Ideal S1x1x1x8x1024 .f32) (w : Vec Ideal S1x1024x256 .f32) :
    k0_pay28 (k0_pay2 (f 0)) (k0_pay3 (f 1)) (k0_pay4 (f 2)) (k0_pay5 (f 3)) (k0_pay6 (f 4)) (k0_pay7 (f 5)) (k0_pay8 (f 6)) (k0_pay9 (f 7)) (k0_pay10 (f 8)) (k0_pay11 (f 9)) (k0_pay12 (f 10)) (k0_pay13 (f 11)) (k0_pay14 (f 12)) (k0_pay15 (f 13)) (k0_pay16 (f 14)) (k0_pay17 (f 15)) (k0_pay18 (f 16)) (k0_pay19 (f 17)) (k0_pay20 (f 18)) (k0_pay21 (f 19)) (k0_pay22 (f 20)) (k0_pay23 (f 21)) (k0_pay24 (f 22)) (k0_pay25 (f 23)) (k0_pay26 (f 24)) (f 25) (f 26) (f 27) (f 28) (f 29) (f 30) (f 31) w = below (prod f w) := rfl

theorem below_at (P : FVec Ideal S256x256 .f32) (r : Fin 256) (x : Fin 128) :
    below P (ix2 r x) = P (ix2 ⟨(r.val + 256 - 255) % 256, by omega⟩ ⟨128 + x.val, by omega⟩) := by
  pointwise [below]

/-- What the body stores, from its first layer. -/
theorem stored_at (P : FVec Ideal S256x256 .f32) (Q : FVec Ideal S256x128 .f32) (v74 : Vec Ideal S1x1x128 .f32) (v87 : Vec Ideal S1x128x128 .f32) (v91 : Vec Ideal S1x1x128 .f32)
    (s : Fin 2) (n d : Fin 128) (H : Fin 128 → EReal)
    (hH : ∀ x : Fin 128, (P (ix2 ⟨s.val * 128 + n.val, by omega⟩ ⟨x.val, by omega⟩) : EReal) + Q (ix2 ⟨s.val * 128 + n.val, by omega⟩ x) + v74 (ix3 0 0 x) = H x) :
    (k0_pay1 P Q v74 v87 v91 (ix5 0 s 0 n d) : EReal)
      = ∑ x : Fin 128, H x * Ideal.div 1 (1 + Ideal.exp (-H x)) * v87 (ix3 0 x d) + v91 (ix3 0 0 d) := by
  pointwise [k0_pay1]
  refine congrArg (fun s : EReal => s + v91 (ix3 0 0 d)) (Finset.sum_congr rfl fun x _ => ?_)
  rw [hH x, zero_sub]

end Cert.CompressPagesIdeal.Pages

end
-- ==== Proof.PagesBlocks.lean ====
/- The summaries of cached pages: the blocks a point reads and where its result lies. -/
module

public import proofs.«01_k».proof.Proof.PagesLaunch
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.CompressPagesIdeal.Pages

open Cert.CompressPagesIdeal Cert.CompressPagesIdeal.Gen

variable (T : Table) (m : (ℓ : Loc nD τ sig) → Buf (Elt Ideal) ℓ)

/-- A point's coordinates. -/
theorem coord : ∀ t : Fin grid0.N, (grid0.coords t 0).val = t.val / 256 ∧ (grid0.coords t 1).val = t.val / 64 % 4 ∧ (grid0.coords t 2).val = t.val % 64 := by
  decide +kernel

theorem lt512 (t : Fin (cfgA T).N) : t.val < 512 := t.isLt

theorem word0 (t : Fin (cfgA T).N) : (BitVec.ofNat 32 (crd T t 0).val).toNat = t.val / 256 := by
  rw [show (crd T t 0).val = t.val / 256 from (coord t).1, BitVec.toNat_ofNat]
  have := lt512 T t
  omega

theorem word1 (t : Fin (cfgA T).N) : (BitVec.ofNat 32 (crd T t 1).val).toNat = t.val / 64 % 4 := by
  rw [show (crd T t 1).val = t.val / 64 % 4 from (coord t).2.1, BitVec.toNat_ofNat]
  omega

theorem word2 (t : Fin (cfgA T).N) : (BitVec.ofNat 32 (crd T t 2).val).toNat = t.val % 64 := by
  rw [show (crd T t 2).val = t.val % 64 from (coord t).2.2, BitVec.toNat_ofNat]
  omega

theorem even_word : ∀ n : Fin 64, (Scalar.indexCast (Scalar.addi (Scalar.muli (BitVec.ofNat 32 n.val) 2#32) 0#32)).toNat = n.val * 2 + 0 := by decide +kernel
theorem odd_word : ∀ n : Fin 64, (Scalar.indexCast (Scalar.addi (Scalar.muli (BitVec.ofNat 32 n.val) 2#32) 1#32)).toNat = n.val * 2 + 1 := by decide +kernel

theorem seq_even (t : Fin (cfgA T).N) : (Scalar.indexCast (Scalar.addi (Scalar.muli (BitVec.ofNat 32 (crd T t 2).val) 2#32) 0#32)).toNat = t.val % 64 * 2 + 0 := by
  rw [show (crd T t 2).val = t.val % 64 from (coord t).2.2]
  exact even_word ⟨t.val % 64, by omega⟩

theorem seq_odd (t : Fin (cfgA T).N) : (Scalar.indexCast (Scalar.addi (Scalar.muli (BitVec.ofNat 32 (crd T t 2).val) 2#32) 1#32)).toNat = t.val % 64 * 2 + 1 := by
  rw [show (crd T t 2).val = t.val % 64 from (coord t).2.2]
  exact odd_word ⟨t.val % 64, by omega⟩

/-- The half of the keys and values a point works on. -/
abbrev halfOf (t : Fin (cfgA T).N) : Fin 2 := ⟨t.val / 256, by have := lt512 T t; omega⟩
/-- The head it works on. -/
abbrev headOf (t : Fin (cfgA T).N) : Fin 4 := ⟨t.val / 64 % 4, by omega⟩
/-- The page the table names for a point's sequence `s` of two, at place `p`. -/
abbrev pageOf (t : Fin (cfgA T).N) (s : Fin 2) (p : Fin 16) : Fin 2560 := ⟨(T.pages (ix2 ⟨t.val % 64 * 2 + s.val, by omega⟩ p)).toNat, T.lt _⟩

/-- A word read out of the table. -/
theorem word_at (v p : ℕ) (inb) (e : Fin 128) (f : Fin 16) (hv : v = e.val) (hp : p = f.val) :
    (contents T).at 0 (Rect.unit (s := S128x16) ![v, p] S1x1.size inb) numel1_S1x1 = T.pages (ix2 e f) := by
  show T.pages _ = T.pages _
  refine congrArg T.pages (funext fun a => Fin.ext ?_)
  match a with
  | ⟨0, _⟩ => exact hv
  | ⟨1, _⟩ => exact hp

theorem block0 (c : Dev nD) (t : Fin (cfgA T).N) (q : Fin 8) (k : Fin 1024) :
    iblk T m c (0 : Fin 37) t (ix5 0 0 0 q k) = V m c main_v2 (ix5 (halfOf T t) (headOf T t) (pageOf T t 0 0) q k) := by
  unfold iblk
  blk_simp
  refine congrArg (V m c main_v2) (funext fun a => Fin.ext ?_)
  match a with
  | ⟨0, _⟩ => exact (((cfgA T).win (0 : Fin 37)).rect_emb_val t (ix5 0 0 0 q k) 0).trans ((congrArg (fun z => z * 1 + 0) (word0 T t)).trans (Nat.mul_one _))
  | ⟨1, _⟩ => exact (((cfgA T).win (0 : Fin 37)).rect_emb_val t (ix5 0 0 0 q k) 1).trans ((congrArg (fun z => z * 1 + 0) (word1 T t)).trans (Nat.mul_one _))
  | ⟨2, _⟩ => exact (((cfgA T).win (0 : Fin 37)).rect_emb_val t (ix5 0 0 0 q k) 2).trans ((congrArg (fun z : BitVec 32 => z.toNat * 1 + 0) (word_at T _ _ (k0_off1_inb (crd T t) 0) ⟨t.val % 64 * 2 + 0, by omega⟩ 0 (seq_even T t) rfl)).trans (Nat.mul_one _))
  | ⟨3, _⟩ => exact (((cfgA T).win (0 : Fin 37)).rect_emb_val t (ix5 0 0 0 q k) 3).trans ((congrArg (fun z => z + q.val) (Nat.zero_mul 8)).trans (Nat.zero_add _))
  | ⟨4, _⟩ => exact (((cfgA T).win (0 : Fin 37)).rect_emb_val t (ix5 0 0 0 q k) 4).trans ((congrArg (fun z => z + k.val) (Nat.zero_mul 1024)).trans (Nat.zero_add _))

theorem block1 (c : Dev nD) (t : Fin (cfgA T).N) (q : Fin 8) (k : Fin 1024) :
    iblk T m c (1 : Fin 37) t (ix5 0 0 0 q k) = V m c main_v2 (ix5 (halfOf T t) (headOf T t) (pageOf T t 0 1) q k) := by
  unfold iblk
  blk_simp
  refine congrArg (V m c main_v2) (funext fun a => Fin.ext ?_)
  match a with
  | ⟨0, _⟩ => exact (((cfgA T).win (1 : Fin 37)).rect_emb_val t (ix5 0 0 0 q k) 0).trans ((congrArg (fun z => z * 1 + 0) (word0 T t)).trans (Nat.mul_one _))
  | ⟨1, _⟩ => exact (((cfgA T).win (1 : Fin 37)).rect_emb_val t (ix5 0 0 0 q k) 1).trans ((congrArg (fun z => z * 1 + 0) (word1 T t)).trans (Nat.mul_one _))
  | ⟨2, _⟩ => exact (((cfgA T).win (1 : Fin 37)).rect_emb_val t (ix5 0 0 0 q k) 2).trans ((congrArg (fun z : BitVec 32 => z.toNat * 1 + 0) (word_at T _ _ (k0_off2_inb (crd T t) 0) ⟨t.val % 64 * 2 + 0, by omega⟩ 1 (seq_even T t) rfl)).trans (Nat.mul_one _))
  | ⟨3, _⟩ => exact (((cfgA T).win (1 : Fin 37)).rect_emb_val t (ix5 0 0 0 q k) 3).trans ((congrArg (fun z => z + q.val) (Nat.zero_mul 8)).trans (Nat.zero_add _))
  | ⟨4, _⟩ => exact (((cfgA T).win (1 : Fin 37)).rect_emb_val t (ix5 0 0 0 q k) 4).trans ((congrArg (fun z => z + k.val) (Nat.zero_mul 1024)).trans (Nat.zero_add _))

theorem block2 (c : Dev nD) (t : Fin (cfgA T).N) (q : Fin 8) (k : Fin 1024) :
    iblk T m c (2 : Fin 37) t (ix5 0 0 0 q k) = V m c main_v2 (ix5 (halfOf T t) (headOf T t) (pageOf T t 0 2) q k) := by
  unfold iblk
  blk_simp
  refine congrArg (V m c main_v2) (funext fun a => Fin.ext ?_)
  match a with
  | ⟨0, _⟩ => exact (((cfgA T).win (2 : Fin 37)).rect_emb_val t (ix5 0 0 0 q k) 0).trans ((congrArg (fun z => z * 1 + 0) (word0 T t)).trans (Nat.mul_one _))
  | ⟨1, _⟩ => exact (((cfgA T).win (2 : Fin 37)).rect_emb_val t (ix5 0 0 0 q k) 1).trans ((congrArg (fun z => z * 1 + 0) (word1 T t)).trans (Nat.mul_one _))
  | ⟨2, _⟩ => exact (((cfgA T).win (2 : Fin 37)).rect_emb_val t (ix5 0 0 0 q k) 2).trans ((congrArg (fun z : BitVec 32 => z.toNat * 1 + 0) (word_at T _ _ (k0_off3_inb (crd T t) 0) ⟨t.val % 64 * 2 + 0, by omega⟩ 2 (seq_even T t) rfl)).trans (Nat.mul_one _))
  | ⟨3, _⟩ => exact (((cfgA T).win (2 : Fin 37)).rect_emb_val t (ix5 0 0 0 q k) 3).trans ((congrArg (fun z => z + q.val) (Nat.zero_mul 8)).trans (Nat.zero_add _))
  | ⟨4, _⟩ => exact (((cfgA T).win (2 : Fin 37)).rect_emb_val t (ix5 0 0 0 q k) 4).trans ((congrArg (fun z => z + k.val) (Nat.zero_mul 1024)).trans (Nat.zero_add _))

theorem block3 (c : Dev nD) (t : Fin (cfgA T).N) (q : Fin 8) (k : Fin 1024) :
    iblk T m c (3 : Fin 37) t (ix5 0 0 0 q k) = V m c main_v2 (ix5 (halfOf T t) (headOf T t) (pageOf T t 0 3) q k) := by
  unfold iblk
  blk_simp
  refine congrArg (V m c main_v2) (funext fun a => Fin.ext ?_)
  match a with
  | ⟨0, _⟩ => exact (((cfgA T).win (3 : Fin 37)).rect_emb_val t (ix5 0 0 0 q k) 0).trans ((congrArg (fun z => z * 1 + 0) (word0 T t)).trans (Nat.mul_one _))
  | ⟨1, _⟩ => exact (((cfgA T).win (3 : Fin 37)).rect_emb_val t (ix5 0 0 0 q k) 1).trans ((congrArg (fun z => z * 1 + 0) (word1 T t)).trans (Nat.mul_one _))
  | ⟨2, _⟩ => exact (((cfgA T).win (3 : Fin 37)).rect_emb_val t (ix5 0 0 0 q k) 2).trans ((congrArg (fun z : BitVec 32 => z.toNat * 1 + 0) (word_at T _ _ (k0_off4_inb (crd T t) 0) ⟨t.val % 64 * 2 + 0, by omega⟩ 3 (seq_even T t) rfl)).trans (Nat.mul_one _))
  | ⟨3, _⟩ => exact (((cfgA T).win (3 : Fin 37)).rect_emb_val t (ix5 0 0 0 q k) 3).trans ((congrArg (fun z => z + q.val) (Nat.zero_mul 8)).trans (Nat.zero_add _))
  | ⟨4, _⟩ => exact (((cfgA T).win (3 : Fin 37)).rect_emb_val t (ix5 0 0 0 q k) 4).trans ((congrArg (fun z => z + k.val) (Nat.zero_mul 1024)).trans (Nat.zero_add _))

theorem block4 (c : Dev nD) (t : Fin (cfgA T).N) (q : Fin 8) (k : Fin 1024) :
    iblk T m c (4 : Fin 37) t (ix5 0 0 0 q k) = V m c main_v2 (ix5 (halfOf T t) (headOf T t) (pageOf T t 0 4) q k) := by
  unfold iblk
  blk_simp
  refine congrArg (V m c main_v2) (funext fun a => Fin.ext ?_)
  match a with
  | ⟨0, _⟩ => exact (((cfgA T).win (4 : Fin 37)).rect_emb_val t (ix5 0 0 0 q k) 0).trans ((congrArg (fun z => z * 1 + 0) (word0 T t)).trans (Nat.mul_one _))
  | ⟨1, _⟩ => exact (((cfgA T).win (4 : Fin 37)).rect_emb_val t (ix5 0 0 0 q k) 1).trans ((congrArg (fun z => z * 1 + 0) (word1 T t)).trans (Nat.mul_one _))
  | ⟨2, _⟩ => exact (((cfgA T).win (4 : Fin 37)).rect_emb_val t (ix5 0 0 0 q k) 2).trans ((congrArg (fun z : BitVec 32 => z.toNat * 1 + 0) (word_at T _ _ (k0_off5_inb (crd T t) 0) ⟨t.val % 64 * 2 + 0, by omega⟩ 4 (seq_even T t) rfl)).trans (Nat.mul_one _))
  | ⟨3, _⟩ => exact (((cfgA T).win (4 : Fin 37)).rect_emb_val t (ix5 0 0 0 q k) 3).trans ((congrArg (fun z => z + q.val) (Nat.zero_mul 8)).trans (Nat.zero_add _))
  | ⟨4, _⟩ => exact (((cfgA T).win (4 : Fin 37)).rect_emb_val t (ix5 0 0 0 q k) 4).trans ((congrArg (fun z => z + k.val) (Nat.zero_mul 1024)).trans (Nat.zero_add _))

theorem block5 (c : Dev nD) (t : Fin (cfgA T).N) (q : Fin 8) (k : Fin 1024) :
    iblk T m c (5 : Fin 37) t (ix5 0 0 0 q k) = V m c main_v2 (ix5 (halfOf T t) (headOf T t) (pageOf T t 0 5) q k) := by
  unfold iblk
  blk_simp
  refine congrArg (V m c main_v2) (funext fun a => Fin.ext ?_)
  match a with
  | ⟨0, _⟩ => exact (((cfgA T).win (5 : Fin 37)).rect_emb_val t (ix5 0 0 0 q k) 0).trans ((congrArg (fun z => z * 1 + 0) (word0 T t)).trans (Nat.mul_one _))
  | ⟨1, _⟩ => exact (((cfgA T).win (5 : Fin 37)).rect_emb_val t (ix5 0 0 0 q k) 1).trans ((congrArg (fun z => z * 1 + 0) (word1 T t)).trans (Nat.mul_one _))
  | ⟨2, _⟩ => exact (((cfgA T).win (5 : Fin 37)).rect_emb_val t (ix5 0 0 0 q k) 2).trans ((congrArg (fun z : BitVec 32 => z.toNat * 1 + 0) (word_at T _ _ (k0_off6_inb (crd T t) 0) ⟨t.val % 64 * 2 + 0, by omega⟩ 5 (seq_even T t) rfl)).trans (Nat.mul_one _))
  | ⟨3, _⟩ => exact (((cfgA T).win (5 : Fin 37)).rect_emb_val t (ix5 0 0 0 q k) 3).trans ((congrArg (fun z => z + q.val) (Nat.zero_mul 8)).trans (Nat.zero_add _))
  | ⟨4, _⟩ => exact (((cfgA T).win (5 : Fin 37)).rect_emb_val t (ix5 0 0 0 q k) 4).trans ((congrArg (fun z => z + k.val) (Nat.zero_mul 1024)).trans (Nat.zero_add _))

theorem block6 (c : Dev nD) (t : Fin (cfgA T).N) (q : Fin 8) (k : Fin 1024) :
    iblk T m c (6 : Fin 37) t (ix5 0 0 0 q k) = V m c main_v2 (ix5 (halfOf T t) (headOf T t) (pageOf T t 0 6) q k) := by
  unfold iblk
  blk_simp
  refine congrArg (V m c main_v2) (funext fun a => Fin.ext ?_)
  match a with
  | ⟨0, _⟩ => exact (((cfgA T).win (6 : Fin 37)).rect_emb_val t (ix5 0 0 0 q k) 0).trans ((congrArg (fun z => z * 1 + 0) (word0 T t)).trans (Nat.mul_one _))
  | ⟨1, _⟩ => exact (((cfgA T).win (6 : Fin 37)).rect_emb_val t (ix5 0 0 0 q k) 1).trans ((congrArg (fun z => z * 1 + 0) (word1 T t)).trans (Nat.mul_one _))
  | ⟨2, _⟩ => exact (((cfgA T).win (6 : Fin 37)).rect_emb_val t (ix5 0 0 0 q k) 2).trans ((congrArg (fun z : BitVec 32 => z.toNat * 1 + 0) (word_at T _ _ (k0_off7_inb (crd T t) 0) ⟨t.val % 64 * 2 + 0, by omega⟩ 6 (seq_even T t) rfl)).trans (Nat.mul_one _))
  | ⟨3, _⟩ => exact (((cfgA T).win (6 : Fin 37)).rect_emb_val t (ix5 0 0 0 q k) 3).trans ((congrArg (fun z => z + q.val) (Nat.zero_mul 8)).trans (Nat.zero_add _))
  | ⟨4, _⟩ => exact (((cfgA T).win (6 : Fin 37)).rect_emb_val t (ix5 0 0 0 q k) 4).trans ((congrArg (fun z => z + k.val) (Nat.zero_mul 1024)).trans (Nat.zero_add _))

theorem block7 (c : Dev nD) (t : Fin (cfgA T).N) (q : Fin 8) (k : Fin 1024) :
    iblk T m c (7 : Fin 37) t (ix5 0 0 0 q k) = V m c main_v2 (ix5 (halfOf T t) (headOf T t) (pageOf T t 0 7) q k) := by
  unfold iblk
  blk_simp
  refine congrArg (V m c main_v2) (funext fun a => Fin.ext ?_)
  match a with
  | ⟨0, _⟩ => exact (((cfgA T).win (7 : Fin 37)).rect_emb_val t (ix5 0 0 0 q k) 0).trans ((congrArg (fun z => z * 1 + 0) (word0 T t)).trans (Nat.mul_one _))
  | ⟨1, _⟩ => exact (((cfgA T).win (7 : Fin 37)).rect_emb_val t (ix5 0 0 0 q k) 1).trans ((congrArg (fun z => z * 1 + 0) (word1 T t)).trans (Nat.mul_one _))
  | ⟨2, _⟩ => exact (((cfgA T).win (7 : Fin 37)).rect_emb_val t (ix5 0 0 0 q k) 2).trans ((congrArg (fun z : BitVec 32 => z.toNat * 1 + 0) (word_at T _ _ (k0_off8_inb (crd T t) 0) ⟨t.val % 64 * 2 + 0, by omega⟩ 7 (seq_even T t) rfl)).trans (Nat.mul_one _))
  | ⟨3, _⟩ => exact (((cfgA T).win (7 : Fin 37)).rect_emb_val t (ix5 0 0 0 q k) 3).trans ((congrArg (fun z => z + q.val) (Nat.zero_mul 8)).trans (Nat.zero_add _))
  | ⟨4, _⟩ => exact (((cfgA T).win (7 : Fin 37)).rect_emb_val t (ix5 0 0 0 q k) 4).trans ((congrArg (fun z => z + k.val) (Nat.zero_mul 1024)).trans (Nat.zero_add _))

theorem block8 (c : Dev nD) (t : Fin (cfgA T).N) (q : Fin 8) (k : Fin 1024) :
    iblk T m c (8 : Fin 37) t (ix5 0 0 0 q k) = V m c main_v2 (ix5 (halfOf T t) (headOf T t) (pageOf T t 0 8) q k) := by
  unfold iblk
  blk_simp
  refine congrArg (V m c main_v2) (funext fun a => Fin.ext ?_)
  match a with
  | ⟨0, _⟩ => exact (((cfgA T).win (8 : Fin 37)).rect_emb_val t (ix5 0 0 0 q k) 0).trans ((congrArg (fun z => z * 1 + 0) (word0 T t)).trans (Nat.mul_one _))
  | ⟨1, _⟩ => exact (((cfgA T).win (8 : Fin 37)).rect_emb_val t (ix5 0 0 0 q k) 1).trans ((congrArg (fun z => z * 1 + 0) (word1 T t)).trans (Nat.mul_one _))
  | ⟨2, _⟩ => exact (((cfgA T).win (8 : Fin 37)).rect_emb_val t (ix5 0 0 0 q k) 2).trans ((congrArg (fun z : BitVec 32 => z.toNat * 1 + 0) (word_at T _ _ (k0_off9_inb (crd T t) 0) ⟨t.val % 64 * 2 + 0, by omega⟩ 8 (seq_even T t) rfl)).trans (Nat.mul_one _))
  | ⟨3, _⟩ => exact (((cfgA T).win (8 : Fin 37)).rect_emb_val t (ix5 0 0 0 q k) 3).trans ((congrArg (fun z => z + q.val) (Nat.zero_mul 8)).trans (Nat.zero_add _))
  | ⟨4, _⟩ => exact (((cfgA T).win (8 : Fin 37)).rect_emb_val t (ix5 0 0 0 q k) 4).trans ((congrArg (fun z => z + k.val) (Nat.zero_mul 1024)).trans (Nat.zero_add _))

theorem block9 (c : Dev nD) (t : Fin (cfgA T).N) (q : Fin 8) (k : Fin 1024) :
    iblk T m c (9 : Fin 37) t (ix5 0 0 0 q k) = V m c main_v2 (ix5 (halfOf T t) (headOf T t) (pageOf T t 0 9) q k) := by
  unfold iblk
  blk_simp
  refine congrArg (V m c main_v2) (funext fun a => Fin.ext ?_)
  match a with
  | ⟨0, _⟩ => exact (((cfgA T).win (9 : Fin 37)).rect_emb_val t (ix5 0 0 0 q k) 0).trans ((congrArg (fun z => z * 1 + 0) (word0 T t)).trans (Nat.mul_one _))
  | ⟨1, _⟩ => exact (((cfgA T).win (9 : Fin 37)).rect_emb_val t (ix5 0 0 0 q k) 1).trans ((congrArg (fun z => z * 1 + 0) (word1 T t)).trans (Nat.mul_one _))
  | ⟨2, _⟩ => exact (((cfgA T).win (9 : Fin 37)).rect_emb_val t (ix5 0 0 0 q k) 2).trans ((congrArg (fun z : BitVec 32 => z.toNat * 1 + 0) (word_at T _ _ (k0_off10_inb (crd T t) 0) ⟨t.val % 64 * 2 + 0, by omega⟩ 9 (seq_even T t) rfl)).trans (Nat.mul_one _))
  | ⟨3, _⟩ => exact (((cfgA T).win (9 : Fin 37)).rect_emb_val t (ix5 0 0 0 q k) 3).trans ((congrArg (fun z => z + q.val) (Nat.zero_mul 8)).trans (Nat.zero_add _))
  | ⟨4, _⟩ => exact (((cfgA T).win (9 : Fin 37)).rect_emb_val t (ix5 0 0 0 q k) 4).trans ((congrArg (fun z => z + k.val) (Nat.zero_mul 1024)).trans (Nat.zero_add _))

theorem block10 (c : Dev nD) (t : Fin (cfgA T).N) (q : Fin 8) (k : Fin 1024) :
    iblk T m c (10 : Fin 37) t (ix5 0 0 0 q k) = V m c main_v2 (ix5 (halfOf T t) (headOf T t) (pageOf T t 0 10) q k) := by
  unfold iblk
  blk_simp
  refine congrArg (V m c main_v2) (funext fun a => Fin.ext ?_)
  match a with
  | ⟨0, _⟩ => exact (((cfgA T).win (10 : Fin 37)).rect_emb_val t (ix5 0 0 0 q k) 0).trans ((congrArg (fun z => z * 1 + 0) (word0 T t)).trans (Nat.mul_one _))
  | ⟨1, _⟩ => exact (((cfgA T).win (10 : Fin 37)).rect_emb_val t (ix5 0 0 0 q k) 1).trans ((congrArg (fun z => z * 1 + 0) (word1 T t)).trans (Nat.mul_one _))
  | ⟨2, _⟩ => exact (((cfgA T).win (10 : Fin 37)).rect_emb_val t (ix5 0 0 0 q k) 2).trans ((congrArg (fun z : BitVec 32 => z.toNat * 1 + 0) (word_at T _ _ (k0_off11_inb (crd T t) 0) ⟨t.val % 64 * 2 + 0, by omega⟩ 10 (seq_even T t) rfl)).trans (Nat.mul_one _))
  | ⟨3, _⟩ => exact (((cfgA T).win (10 : Fin 37)).rect_emb_val t (ix5 0 0 0 q k) 3).trans ((congrArg (fun z => z + q.val) (Nat.zero_mul 8)).trans (Nat.zero_add _))
  | ⟨4, _⟩ => exact (((cfgA T).win (10 : Fin 37)).rect_emb_val t (ix5 0 0 0 q k) 4).trans ((congrArg (fun z => z + k.val) (Nat.zero_mul 1024)).trans (Nat.zero_add _))

theorem block11 (c : Dev nD) (t : Fin (cfgA T).N) (q : Fin 8) (k : Fin 1024) :
    iblk T m c (11 : Fin 37) t (ix5 0 0 0 q k) = V m c main_v2 (ix5 (halfOf T t) (headOf T t) (pageOf T t 0 11) q k) := by
  unfold iblk
  blk_simp
  refine congrArg (V m c main_v2) (funext fun a => Fin.ext ?_)
  match a with
  | ⟨0, _⟩ => exact (((cfgA T).win (11 : Fin 37)).rect_emb_val t (ix5 0 0 0 q k) 0).trans ((congrArg (fun z => z * 1 + 0) (word0 T t)).trans (Nat.mul_one _))
  | ⟨1, _⟩ => exact (((cfgA T).win (11 : Fin 37)).rect_emb_val t (ix5 0 0 0 q k) 1).trans ((congrArg (fun z => z * 1 + 0) (word1 T t)).trans (Nat.mul_one _))
  | ⟨2, _⟩ => exact (((cfgA T).win (11 : Fin 37)).rect_emb_val t (ix5 0 0 0 q k) 2).trans ((congrArg (fun z : BitVec 32 => z.toNat * 1 + 0) (word_at T _ _ (k0_off12_inb (crd T t) 0) ⟨t.val % 64 * 2 + 0, by omega⟩ 11 (seq_even T t) rfl)).trans (Nat.mul_one _))
  | ⟨3, _⟩ => exact (((cfgA T).win (11 : Fin 37)).rect_emb_val t (ix5 0 0 0 q k) 3).trans ((congrArg (fun z => z + q.val) (Nat.zero_mul 8)).trans (Nat.zero_add _))
  | ⟨4, _⟩ => exact (((cfgA T).win (11 : Fin 37)).rect_emb_val t (ix5 0 0 0 q k) 4).trans ((congrArg (fun z => z + k.val) (Nat.zero_mul 1024)).trans (Nat.zero_add _))

theorem block12 (c : Dev nD) (t : Fin (cfgA T).N) (q : Fin 8) (k : Fin 1024) :
    iblk T m c (12 : Fin 37) t (ix5 0 0 0 q k) = V m c main_v2 (ix5 (halfOf T t) (headOf T t) (pageOf T t 0 12) q k) := by
  unfold iblk
  blk_simp
  refine congrArg (V m c main_v2) (funext fun a => Fin.ext ?_)
  match a with
  | ⟨0, _⟩ => exact (((cfgA T).win (12 : Fin 37)).rect_emb_val t (ix5 0 0 0 q k) 0).trans ((congrArg (fun z => z * 1 + 0) (word0 T t)).trans (Nat.mul_one _))
  | ⟨1, _⟩ => exact (((cfgA T).win (12 : Fin 37)).rect_emb_val t (ix5 0 0 0 q k) 1).trans ((congrArg (fun z => z * 1 + 0) (word1 T t)).trans (Nat.mul_one _))
  | ⟨2, _⟩ => exact (((cfgA T).win (12 : Fin 37)).rect_emb_val t (ix5 0 0 0 q k) 2).trans ((congrArg (fun z : BitVec 32 => z.toNat * 1 + 0) (word_at T _ _ (k0_off13_inb (crd T t) 0) ⟨t.val % 64 * 2 + 0, by omega⟩ 12 (seq_even T t) rfl)).trans (Nat.mul_one _))
  | ⟨3, _⟩ => exact (((cfgA T).win (12 : Fin 37)).rect_emb_val t (ix5 0 0 0 q k) 3).trans ((congrArg (fun z => z + q.val) (Nat.zero_mul 8)).trans (Nat.zero_add _))
  | ⟨4, _⟩ => exact (((cfgA T).win (12 : Fin 37)).rect_emb_val t (ix5 0 0 0 q k) 4).trans ((congrArg (fun z => z + k.val) (Nat.zero_mul 1024)).trans (Nat.zero_add _))

theorem block13 (c : Dev nD) (t : Fin (cfgA T).N) (q : Fin 8) (k : Fin 1024) :
    iblk T m c (13 : Fin 37) t (ix5 0 0 0 q k) = V m c main_v2 (ix5 (halfOf T t) (headOf T t) (pageOf T t 0 13) q k) := by
  unfold iblk
  blk_simp
  refine congrArg (V m c main_v2) (funext fun a => Fin.ext ?_)
  match a with
  | ⟨0, _⟩ => exact (((cfgA T).win (13 : Fin 37)).rect_emb_val t (ix5 0 0 0 q k) 0).trans ((congrArg (fun z => z * 1 + 0) (word0 T t)).trans (Nat.mul_one _))
  | ⟨1, _⟩ => exact (((cfgA T).win (13 : Fin 37)).rect_emb_val t (ix5 0 0 0 q k) 1).trans ((congrArg (fun z => z * 1 + 0) (word1 T t)).trans (Nat.mul_one _))
  | ⟨2, _⟩ => exact (((cfgA T).win (13 : Fin 37)).rect_emb_val t (ix5 0 0 0 q k) 2).trans ((congrArg (fun z : BitVec 32 => z.toNat * 1 + 0) (word_at T _ _ (k0_off14_inb (crd T t) 0) ⟨t.val % 64 * 2 + 0, by omega⟩ 13 (seq_even T t) rfl)).trans (Nat.mul_one _))
  | ⟨3, _⟩ => exact (((cfgA T).win (13 : Fin 37)).rect_emb_val t (ix5 0 0 0 q k) 3).trans ((congrArg (fun z => z + q.val) (Nat.zero_mul 8)).trans (Nat.zero_add _))
  | ⟨4, _⟩ => exact (((cfgA T).win (13 : Fin 37)).rect_emb_val t (ix5 0 0 0 q k) 4).trans ((congrArg (fun z => z + k.val) (Nat.zero_mul 1024)).trans (Nat.zero_add _))

theorem block14 (c : Dev nD) (t : Fin (cfgA T).N) (q : Fin 8) (k : Fin 1024) :
    iblk T m c (14 : Fin 37) t (ix5 0 0 0 q k) = V m c main_v2 (ix5 (halfOf T t) (headOf T t) (pageOf T t 0 14) q k) := by
  unfold iblk
  blk_simp
  refine congrArg (V m c main_v2) (funext fun a => Fin.ext ?_)
  match a with
  | ⟨0, _⟩ => exact (((cfgA T).win (14 : Fin 37)).rect_emb_val t (ix5 0 0 0 q k) 0).trans ((congrArg (fun z => z * 1 + 0) (word0 T t)).trans (Nat.mul_one _))
  | ⟨1, _⟩ => exact (((cfgA T).win (14 : Fin 37)).rect_emb_val t (ix5 0 0 0 q k) 1).trans ((congrArg (fun z => z * 1 + 0) (word1 T t)).trans (Nat.mul_one _))
  | ⟨2, _⟩ => exact (((cfgA T).win (14 : Fin 37)).rect_emb_val t (ix5 0 0 0 q k) 2).trans ((congrArg (fun z : BitVec 32 => z.toNat * 1 + 0) (word_at T _ _ (k0_off15_inb (crd T t) 0) ⟨t.val % 64 * 2 + 0, by omega⟩ 14 (seq_even T t) rfl)).trans (Nat.mul_one _))
  | ⟨3, _⟩ => exact (((cfgA T).win (14 : Fin 37)).rect_emb_val t (ix5 0 0 0 q k) 3).trans ((congrArg (fun z => z + q.val) (Nat.zero_mul 8)).trans (Nat.zero_add _))
  | ⟨4, _⟩ => exact (((cfgA T).win (14 : Fin 37)).rect_emb_val t (ix5 0 0 0 q k) 4).trans ((congrArg (fun z => z + k.val) (Nat.zero_mul 1024)).trans (Nat.zero_add _))

theorem block15 (c : Dev nD) (t : Fin (cfgA T).N) (q : Fin 8) (k : Fin 1024) :
    iblk T m c (15 : Fin 37) t (ix5 0 0 0 q k) = V m c main_v2 (ix5 (halfOf T t) (headOf T t) (pageOf T t 0 15) q k) := by
  unfold iblk
  blk_simp
  refine congrArg (V m c main_v2) (funext fun a => Fin.ext ?_)
  match a with
  | ⟨0, _⟩ => exact (((cfgA T).win (15 : Fin 37)).rect_emb_val t (ix5 0 0 0 q k) 0).trans ((congrArg (fun z => z * 1 + 0) (word0 T t)).trans (Nat.mul_one _))
  | ⟨1, _⟩ => exact (((cfgA T).win (15 : Fin 37)).rect_emb_val t (ix5 0 0 0 q k) 1).trans ((congrArg (fun z => z * 1 + 0) (word1 T t)).trans (Nat.mul_one _))
  | ⟨2, _⟩ => exact (((cfgA T).win (15 : Fin 37)).rect_emb_val t (ix5 0 0 0 q k) 2).trans ((congrArg (fun z : BitVec 32 => z.toNat * 1 + 0) (word_at T _ _ (k0_off16_inb (crd T t) 0) ⟨t.val % 64 * 2 + 0, by omega⟩ 15 (seq_even T t) rfl)).trans (Nat.mul_one _))
  | ⟨3, _⟩ => exact (((cfgA T).win (15 : Fin 37)).rect_emb_val t (ix5 0 0 0 q k) 3).trans ((congrArg (fun z => z + q.val) (Nat.zero_mul 8)).trans (Nat.zero_add _))
  | ⟨4, _⟩ => exact (((cfgA T).win (15 : Fin 37)).rect_emb_val t (ix5 0 0 0 q k) 4).trans ((congrArg (fun z => z + k.val) (Nat.zero_mul 1024)).trans (Nat.zero_add _))

theorem block16 (c : Dev nD) (t : Fin (cfgA T).N) (q : Fin 8) (k : Fin 1024) :
    iblk T m c (16 : Fin 37) t (ix5 0 0 0 q k) = V m c main_v2 (ix5 (halfOf T t) (headOf T t) (pageOf T t 1 0) q k) := by
  unfold iblk
  blk_simp
  refine congrArg (V m c main_v2) (funext fun a => Fin.ext ?_)
  match a with
  | ⟨0, _⟩ => exact (((cfgA T).win (16 : Fin 37)).rect_emb_val t (ix5 0 0 0 q k) 0).trans ((congrArg (fun z => z * 1 + 0) (word0 T t)).trans (Nat.mul_one _))
  | ⟨1, _⟩ => exact (((cfgA T).win (16 : Fin 37)).rect_emb_val t (ix5 0 0 0 q k) 1).trans ((congrArg (fun z => z * 1 + 0) (word1 T t)).trans (Nat.mul_one _))
  | ⟨2, _⟩ => exact (((cfgA T).win (16 : Fin 37)).rect_emb_val t (ix5 0 0 0 q k) 2).trans ((congrArg (fun z : BitVec 32 => z.toNat * 1 + 0) (word_at T _ _ (k0_off1_inb (crd T t) 1) ⟨t.val % 64 * 2 + 1, by omega⟩ 0 (seq_odd T t) rfl)).trans (Nat.mul_one _))
  | ⟨3, _⟩ => exact (((cfgA T).win (16 : Fin 37)).rect_emb_val t (ix5 0 0 0 q k) 3).trans ((congrArg (fun z => z + q.val) (Nat.zero_mul 8)).trans (Nat.zero_add _))
  | ⟨4, _⟩ => exact (((cfgA T).win (16 : Fin 37)).rect_emb_val t (ix5 0 0 0 q k) 4).trans ((congrArg (fun z => z + k.val) (Nat.zero_mul 1024)).trans (Nat.zero_add _))

theorem block17 (c : Dev nD) (t : Fin (cfgA T).N) (q : Fin 8) (k : Fin 1024) :
    iblk T m c (17 : Fin 37) t (ix5 0 0 0 q k) = V m c main_v2 (ix5 (halfOf T t) (headOf T t) (pageOf T t 1 1) q k) := by
  unfold iblk
  blk_simp
  refine congrArg (V m c main_v2) (funext fun a => Fin.ext ?_)
  match a with
  | ⟨0, _⟩ => exact (((cfgA T).win (17 : Fin 37)).rect_emb_val t (ix5 0 0 0 q k) 0).trans ((congrArg (fun z => z * 1 + 0) (word0 T t)).trans (Nat.mul_one _))
  | ⟨1, _⟩ => exact (((cfgA T).win (17 : Fin 37)).rect_emb_val t (ix5 0 0 0 q k) 1).trans ((congrArg (fun z => z * 1 + 0) (word1 T t)).trans (Nat.mul_one _))
  | ⟨2, _⟩ => exact (((cfgA T).win (17 : Fin 37)).rect_emb_val t (ix5 0 0 0 q k) 2).trans ((congrArg (fun z : BitVec 32 => z.toNat * 1 + 0) (word_at T _ _ (k0_off2_inb (crd T t) 1) ⟨t.val % 64 * 2 + 1, by omega⟩ 1 (seq_odd T t) rfl)).trans (Nat.mul_one _))
  | ⟨3, _⟩ => exact (((cfgA T).win (17 : Fin 37)).rect_emb_val t (ix5 0 0 0 q k) 3).trans ((congrArg (fun z => z + q.val) (Nat.zero_mul 8)).trans (Nat.zero_add _))
  | ⟨4, _⟩ => exact (((cfgA T).win (17 : Fin 37)).rect_emb_val t (ix5 0 0 0 q k) 4).trans ((congrArg (fun z => z + k.val) (Nat.zero_mul 1024)).trans (Nat.zero_add _))

theorem block18 (c : Dev nD) (t : Fin (cfgA T).N) (q : Fin 8) (k : Fin 1024) :
    iblk T m c (18 : Fin 37) t (ix5 0 0 0 q k) = V m c main_v2 (ix5 (halfOf T t) (headOf T t) (pageOf T t 1 2) q k) := by
  unfold iblk
  blk_simp
  refine congrArg (V m c main_v2) (funext fun a => Fin.ext ?_)
  match a with
  | ⟨0, _⟩ => exact (((cfgA T).win (18 : Fin 37)).rect_emb_val t (ix5 0 0 0 q k) 0).trans ((congrArg (fun z => z * 1 + 0) (word0 T t)).trans (Nat.mul_one _))
  | ⟨1, _⟩ => exact (((cfgA T).win (18 : Fin 37)).rect_emb_val t (ix5 0 0 0 q k) 1).trans ((congrArg (fun z => z * 1 + 0) (word1 T t)).trans (Nat.mul_one _))
  | ⟨2, _⟩ => exact (((cfgA T).win (18 : Fin 37)).rect_emb_val t (ix5 0 0 0 q k) 2).trans ((congrArg (fun z : BitVec 32 => z.toNat * 1 + 0) (word_at T _ _ (k0_off3_inb (crd T t) 1) ⟨t.val % 64 * 2 + 1, by omega⟩ 2 (seq_odd T t) rfl)).trans (Nat.mul_one _))
  | ⟨3, _⟩ => exact (((cfgA T).win (18 : Fin 37)).rect_emb_val t (ix5 0 0 0 q k) 3).trans ((congrArg (fun z => z + q.val) (Nat.zero_mul 8)).trans (Nat.zero_add _))
  | ⟨4, _⟩ => exact (((cfgA T).win (18 : Fin 37)).rect_emb_val t (ix5 0 0 0 q k) 4).trans ((congrArg (fun z => z + k.val) (Nat.zero_mul 1024)).trans (Nat.zero_add _))

theorem block19 (c : Dev nD) (t : Fin (cfgA T).N) (q : Fin 8) (k : Fin 1024) :
    iblk T m c (19 : Fin 37) t (ix5 0 0 0 q k) = V m c main_v2 (ix5 (halfOf T t) (headOf T t) (pageOf T t 1 3) q k) := by
  unfold iblk
  blk_simp
  refine congrArg (V m c main_v2) (funext fun a => Fin.ext ?_)
  match a with
  | ⟨0, _⟩ => exact (((cfgA T).win (19 : Fin 37)).rect_emb_val t (ix5 0 0 0 q k) 0).trans ((congrArg (fun z => z * 1 + 0) (word0 T t)).trans (Nat.mul_one _))
  | ⟨1, _⟩ => exact (((cfgA T).win (19 : Fin 37)).rect_emb_val t (ix5 0 0 0 q k) 1).trans ((congrArg (fun z => z * 1 + 0) (word1 T t)).trans (Nat.mul_one _))
  | ⟨2, _⟩ => exact (((cfgA T).win (19 : Fin 37)).rect_emb_val t (ix5 0 0 0 q k) 2).trans ((congrArg (fun z : BitVec 32 => z.toNat * 1 + 0) (word_at T _ _ (k0_off4_inb (crd T t) 1) ⟨t.val % 64 * 2 + 1, by omega⟩ 3 (seq_odd T t) rfl)).trans (Nat.mul_one _))
  | ⟨3, _⟩ => exact (((cfgA T).win (19 : Fin 37)).rect_emb_val t (ix5 0 0 0 q k) 3).trans ((congrArg (fun z => z + q.val) (Nat.zero_mul 8)).trans (Nat.zero_add _))
  | ⟨4, _⟩ => exact (((cfgA T).win (19 : Fin 37)).rect_emb_val t (ix5 0 0 0 q k) 4).trans ((congrArg (fun z => z + k.val) (Nat.zero_mul 1024)).trans (Nat.zero_add _))

theorem block20 (c : Dev nD) (t : Fin (cfgA T).N) (q : Fin 8) (k : Fin 1024) :
    iblk T m c (20 : Fin 37) t (ix5 0 0 0 q k) = V m c main_v2 (ix5 (halfOf T t) (headOf T t) (pageOf T t 1 4) q k) := by
  unfold iblk
  blk_simp
  refine congrArg (V m c main_v2) (funext fun a => Fin.ext ?_)
  match a with
  | ⟨0, _⟩ => exact (((cfgA T).win (20 : Fin 37)).rect_emb_val t (ix5 0 0 0 q k) 0).trans ((congrArg (fun z => z * 1 + 0) (word0 T t)).trans (Nat.mul_one _))
  | ⟨1, _⟩ => exact (((cfgA T).win (20 : Fin 37)).rect_emb_val t (ix5 0 0 0 q k) 1).trans ((congrArg (fun z => z * 1 + 0) (word1 T t)).trans (Nat.mul_one _))
  | ⟨2, _⟩ => exact (((cfgA T).win (20 : Fin 37)).rect_emb_val t (ix5 0 0 0 q k) 2).trans ((congrArg (fun z : BitVec 32 => z.toNat * 1 + 0) (word_at T _ _ (k0_off5_inb (crd T t) 1) ⟨t.val % 64 * 2 + 1, by omega⟩ 4 (seq_odd T t) rfl)).trans (Nat.mul_one _))
  | ⟨3, _⟩ => exact (((cfgA T).win (20 : Fin 37)).rect_emb_val t (ix5 0 0 0 q k) 3).trans ((congrArg (fun z => z + q.val) (Nat.zero_mul 8)).trans (Nat.zero_add _))
  | ⟨4, _⟩ => exact (((cfgA T).win (20 : Fin 37)).rect_emb_val t (ix5 0 0 0 q k) 4).trans ((congrArg (fun z => z + k.val) (Nat.zero_mul 1024)).trans (Nat.zero_add _))

theorem block21 (c : Dev nD) (t : Fin (cfgA T).N) (q : Fin 8) (k : Fin 1024) :
    iblk T m c (21 : Fin 37) t (ix5 0 0 0 q k) = V m c main_v2 (ix5 (halfOf T t) (headOf T t) (pageOf T t 1 5) q k) := by
  unfold iblk
  blk_simp
  refine congrArg (V m c main_v2) (funext fun a => Fin.ext ?_)
  match a with
  | ⟨0, _⟩ => exact (((cfgA T).win (21 : Fin 37)).rect_emb_val t (ix5 0 0 0 q k) 0).trans ((congrArg (fun z => z * 1 + 0) (word0 T t)).trans (Nat.mul_one _))
  | ⟨1, _⟩ => exact (((cfgA T).win (21 : Fin 37)).rect_emb_val t (ix5 0 0 0 q k) 1).trans ((congrArg (fun z => z * 1 + 0) (word1 T t)).trans (Nat.mul_one _))
  | ⟨2, _⟩ => exact (((cfgA T).win (21 : Fin 37)).rect_emb_val t (ix5 0 0 0 q k) 2).trans ((congrArg (fun z : BitVec 32 => z.toNat * 1 + 0) (word_at T _ _ (k0_off6_inb (crd T t) 1) ⟨t.val % 64 * 2 + 1, by omega⟩ 5 (seq_odd T t) rfl)).trans (Nat.mul_one _))
  | ⟨3, _⟩ => exact (((cfgA T).win (21 : Fin 37)).rect_emb_val t (ix5 0 0 0 q k) 3).trans ((congrArg (fun z => z + q.val) (Nat.zero_mul 8)).trans (Nat.zero_add _))
  | ⟨4, _⟩ => exact (((cfgA T).win (21 : Fin 37)).rect_emb_val t (ix5 0 0 0 q k) 4).trans ((congrArg (fun z => z + k.val) (Nat.zero_mul 1024)).trans (Nat.zero_add _))

theorem block22 (c : Dev nD) (t : Fin (cfgA T).N) (q : Fin 8) (k : Fin 1024) :
    iblk T m c (22 : Fin 37) t (ix5 0 0 0 q k) = V m c main_v2 (ix5 (halfOf T t) (headOf T t) (pageOf T t 1 6) q k) := by
  unfold iblk
  blk_simp
  refine congrArg (V m c main_v2) (funext fun a => Fin.ext ?_)
  match a with
  | ⟨0, _⟩ => exact (((cfgA T).win (22 : Fin 37)).rect_emb_val t (ix5 0 0 0 q k) 0).trans ((congrArg (fun z => z * 1 + 0) (word0 T t)).trans (Nat.mul_one _))
  | ⟨1, _⟩ => exact (((cfgA T).win (22 : Fin 37)).rect_emb_val t (ix5 0 0 0 q k) 1).trans ((congrArg (fun z => z * 1 + 0) (word1 T t)).trans (Nat.mul_one _))
  | ⟨2, _⟩ => exact (((cfgA T).win (22 : Fin 37)).rect_emb_val t (ix5 0 0 0 q k) 2).trans ((congrArg (fun z : BitVec 32 => z.toNat * 1 + 0) (word_at T _ _ (k0_off7_inb (crd T t) 1) ⟨t.val % 64 * 2 + 1, by omega⟩ 6 (seq_odd T t) rfl)).trans (Nat.mul_one _))
  | ⟨3, _⟩ => exact (((cfgA T).win (22 : Fin 37)).rect_emb_val t (ix5 0 0 0 q k) 3).trans ((congrArg (fun z => z + q.val) (Nat.zero_mul 8)).trans (Nat.zero_add _))
  | ⟨4, _⟩ => exact (((cfgA T).win (22 : Fin 37)).rect_emb_val t (ix5 0 0 0 q k) 4).trans ((congrArg (fun z => z + k.val) (Nat.zero_mul 1024)).trans (Nat.zero_add _))

theorem block23 (c : Dev nD) (t : Fin (cfgA T).N) (q : Fin 8) (k : Fin 1024) :
    iblk T m c (23 : Fin 37) t (ix5 0 0 0 q k) = V m c main_v2 (ix5 (halfOf T t) (headOf T t) (pageOf T t 1 7) q k) := by
  unfold iblk
  blk_simp
  refine congrArg (V m c main_v2) (funext fun a => Fin.ext ?_)
  match a with
  | ⟨0, _⟩ => exact (((cfgA T).win (23 : Fin 37)).rect_emb_val t (ix5 0 0 0 q k) 0).trans ((congrArg (fun z => z * 1 + 0) (word0 T t)).trans (Nat.mul_one _))
  | ⟨1, _⟩ => exact (((cfgA T).win (23 : Fin 37)).rect_emb_val t (ix5 0 0 0 q k) 1).trans ((congrArg (fun z => z * 1 + 0) (word1 T t)).trans (Nat.mul_one _))
  | ⟨2, _⟩ => exact (((cfgA T).win (23 : Fin 37)).rect_emb_val t (ix5 0 0 0 q k) 2).trans ((congrArg (fun z : BitVec 32 => z.toNat * 1 + 0) (word_at T _ _ (k0_off8_inb (crd T t) 1) ⟨t.val % 64 * 2 + 1, by omega⟩ 7 (seq_odd T t) rfl)).trans (Nat.mul_one _))
  | ⟨3, _⟩ => exact (((cfgA T).win (23 : Fin 37)).rect_emb_val t (ix5 0 0 0 q k) 3).trans ((congrArg (fun z => z + q.val) (Nat.zero_mul 8)).trans (Nat.zero_add _))
  | ⟨4, _⟩ => exact (((cfgA T).win (23 : Fin 37)).rect_emb_val t (ix5 0 0 0 q k) 4).trans ((congrArg (fun z => z + k.val) (Nat.zero_mul 1024)).trans (Nat.zero_add _))

theorem block24 (c : Dev nD) (t : Fin (cfgA T).N) (q : Fin 8) (k : Fin 1024) :
    iblk T m c (24 : Fin 37) t (ix5 0 0 0 q k) = V m c main_v2 (ix5 (halfOf T t) (headOf T t) (pageOf T t 1 8) q k) := by
  unfold iblk
  blk_simp
  refine congrArg (V m c main_v2) (funext fun a => Fin.ext ?_)
  match a with
  | ⟨0, _⟩ => exact (((cfgA T).win (24 : Fin 37)).rect_emb_val t (ix5 0 0 0 q k) 0).trans ((congrArg (fun z => z * 1 + 0) (word0 T t)).trans (Nat.mul_one _))
  | ⟨1, _⟩ => exact (((cfgA T).win (24 : Fin 37)).rect_emb_val t (ix5 0 0 0 q k) 1).trans ((congrArg (fun z => z * 1 + 0) (word1 T t)).trans (Nat.mul_one _))
  | ⟨2, _⟩ => exact (((cfgA T).win (24 : Fin 37)).rect_emb_val t (ix5 0 0 0 q k) 2).trans ((congrArg (fun z : BitVec 32 => z.toNat * 1 + 0) (word_at T _ _ (k0_off9_inb (crd T t) 1) ⟨t.val % 64 * 2 + 1, by omega⟩ 8 (seq_odd T t) rfl)).trans (Nat.mul_one _))
  | ⟨3, _⟩ => exact (((cfgA T).win (24 : Fin 37)).rect_emb_val t (ix5 0 0 0 q k) 3).trans ((congrArg (fun z => z + q.val) (Nat.zero_mul 8)).trans (Nat.zero_add _))
  | ⟨4, _⟩ => exact (((cfgA T).win (24 : Fin 37)).rect_emb_val t (ix5 0 0 0 q k) 4).trans ((congrArg (fun z => z + k.val) (Nat.zero_mul 1024)).trans (Nat.zero_add _))

theorem block25 (c : Dev nD) (t : Fin (cfgA T).N) (q : Fin 8) (k : Fin 1024) :
    iblk T m c (25 : Fin 37) t (ix5 0 0 0 q k) = V m c main_v2 (ix5 (halfOf T t) (headOf T t) (pageOf T t 1 9) q k) := by
  unfold iblk
  blk_simp
  refine congrArg (V m c main_v2) (funext fun a => Fin.ext ?_)
  match a with
  | ⟨0, _⟩ => exact (((cfgA T).win (25 : Fin 37)).rect_emb_val t (ix5 0 0 0 q k) 0).trans ((congrArg (fun z => z * 1 + 0) (word0 T t)).trans (Nat.mul_one _))
  | ⟨1, _⟩ => exact (((cfgA T).win (25 : Fin 37)).rect_emb_val t (ix5 0 0 0 q k) 1).trans ((congrArg (fun z => z * 1 + 0) (word1 T t)).trans (Nat.mul_one _))
  | ⟨2, _⟩ => exact (((cfgA T).win (25 : Fin 37)).rect_emb_val t (ix5 0 0 0 q k) 2).trans ((congrArg (fun z : BitVec 32 => z.toNat * 1 + 0) (word_at T _ _ (k0_off10_inb (crd T t) 1) ⟨t.val % 64 * 2 + 1, by omega⟩ 9 (seq_odd T t) rfl)).trans (Nat.mul_one _))
  | ⟨3, _⟩ => exact (((cfgA T).win (25 : Fin 37)).rect_emb_val t (ix5 0 0 0 q k) 3).trans ((congrArg (fun z => z + q.val) (Nat.zero_mul 8)).trans (Nat.zero_add _))
  | ⟨4, _⟩ => exact (((cfgA T).win (25 : Fin 37)).rect_emb_val t (ix5 0 0 0 q k) 4).trans ((congrArg (fun z => z + k.val) (Nat.zero_mul 1024)).trans (Nat.zero_add _))

theorem block26 (c : Dev nD) (t : Fin (cfgA T).N) (q : Fin 8) (k : Fin 1024) :
    iblk T m c (26 : Fin 37) t (ix5 0 0 0 q k) = V m c main_v2 (ix5 (halfOf T t) (headOf T t) (pageOf T t 1 10) q k) := by
  unfold iblk
  blk_simp
  refine congrArg (V m c main_v2) (funext fun a => Fin.ext ?_)
  match a with
  | ⟨0, _⟩ => exact (((cfgA T).win (26 : Fin 37)).rect_emb_val t (ix5 0 0 0 q k) 0).trans ((congrArg (fun z => z * 1 + 0) (word0 T t)).trans (Nat.mul_one _))
  | ⟨1, _⟩ => exact (((cfgA T).win (26 : Fin 37)).rect_emb_val t (ix5 0 0 0 q k) 1).trans ((congrArg (fun z => z * 1 + 0) (word1 T t)).trans (Nat.mul_one _))
  | ⟨2, _⟩ => exact (((cfgA T).win (26 : Fin 37)).rect_emb_val t (ix5 0 0 0 q k) 2).trans ((congrArg (fun z : BitVec 32 => z.toNat * 1 + 0) (word_at T _ _ (k0_off11_inb (crd T t) 1) ⟨t.val % 64 * 2 + 1, by omega⟩ 10 (seq_odd T t) rfl)).trans (Nat.mul_one _))
  | ⟨3, _⟩ => exact (((cfgA T).win (26 : Fin 37)).rect_emb_val t (ix5 0 0 0 q k) 3).trans ((congrArg (fun z => z + q.val) (Nat.zero_mul 8)).trans (Nat.zero_add _))
  | ⟨4, _⟩ => exact (((cfgA T).win (26 : Fin 37)).rect_emb_val t (ix5 0 0 0 q k) 4).trans ((congrArg (fun z => z + k.val) (Nat.zero_mul 1024)).trans (Nat.zero_add _))

theorem block27 (c : Dev nD) (t : Fin (cfgA T).N) (q : Fin 8) (k : Fin 1024) :
    iblk T m c (27 : Fin 37) t (ix5 0 0 0 q k) = V m c main_v2 (ix5 (halfOf T t) (headOf T t) (pageOf T t 1 11) q k) := by
  unfold iblk
  blk_simp
  refine congrArg (V m c main_v2) (funext fun a => Fin.ext ?_)
  match a with
  | ⟨0, _⟩ => exact (((cfgA T).win (27 : Fin 37)).rect_emb_val t (ix5 0 0 0 q k) 0).trans ((congrArg (fun z => z * 1 + 0) (word0 T t)).trans (Nat.mul_one _))
  | ⟨1, _⟩ => exact (((cfgA T).win (27 : Fin 37)).rect_emb_val t (ix5 0 0 0 q k) 1).trans ((congrArg (fun z => z * 1 + 0) (word1 T t)).trans (Nat.mul_one _))
  | ⟨2, _⟩ => exact (((cfgA T).win (27 : Fin 37)).rect_emb_val t (ix5 0 0 0 q k) 2).trans ((congrArg (fun z : BitVec 32 => z.toNat * 1 + 0) (word_at T _ _ (k0_off12_inb (crd T t) 1) ⟨t.val % 64 * 2 + 1, by omega⟩ 11 (seq_odd T t) rfl)).trans (Nat.mul_one _))
  | ⟨3, _⟩ => exact (((cfgA T).win (27 : Fin 37)).rect_emb_val t (ix5 0 0 0 q k) 3).trans ((congrArg (fun z => z + q.val) (Nat.zero_mul 8)).trans (Nat.zero_add _))
  | ⟨4, _⟩ => exact (((cfgA T).win (27 : Fin 37)).rect_emb_val t (ix5 0 0 0 q k) 4).trans ((congrArg (fun z => z + k.val) (Nat.zero_mul 1024)).trans (Nat.zero_add _))

theorem block28 (c : Dev nD) (t : Fin (cfgA T).N) (q : Fin 8) (k : Fin 1024) :
    iblk T m c (28 : Fin 37) t (ix5 0 0 0 q k) = V m c main_v2 (ix5 (halfOf T t) (headOf T t) (pageOf T t 1 12) q k) := by
  unfold iblk
  blk_simp
  refine congrArg (V m c main_v2) (funext fun a => Fin.ext ?_)
  match a with
  | ⟨0, _⟩ => exact (((cfgA T).win (28 : Fin 37)).rect_emb_val t (ix5 0 0 0 q k) 0).trans ((congrArg (fun z => z * 1 + 0) (word0 T t)).trans (Nat.mul_one _))
  | ⟨1, _⟩ => exact (((cfgA T).win (28 : Fin 37)).rect_emb_val t (ix5 0 0 0 q k) 1).trans ((congrArg (fun z => z * 1 + 0) (word1 T t)).trans (Nat.mul_one _))
  | ⟨2, _⟩ => exact (((cfgA T).win (28 : Fin 37)).rect_emb_val t (ix5 0 0 0 q k) 2).trans ((congrArg (fun z : BitVec 32 => z.toNat * 1 + 0) (word_at T _ _ (k0_off13_inb (crd T t) 1) ⟨t.val % 64 * 2 + 1, by omega⟩ 12 (seq_odd T t) rfl)).trans (Nat.mul_one _))
  | ⟨3, _⟩ => exact (((cfgA T).win (28 : Fin 37)).rect_emb_val t (ix5 0 0 0 q k) 3).trans ((congrArg (fun z => z + q.val) (Nat.zero_mul 8)).trans (Nat.zero_add _))
  | ⟨4, _⟩ => exact (((cfgA T).win (28 : Fin 37)).rect_emb_val t (ix5 0 0 0 q k) 4).trans ((congrArg (fun z => z + k.val) (Nat.zero_mul 1024)).trans (Nat.zero_add _))

theorem block29 (c : Dev nD) (t : Fin (cfgA T).N) (q : Fin 8) (k : Fin 1024) :
    iblk T m c (29 : Fin 37) t (ix5 0 0 0 q k) = V m c main_v2 (ix5 (halfOf T t) (headOf T t) (pageOf T t 1 13) q k) := by
  unfold iblk
  blk_simp
  refine congrArg (V m c main_v2) (funext fun a => Fin.ext ?_)
  match a with
  | ⟨0, _⟩ => exact (((cfgA T).win (29 : Fin 37)).rect_emb_val t (ix5 0 0 0 q k) 0).trans ((congrArg (fun z => z * 1 + 0) (word0 T t)).trans (Nat.mul_one _))
  | ⟨1, _⟩ => exact (((cfgA T).win (29 : Fin 37)).rect_emb_val t (ix5 0 0 0 q k) 1).trans ((congrArg (fun z => z * 1 + 0) (word1 T t)).trans (Nat.mul_one _))
  | ⟨2, _⟩ => exact (((cfgA T).win (29 : Fin 37)).rect_emb_val t (ix5 0 0 0 q k) 2).trans ((congrArg (fun z : BitVec 32 => z.toNat * 1 + 0) (word_at T _ _ (k0_off14_inb (crd T t) 1) ⟨t.val % 64 * 2 + 1, by omega⟩ 13 (seq_odd T t) rfl)).trans (Nat.mul_one _))
  | ⟨3, _⟩ => exact (((cfgA T).win (29 : Fin 37)).rect_emb_val t (ix5 0 0 0 q k) 3).trans ((congrArg (fun z => z + q.val) (Nat.zero_mul 8)).trans (Nat.zero_add _))
  | ⟨4, _⟩ => exact (((cfgA T).win (29 : Fin 37)).rect_emb_val t (ix5 0 0 0 q k) 4).trans ((congrArg (fun z => z + k.val) (Nat.zero_mul 1024)).trans (Nat.zero_add _))

theorem block30 (c : Dev nD) (t : Fin (cfgA T).N) (q : Fin 8) (k : Fin 1024) :
    iblk T m c (30 : Fin 37) t (ix5 0 0 0 q k) = V m c main_v2 (ix5 (halfOf T t) (headOf T t) (pageOf T t 1 14) q k) := by
  unfold iblk
  blk_simp
  refine congrArg (V m c main_v2) (funext fun a => Fin.ext ?_)
  match a with
  | ⟨0, _⟩ => exact (((cfgA T).win (30 : Fin 37)).rect_emb_val t (ix5 0 0 0 q k) 0).trans ((congrArg (fun z => z * 1 + 0) (word0 T t)).trans (Nat.mul_one _))
  | ⟨1, _⟩ => exact (((cfgA T).win (30 : Fin 37)).rect_emb_val t (ix5 0 0 0 q k) 1).trans ((congrArg (fun z => z * 1 + 0) (word1 T t)).trans (Nat.mul_one _))
  | ⟨2, _⟩ => exact (((cfgA T).win (30 : Fin 37)).rect_emb_val t (ix5 0 0 0 q k) 2).trans ((congrArg (fun z : BitVec 32 => z.toNat * 1 + 0) (word_at T _ _ (k0_off15_inb (crd T t) 1) ⟨t.val % 64 * 2 + 1, by omega⟩ 14 (seq_odd T t) rfl)).trans (Nat.mul_one _))
  | ⟨3, _⟩ => exact (((cfgA T).win (30 : Fin 37)).rect_emb_val t (ix5 0 0 0 q k) 3).trans ((congrArg (fun z => z + q.val) (Nat.zero_mul 8)).trans (Nat.zero_add _))
  | ⟨4, _⟩ => exact (((cfgA T).win (30 : Fin 37)).rect_emb_val t (ix5 0 0 0 q k) 4).trans ((congrArg (fun z => z + k.val) (Nat.zero_mul 1024)).trans (Nat.zero_add _))

theorem block31 (c : Dev nD) (t : Fin (cfgA T).N) (q : Fin 8) (k : Fin 1024) :
    iblk T m c (31 : Fin 37) t (ix5 0 0 0 q k) = V m c main_v2 (ix5 (halfOf T t) (headOf T t) (pageOf T t 1 15) q k) := by
  unfold iblk
  blk_simp
  refine congrArg (V m c main_v2) (funext fun a => Fin.ext ?_)
  match a with
  | ⟨0, _⟩ => exact (((cfgA T).win (31 : Fin 37)).rect_emb_val t (ix5 0 0 0 q k) 0).trans ((congrArg (fun z => z * 1 + 0) (word0 T t)).trans (Nat.mul_one _))
  | ⟨1, _⟩ => exact (((cfgA T).win (31 : Fin 37)).rect_emb_val t (ix5 0 0 0 q k) 1).trans ((congrArg (fun z => z * 1 + 0) (word1 T t)).trans (Nat.mul_one _))
  | ⟨2, _⟩ => exact (((cfgA T).win (31 : Fin 37)).rect_emb_val t (ix5 0 0 0 q k) 2).trans ((congrArg (fun z : BitVec 32 => z.toNat * 1 + 0) (word_at T _ _ (k0_off16_inb (crd T t) 1) ⟨t.val % 64 * 2 + 1, by omega⟩ 15 (seq_odd T t) rfl)).trans (Nat.mul_one _))
  | ⟨3, _⟩ => exact (((cfgA T).win (31 : Fin 37)).rect_emb_val t (ix5 0 0 0 q k) 3).trans ((congrArg (fun z => z + q.val) (Nat.zero_mul 8)).trans (Nat.zero_add _))
  | ⟨4, _⟩ => exact (((cfgA T).win (31 : Fin 37)).rect_emb_val t (ix5 0 0 0 q k) 4).trans ((congrArg (fun z => z + k.val) (Nat.zero_mul 1024)).trans (Nat.zero_add _))

theorem block32 (c : Dev nD) (t : Fin (cfgA T).N) (k : Fin 1024) (x : Fin 256) :
    iblk T m c (32 : Fin 37) t (ix3 0 k x) = V m c main_v5 (ix3 (halfOf T t) k x) := by
  unfold iblk
  blk_simp
  refine congrArg (V m c main_v5) (funext fun a => Fin.ext ?_)
  match a with
  | ⟨0, _⟩ => exact (((cfgA T).win (32 : Fin 37)).rect_emb_val t (ix3 0 k x) 0).trans ((congrArg (fun z => z * 1 + 0) (word0 T t)).trans (Nat.mul_one _))
  | ⟨1, _⟩ => exact (((cfgA T).win (32 : Fin 37)).rect_emb_val t (ix3 0 k x) 1).trans ((congrArg (fun z => z + k.val) (Nat.zero_mul 1024)).trans (Nat.zero_add _))
  | ⟨2, _⟩ => exact (((cfgA T).win (32 : Fin 37)).rect_emb_val t (ix3 0 k x) 2).trans ((congrArg (fun z => z + x.val) (Nat.zero_mul 256)).trans (Nat.zero_add _))

theorem block33 (c : Dev nD) (t : Fin (cfgA T).N) (k : Fin 1) (x : Fin 128) :
    iblk T m c (33 : Fin 37) t (ix3 0 k x) = V m c main_arg3 (ix3 (halfOf T t) k x) := by
  unfold iblk
  blk_simp
  refine congrArg (V m c main_arg3) (funext fun a => Fin.ext ?_)
  match a with
  | ⟨0, _⟩ => exact (((cfgA T).win (33 : Fin 37)).rect_emb_val t (ix3 0 k x) 0).trans ((congrArg (fun z => z * 1 + 0) (word0 T t)).trans (Nat.mul_one _))
  | ⟨1, _⟩ => exact (((cfgA T).win (33 : Fin 37)).rect_emb_val t (ix3 0 k x) 1).trans ((congrArg (fun z => z + k.val) (Nat.zero_mul 1)).trans (Nat.zero_add _))
  | ⟨2, _⟩ => exact (((cfgA T).win (33 : Fin 37)).rect_emb_val t (ix3 0 k x) 2).trans ((congrArg (fun z => z + x.val) (Nat.zero_mul 128)).trans (Nat.zero_add _))

theorem block34 (c : Dev nD) (t : Fin (cfgA T).N) (k : Fin 128) (x : Fin 128) :
    iblk T m c (34 : Fin 37) t (ix3 0 k x) = V m c main_v6 (ix3 (halfOf T t) k x) := by
  unfold iblk
  blk_simp
  refine congrArg (V m c main_v6) (funext fun a => Fin.ext ?_)
  match a with
  | ⟨0, _⟩ => exact (((cfgA T).win (34 : Fin 37)).rect_emb_val t (ix3 0 k x) 0).trans ((congrArg (fun z => z * 1 + 0) (word0 T t)).trans (Nat.mul_one _))
  | ⟨1, _⟩ => exact (((cfgA T).win (34 : Fin 37)).rect_emb_val t (ix3 0 k x) 1).trans ((congrArg (fun z => z + k.val) (Nat.zero_mul 128)).trans (Nat.zero_add _))
  | ⟨2, _⟩ => exact (((cfgA T).win (34 : Fin 37)).rect_emb_val t (ix3 0 k x) 2).trans ((congrArg (fun z => z + x.val) (Nat.zero_mul 128)).trans (Nat.zero_add _))

theorem block35 (c : Dev nD) (t : Fin (cfgA T).N) (k : Fin 1) (x : Fin 128) :
    iblk T m c (35 : Fin 37) t (ix3 0 k x) = V m c main_v8 (ix3 (halfOf T t) k x) := by
  unfold iblk
  blk_simp
  refine congrArg (V m c main_v8) (funext fun a => Fin.ext ?_)
  match a with
  | ⟨0, _⟩ => exact (((cfgA T).win (35 : Fin 37)).rect_emb_val t (ix3 0 k x) 0).trans ((congrArg (fun z => z * 1 + 0) (word0 T t)).trans (Nat.mul_one _))
  | ⟨1, _⟩ => exact (((cfgA T).win (35 : Fin 37)).rect_emb_val t (ix3 0 k x) 1).trans ((congrArg (fun z => z + k.val) (Nat.zero_mul 1)).trans (Nat.zero_add _))
  | ⟨2, _⟩ => exact (((cfgA T).win (35 : Fin 37)).rect_emb_val t (ix3 0 k x) 2).trans ((congrArg (fun z => z + x.val) (Nat.zero_mul 128)).trans (Nat.zero_add _))

/-- Where a point's result lies. -/
theorem place36 (t : Fin (cfgA T).N) (s : Fin 2) (n d : Fin 128) :
    ((((cfgA T).win (36 : Fin 37)).blk t).view.emb (ix5 0 s 0 n d) : S2x128x4x128x128.Idx) = ix5 (halfOf T t) ⟨t.val % 64 * 2 + s.val, by omega⟩ (headOf T t) n d := by
  refine funext fun a => Fin.ext ?_
  match a with
  | ⟨0, _⟩ => exact (((cfgA T).win (36 : Fin 37)).rect_emb_val t (ix5 0 s 0 n d) 0).trans ((congrArg (fun z => z * 1 + 0) (word0 T t)).trans (Nat.mul_one _))
  | ⟨1, _⟩ => exact (((cfgA T).win (36 : Fin 37)).rect_emb_val t (ix5 0 s 0 n d) 1).trans (congrArg (fun z => z * 2 + s.val) (word2 T t))
  | ⟨2, _⟩ => exact (((cfgA T).win (36 : Fin 37)).rect_emb_val t (ix5 0 s 0 n d) 2).trans ((congrArg (fun z => z * 1 + 0) (word1 T t)).trans (Nat.mul_one _))
  | ⟨3, _⟩ => exact (((cfgA T).win (36 : Fin 37)).rect_emb_val t (ix5 0 s 0 n d) 3).trans ((congrArg (fun z => z + n.val) (Nat.zero_mul 128)).trans (Nat.zero_add _))
  | ⟨4, _⟩ => exact (((cfgA T).win (36 : Fin 37)).rect_emb_val t (ix5 0 s 0 n d) 4).trans ((congrArg (fun z => z + d.val) (Nat.zero_mul 128)).trans (Nat.zero_add _))

/-- Every point's result is written out. -/
theorem flush36 (t : Fin (cfgA T).N) : ((cfgA T).win (36 : Fin 37)).flush t = true :=
  (by decide +kernel : ∀ t : Fin grid0.N, Pipeline.Window.flushOf grid0 true cc0_transform_36 t = true) t

end Cert.CompressPagesIdeal.Pages

end
-- ==== Proof.PagesTaken.lean ====
/- The summaries of cached pages: the pages a point reads. -/
module

public import proofs.«01_k».proof.Proof.PagesBlocks
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.CompressPagesIdeal.Pages

open Cert.CompressPagesIdeal Cert.CompressPagesIdeal.Gen

variable (T : Table) (m : (ℓ : Loc nD τ sig) → Buf (Elt Ideal) ℓ)

/-- The thirty-two pages a point reads: sixteen of one sequence, sixteen of the next. -/
def pageBlock (c : Dev nD) (t : Fin (cfgA T).N) : Fin 32 → Vec Ideal S1x1x1x8x1024 .f32
  | ⟨0, _⟩ => iblk T m c (0 : Fin 37) t
  | ⟨1, _⟩ => iblk T m c (1 : Fin 37) t
  | ⟨2, _⟩ => iblk T m c (2 : Fin 37) t
  | ⟨3, _⟩ => iblk T m c (3 : Fin 37) t
  | ⟨4, _⟩ => iblk T m c (4 : Fin 37) t
  | ⟨5, _⟩ => iblk T m c (5 : Fin 37) t
  | ⟨6, _⟩ => iblk T m c (6 : Fin 37) t
  | ⟨7, _⟩ => iblk T m c (7 : Fin 37) t
  | ⟨8, _⟩ => iblk T m c (8 : Fin 37) t
  | ⟨9, _⟩ => iblk T m c (9 : Fin 37) t
  | ⟨10, _⟩ => iblk T m c (10 : Fin 37) t
  | ⟨11, _⟩ => iblk T m c (11 : Fin 37) t
  | ⟨12, _⟩ => iblk T m c (12 : Fin 37) t
  | ⟨13, _⟩ => iblk T m c (13 : Fin 37) t
  | ⟨14, _⟩ => iblk T m c (14 : Fin 37) t
  | ⟨15, _⟩ => iblk T m c (15 : Fin 37) t
  | ⟨16, _⟩ => iblk T m c (16 : Fin 37) t
  | ⟨17, _⟩ => iblk T m c (17 : Fin 37) t
  | ⟨18, _⟩ => iblk T m c (18 : Fin 37) t
  | ⟨19, _⟩ => iblk T m c (19 : Fin 37) t
  | ⟨20, _⟩ => iblk T m c (20 : Fin 37) t
  | ⟨21, _⟩ => iblk T m c (21 : Fin 37) t
  | ⟨22, _⟩ => iblk T m c (22 : Fin 37) t
  | ⟨23, _⟩ => iblk T m c (23 : Fin 37) t
  | ⟨24, _⟩ => iblk T m c (24 : Fin 37) t
  | ⟨25, _⟩ => iblk T m c (25 : Fin 37) t
  | ⟨26, _⟩ => iblk T m c (26 : Fin 37) t
  | ⟨27, _⟩ => iblk T m c (27 : Fin 37) t
  | ⟨28, _⟩ => iblk T m c (28 : Fin 37) t
  | ⟨29, _⟩ => iblk T m c (29 : Fin 37) t
  | ⟨30, _⟩ => iblk T m c (30 : Fin 37) t
  | ⟨31, _⟩ => iblk T m c (31 : Fin 37) t
  | ⟨_ + 32, h⟩ => absurd h (by simp)

theorem take_of (c : Dev nD) (t : Fin (cfgA T).N) (n : Fin 32) (s : Fin 2) (p : Fin 16) (z : Vec Ideal S1x1x1x8x1024 .f32) (q : Fin 8) (k : Fin 1024) (hz : pageBlock T m c t n = z)
    (h : z (ix5 0 0 0 q k) = V m c main_v2 (ix5 (halfOf T t) (headOf T t) (pageOf T t s p) q k)) (hn : n.val = s.val * 16 + p.val) :
    pageBlock T m c t n (ix5 0 0 0 q k) = V m c main_v2 (ix5 (halfOf T t) (headOf T t) (pageOf T t ⟨n.val / 16, by omega⟩ ⟨n.val % 16, by omega⟩) q k) := by
  have es : (⟨n.val / 16, by omega⟩ : Fin 2) = s := Fin.ext (by simp only []; omega)
  have ep : (⟨n.val % 16, by omega⟩ : Fin 16) = p := Fin.ext (by simp only []; omega)
  rw [es, ep, hz, h]

theorem each : ∀ n : Fin 32, n = 0 ∨ n = 1 ∨ n = 2 ∨ n = 3 ∨ n = 4 ∨ n = 5 ∨ n = 6 ∨ n = 7 ∨ n = 8 ∨ n = 9 ∨ n = 10 ∨ n = 11 ∨ n = 12 ∨ n = 13 ∨ n = 14 ∨ n = 15 ∨ n = 16 ∨ n = 17 ∨ n = 18 ∨ n = 19 ∨ n = 20 ∨ n = 21 ∨ n = 22 ∨ n = 23 ∨ n = 24 ∨ n = 25 ∨ n = 26 ∨ n = 27 ∨ n = 28 ∨ n = 29 ∨ n = 30 ∨ n = 31 := by decide

theorem pageBlock_at (c : Dev nD) (t : Fin (cfgA T).N) (n : Fin 32) (q : Fin 8) (k : Fin 1024) :
    pageBlock T m c t n (ix5 0 0 0 q k) = V m c main_v2 (ix5 (halfOf T t) (headOf T t) (pageOf T t ⟨n.val / 16, by omega⟩ ⟨n.val % 16, by omega⟩) q k) := by
  rcases each n with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact take_of T m c t 0 0 0 (iblk T m c (0 : Fin 37) t) q k rfl (block0 T m c t q k) rfl
  · exact take_of T m c t 1 0 1 (iblk T m c (1 : Fin 37) t) q k rfl (block1 T m c t q k) rfl
  · exact take_of T m c t 2 0 2 (iblk T m c (2 : Fin 37) t) q k rfl (block2 T m c t q k) rfl
  · exact take_of T m c t 3 0 3 (iblk T m c (3 : Fin 37) t) q k rfl (block3 T m c t q k) rfl
  · exact take_of T m c t 4 0 4 (iblk T m c (4 : Fin 37) t) q k rfl (block4 T m c t q k) rfl
  · exact take_of T m c t 5 0 5 (iblk T m c (5 : Fin 37) t) q k rfl (block5 T m c t q k) rfl
  · exact take_of T m c t 6 0 6 (iblk T m c (6 : Fin 37) t) q k rfl (block6 T m c t q k) rfl
  · exact take_of T m c t 7 0 7 (iblk T m c (7 : Fin 37) t) q k rfl (block7 T m c t q k) rfl
  · exact take_of T m c t 8 0 8 (iblk T m c (8 : Fin 37) t) q k rfl (block8 T m c t q k) rfl
  · exact take_of T m c t 9 0 9 (iblk T m c (9 : Fin 37) t) q k rfl (block9 T m c t q k) rfl
  · exact take_of T m c t 10 0 10 (iblk T m c (10 : Fin 37) t) q k rfl (block10 T m c t q k) rfl
  · exact take_of T m c t 11 0 11 (iblk T m c (11 : Fin 37) t) q k rfl (block11 T m c t q k) rfl
  · exact take_of T m c t 12 0 12 (iblk T m c (12 : Fin 37) t) q k rfl (block12 T m c t q k) rfl
  · exact take_of T m c t 13 0 13 (iblk T m c (13 : Fin 37) t) q k rfl (block13 T m c t q k) rfl
  · exact take_of T m c t 14 0 14 (iblk T m c (14 : Fin 37) t) q k rfl (block14 T m c t q k) rfl
  · exact take_of T m c t 15 0 15 (iblk T m c (15 : Fin 37) t) q k rfl (block15 T m c t q k) rfl
  · exact take_of T m c t 16 1 0 (iblk T m c (16 : Fin 37) t) q k rfl (block16 T m c t q k) rfl
  · exact take_of T m c t 17 1 1 (iblk T m c (17 : Fin 37) t) q k rfl (block17 T m c t q k) rfl
  · exact take_of T m c t 18 1 2 (iblk T m c (18 : Fin 37) t) q k rfl (block18 T m c t q k) rfl
  · exact take_of T m c t 19 1 3 (iblk T m c (19 : Fin 37) t) q k rfl (block19 T m c t q k) rfl
  · exact take_of T m c t 20 1 4 (iblk T m c (20 : Fin 37) t) q k rfl (block20 T m c t q k) rfl
  · exact take_of T m c t 21 1 5 (iblk T m c (21 : Fin 37) t) q k rfl (block21 T m c t q k) rfl
  · exact take_of T m c t 22 1 6 (iblk T m c (22 : Fin 37) t) q k rfl (block22 T m c t q k) rfl
  · exact take_of T m c t 23 1 7 (iblk T m c (23 : Fin 37) t) q k rfl (block23 T m c t q k) rfl
  · exact take_of T m c t 24 1 8 (iblk T m c (24 : Fin 37) t) q k rfl (block24 T m c t q k) rfl
  · exact take_of T m c t 25 1 9 (iblk T m c (25 : Fin 37) t) q k rfl (block25 T m c t q k) rfl
  · exact take_of T m c t 26 1 10 (iblk T m c (26 : Fin 37) t) q k rfl (block26 T m c t q k) rfl
  · exact take_of T m c t 27 1 11 (iblk T m c (27 : Fin 37) t) q k rfl (block27 T m c t q k) rfl
  · exact take_of T m c t 28 1 12 (iblk T m c (28 : Fin 37) t) q k rfl (block28 T m c t q k) rfl
  · exact take_of T m c t 29 1 13 (iblk T m c (29 : Fin 37) t) q k rfl (block29 T m c t q k) rfl
  · exact take_of T m c t 30 1 14 (iblk T m c (30 : Fin 37) t) q k rfl (block30 T m c t q k) rfl
  · exact take_of T m c t 31 1 15 (iblk T m c (31 : Fin 37) t) q k rfl (block31 T m c t q k) rfl

end Cert.CompressPagesIdeal.Pages

end
-- ==== Proof.PagesValue.lean ====
/- The summaries of cached pages: what the launch leaves in its result. -/
module

public import proofs.«01_k».proof.Proof.PagesLaunch
public import proofs.«01_k».proof.Proof.PagesBody
public import proofs.«01_k».proof.Proof.PagesBlocks
public import proofs.«01_k».proof.Proof.PagesTaken
public import proofs.«01_k».proof.Proof.PagesRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.CompressPagesIdeal.Pages

open Cert.CompressPagesIdeal Cert.CompressPagesIdeal.Gen

variable (T : Table) (m : (ℓ : Loc nD τ sig) → Buf (Elt Ideal) ℓ)

/-- The pool as the launch lays it. -/
theorem V_pool (c : Dev nD) (a : Fin 2) (g : Fin 4) (e : Fin 2560) (q : Fin 8) (k : Fin 1024) : (show EReal from V m c main_v2 (ix5 a g e q k))
    = m ((c : Thread nD τ).loc main_arg0) (ix5 e ⟨q.val * 16 + k.val / 64, by omega⟩ a g ⟨k.val % 64, by omega⟩) := by
  unfold V V0
  simp only [hostOps0, List.flatten_cons, List.flatten_nil, List.append_nil, List.cons_append, List.nil_append]
  after_results
  pointwise

/-- The first half of the first layer's weights lies in the first columns. -/
theorem V_low (c : Dev nD) (a : Fin 2) (k : Fin 1024) (h : Fin 128) : (show EReal from V m c main_v5 (ix3 a k ⟨h.val, by omega⟩))
    = m ((c : Thread nD τ).loc main_arg2) (ix3 a ⟨k.val, by omega⟩ h) := by
  unfold V V0
  simp only [hostOps0, List.flatten_cons, List.flatten_nil, List.append_nil, List.cons_append, List.nil_append]
  after_results
  pointwise

/-- The second half lies beside it. -/
theorem V_high (c : Dev nD) (a : Fin 2) (k : Fin 1024) (h : Fin 128) : (show EReal from V m c main_v5 (ix3 a k ⟨128 + h.val, by omega⟩))
    = m ((c : Thread nD τ).loc main_arg2) (ix3 a ⟨1024 + k.val, by omega⟩ h) := by
  unfold V V0
  simp only [hostOps0, List.flatten_cons, List.flatten_nil, List.append_nil, List.cons_append, List.nil_append]
  after_results
  pointwise

/-- The second layer's weights, twice. -/
theorem V_second (c : Dev nD) (a : Fin 2) (k d : Fin 128) : (show EReal from V m c main_v6 (ix3 a k d))
    = m ((c : Thread nD τ).loc main_arg4) (ix3 a k ⟨d.val % 64, by omega⟩) := by
  unfold V V0
  simp only [hostOps0, List.flatten_cons, List.flatten_nil, List.append_nil, List.cons_append, List.nil_append]
  after_results
  pointwise
  split
  · refine congrArg (m (c, Proc.tc.devRef main_arg4)) (congrArg (ix3 a _) (Fin.ext ?_))
    show (d : ℕ) = (d : ℕ) % 64
    omega
  · refine congrArg (m (c, Proc.tc.devRef main_arg4)) (congrArg (ix3 a _) (Fin.ext ?_))
    show (d : ℕ) - 64 = (d : ℕ) % 64
    omega

/-- Its bias, twice. -/
theorem V_bias (c : Dev nD) (a : Fin 2) (d : Fin 128) : (show EReal from V m c main_v8 (ix3 a 0 d))
    = m ((c : Thread nD τ).loc main_arg5) (ix2 a ⟨d.val % 64, by omega⟩) := by
  unfold V V0
  simp only [hostOps0, List.flatten_cons, List.flatten_nil, List.append_nil, List.cons_append, List.nil_append]
  after_results
  pointwise
  split
  · refine congrArg (m (c, Proc.tc.devRef main_arg5)) (congrArg (ix2 a) (Fin.ext ?_))
    show (d : ℕ) = (d : ℕ) % 64
    omega
  · refine congrArg (m (c, Proc.tc.devRef main_arg5)) (congrArg (ix2 a) (Fin.ext ?_))
    show (d : ℕ) - 64 = (d : ℕ) % 64
    omega

/-- What a point's body stores, over the pages it reads. -/
theorem outp_eq (f : Fin 32 → Vec Ideal S1x1x1x8x1024 .f32) (w : Vec Ideal S1x1024x256 .f32) (cv : Vec Ideal S1x1x128 .f32) (w2 : Vec Ideal S1x128x128 .f32) (b : Vec Ideal S1x1x128 .f32) :
    outp (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) w cv w2 b = k0_pay1 (prod f w) (below (prod f w)) cv w2 b := by
  frame_out
  rfl

/-- A row of the two sequences' pages: row `r` of two times 128, the pages named by the table. -/
def row (X : FVec Ideal S2x4x2560x8x1024 .f32) (a : Fin 2) (g : Fin 4) (i : Fin 64) (r : Fin 256) (k : Fin 1024) : EReal :=
  X (ix5 a g ⟨(T.pages (ix2 ⟨i.val * 2 + r.val / 8 / 16, by omega⟩ ⟨r.val / 8 % 16, by omega⟩)).toNat, T.lt _⟩ ⟨r.val % 8, by omega⟩ k)

/-- The first layer as the launch takes it: a row through the first columns, and through the others the row after it, the last
    followed by the first. -/
def hid (X : FVec Ideal S2x4x2560x8x1024 .f32) (W : FVec Ideal S2x1024x256 .f32) (C : FVec Ideal S2x1x128 .f32) (a : Fin 2) (g : Fin 4) (i : Fin 64) (r : Fin 256) (x : Fin 128) : EReal :=
  ∑ k : Fin 1024, row T X a g i r k * W (ix3 a k ⟨x.val, by omega⟩)
    + ∑ k : Fin 1024, row T X a g i ⟨(r.val + 256 - 255) % 256, by omega⟩ k * W (ix3 a k ⟨128 + x.val, by omega⟩)
    + C (ix3 a 0 x)

/-- What the launch leaves, every row. -/
def left (X : FVec Ideal S2x4x2560x8x1024 .f32) (W : FVec Ideal S2x1024x256 .f32) (C : FVec Ideal S2x1x128 .f32) (W2 : FVec Ideal S2x128x128 .f32) (B : FVec Ideal S2x1x128 .f32) :
    FVec Ideal S2x128x4x128x128 .f32 := fun j =>
  ∑ x : Fin 128, hid T X W C (j 0) (j 2) ⟨(j 1).val / 2, by have : (j 1).val < 128 := (j 1).isLt; omega⟩ ⟨(j 1).val % 2 * 128 + (j 3).val, by have : (j 3).val < 128 := (j 3).isLt; omega⟩ x
      * Ideal.div 1 (1 + Ideal.exp (-hid T X W C (j 0) (j 2) ⟨(j 1).val / 2, by have : (j 1).val < 128 := (j 1).isLt; omega⟩ ⟨(j 1).val % 2 * 128 + (j 3).val, by have : (j 3).val < 128 := (j 3).isLt; omega⟩ x))
      * W2 (ix3 (j 0) x (j 4)) + B (ix3 (j 0) 0 (j 4))

/-- The sequences' number of a point. -/
abbrev pairOf (t : Fin (cfgA T).N) : Fin 64 := ⟨t.val % 64, by omega⟩

/-- A point's first layer, at the place its block has. -/
theorem hid_block (c : Dev nD) (t : Fin (cfgA T).N) (r : Fin 256) (x : Fin 128) :
    (prod (pageBlock T m c t) (iblk T m c (32 : Fin 37) t) (ix2 r ⟨x.val, by omega⟩) : EReal) + below (prod (pageBlock T m c t) (iblk T m c (32 : Fin 37) t)) (ix2 r x)
      + (show EReal from iblk T m c (33 : Fin 37) t (ix3 0 0 x))
    = hid T (V m c main_v2) (V m c main_v5) (V m c main_arg3) (halfOf T t) (headOf T t) (pairOf T t) r x := by
  unfold hid
  have key : ∀ (r y : Fin 256), (prod (pageBlock T m c t) (iblk T m c (32 : Fin 37) t) (ix2 r y) : EReal)
      = ∑ k : Fin 1024, row T (V m c main_v2) (halfOf T t) (headOf T t) (pairOf T t) r k * (show EReal from V m c main_v5 (ix3 (halfOf T t) k y)) := fun r y =>
    (prod_at _ _ r y).trans (Finset.sum_congr rfl fun k _ => congrArg₂ (fun s u : EReal => s * u) (pageBlock_at T m c t _ _ k) (block32 T m c t k y))
  rw [below_at, key, key]
  exact congrArg (fun s : EReal => _ + s) (block33 T m c t 0 x)

theorem left_at (X : FVec Ideal S2x4x2560x8x1024 .f32) (W : FVec Ideal S2x1024x256 .f32) (C : FVec Ideal S2x1x128 .f32) (W2 : FVec Ideal S2x128x128 .f32) (B : FVec Ideal S2x1x128 .f32)
    (a : Fin 2) (s : Fin 128) (g : Fin 4) (n d : Fin 128) (i : Fin 64) (r : Fin 256) (hi : s.val / 2 = i.val) (hr : s.val % 2 * 128 + n.val = r.val) :
    left T X W C W2 B (ix5 a s g n d) = ∑ x : Fin 128, hid T X W C a g i r x * Ideal.div 1 (1 + Ideal.exp (-hid T X W C a g i r x)) * W2 (ix3 a x d) + B (ix3 a 0 d) := by
  obtain ⟨i, hi'⟩ := i
  obtain ⟨r, hr'⟩ := r
  simp only [] at hi hr
  subst hi hr
  rfl

theorem last_congr (A u v : Fin 128 → EReal) (b b' : EReal) (h : ∀ x, u x = v x) (hb : b = b') : ∑ x : Fin 128, A x * u x + b = ∑ x : Fin 128, A x * v x + b' := by
  rw [hb]
  exact congrArg (fun s : EReal => s + b') (Finset.sum_congr rfl fun x _ => congrArg (fun s : EReal => A x * s) (h x))

set_option maxHeartbeats 2000000 in
/-- What a point leaves. -/
theorem left_point (c : Dev nD) (t : Fin (cfgA T).N) (s : Fin 2) (n d : Fin 128) :
    k0_pay1 (prod (pageBlock T m c t) (iblk T m c (32 : Fin 37) t)) (below (prod (pageBlock T m c t) (iblk T m c (32 : Fin 37) t))) (iblk T m c (33 : Fin 37) t) (iblk T m c (34 : Fin 37) t) (iblk T m c (35 : Fin 37) t) (ix5 0 s 0 n d)
      = left T (V m c main_v2) (V m c main_v5) (V m c main_arg3) (V m c main_v6) (V m c main_v8) (ix5 (halfOf T t) ⟨t.val % 64 * 2 + s.val, by omega⟩ (headOf T t) n d) := by
  refine (stored_at _ _ _ _ _ s n d _ (fun x => hid_block T m c t ⟨s.val * 128 + n.val, by omega⟩ x)).trans ?_
  refine Eq.trans ?_ (left_at T (V m c main_v2) (V m c main_v5) (V m c main_arg3) (V m c main_v6) (V m c main_v8) (halfOf T t) ⟨t.val % 64 * 2 + s.val, by omega⟩ (headOf T t) n d (pairOf T t) ⟨s.val * 128 + n.val, by omega⟩
    (by simp only []; omega) (by simp only []; omega)).symm
  exact last_congr (fun x => hid T (V m c main_v2) (V m c main_v5) (V m c main_arg3) (halfOf T t) (headOf T t) (pairOf T t) ⟨s.val * 128 + n.val, by omega⟩ x
      * Ideal.div 1 (1 + Ideal.exp (-hid T (V m c main_v2) (V m c main_v5) (V m c main_arg3) (halfOf T t) (headOf T t) (pairOf T t) ⟨s.val * 128 + n.val, by omega⟩ x)))
    (fun x => iblk T m c (34 : Fin 37) t (ix3 0 x d)) (fun x => V m c main_v6 (ix3 (halfOf T t) x d)) _ _ (fun x => block34 T m c t x d) (block35 T m c t 0 d)

set_option maxHeartbeats 2000000 in
theorem after_eq (c : Dev nD) (t : Fin (cfgA T).N) : (dats T m 0 c).after (36 : Fin 37) t
    = k0_pay1 (prod (pageBlock T m c t) (iblk T m c (32 : Fin 37) t)) (below (prod (pageBlock T m c t) (iblk T m c (32 : Fin 37) t))) (iblk T m c (33 : Fin 37) t) (iblk T m c (34 : Fin 37) t) (iblk T m c (35 : Fin 37) t) :=
  (after36 T m c t).trans (outp_eq (pageBlock T m c t) _ _ _ _)

set_option maxHeartbeats 2000000 in
/-- The launch's array holds it. -/
theorem left_final (c : Dev nD) : (dats T m 0 c).arrAt (36 : Fin 37) (cfgA T).N = left T (V m c main_v2) (V m c main_v5) (V m c main_arg3) (V m c main_v6) (V m c main_v8) := by
  refine (dats T m 0 c).arrAt_eq_of_emb (36 : Fin 37) (left T (V m c main_v2) (V m c main_v5) (V m c main_arg3) (V m c main_v6) (V m c main_v8)) (fun t _ y => ?_) (fun i => ?_)
  · obtain ⟨s, n, d, rfl⟩ : ∃ (s : Fin 2) (n d : Fin 128), y = ix5 0 s 0 n d := by
      refine ⟨y 1, y 3, y 4, funext fun a => ?_⟩
      match a with
      | ⟨0, _⟩ => exact Subsingleton.elim (α := Fin 1) _ _
      | ⟨1, _⟩ => rfl
      | ⟨2, _⟩ => exact Subsingleton.elim (α := Fin 1) _ _
      | ⟨3, _⟩ => rfl
      | ⟨4, _⟩ => rfl
    rw [place36 T t s n d, ← left_point T m c t s n d, ← after_eq T m c t]
    rfl
  · obtain ⟨a, s, g, n, d, rfl⟩ : ∃ (a : Fin 2) (s : Fin 128) (g : Fin 4) (n d : Fin 128), i = ix5 a s g n d := ⟨i 0, i 1, i 2, i 3, i 4, eq_ix5 i⟩
    let t : Fin (cfgA T).N := ⟨a.val * 256 + g.val * 64 + s.val / 2, show _ < 512 by omega⟩
    have ht : t.val = a.val * 256 + g.val * 64 + s.val / 2 := rfl
    refine ⟨t, flush36 T t, ?_⟩
    have e := place36 T t ⟨s.val % 2, by omega⟩ n d
    have e0 : halfOf T t = a := Fin.ext (by show t.val / 256 = a.val; omega)
    have e1 : headOf T t = g := Fin.ext (by show t.val / 64 % 4 = g.val; omega)
    have e2 : (⟨t.val % 64 * 2 + s.val % 2, by omega⟩ : Fin 128) = s := Fin.ext (by show t.val % 64 * 2 + s.val % 2 = s.val; omega)
    have e' : (ix5 a s g n d : S2x128x4x128x128.Idx) = (((cfgA T).win (36 : Fin 37)).blk t).view.emb (ix5 0 ⟨s.val % 2, by omega⟩ 0 n d) := by
      rw [e, e0, e1, e2]
    exact e' ▸ View.emb_mem_set _ _

/-- What the run leaves in the result: the array's rows but the last of each sequence. -/
theorem tail_result (c : Dev nD) : Pipeline.afterTail (pcfgs (F := Ideal)) (fun _ => adm T) (dats T m) 0 (V0 m) [hostOps1] c main_v10
    = extractStridedSlice S2x128x4x127x128 ![0, 0, 0, 0, 0] ((dats T m 0 c).arrAt (36 : Fin 37) (cfgA T).N) slices_S2x128x4x128x128_S2x128x4x127x128_0_0_0_0_0 := by
  unfold Pipeline.afterTail
  simp only [hostOps1, List.flatten_cons, List.flatten_nil, List.append_nil, List.cons_append, List.nil_append]
  after_results
  exact congrArg (fun A => extractStridedSlice S2x128x4x127x128 ![0, 0, 0, 0, 0] A slices_S2x128x4x128x128_S2x128x4x127x128_0_0_0_0_0)
    ((dats T m 0 c).withArrays_arrAt sharedIn0 (V0 m c) (fun w => A_eq T m c w) (36 : Fin 37))

/-- A row is the reference's chunk. -/
theorem row_eq (c : Dev nD) (a : Fin 2) (s : Fin 128) (g : Fin 4) (n : Fin 128) (k : Fin 1024) (r : Fin 256) (hr : r.val = s.val % 2 * 128 + n.val) :
    row T (V m c main_v2) a g ⟨s.val / 2, by omega⟩ r k = Cert.CompressPagesRefIdeal.Parts.chunk (Cert.CompressPagesRefIdeal.Parts.parted (Cert.CompressPagesRefIdeal.Parts.taken (m ((c : Thread nD τ).loc main_arg0)) T.pages)) a s g n k := by
  rw [Cert.CompressPagesRefIdeal.Parts.chunk_parted _ _ a s g n k ⟨(T.pages (ix2 s ⟨n.val / 8, by omega⟩)).toNat, T.lt _⟩ rfl]
  unfold row
  refine (V_pool m c a g _ _ k).trans ?_
  have e1 : (⟨s.val / 2 * 2 + r.val / 8 / 16, by omega⟩ : Fin 128) = s := Fin.ext (by simp only []; omega)
  have e2 : (⟨r.val / 8 % 16, by omega⟩ : Fin 16) = ⟨n.val / 8, by omega⟩ := Fin.ext (by simp only []; omega)
  have e3 : r.val % 8 = n.val % 8 := by omega
  refine congrArg₂ (fun (e : Fin 2560) (q : Fin 128) => (m ((c : Thread nD τ).loc main_arg0)) (ix5 e q a g ⟨k.val % 64, by omega⟩)) (Fin.ext ?_) (Fin.ext ?_)
  · show (T.pages (ix2 _ _)).toNat = (T.pages (ix2 _ _)).toNat
    rw [e1, e2]
  · show r.val % 8 * 16 + k.val / 64 = n.val % 8 * 16 + k.val / 64
    rw [e3]

/-- The launch's first layer is the reference's, on every row but the last. -/
theorem hid_eq (c : Dev nD) (a : Fin 2) (s : Fin 128) (g : Fin 4) (n : Fin 127) (x : Fin 128) :
    hid T (V m c main_v2) (V m c main_v5) (V m c main_arg3) a g ⟨s.val / 2, by omega⟩ ⟨s.val % 2 * 128 + n.val, by omega⟩ x
      = Cert.CompressPagesRefIdeal.Parts.hidden (Cert.CompressPagesRefIdeal.Parts.flat (Cert.CompressPagesRefIdeal.Parts.parted (Cert.CompressPagesRefIdeal.Parts.taken (m ((c : Thread nD τ).loc main_arg0)) T.pages))) (m ((c : Thread nD τ).loc main_arg2)) (m ((c : Thread nD τ).loc main_arg3)) (ix5 a s g n x) := by
  rw [Cert.CompressPagesRefIdeal.Parts.hidden_flat]
  unfold hid
  refine congrArg₂ (fun s u : EReal => s + u) (congrArg₂ (fun s u : EReal => s + u) (Finset.sum_congr rfl fun k _ => ?_) (Finset.sum_congr rfl fun k _ => ?_)) ?_
  · exact congrArg₂ (fun s u : EReal => s * u) (row_eq T m c a s g ⟨n.val, by omega⟩ k _ rfl) (V_low m c a k x)
  · exact congrArg₂ (fun s u : EReal => s * u) (row_eq T m c a s g ⟨n.val + 1, by omega⟩ k _ (by simp only []; omega)) (V_high m c a k x)
  · exact congrFun (V_arg3 m c) _

/-- The result is the reference's summaries. -/
theorem summaries_final (hp : Holds T m) (c : Dev nD) : Pipeline.afterTail (pcfgs (F := Ideal)) (fun _ => adm T) (dats T m) 0 (V0 m) [hostOps1] c main_v10
    = Cert.CompressPagesRefIdeal.Parts.summaries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [tail_result, left_final, show m ((c : Thread nD τ).loc main_arg1) = T.pages from hp c]
  funext y
  idx_vars y
  unfold Cert.CompressPagesRefIdeal.Parts.summaries
  rw [Cert.CompressPagesRefIdeal.Parts.twice_at, Cert.CompressPagesRefIdeal.Parts.summary_at]
  refine Eq.trans (b := left T (V m c main_v2) (V m c main_v5) (V m c main_arg3) (V m c main_v6) (V m c main_v8) (ix5 y0 y1 y2 ⟨y3.val, by omega⟩ y4)) ?_ ?_
  · generalize left T (V m c main_v2) (V m c main_v5) (V m c main_arg3) (V m c main_v6) (V m c main_v8) = L
    pointwise
  refine congrArg₂ (fun s u : EReal => s + u) (Finset.sum_congr rfl fun x _ => ?_) (V_bias m c y0 y4)
  refine congrArg₂ (fun s u : EReal => s * u) ?_ (V_second m c y0 x y4)
  rw [Cert.CompressPagesRefIdeal.Parts.acted_at, ← hid_eq]
  rfl

/-- The run leaves the summaries in the result and the arguments as they were. -/
theorem run (ρ : Dev nD → PrngReg) (hp : Holds T m) : θ_run (defs (F := Ideal)) (onTc (τ := τ) (main (F := Ideal))) ⟨m, fun _ => 0, ρ⟩ fun r => ∀ c : Dev nD,
    r.2.mem ((c.tc : Thread nD τ).loc main_v10) = Cert.CompressPagesRefIdeal.Parts.summaries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v10 (Pipeline.mem_restRefs_of main_v10 (by decide) (by exact (by decide : ∀ w, Pipeline.arrRef spec0 w ≠ main_v10)))).trans (summaries_final T m hp c), Post.unchanged T m h c⟩)
    (run_main T m ρ hp)

end Cert.CompressPagesIdeal.Pages

end
-- ==== Proof.lean ====
/- The claims: of the routed feed-forward, of the mixers' projections and of the keys' and values' compression, their frames and their results against the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.CompressPages.Launch
public import proofs.«01_k».proof.Proof.Gen.CompressPages.Skeleton
public import proofs.«01_k».proof.Proof.Gen.CompressPagesIdeal.Launch
public import proofs.«01_k».proof.Proof.Gen.CompressPagesIdeal.Skeleton
public import proofs.«01_k».proof.Proof.Gen.CompressPagesRefIdeal.Run
public import proofs.«01_k».proof.Proof.Gen.Pre_page_in_range
public import proofs.«01_k».proof.Proof.Gen.KernelIdeal.Skeleton
public import proofs.«01_k».proof.Proof.Gen.KernelIdeal.Launch
public import proofs.«01_k».proof.Proof.Gen.HgrnIn
public import proofs.«01_k».proof.Proof.Gen.HgrnIn.Skeleton
public import proofs.«01_k».proof.Proof.Gen.HgrnIn.Frame
public import proofs.«01_k».proof.Proof.Gen.HgrnInIdeal
public import proofs.«01_k».proof.Proof.Gen.HgrnInIdeal.Skeleton
public import proofs.«01_k».proof.Proof.Gen.HgrnInIdeal.Frame
public import proofs.«01_k».proof.Proof.Gen.HgrnInIdeal.Value
public import proofs.«01_k».proof.Proof.Gen.NsaIn
public import proofs.«01_k».proof.Proof.Gen.NsaIn.Skeleton
public import proofs.«01_k».proof.Proof.Gen.NsaIn.Frame
public import proofs.«01_k».proof.Proof.Gen.NsaInIdeal
public import proofs.«01_k».proof.Proof.Gen.NsaInIdeal.Skeleton
public import proofs.«01_k».proof.Proof.Gen.NsaInIdeal.Frame
public import proofs.«01_k».proof.Proof.Gen.NsaInIdeal.Value
public import proofs.«01_k».proof.Proof.Gen.KvProj
public import proofs.«01_k».proof.Proof.Gen.KvProj.Skeleton
public import proofs.«01_k».proof.Proof.Gen.KvProj.Frame
public import proofs.«01_k».proof.Proof.Gen.KvProjIdeal
public import proofs.«01_k».proof.Proof.Gen.KvProjIdeal.Skeleton
public import proofs.«01_k».proof.Proof.Gen.KvProjIdeal.Frame
public import proofs.«01_k».proof.Proof.Gen.KvProjIdeal.Value
public import proofs.«01_k».proof.Proof.Gen.HgrnInRefIdeal
public import proofs.«01_k».proof.Proof.Gen.HgrnInRefIdeal.Run
public import proofs.«01_k».proof.Proof.Gen.NsaInRefIdeal
public import proofs.«01_k».proof.Proof.Gen.NsaInRefIdeal.Run
public import proofs.«01_k».proof.Proof.Gen.KvProjRefIdeal
public import proofs.«01_k».proof.Proof.Gen.KvProjRefIdeal.Run
public import proofs.«01_k».proof.Proof.Gen.Pre_bound_in_range
public import proofs.«01_k».proof.Proof.Gen.MixerOut
public import proofs.«01_k».proof.Proof.Gen.MixerOut.Skeleton
public import proofs.«01_k».proof.Proof.Gen.MixerOut.Frame
public import proofs.«01_k».proof.Proof.Gen.MixerOutIdeal
public import proofs.«01_k».proof.Proof.Gen.MixerOutIdeal.Skeleton
public import proofs.«01_k».proof.Proof.Gen.MixerOutIdeal.Frame
public import proofs.«01_k».proof.Proof.Gen.MixerOutIdeal.Value
public import proofs.«01_k».proof.Proof.Gen.MixerOutRefIdeal
public import proofs.«01_k».proof.Proof.Gen.MixerOutRefIdeal.Run
public import proofs.«01_k».proof.Proof.Gen.Pre_all_finite
public import proofs.«01_k».proof.Proof.Gen.SplitUp
public import proofs.«01_k».proof.Proof.Gen.SplitUp.Skeleton
public import proofs.«01_k».proof.Proof.Gen.SplitUp.Frame
public import proofs.«01_k».proof.Proof.Gen.SplitUpIdeal
public import proofs.«01_k».proof.Proof.Gen.SplitUpIdeal.Skeleton
public import proofs.«01_k».proof.Proof.Gen.SplitUpIdeal.Frame
public import proofs.«01_k».proof.Proof.Gen.SplitUpIdeal.Value
public import proofs.«01_k».proof.Proof.Gen.SplitUpRefIdeal
public import proofs.«01_k».proof.Proof.Gen.SplitUpRefIdeal.Run
public import proofs.«01_k».proof.Proof.Gen.Ada
public import proofs.«01_k».proof.Proof.Gen.Ada.Skeleton
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.CmpConst
public import proofs.«01_k».proof.Proof.Gen.CmpConst.Skeleton
public import proofs.«01_k».proof.Proof.Gen.CmpConst.Frame
public import proofs.«01_k».proof.Proof.Gen.CmpConstIdeal
public import proofs.«01_k».proof.Proof.Gen.CmpConstIdeal.Skeleton
public import proofs.«01_k».proof.Proof.Gen.CmpConstIdeal.Frame
public import proofs.«01_k».proof.Proof.Gen.CmpConstIdeal.Value
public import proofs.«01_k».proof.Proof.Gen.CmpConstRefIdeal
public import proofs.«01_k».proof.Proof.Gen.CmpConstRefIdeal.Run
public import proofs.«01_k».proof.Proof.Gen.Compress
public import proofs.«01_k».proof.Proof.Gen.Compress.Skeleton
public import proofs.«01_k».proof.Proof.Gen.Compress.Frame
public import proofs.«01_k».proof.Proof.Gen.CompressIdeal
public import proofs.«01_k».proof.Proof.Gen.CompressIdeal.Skeleton
public import proofs.«01_k».proof.Proof.Gen.CompressIdeal.Frame
public import proofs.«01_k».proof.Proof.Gen.CompressRefIdeal
public import proofs.«01_k».proof.Proof.Gen.CompressRefIdeal.Run
public import proofs.«01_k».proof.Proof.Gen.ReferenceIdeal
public import proofs.«01_k».proof.Proof.Gen.ReferenceIdeal.Run
public import proofs.«01_k».proof.Proof.Gen.Pre_expert_in_range
public import proofs.«01_k».proof.Proof.Range
public import proofs.«01_k».proof.Proof.MoeValue
public import proofs.«01_k».proof.Proof.MoeReference
public import proofs.«01_k».proof.Proof.MoeBitsLaunch
public import Idealize.ShloMosaic.Adequacy
public import Idealize.ShloMosaic.Init
public import proofs.«01_k».proof.Proof.Bound
public import proofs.«01_k».proof.Proof.HgrnValue
public import proofs.«01_k».proof.Proof.NsaInValue
public import proofs.«01_k».proof.Proof.KvProjValue
public import proofs.«01_k».proof.Proof.SplitUpValue
public import proofs.«01_k».proof.Proof.AdaValue
public import proofs.«01_k».proof.Proof.AllFinite
public import proofs.«01_k».proof.Proof.MixerOutValue
public import proofs.«01_k».proof.Proof.CmpConstValue
public import proofs.«01_k».proof.Proof.CompressValue
public import proofs.«01_k».proof.Proof.PagesRange
public import proofs.«01_k».proof.Proof.PagesRef
public import proofs.«01_k».proof.Proof.PagesValue
public import proofs.«01_k».proof.Proof.PagesBitsLaunch

@[expose] public section

noncomputable section

namespace Cert.Proof

open Idealize.ShloMosaic Idealize.SL.Sem

/-- A memory of which the precondition holds has tables whose words are in range. -/
theorem tables_Kernel (m : (ℓ : Loc Cert.Kernel.nD Cert.Kernel.τ Cert.Kernel.sig) → Buf (Elt Bits) ℓ) (h : Cert.Pre_Kernel m) :
    ∃ T : Cert.Kernel.Moe.Tables, Cert.Kernel.Moe.Holds T m :=
  ⟨⟨m (((0 : Dev Cert.Kernel.nD).tc : Thread Cert.Kernel.nD Cert.Kernel.τ).loc Cert.Kernel.main_arg1), m (((0 : Dev Cert.Kernel.nD).tc : Thread Cert.Kernel.nD Cert.Kernel.τ).loc Cert.Kernel.main_arg2),
      Cert.Pre_expert_in_range.expert_lt _ _ _ _ _ _ _ _ _ (h 0)⟩,
    fun c => by rw [Subsingleton.elim c (0 : Dev Cert.Kernel.nD)], fun c => by rw [Subsingleton.elim c (0 : Dev Cert.Kernel.nD)]⟩

theorem frame_Kernel : Cert.quiescent_Kernel := fun m g h =>
  let ⟨T, hT⟩ := tables_Kernel m h
  Cert.Kernel.Moe.frame T m g hT

/-- A memory of which the precondition holds has tables whose words are in range. -/
theorem tables_KernelIdeal (m : (ℓ : Loc Cert.KernelIdeal.nD Cert.KernelIdeal.τ Cert.KernelIdeal.sig) → Buf (Elt Ideal) ℓ) (h : Cert.Pre_KernelIdeal m) :
    ∃ T : Cert.KernelIdeal.Moe.Tables, Cert.KernelIdeal.Moe.Holds T m :=
  ⟨⟨m (((0 : Dev Cert.KernelIdeal.nD).tc : Thread Cert.KernelIdeal.nD Cert.KernelIdeal.τ).loc Cert.KernelIdeal.main_arg1), m (((0 : Dev Cert.KernelIdeal.nD).tc : Thread Cert.KernelIdeal.nD Cert.KernelIdeal.τ).loc Cert.KernelIdeal.main_arg2),
      Cert.Pre_expert_in_range.expert_lt _ _ _ _ _ _ _ _ _ (h 0)⟩,
    fun c => by rw [Subsingleton.elim c (0 : Dev Cert.KernelIdeal.nD)], fun c => by rw [Subsingleton.elim c (0 : Dev Cert.KernelIdeal.nD)]⟩

theorem frame_KernelIdeal : Cert.quiescent_KernelIdeal := fun m g h =>
  let ⟨T, hT⟩ := tables_KernelIdeal m h
  Cert.KernelIdeal.Moe.frame T m g hT

theorem frame_ReferenceIdeal : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run m g)

/-- The call's result is the reference's. -/
theorem equal : Cert.algebraic_KernelIdeal_ReferenceIdeal := by
  intro m g m' g' hp agree
  obtain ⟨T, hT⟩ := tables_KernelIdeal m hp
  refine ⟨fun c => (Cert.KernelIdeal.Moe.dats T m g 0 c).arrAt (7 : Fin 8) (Cert.KernelIdeal.Moe.cfgA T).N, ?_, ?_⟩
  · exact (θ_run Cert.KernelIdeal.defs _ _).mono (fun r h c => ⟨(h c).1 (7 : Fin 8), Cert.KernelIdeal.Moe.Post.unchanged T m g hT h c⟩)
      (Cert.KernelIdeal.Moe.run_main T m g hT)
  · refine (θ_run Cert.ReferenceIdeal.defs _ _).mono (fun r h c => ⟨(h c).1.trans ?_, (h c).2⟩) (Cert.ReferenceIdeal.Value.run m' g')
    symm
    obtain ⟨a0, a1, a2, a3, a4, a5, a6, a7, a8⟩ := agree c
    refine Cert.KernelIdeal.Moe.result_eq T m g c _ fun b r n hr => ?_
    have e1 := a1.trans (hT.1 c)
    have e2 := a2.trans (hT.2 c)
    refine (Cert.ReferenceIdeal.Value.reference_apply m' c b (Cert.KernelIdeal.Moe.expertOf T b) (by rw [e1]; rfl) r n hr).trans ?_
    rw [← congrFun e2 (ix1 0), ← a0, ← a3, ← a4, ← a5, ← a6, ← a7, ← a8]

theorem frame_HgrnIn : Cert.quiescent_HgrnIn := fun m g _ => Cert.HgrnIn.Gen.frame m g

theorem frame_HgrnInIdeal : Cert.quiescent_HgrnInIdeal := fun m g _ => Cert.HgrnInIdeal.Gen.frame m g

theorem frame_HgrnInIdeal_pre_none : Cert.quiescent_HgrnInIdeal_pre_none := fun m g _ => Cert.HgrnInIdeal.Gen.frame m g

theorem frame_HgrnInRefIdeal : Cert.quiescent_HgrnInRefIdeal := fun m g _ =>
  (θ_run Cert.HgrnInRefIdeal.defs _ _).mono (fun r h => ⟨fun c => (h c).2.2.2.2.2, Idealize.ShloMosaic.sem_eq_zero_of_no_sems (by decide) r.2⟩)
    (Cert.HgrnInRefIdeal.Value.run m g)

theorem frame_NsaIn : Cert.quiescent_NsaIn := fun m g _ => Cert.NsaIn.Gen.frame m g

theorem frame_NsaInIdeal : Cert.quiescent_NsaInIdeal := fun m g _ => Cert.NsaInIdeal.Gen.frame m g

theorem frame_NsaInRefIdeal : Cert.quiescent_NsaInRefIdeal := fun m g _ =>
  (θ_run Cert.NsaInRefIdeal.defs _ _).mono (fun r h => ⟨fun c => (h c).2.2, Idealize.ShloMosaic.sem_eq_zero_of_no_sems (by decide) r.2⟩)
    (Cert.NsaInRefIdeal.Value.run m g)

theorem frame_KvProj : Cert.quiescent_KvProj := fun m g _ => Cert.KvProj.Gen.frame m g

theorem frame_KvProjIdeal : Cert.quiescent_KvProjIdeal := fun m g _ => Cert.KvProjIdeal.Gen.frame m g

theorem frame_KvProjRefIdeal : Cert.quiescent_KvProjRefIdeal := fun m g _ =>
  (θ_run Cert.KvProjRefIdeal.defs _ _).mono (fun r h => ⟨fun c => (h c).2.2, Idealize.ShloMosaic.sem_eq_zero_of_no_sems (by decide) r.2⟩)
    (Cert.KvProjRefIdeal.Value.run m g)

/-- The one constant the recurrent mixer's projection has by name. -/
theorem named_HgrnIn : Cert.preserves_HgrnIn_HgrnInIdeal :=
  IdealRules.named_const.statement _ _ _ _ _ rfl

/-- The recurrent mixer's projection leaves the reference's five results. -/
theorem equal_HgrnIn : Cert.algebraic_HgrnInIdeal_HgrnInRefIdeal := by
  intro m g m' g' hp agree
  have range : ∀ c : Dev Cert.HgrnInIdeal.nD, Cert.HgrnInIdeal.Mixer.InRange (m ((c.tc : Thread Cert.HgrnInIdeal.nD Cert.HgrnInIdeal.τ).loc Cert.HgrnInIdeal.main_arg3)) :=
    fun c => Cert.Pre_bound_in_range.bound_range _ _ _ _ (hp c)
  refine ⟨fun c => Cert.HgrnInIdeal.Mixer.silu (Cert.HgrnInIdeal.Mixer.part0 (Cert.HgrnInIdeal.Mixer.projected (m ((c.tc : Thread Cert.HgrnInIdeal.nD Cert.HgrnInIdeal.τ).loc Cert.HgrnInIdeal.main_arg0)) (m ((c.tc : Thread Cert.HgrnInIdeal.nD Cert.HgrnInIdeal.τ).loc Cert.HgrnInIdeal.main_arg1)) (m ((c.tc : Thread Cert.HgrnInIdeal.nD Cert.HgrnInIdeal.τ).loc Cert.HgrnInIdeal.main_arg2)))),
    fun c => Host.negf (Host.expm1 (Cert.HgrnInIdeal.Mixer.forgetLog (Cert.HgrnInIdeal.Mixer.part1 (Cert.HgrnInIdeal.Mixer.projected (m ((c.tc : Thread Cert.HgrnInIdeal.nD Cert.HgrnInIdeal.τ).loc Cert.HgrnInIdeal.main_arg0)) (m ((c.tc : Thread Cert.HgrnInIdeal.nD Cert.HgrnInIdeal.τ).loc Cert.HgrnInIdeal.main_arg1)) (m ((c.tc : Thread Cert.HgrnInIdeal.nD Cert.HgrnInIdeal.τ).loc Cert.HgrnInIdeal.main_arg2)))) (m ((c.tc : Thread Cert.HgrnInIdeal.nD Cert.HgrnInIdeal.τ).loc Cert.HgrnInIdeal.main_arg3)))),
    fun c => Cert.HgrnInIdeal.Mixer.forgetLog (Cert.HgrnInIdeal.Mixer.part1 (Cert.HgrnInIdeal.Mixer.projected (m ((c.tc : Thread Cert.HgrnInIdeal.nD Cert.HgrnInIdeal.τ).loc Cert.HgrnInIdeal.main_arg0)) (m ((c.tc : Thread Cert.HgrnInIdeal.nD Cert.HgrnInIdeal.τ).loc Cert.HgrnInIdeal.main_arg1)) (m ((c.tc : Thread Cert.HgrnInIdeal.nD Cert.HgrnInIdeal.τ).loc Cert.HgrnInIdeal.main_arg2)))) (m ((c.tc : Thread Cert.HgrnInIdeal.nD Cert.HgrnInIdeal.τ).loc Cert.HgrnInIdeal.main_arg3)),
    fun c => Cert.HgrnInIdeal.Mixer.part2 (Cert.HgrnInIdeal.Mixer.projected (m ((c.tc : Thread Cert.HgrnInIdeal.nD Cert.HgrnInIdeal.τ).loc Cert.HgrnInIdeal.main_arg0)) (m ((c.tc : Thread Cert.HgrnInIdeal.nD Cert.HgrnInIdeal.τ).loc Cert.HgrnInIdeal.main_arg1)) (m ((c.tc : Thread Cert.HgrnInIdeal.nD Cert.HgrnInIdeal.τ).loc Cert.HgrnInIdeal.main_arg2))),
    fun c => Cert.HgrnInIdeal.Mixer.part3 (Cert.HgrnInIdeal.Mixer.projected (m ((c.tc : Thread Cert.HgrnInIdeal.nD Cert.HgrnInIdeal.τ).loc Cert.HgrnInIdeal.main_arg0)) (m ((c.tc : Thread Cert.HgrnInIdeal.nD Cert.HgrnInIdeal.τ).loc Cert.HgrnInIdeal.main_arg1)) (m ((c.tc : Thread Cert.HgrnInIdeal.nD Cert.HgrnInIdeal.τ).loc Cert.HgrnInIdeal.main_arg2))), ?_, ?_⟩
  · exact (θ_run Cert.HgrnInIdeal.defs _ _).mono (fun r h c => by
      obtain ⟨h0, h1, h2, h3, h4, rest⟩ := h c
      exact ⟨h0.trans (Cert.HgrnInIdeal.Mixer.query_final m c), h1.trans (Cert.HgrnInIdeal.Mixer.keep_final m c (range c)), h2.trans (Cert.HgrnInIdeal.Mixer.forget_final m c), h3.trans (Cert.HgrnInIdeal.Mixer.value_final m c), h4.trans (Cert.HgrnInIdeal.Mixer.gate_final m c), rest⟩) (Cert.HgrnInIdeal.Value.run_blocks m g)
  · refine (θ_run Cert.HgrnInRefIdeal.defs _ _).mono (fun r h c => ?_) (Cert.HgrnInRefIdeal.Value.run m' g')
    obtain ⟨h0, h1, h2, h3, h4, rest⟩ := h c
    obtain ⟨a0, a1, a2, a3⟩ := agree c
    refine ⟨h0.trans ?_, h1.trans ?_, h2.trans ?_, h3.trans ?_, h4.trans ?_, rest⟩
    · rw [a0, a1, a2]
    · unfold Cert.HgrnInRefIdeal.Value.res_main_v40; rw [a0, a1, a2, a3]
    · unfold Cert.HgrnInRefIdeal.Value.res_main_v37; rw [a0, a1, a2, a3]
    · rw [a0, a1, a2]
    · rw [a0, a1, a2]

/-- The sparse mixer's projection leaves the reference's queries and gates. -/
theorem equal_NsaIn : Cert.algebraic_NsaInIdeal_NsaInRefIdeal := by
  intro m g m' g' hp agree
  refine ⟨fun c => Cert.NsaInIdeal.Mixer.queries (m ((c.tc : Thread Cert.NsaInIdeal.nD Cert.NsaInIdeal.τ).loc Cert.NsaInIdeal.main_arg0)) (m ((c.tc : Thread Cert.NsaInIdeal.nD Cert.NsaInIdeal.τ).loc Cert.NsaInIdeal.main_arg1)) (m ((c.tc : Thread Cert.NsaInIdeal.nD Cert.NsaInIdeal.τ).loc Cert.NsaInIdeal.main_arg2)),
    fun c => Cert.NsaInIdeal.Mixer.gates (m ((c.tc : Thread Cert.NsaInIdeal.nD Cert.NsaInIdeal.τ).loc Cert.NsaInIdeal.main_arg0)) (m ((c.tc : Thread Cert.NsaInIdeal.nD Cert.NsaInIdeal.τ).loc Cert.NsaInIdeal.main_arg1)) (m ((c.tc : Thread Cert.NsaInIdeal.nD Cert.NsaInIdeal.τ).loc Cert.NsaInIdeal.main_arg3)), ?_, ?_⟩
  · exact (θ_run Cert.NsaInIdeal.defs _ _).mono (fun r h c => by
      obtain ⟨h0, h1, rest⟩ := h c
      exact ⟨h0.trans (Cert.NsaInIdeal.Mixer.queries_final m c), h1.trans (Cert.NsaInIdeal.Mixer.gates_final m c), rest⟩) (Cert.NsaInIdeal.Value.run_blocks m g)
  · refine (θ_run Cert.NsaInRefIdeal.defs _ _).mono (fun r h c => ?_) (Cert.NsaInRefIdeal.Value.run m' g')
    obtain ⟨h0, h1, rest⟩ := h c
    obtain ⟨a0, a1, a2, a3⟩ := agree c
    refine ⟨h0.trans ?_, h1.trans ?_, rest⟩
    · rw [a0, a1, a2]
    · rw [a0, a1, a3]

/-- The projection to keys and values leaves the reference's two parts. -/
theorem equal_KvProj : Cert.algebraic_KvProjIdeal_KvProjRefIdeal := by
  intro m g m' g' hp agree
  refine ⟨fun c => Cert.KvProjIdeal.Mixer.raw (m ((c.tc : Thread Cert.KvProjIdeal.nD Cert.KvProjIdeal.τ).loc Cert.KvProjIdeal.main_arg0)) (m ((c.tc : Thread Cert.KvProjIdeal.nD Cert.KvProjIdeal.τ).loc Cert.KvProjIdeal.main_arg1)) (m ((c.tc : Thread Cert.KvProjIdeal.nD Cert.KvProjIdeal.τ).loc Cert.KvProjIdeal.main_arg2)),
    fun c => Cert.KvProjIdeal.Mixer.dup (m ((c.tc : Thread Cert.KvProjIdeal.nD Cert.KvProjIdeal.τ).loc Cert.KvProjIdeal.main_arg0)) (m ((c.tc : Thread Cert.KvProjIdeal.nD Cert.KvProjIdeal.τ).loc Cert.KvProjIdeal.main_arg1)) (m ((c.tc : Thread Cert.KvProjIdeal.nD Cert.KvProjIdeal.τ).loc Cert.KvProjIdeal.main_arg2)), ?_, ?_⟩
  · exact (θ_run Cert.KvProjIdeal.defs _ _).mono (fun r h c => by
      obtain ⟨h0, h1, rest⟩ := h c
      exact ⟨h0.trans (Cert.KvProjIdeal.Mixer.raw_final m c), h1.trans (Cert.KvProjIdeal.Mixer.dup_final m c), rest⟩) (Cert.KvProjIdeal.Value.run_blocks m g)
  · refine (θ_run Cert.KvProjRefIdeal.defs _ _).mono (fun r h c => ?_) (Cert.KvProjRefIdeal.Value.run m' g')
    obtain ⟨h0, h1, rest⟩ := h c
    obtain ⟨a0, a1, a2⟩ := agree c
    refine ⟨h0.trans ?_, h1.trans ?_, rest⟩
    · rw [a0, a1, a2]
    · rw [a0, a1, a2]

theorem frame_SplitUp : Cert.quiescent_SplitUp := fun m g _ => Cert.SplitUp.Gen.frame m g

theorem frame_SplitUpIdeal : Cert.quiescent_SplitUpIdeal := fun m g _ => Cert.SplitUpIdeal.Gen.frame m g

theorem frame_SplitUpRefIdeal : Cert.quiescent_SplitUpRefIdeal := fun m g _ =>
  (θ_run Cert.SplitUpRefIdeal.defs _ _).mono (fun r h => ⟨fun c => (h c).2.2, Idealize.ShloMosaic.sem_eq_zero_of_no_sems (by decide) r.2⟩)
    (Cert.SplitUpRefIdeal.Value.run m g)

theorem frame_Ada : Cert.quiescent_Ada := fun m g _ => Cert.Ada.Gen.frame m g

theorem frame_AdaIdeal : Cert.quiescent_AdaIdeal := fun m g _ => Cert.AdaIdeal.Gen.frame m g

theorem frame_AdaRefIdeal : Cert.quiescent_AdaRefIdeal := fun m g _ =>
  (θ_run Cert.AdaRefIdeal.defs _ _).mono (fun r h => ⟨fun c => (h c).2, Idealize.ShloMosaic.sem_eq_zero_of_no_sems (by decide) r.2⟩)
    (Cert.AdaRefIdeal.Value.run m g)

/-- The parting of the experts' weights leaves the reference's even and odd columns. -/
theorem equal_SplitUp : Cert.algebraic_SplitUpIdeal_SplitUpRefIdeal := by
  intro m g m' g' hp agree
  refine ⟨fun c => Cert.SplitUpIdeal.Mixer.evens (m ((c.tc : Thread Cert.SplitUpIdeal.nD Cert.SplitUpIdeal.τ).loc Cert.SplitUpIdeal.main_arg0)), fun c => Cert.SplitUpIdeal.Mixer.odds (m ((c.tc : Thread Cert.SplitUpIdeal.nD Cert.SplitUpIdeal.τ).loc Cert.SplitUpIdeal.main_arg0)), ?_, ?_⟩
  · exact (θ_run Cert.SplitUpIdeal.defs _ _).mono (fun r h c => by
      obtain ⟨h0, h1, rest⟩ := h c
      exact ⟨h0.trans (Cert.SplitUpIdeal.Mixer.evens_final m c), h1.trans (Cert.SplitUpIdeal.Mixer.odds_final m c), rest⟩) (Cert.SplitUpIdeal.Value.run_blocks m g)
  · refine (θ_run Cert.SplitUpRefIdeal.defs _ _).mono (fun r h c => ?_) (Cert.SplitUpRefIdeal.Value.run m' g')
    obtain ⟨h0, h1, rest⟩ := h c
    have a0 := agree c
    refine ⟨h0.trans ?_, h1.trans ?_, rest⟩
    · rw [a0]
    · rw [a0]

/-- The layers' modulation is the reference's. -/
theorem equal_Ada : Cert.algebraic_AdaIdeal_AdaRefIdeal := by
  intro m g m' g' hp agree
  refine ⟨fun c => Cert.AdaIdeal.Mixer.vectors (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)), ?_, ?_⟩
  · exact (θ_run Cert.AdaIdeal.defs _ _).mono (fun r h c => by
      obtain ⟨h0, rest⟩ := h c
      exact ⟨h0.trans (Cert.AdaIdeal.Mixer.vectors_final m c), rest⟩) (Cert.AdaIdeal.Value.run_blocks m g)
  · refine (θ_run Cert.AdaRefIdeal.defs _ _).mono (fun r h c => ?_) (Cert.AdaRefIdeal.Value.run m' g')
    obtain ⟨h0, rest⟩ := h c
    obtain ⟨a0, a1, a2⟩ := agree c
    refine ⟨h0.trans ?_, rest⟩
    rw [a0, a1, a2]

theorem frame_MixerOut : Cert.quiescent_MixerOut := fun m g _ => Cert.MixerOut.Gen.frame m g

theorem frame_MixerOutIdeal : Cert.quiescent_MixerOutIdeal := fun m g _ => Cert.MixerOutIdeal.Gen.frame m g

theorem frame_MixerOutIdeal_pre : Cert.quiescent_MixerOutIdeal_pre_all_finite := fun m g _ => Cert.MixerOutIdeal.Gen.frame m g

theorem frame_MixerOutRefIdeal : Cert.quiescent_MixerOutRefIdeal := fun m g _ =>
  (θ_run Cert.MixerOutRefIdeal.defs _ _).mono (fun r h => ⟨fun c => (h c).2.2.2.2, Idealize.ShloMosaic.sem_eq_zero_of_no_sems (by decide) r.2⟩)
    (Cert.MixerOutRefIdeal.Value.run m g)

theorem frame_MixerOutRefIdeal_pre : Cert.quiescent_MixerOutRefIdeal_pre_all_finite := fun m g _ =>
  (θ_run Cert.MixerOutRefIdeal.defs _ _).mono (fun r h => ⟨fun c => (h c).2.2.2.2, Idealize.ShloMosaic.sem_eq_zero_of_no_sems (by decide) r.2⟩)
    (Cert.MixerOutRefIdeal.Value.run m g)

/-- The mixer's output leaves the reference's rows, the experts' rows, the columns chosen and their weights. -/
theorem equal_MixerOut : Cert.algebraic_MixerOutIdeal_MixerOutRefIdeal_pre_all_finite := by
  intro m g m' g' hp agree
  have finite : ∀ c : Dev Cert.MixerOutIdeal.nD, Cert.MixerOutIdeal.Mixer.Finite m c :=
    fun c => Cert.Pre_all_finite.all_real _ _ _ _ _ _ _ _ (hp c)
  refine ⟨fun c => Cert.MixerOutIdeal.Mixer.normed m c, fun c => Cert.MixerOutIdeal.Mixer.fed m c,
    fun c => Cert.MixerOutRefIdeal.Parts.chosen (Cert.MixerOutIdeal.Mixer.scores m c), fun c => Cert.MixerOutRefIdeal.Parts.weights (Cert.MixerOutIdeal.Mixer.scores m c), ?_, ?_⟩
  · exact (θ_run Cert.MixerOutIdeal.defs _ _).mono (fun r h c => by
      obtain ⟨h0, h1, h2, h3, rest⟩ := h c
      exact ⟨h0.trans (Cert.MixerOutIdeal.Mixer.normed_final m c), h1.trans (Cert.MixerOutIdeal.Mixer.fed_final m c), h2.trans (Cert.MixerOutIdeal.Mixer.chosen_final m c (finite c)), h3.trans (Cert.MixerOutIdeal.Mixer.weights_final m c (finite c)), rest⟩) (Cert.MixerOutIdeal.Value.run_blocks m g)
  · refine (θ_run Cert.MixerOutRefIdeal.defs _ _).mono (fun r h c => ?_) (Cert.MixerOutRefIdeal.Value.run m' g')
    obtain ⟨h0, h1, h2, h3, rest⟩ := h c
    obtain ⟨a0, a1, a2, a3, a4, a5, a6, a7⟩ := agree c
    refine ⟨h0.trans ?_, h1.trans ?_, h2.trans ?_, h3.trans ?_, rest⟩
    · rw [Cert.MixerOutRefIdeal.Parts.res_normed, a0, a1, a2, a3, a4, a5]
    · rw [Cert.MixerOutRefIdeal.Parts.res_fed, a0, a1, a2, a3, a4, a5]
    · rw [Cert.MixerOutRefIdeal.Parts.res_chosen, a0, a1, a2, a3, a4, a5, a6, a7]
    · rw [Cert.MixerOutRefIdeal.Parts.res_weights, a0, a1, a2, a3, a4, a5, a6, a7]

theorem frame_CmpConst : Cert.quiescent_CmpConst := fun m g _ => Cert.CmpConst.Gen.frame m g

theorem frame_CmpConstIdeal : Cert.quiescent_CmpConstIdeal := fun m g _ => Cert.CmpConstIdeal.Gen.frame m g

theorem frame_CmpConstRefIdeal : Cert.quiescent_CmpConstRefIdeal := fun m g _ =>
  (θ_run Cert.CmpConstRefIdeal.defs _ _).mono (fun r h => ⟨fun c => (h c).2, Idealize.ShloMosaic.sem_eq_zero_of_no_sems (by decide) r.2⟩)
    (Cert.CmpConstRefIdeal.Value.run m g)

theorem frame_Compress : Cert.quiescent_Compress := fun m g _ => Cert.Compress.Gen.frame m g

theorem frame_CompressIdeal : Cert.quiescent_CompressIdeal := fun m g _ => Cert.CompressIdeal.Gen.frame m g

theorem frame_CompressRefIdeal : Cert.quiescent_CompressRefIdeal := fun m g _ =>
  (θ_run Cert.CompressRefIdeal.defs _ _).mono (fun r h => ⟨fun c => (h c).2, Idealize.ShloMosaic.sem_eq_zero_of_no_sems (by decide) r.2⟩)
    (Cert.CompressRefIdeal.Value.run m g)

/-- The positions' part of the compression is the reference's. -/
theorem equal_CmpConst : Cert.algebraic_CmpConstIdeal_CmpConstRefIdeal := by
  intro m g m' g' hp agree
  refine ⟨fun c => Cert.CmpConstIdeal.Mixer.constant_part (m ((c.tc : Thread Cert.CmpConstIdeal.nD Cert.CmpConstIdeal.τ).loc Cert.CmpConstIdeal.main_arg0)) (m ((c.tc : Thread Cert.CmpConstIdeal.nD Cert.CmpConstIdeal.τ).loc Cert.CmpConstIdeal.main_arg1)) (m ((c.tc : Thread Cert.CmpConstIdeal.nD Cert.CmpConstIdeal.τ).loc Cert.CmpConstIdeal.main_arg2)), ?_, ?_⟩
  · exact (θ_run Cert.CmpConstIdeal.defs _ _).mono (fun r h c => by
      obtain ⟨h0, rest⟩ := h c
      exact ⟨h0.trans (Cert.CmpConstIdeal.Mixer.part_final m c), rest⟩) (Cert.CmpConstIdeal.Value.run_blocks m g)
  · refine (θ_run Cert.CmpConstRefIdeal.defs _ _).mono (fun r h c => ?_) (Cert.CmpConstRefIdeal.Value.run m' g')
    obtain ⟨h0, rest⟩ := h c
    obtain ⟨a0, a1, a2⟩ := agree c
    refine ⟨h0.trans ?_, rest⟩
    rw [a0, a1, a2]

/-- The compression leaves the reference's summaries. -/
theorem equal_Compress : Cert.algebraic_CompressIdeal_CompressRefIdeal := by
  intro m g m' g' hp agree
  refine ⟨fun c => Cert.CompressRefIdeal.Parts.summaries (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)), Cert.CompressIdeal.Mixer.run m g, ?_⟩
  refine (θ_run Cert.CompressRefIdeal.defs _ _).mono (fun r h c => ?_) (Cert.CompressRefIdeal.Value.run m' g')
  obtain ⟨h0, rest⟩ := h c
  obtain ⟨a0, a1, a2, a3, a4⟩ := agree c
  refine ⟨h0.trans ?_, rest⟩
  rw [Cert.CompressRefIdeal.Parts.res_summaries, a0, a1, a2, a3, a4]

/-- A memory of which the precondition holds has a page table whose words are in range. -/
theorem tables_CompressPages (m : (ℓ : Loc Cert.CompressPages.nD Cert.CompressPages.τ Cert.CompressPages.sig) → Buf (Elt Bits) ℓ) (h : Cert.Pre_CompressPages m) :
    ∃ T : Cert.CompressPages.Pages.Table, Cert.CompressPages.Pages.Holds T m :=
  ⟨⟨m (((0 : Dev Cert.CompressPages.nD).tc : Thread Cert.CompressPages.nD Cert.CompressPages.τ).loc Cert.CompressPages.main_arg1), Cert.Pre_page_in_range.page_lt _ _ _ _ _ _ (h 0)⟩,
    fun c => by rw [Subsingleton.elim c (0 : Dev Cert.CompressPages.nD)]⟩

theorem frame_CompressPages : Cert.quiescent_CompressPages := fun m g h =>
  let ⟨T, hT⟩ := tables_CompressPages m h
  Cert.CompressPages.Pages.frame T m g hT

/-- A memory of which the precondition holds has a page table whose words are in range. -/
theorem tables_CompressPagesIdeal (m : (ℓ : Loc Cert.CompressPagesIdeal.nD Cert.CompressPagesIdeal.τ Cert.CompressPagesIdeal.sig) → Buf (Elt Ideal) ℓ) (h : Cert.Pre_CompressPagesIdeal m) :
    ∃ T : Cert.CompressPagesIdeal.Pages.Table, Cert.CompressPagesIdeal.Pages.Holds T m :=
  ⟨⟨m (((0 : Dev Cert.CompressPagesIdeal.nD).tc : Thread Cert.CompressPagesIdeal.nD Cert.CompressPagesIdeal.τ).loc Cert.CompressPagesIdeal.main_arg1), Cert.Pre_page_in_range.page_lt _ _ _ _ _ _ (h 0)⟩,
    fun c => by rw [Subsingleton.elim c (0 : Dev Cert.CompressPagesIdeal.nD)]⟩

theorem frame_CompressPagesIdeal : Cert.quiescent_CompressPagesIdeal := fun m g h =>
  let ⟨T, hT⟩ := tables_CompressPagesIdeal m h
  Cert.CompressPagesIdeal.Pages.frame T m g hT

theorem frame_CompressPagesRefIdeal : Cert.quiescent_CompressPagesRefIdeal := fun m g _ =>
  (θ_run Cert.CompressPagesRefIdeal.defs _ _).mono (fun r h => ⟨fun c => (h c).2, Idealize.ShloMosaic.sem_eq_zero_of_no_sems (by decide) r.2⟩)
    (Cert.CompressPagesRefIdeal.Value.run m g)

/-- The compression of the cached pages leaves the reference's summaries. -/
theorem equal_CompressPages : Cert.algebraic_CompressPagesIdeal_CompressPagesRefIdeal := by
  intro m g m' g' hp agree
  obtain ⟨T, hT⟩ := tables_CompressPagesIdeal m hp
  refine ⟨fun c => Cert.CompressPagesRefIdeal.Parts.summaries (m ((c.tc : Thread Cert.CompressPagesIdeal.nD Cert.CompressPagesIdeal.τ).loc Cert.CompressPagesIdeal.main_arg0)) (m ((c.tc : Thread Cert.CompressPagesIdeal.nD Cert.CompressPagesIdeal.τ).loc Cert.CompressPagesIdeal.main_arg1)) (m ((c.tc : Thread Cert.CompressPagesIdeal.nD Cert.CompressPagesIdeal.τ).loc Cert.CompressPagesIdeal.main_arg2)) (m ((c.tc : Thread Cert.CompressPagesIdeal.nD Cert.CompressPagesIdeal.τ).loc Cert.CompressPagesIdeal.main_arg3)) (m ((c.tc : Thread Cert.CompressPagesIdeal.nD Cert.CompressPagesIdeal.τ).loc Cert.CompressPagesIdeal.main_arg4)) (m ((c.tc : Thread Cert.CompressPagesIdeal.nD Cert.CompressPagesIdeal.τ).loc Cert.CompressPagesIdeal.main_arg5)), Cert.CompressPagesIdeal.Pages.run T m g hT, ?_⟩
  refine (θ_run Cert.CompressPagesRefIdeal.defs _ _).mono (fun r h c => ?_) (Cert.CompressPagesRefIdeal.Value.run m' g')
  obtain ⟨h0, rest⟩ := h c
  obtain ⟨a0, a1, a2, a3, a4, a5⟩ := agree c
  refine ⟨h0.trans ?_, rest⟩
  rw [Cert.CompressPagesRefIdeal.Parts.res_summaries, a0, a1, a2, a3, a4, a5]

theorem claim : Cert.Claim := ⟨Cert.Kernel.Gen.facts, Cert.KernelIdeal.Gen.facts, Cert.ReferenceIdeal.Gen.facts, Cert.HgrnIn.Gen.facts, Cert.HgrnInIdeal.Gen.facts, Cert.HgrnInRefIdeal.Gen.facts, Cert.NsaIn.Gen.facts, Cert.NsaInIdeal.Gen.facts, Cert.NsaInRefIdeal.Gen.facts, Cert.KvProj.Gen.facts, Cert.KvProjIdeal.Gen.facts, Cert.KvProjRefIdeal.Gen.facts, Cert.SplitUp.Gen.facts, Cert.SplitUpIdeal.Gen.facts, Cert.SplitUpRefIdeal.Gen.facts, Cert.Ada.Gen.facts, Cert.AdaIdeal.Gen.facts, Cert.AdaRefIdeal.Gen.facts, Cert.MixerOut.Gen.facts, Cert.MixerOutIdeal.Gen.facts, Cert.MixerOutRefIdeal.Gen.facts, Cert.CmpConst.Gen.facts, Cert.CmpConstIdeal.Gen.facts, Cert.CmpConstRefIdeal.Gen.facts, Cert.Compress.Gen.facts, Cert.CompressIdeal.Gen.facts, Cert.CompressRefIdeal.Gen.facts, Cert.CompressPages.Gen.facts, Cert.CompressPagesIdeal.Gen.facts, Cert.CompressPagesRefIdeal.Gen.facts, Cert.Pre_expert_in_range.Gen.facts, Cert.Pre_bound_in_range.Gen.facts, Cert.Pre_all_finite.Gen.facts, Cert.Pre_page_in_range.Gen.facts,
  frame_Kernel, frame_KernelIdeal, frame_ReferenceIdeal, frame_HgrnIn, frame_HgrnInIdeal, frame_HgrnInIdeal_pre_none, frame_HgrnInRefIdeal,
  frame_NsaIn, frame_NsaInIdeal, frame_NsaInRefIdeal, frame_KvProj, frame_KvProjIdeal, frame_KvProjRefIdeal,
  frame_SplitUp, frame_SplitUpIdeal, frame_SplitUpRefIdeal, frame_Ada, frame_AdaIdeal, frame_AdaRefIdeal,
  frame_MixerOut, frame_MixerOutIdeal, frame_MixerOutIdeal_pre, frame_MixerOutRefIdeal, frame_MixerOutRefIdeal_pre,
  frame_CmpConst, frame_CmpConstIdeal, frame_CmpConstRefIdeal, frame_Compress, frame_CompressIdeal, frame_CompressRefIdeal,
  frame_CompressPages, frame_CompressPagesIdeal, frame_CompressPagesRefIdeal,
  trivial, equal, named_HgrnIn, equal_HgrnIn, trivial, equal_NsaIn, trivial, equal_KvProj, trivial, equal_SplitUp, trivial, equal_Ada,
  trivial, equal_MixerOut, trivial, equal_CmpConst, trivial, equal_Compress,
  trivial, equal_CompressPages⟩

end Cert.Proof

end
